-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v13)) (v2 : (c : Dev Cert.Kernel2Ideal.nD) → Buf (Elt Ideal) ((c.tc : Thread Cert.Kernel2Ideal.nD Cert.Kernel2Ideal.τ).loc Cert.Kernel2Ideal.main_v15)) (v3 : (c : Dev Cert.Kernel2Ideal.nD) → Buf (Elt Ideal) ((c.tc : Thread Cert.Kernel2Ideal.nD Cert.Kernel2Ideal.τ).loc Cert.Kernel2Ideal.main_v17)) (v4 : (c : Dev Cert.Kernel2Ideal.nD) → Buf (Elt Ideal) ((c.tc : Thread Cert.Kernel2Ideal.nD Cert.Kernel2Ideal.τ).loc Cert.Kernel2Ideal.main_v19)) (v5 : (c : Dev Cert.Kernel2Ideal.nD) → Buf (Elt Ideal) ((c.tc : Thread Cert.Kernel2Ideal.nD Cert.Kernel2Ideal.τ).loc Cert.Kernel2Ideal.main_v21)) (v6 : (c : Dev Cert.Kernel2Ideal.nD) → Buf (Elt Ideal) ((c.tc : Thread Cert.Kernel2Ideal.nD Cert.Kernel2Ideal.τ).loc Cert.Kernel2Ideal.main_v23)) (v7 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_v15) = v2 c
          ∧ r.2.mem ((c.tc : Thread Cert.Kernel2Ideal.nD Cert.Kernel2Ideal.τ).loc Cert.Kernel2Ideal.main_v17) = v3 c
          ∧ r.2.mem ((c.tc : Thread Cert.Kernel2Ideal.nD Cert.Kernel2Ideal.τ).loc Cert.Kernel2Ideal.main_v19) = v4 c
          ∧ r.2.mem ((c.tc : Thread Cert.Kernel2Ideal.nD Cert.Kernel2Ideal.τ).loc Cert.Kernel2Ideal.main_v21) = v5 c
          ∧ r.2.mem ((c.tc : Thread Cert.Kernel2Ideal.nD Cert.Kernel2Ideal.τ).loc Cert.Kernel2Ideal.main_v23) = v6 c
          ∧ r.2.mem ((c.tc : Thread Cert.Kernel2Ideal.nD Cert.Kernel2Ideal.τ).loc Cert.Kernel2Ideal.main_v25) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v20) = v6 c
          ∧ r.2.mem ((c.tc : Thread Cert.Reference2Ideal.nD Cert.Reference2Ideal.τ).loc Cert.Reference2Ideal.main_v21) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v6)) (v2 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v6) = v1 c
          ∧ r.2.mem ((c.tc : Thread Cert.Kernel6Ideal.nD Cert.Kernel6Ideal.τ).loc Cert.Kernel6Ideal.main_v8) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v50) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
-- ==== Pre_finite.lean ====
abbrev S32768x1024 : Shape := ⟨2, ![32768, 1024]⟩
abbrev S1024 : Shape := ⟨1, ![1024]⟩
abbrev S1024x2048 : Shape := ⟨2, ![1024, 2048]⟩
abbrev S2x128x128 : Shape := ⟨3, ![2, 128, 128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part1 {F : FTy → Type} [FloatOps F] (main_arg2 : FVec F S1024x2048 .f32) (main_arg3 : FVec F S2x128x128 .f32) (main_v12 : IVec S_ 1) (main_v14 : IVec S1024x2048 1) (main_v15 : FVec F S1024x2048 .f32) : IVec S_ 1 :=
  let main_v16 : IVec S1024x2048 1 := cmpf .olt main_arg2 main_v15
  let main_v17 : IVec S1024x2048 1 := andi main_v14 main_v16
  let main_c_6 : IVec S_ 1 := constantI S_ 1 1#1
  let main_v18 : IVec S_ 1 := (fun x v => Host.reduce IntOp.andi x v reducesTo_S1024x2048_S_d0_1 h_S_) main_v17 main_c_6
  let main_v19 : IVec S_ 1 := andi main_v12 main_v18
  let main_cst_7 : FVec F S_ .f32 := constant S_ .f32 0xFF800000#32
  let main_v20 : FVec F S2x128x128 .f32 := broadcastInDim S2x128x128 ![] bcast_S_S2x128x128 main_cst_7
  let main_v21 : IVec S2x128x128 1 := cmpf .ogt main_arg3 main_v20
  let main_cst_8 : FVec F S_ .f32 := constant S_ .f32 0x7F800000#32
  let main_v22 : FVec F S2x128x128 .f32 := broadcastInDim S2x128x128 ![] bcast_S_S2x128x128 main_cst_8
  let main_v23 : IVec S2x128x128 1 := cmpf .olt main_arg3 main_v22
  let main_v24 : IVec S2x128x128 1 := andi main_v21 main_v23
  let main_c_9 : IVec S_ 1 := constantI S_ 1 1#1
  let main_v25 : IVec S_ 1 := (fun x v => Host.reduce IntOp.andi x v reducesTo_S2x128x128_S_d0_1_2 h_S_) main_v24 main_c_9
  let main_v26 : IVec S_ 1 := andi main_v19 main_v25
  main_v26

def fn {F : FTy → Type} [FloatOps F] (main_arg0 : FVec F S32768x1024 .f32) (main_arg1 : FVec F S1024 .f32) (main_arg2 : FVec F S1024x2048 .f32) (main_arg3 : FVec F S2x128x128 .f32) : IVec S_ 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_c : IVec S_ 1 := constantI S_ 1 1#1
  let main_v5 : IVec S_ 1 := (fun x v => Host.reduce IntOp.andi x v reducesTo_S32768x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024x2048 .f32 := broadcastInDim S1024x2048 ![] bcast_S_S1024x2048 main_cst_4
  let main_v14 : IVec S1024x2048 1 := cmpf .ogt main_arg2 main_v13
  let main_cst_5 : FVec F S_ .f32 := constant S_ .f32 0x7F800000#32
  let main_v15 : FVec F S1024x2048 .f32 := broadcastInDim S1024x2048 ![] bcast_S_S1024x2048 main_cst_5
  fn_part1 (F := F) main_arg2 main_arg3 main_v12 main_v14 main_v15
-- ==== Pre_in_range.lean ====
abbrev S32768x1024 : Shape := ⟨2, ![32768, 1024]⟩
abbrev S32768x8x16 : Shape := ⟨3, ![32768, 8, 16]⟩
abbrev S16384x1024 : Shape := ⟨2, ![16384, 1024]⟩
abbrev S_ : Shape := ⟨0, ![]⟩

class Facts : Prop where
  bcast_S_S32768x8x16 : S_.BroadcastsInDim S32768x8x16 (![] : Fin 0 → Fin S32768x8x16.rank)
  reducesTo_S32768x8x16_S_d0_1_2 : S32768x8x16.ReducesTo [0, 1, 2] S_
  h_S_ : 0 < S_.numel

variable [Facts]

def fn {F : FTy → Type} [FloatOps F] (main_arg0 : FVec F S32768x1024 .f32) (main_arg1 : FVec F S32768x1024 .f32) (main_arg2 : IVec S32768x8x16 32) (main_arg3 : FVec F S32768x8x16 .f32) (main_arg4 : FVec F S16384x1024 .f32) (main_arg5 : FVec F S16384x1024 .f32) : IVec S_ 1 :=
  let main_c : IVec S_ 32 := constantI S_ 32 0#32
  let main_v0 : IVec S32768x8x16 32 := broadcastInDim S32768x8x16 ![] bcast_S_S32768x8x16 main_c
  let main_v1 : IVec S32768x8x16 1 := cmpi .sge main_arg2 main_v0
  let main_c_0 : IVec S_ 32 := constantI S_ 32 16384#32
  let main_v2 : IVec S32768x8x16 32 := broadcastInDim S32768x8x16 ![] bcast_S_S32768x8x16 main_c_0
  let main_v3 : IVec S32768x8x16 1 := cmpi .slt main_arg2 main_v2
  let main_v4 : IVec S32768x8x16 1 := andi main_v1 main_v3
  let main_c_1 : IVec S_ 1 := constantI S_ 1 1#1
  let main_v5 : IVec S_ 1 := (fun x v => Host.reduce IntOp.andi x v reducesTo_S32768x8x16_S_d0_1_2 h_S_) main_v4 main_c_1
  main_v5
-- ==== Kernel.lean ====
abbrev S32768x1024 : Shape := ⟨2, ![32768, 1024]⟩
abbrev S32768x8x16 : Shape := ⟨3, ![32768, 8, 16]⟩
abbrev S16384x1024 : Shape := ⟨2, ![16384, 1024]⟩
abbrev S256x128x128 : Shape := ⟨3, ![256, 128, 128]⟩
abbrev S16384x2048 : Shape := ⟨2, ![16384, 2048]⟩
abbrev S16384x1x2048 : Shape := ⟨3, ![16384, 1, 2048]⟩
abbrev S2048x1x2048 : Shape := ⟨3, ![2048, 1, 2048]⟩
abbrev S1x1x2048 : Shape := ⟨3, ![1, 1, 2048]⟩
abbrev S16x1024 : Shape := ⟨2, ![16, 1024]⟩
abbrev S1x128x128 : Shape := ⟨3, ![1, 128, 128]⟩
abbrev S2x1024x2048 : Shape := ⟨3, ![2, 1024, 2048]⟩
abbrev S2 : Shape := ⟨1, ![2]⟩
abbrev S128x128 : Shape := ⟨2, ![128, 128]⟩
abbrev S1x1x1 : Shape := ⟨3, ![1, 1, 1]⟩
abbrev S1 : Shape := ⟨1, ![1]⟩
abbrev S_ : Shape := ⟨0, ![]⟩
abbrev S1x2048 : Shape := ⟨2, ![1, 2048]⟩
abbrev S1x128x2048 : Shape := ⟨3, ![1, 128, 2048]⟩
abbrev S128x2048 : Shape := ⟨2, ![128, 2048]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024 : Shape := ⟨1, ![1024]⟩

abbrev nBuf : Space → Nat
  | .hbm => 15
  | .vmem => 9
  | .smem => 2
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x8x16, .i32⟩
  | .hbm, ⟨3, _⟩ => ⟨S32768x8x16, .f32⟩
  | .hbm, ⟨4, _⟩ => ⟨S16384x1024, .f32⟩
  | .hbm, ⟨5, _⟩ => ⟨S16384x1024, .f32⟩
  | .hbm, ⟨6, _⟩ => ⟨S256x128x128, .i32⟩
  | .hbm, ⟨7, _⟩ => ⟨S256x128x128, .i32⟩
  | .hbm, ⟨8, _⟩ => ⟨S256x128x128, .f32⟩
  | .hbm, ⟨9, _⟩ => ⟨S256x128x128, .f32⟩
  | .hbm, ⟨10, _⟩ => ⟨S16384x2048, .f32⟩
  | .hbm, ⟨11, _⟩ => ⟨S16384x1x2048, .f32⟩
  | .hbm, ⟨12, _⟩ => ⟨S256x128x128, .i32⟩
  | .hbm, ⟨13, _⟩ => ⟨S2048x1x2048, .i32⟩
  | .hbm, ⟨14, _⟩ => ⟨S32768x1024, .f32⟩
  | .local _ .vmem, ⟨0, _⟩ => ⟨S16x1024, .f32⟩
  | .local _ .vmem, ⟨1, _⟩ => ⟨S16x1024, .f32⟩
  | .local _ .vmem, ⟨2, _⟩ => ⟨S1x128x128, .f32⟩
  | .local _ .vmem, ⟨3, _⟩ => ⟨S1x128x128, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S2x1024x2048, .f32⟩
  | .local _ .smem, ⟨0, _⟩ => ⟨S1x1x2048, .i32⟩
  | .local _ .smem, ⟨1, _⟩ => ⟨S1x1x2048, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2049], ![false]⟩

def k0_cond1 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

@[reducible] def k0_t1_loop : Scf.Loop 32 :=
  let c0_i32_10 : BitVec 32 := 0#32
  let c8_i32_11 : BitVec 32 := 8#32
  let v24 : BitVec 32 := Scalar.addi c0_i32_10 c8_i32_11
  let c1_i32_12 : BitVec 32 := 1#32
  ⟨c0_i32_10, v24, c1_i32_12⟩
@[reducible] def k0_t2_loop : Scf.Loop 32 :=
  let c0_i32_18 : BitVec 32 := 0#32
  let c64_i32 : BitVec 32 := 64#32
  let v26 : BitVec 32 := Scalar.addi c0_i32_18 c64_i32
  let c1_i32_19 : BitVec 32 := 1#32
  ⟨c0_i32_18, v26, c1_i32_19⟩
def k0_off1 (k0_t1 : Fin k0_t1_loop.trips) (k0_t2 : Fin k0_t2_loop.trips) : Fin 3 → Nat :=
  let c0 : Index := 0#32
  let c0_23 : Index := 0#32
  let c0_i32_22 : BitVec 32 := 0#32
  let c0_i32_10 : BitVec 32 := 0#32
  let c1_i32_12 : BitVec 32 := 1#32
  let arg9 : BitVec 32 := Scf.iv c0_i32_10 c1_i32_12 k0_t1
  let c128_i32 : BitVec 32 := 128#32
  let v27 : BitVec 32 := Scalar.muli arg9 c128_i32
  let c0_i32_18 : BitVec 32 := 0#32
  let c1_i32_19 : BitVec 32 := 1#32
  let arg10 : BitVec 32 := Scf.iv c0_i32_18 c1_i32_19 k0_t2
  let c2_i32 : BitVec 32 := 2#32
  let v28 : BitVec 32 := Scalar.muli arg10 c2_i32
  let v29 : BitVec 32 := Scalar.addi v27 v28
  let c0_i32_21 : BitVec 32 := 0#32
  let v30 : BitVec 32 := Scalar.addi v29 c0_i32_21
  let v31 : BitVec 32 := Scalar.addi c0_i32_22 v30
  let v32 : Index := Scalar.indexCast v31
  ![0, 0, v32.toNat]
def k0_off2 (k0_t1 : Fin k0_t1_loop.trips) (k0_t2 : Fin k0_t2_loop.trips) : Fin 3 → Nat :=
  let c0_i32_24 : BitVec 32 := 0#32
  let c0_i32_10 : BitVec 32 := 0#32
  let c1_i32_12 : BitVec 32 := 1#32
  let arg9 : BitVec 32 := Scf.iv c0_i32_10 c1_i32_12 k0_t1
  let c128_i32 : BitVec 32 := 128#32
  let v27 : BitVec 32 := Scalar.muli arg9 c128_i32
  let c0_i32_18 : BitVec 32 := 0#32
  let c1_i32_19 : BitVec 32 := 1#32
  let arg10 : BitVec 32 := Scf.iv c0_i32_18 c1_i32_19 k0_t2
  let c2_i32 : BitVec 32 := 2#32
  let v28 : BitVec 32 := Scalar.muli arg10 c2_i32
  let v29 : BitVec 32 := Scalar.addi v27 v28
  let c0_i32_21 : BitVec 32 := 0#32
  let v30 : BitVec 32 := Scalar.addi v29 c0_i32_21
  let c0_i32_26 : BitVec 32 := 0#32
  ![0, v30.toNat, 0]
def k0_off3 (v33 : BitVec 32) : Fin 3 → Nat :=
  let c0_i32_27 : BitVec 32 := 0#32
  let c0_i32_28 : BitVec 32 := 0#32
  ![v33.toNat, 0, 0]

def k0_chk1 (i : grid0.Coords) (v33 : BitVec 32) : Prop :=
  (∀ (k0_h1 : k0_cond1 i = 1#1), ∀ a, (k0_off3 v33) a + S1x1x2048.size a ≤ S16384x1x2048.size a)
theorem k0_off3_inb : ∀ (i : grid0.Coords) (v33 : BitVec 32) (k0_hw1 : k0_chk1 i v33), ∀ (k0_h1 : k0_cond1 i = 1#1), ∀ a, (k0_off3 v33) a + S1x1x2048.size a ≤ S16384x1x2048.size a := fun i v33 k0_hw1 k0_h1 => k0_hw1 k0_h1

def k0_off4 (k0_t1 : Fin k0_t1_loop.trips) (k0_t2 : Fin k0_t2_loop.trips) : Fin 3 → Nat :=
  let c0_33 : Index := 0#32
  let c0_34 : Index := 0#32
  let c0_i32_32 : BitVec 32 := 0#32
  let c0_i32_10 : BitVec 32 := 0#32
  let c1_i32_12 : BitVec 32 := 1#32
  let arg9 : BitVec 32 := Scf.iv c0_i32_10 c1_i32_12 k0_t1
  let c128_i32_29 : BitVec 32 := 128#32
  let v40 : BitVec 32 := Scalar.muli arg9 c128_i32_29
  let c0_i32_18 : BitVec 32 := 0#32
  let c1_i32_19 : BitVec 32 := 1#32
  let arg10 : BitVec 32 := Scf.iv c0_i32_18 c1_i32_19 k0_t2
  let c2_i32_30 : BitVec 32 := 2#32
  let v41 : BitVec 32 := Scalar.muli arg10 c2_i32_30
  let v42 : BitVec 32 := Scalar.addi v40 v41
  let c1_i32_31 : BitVec 32 := 1#32
  let v43 : BitVec 32 := Scalar.addi v42 c1_i32_31
  let v44 : BitVec 32 := Scalar.addi c0_i32_32 v43
  let v45 : Index := Scalar.indexCast v44
  ![0, 0, v45.toNat]
def k0_off5 (k0_t1 : Fin k0_t1_loop.trips) (k0_t2 : Fin k0_t2_loop.trips) : Fin 3 → Nat :=
  let c0_i32_35 : BitVec 32 := 0#32
  let c0_i32_10 : BitVec 32 := 0#32
  let c1_i32_12 : BitVec 32 := 1#32
  let arg9 : BitVec 32 := Scf.iv c0_i32_10 c1_i32_12 k0_t1
  let c128_i32_29 : BitVec 32 := 128#32
  let v40 : BitVec 32 := Scalar.muli arg9 c128_i32_29
  let c0_i32_18 : BitVec 32 := 0#32
  let c1_i32_19 : BitVec 32 := 1#32
  let arg10 : BitVec 32 := Scf.iv c0_i32_18 c1_i32_19 k0_t2
  let c2_i32_30 : BitVec 32 := 2#32
  let v41 : BitVec 32 := Scalar.muli arg10 c2_i32_30
  let v42 : BitVec 32 := Scalar.addi v40 v41
  let c1_i32_31 : BitVec 32 := 1#32
  let v43 : BitVec 32 := Scalar.addi v42 c1_i32_31
  let c0_i32_37 : BitVec 32 := 0#32
  ![0, v43.toNat, 0]
def k0_off6 (v46 : BitVec 32) : Fin 3 → Nat :=
  let c0_i32_38 : BitVec 32 := 0#32
  let c0_i32_39 : BitVec 32 := 0#32
  ![v46.toNat, 0, 0]

def k0_chk2 (i : grid0.Coords) (v46 : BitVec 32) : Prop :=
  (∀ (k0_h1 : k0_cond1 i = 1#1), ∀ a, (k0_off6 v46) a + S1x1x2048.size a ≤ S16384x1x2048.size a)
theorem k0_off6_inb : ∀ (i : grid0.Coords) (v46 : BitVec 32) (k0_hw2 : k0_chk2 i v46), ∀ (k0_h1 : k0_cond1 i = 1#1), ∀ a, (k0_off6 v46) a + S1x1x2048.size a ≤ S16384x1x2048.size a := fun i v46 k0_hw2 k0_h1 => k0_hw2 k0_h1

@[reducible] def k0_t3_loop : Scf.Loop 32 :=
  let c0_i32_14 : BitVec 32 := 0#32
  let c8_i32_15 : BitVec 32 := 8#32
  let v25 : BitVec 32 := Scalar.addi c0_i32_14 c8_i32_15
  let c1_i32_16 : BitVec 32 := 1#32
  ⟨c0_i32_14, v25, c1_i32_16⟩
@[reducible] def k0_t4_loop : Scf.Loop 32 :=
  let c0_i32_18 : BitVec 32 := 0#32
  let c64_i32 : BitVec 32 := 64#32
  let v26 : BitVec 32 := Scalar.addi c0_i32_18 c64_i32
  let c1_i32_19 : BitVec 32 := 1#32
  ⟨c0_i32_18, v26, c1_i32_19⟩
def k0_off7 (k0_t3 : Fin k0_t3_loop.trips) (k0_t4 : Fin k0_t4_loop.trips) : Fin 3 → Nat :=
  let c0 : Index := 0#32
  let c0_22 : Index := 0#32
  let c1024_i32 : BitVec 32 := 1024#32
  let c0_i32_14 : BitVec 32 := 0#32
  let c1_i32_16 : BitVec 32 := 1#32
  let arg9 : BitVec 32 := Scf.iv c0_i32_14 c1_i32_16 k0_t3
  let c128_i32 : BitVec 32 := 128#32
  let v27 : BitVec 32 := Scalar.muli arg9 c128_i32
  let c0_i32_18 : BitVec 32 := 0#32
  let c1_i32_19 : BitVec 32 := 1#32
  let arg10 : BitVec 32 := Scf.iv c0_i32_18 c1_i32_19 k0_t4
  let c2_i32 : BitVec 32 := 2#32
  let v28 : BitVec 32 := Scalar.muli arg10 c2_i32
  let v29 : BitVec 32 := Scalar.addi v27 v28
  let c0_i32_21 : BitVec 32 := 0#32
  let v30 : BitVec 32 := Scalar.addi v29 c0_i32_21
  let v31 : BitVec 32 := Scalar.addi c1024_i32 v30
  let v32 : Index := Scalar.indexCast v31
  ![0, 0, v32.toNat]
def k0_off8 (k0_t3 : Fin k0_t3_loop.trips) (k0_t4 : Fin k0_t4_loop.trips) : Fin 3 → Nat :=
  let c1_i32_23 : BitVec 32 := 1#32
  let c0_i32_14 : BitVec 32 := 0#32
  let c1_i32_16 : BitVec 32 := 1#32
  let arg9 : BitVec 32 := Scf.iv c0_i32_14 c1_i32_16 k0_t3
  let c128_i32 : BitVec 32 := 128#32
  let v27 : BitVec 32 := Scalar.muli arg9 c128_i32
  let c0_i32_18 : BitVec 32 := 0#32
  let c1_i32_19 : BitVec 32 := 1#32
  let arg10 : BitVec 32 := Scf.iv c0_i32_18 c1_i32_19 k0_t4
  let c2_i32 : BitVec 32 := 2#32
  let v28 : BitVec 32 := Scalar.muli arg10 c2_i32
  let v29 : BitVec 32 := Scalar.addi v27 v28
  let c0_i32_21 : BitVec 32 := 0#32
  let v30 : BitVec 32 := Scalar.addi v29 c0_i32_21
  let c0_i32_25 : BitVec 32 := 0#32
  ![1, v30.toNat, 0]
def k0_off9 (v33 : BitVec 32) : Fin 3 → Nat :=
  let c0_i32_26 : BitVec 32 := 0#32
  let c0_i32_27 : BitVec 32 := 0#32
  ![v33.toNat, 0, 0]

def k0_chk3 (i : grid0.Coords) (v33 : BitVec 32) : Prop :=
  (∀ (k0_h1 : k0_cond1 i = 1#1), ∀ a, (k0_off9 v33) a + S1x1x2048.size a ≤ S16384x1x2048.size a)
theorem k0_off9_inb : ∀ (i : grid0.Coords) (v33 : BitVec 32) (k0_hw3 : k0_chk3 i v33), ∀ (k0_h1 : k0_cond1 i = 1#1), ∀ a, (k0_off9 v33) a + S1x1x2048.size a ≤ S16384x1x2048.size a := fun i v33 k0_hw3 k0_h1 => k0_hw3 k0_h1

def k0_off10 (k0_t3 : Fin k0_t3_loop.trips) (k0_t4 : Fin k0_t4_loop.trips) : Fin 3 → Nat :=
  let c0_32 : Index := 0#32
  let c0_33 : Index := 0#32
  let c1024_i32_31 : BitVec 32 := 1024#32
  let c0_i32_14 : BitVec 32 := 0#32
  let c1_i32_16 : BitVec 32 := 1#32
  let arg9 : BitVec 32 := Scf.iv c0_i32_14 c1_i32_16 k0_t3
  let c128_i32_28 : BitVec 32 := 128#32
  let v40 : BitVec 32 := Scalar.muli arg9 c128_i32_28
  let c0_i32_18 : BitVec 32 := 0#32
  let c1_i32_19 : BitVec 32 := 1#32
  let arg10 : BitVec 32 := Scf.iv c0_i32_18 c1_i32_19 k0_t4
  let c2_i32_29 : BitVec 32 := 2#32
  let v41 : BitVec 32 := Scalar.muli arg10 c2_i32_29
  let v42 : BitVec 32 := Scalar.addi v40 v41
  let c1_i32_30 : BitVec 32 := 1#32
  let v43 : BitVec 32 := Scalar.addi v42 c1_i32_30
  let v44 : BitVec 32 := Scalar.addi c1024_i32_31 v43
  let v45 : Index := Scalar.indexCast v44
  ![0, 0, v45.toNat]
def k0_off11 (k0_t3 : Fin k0_t3_loop.trips) (k0_t4 : Fin k0_t4_loop.trips) : Fin 3 → Nat :=
  let c1_i32_34 : BitVec 32 := 1#32
  let c0_i32_14 : BitVec 32 := 0#32
  let c1_i32_16 : BitVec 32 := 1#32
  let arg9 : BitVec 32 := Scf.iv c0_i32_14 c1_i32_16 k0_t3
  let c128_i32_28 : BitVec 32 := 128#32
  let v40 : BitVec 32 := Scalar.muli arg9 c128_i32_28
  let c0_i32_18 : BitVec 32 := 0#32
  let c1_i32_19 : BitVec 32 := 1#32
  let arg10 : BitVec 32 := Scf.iv c0_i32_18 c1_i32_19 k0_t4
  let c2_i32_29 : BitVec 32 := 2#32
  let v41 : BitVec 32 := Scalar.muli arg10 c2_i32_29
  let v42 : BitVec 32 := Scalar.addi v40 v41
  let c1_i32_30 : BitVec 32 := 1#32
  let v43 : BitVec 32 := Scalar.addi v42 c1_i32_30
  let c0_i32_36 : BitVec 32 := 0#32
  ![1, v43.toNat, 0]
def k0_off12 (v46 : BitVec 32) : Fin 3 → Nat :=
  let c0_i32_37 : BitVec 32 := 0#32
  let c0_i32_38 : BitVec 32 := 0#32
  ![v46.toNat, 0, 0]

def k0_chk4 (i : grid0.Coords) (v46 : BitVec 32) : Prop :=
  (∀ (k0_h1 : k0_cond1 i = 1#1), ∀ a, (k0_off12 v46) a + S1x1x2048.size a ≤ S16384x1x2048.size a)
theorem k0_off12_inb : ∀ (i : grid0.Coords) (v46 : BitVec 32) (k0_hw4 : k0_chk4 i v46), ∀ (k0_h1 : k0_cond1 i = 1#1), ∀ a, (k0_off12 v46) a + S1x1x2048.size a ≤ S16384x1x2048.size a := fun i v46 k0_hw4 k0_h1 => k0_hw4 k0_h1

def k0_cond2 (i : grid0.Coords) : BitVec 1 :=
  let arg0 : BitVec 32 := BitVec.ofNat 32 (i 0).val
  let c0_i32_6 : BitVec 32 := 0#32
  let v16 : BitVec 1 := Scalar.cmpi .sgt arg0 c0_i32_6
  let c2048_i32 : BitVec 32 := 2048#32
  let v17 : BitVec 1 := Scalar.cmpi .slt arg0 c2048_i32
  let v18 : BitVec 1 := Scalar.andi v16 v17
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_10 : BitVec 32 := 0#32
  let c1024_i32 : BitVec 32 := 1024#32
  let v24 : BitVec 32 := Scalar.addi c0_i32_10 c1024_i32
  let c1_i32_11 : BitVec 32 := 1#32
  ⟨c0_i32_10, v24, c1_i32_11⟩
@[reducible] def k0_t6_loop : Scf.Loop 32 :=
  let c0_i32_12 : BitVec 32 := 0#32
  let c8_i32_13 : BitVec 32 := 8#32
  let v25 : BitVec 32 := Scalar.addi c0_i32_12 c8_i32_13
  let c1_i32_14 : BitVec 32 := 1#32
  ⟨c0_i32_12, v25, c1_i32_14⟩
def k0_off13 (k0_t6 : Fin k0_t6_loop.trips) : Fin 3 → Nat :=
  let c0 : Index := 0#32
  let c0_i32_12 : BitVec 32 := 0#32
  let c1_i32_14 : BitVec 32 := 1#32
  let arg9 : BitVec 32 := Scf.iv c0_i32_12 c1_i32_14 k0_t6
  let c128_i32 : BitVec 32 := 128#32
  let v29 : BitVec 32 := Scalar.muli arg9 c128_i32
  let v30 : Index := Scalar.indexCast v29
  let c0_24 : Index := 0#32
  ![0, v30.toNat, 0]
def k0_off14 (k0_t6 : Fin k0_t6_loop.trips) : Fin 2 → Nat :=
  let c0_i32_23 : BitVec 32 := 0#32
  let c0_i32_12 : BitVec 32 := 0#32
  let c1_i32_14 : BitVec 32 := 1#32
  let arg9 : BitVec 32 := Scf.iv c0_i32_12 c1_i32_14 k0_t6
  let v28 : BitVec 32 := Scalar.addi c0_i32_23 arg9
  let v34 : Index := Scalar.indexCast v28
  let c0_25 : Index := 0#32
  ![v34.toNat, 0]
@[reducible] def k0_t7_loop : Scf.Loop 32 :=
  let c0_i32_38 : BitVec 32 := 0#32
  let c64_i32 : BitVec 32 := 64#32
  let v73 : BitVec 32 := Scalar.addi c0_i32_38 c64_i32
  let c1_i32_39 : BitVec 32 := 1#32
  ⟨c0_i32_38, v73, c1_i32_39⟩
def k0_off15 (k0_t6 : Fin k0_t6_loop.trips) (k0_t7 : Fin k0_t7_loop.trips) : Fin 3 → Nat :=
  let c0_44 : Index := 0#32
  let c0_45 : Index := 0#32
  let c0_i32_43 : BitVec 32 := 0#32
  let c0_i32_12 : BitVec 32 := 0#32
  let c1_i32_14 : BitVec 32 := 1#32
  let arg9 : BitVec 32 := Scf.iv c0_i32_12 c1_i32_14 k0_t6
  let c128_i32_41 : BitVec 32 := 128#32
  let v74 : BitVec 32 := Scalar.muli arg9 c128_i32_41
  let c0_i32_38 : BitVec 32 := 0#32
  let c1_i32_39 : BitVec 32 := 1#32
  let arg10 : BitVec 32 := Scf.iv c0_i32_38 c1_i32_39 k0_t7
  let c2_i32 : BitVec 32 := 2#32
  let v75 : BitVec 32 := Scalar.muli arg10 c2_i32
  let v76 : BitVec 32 := Scalar.addi v74 v75
  let c0_i32_42 : BitVec 32 := 0#32
  let v77 : BitVec 32 := Scalar.addi v76 c0_i32_42
  let v78 : BitVec 32 := Scalar.addi c0_i32_43 v77
  let v79 : Index := Scalar.indexCast v78
  ![0, 0, v79.toNat]
def k0_off16 (k0_t6 : Fin k0_t6_loop.trips) (k0_t7 : Fin k0_t7_loop.trips) : Fin 3 → Nat :=
  let c0_i32_46 : BitVec 32 := 0#32
  let c0_i32_12 : BitVec 32 := 0#32
  let c1_i32_14 : BitVec 32 := 1#32
  let arg9 : BitVec 32 := Scf.iv c0_i32_12 c1_i32_14 k0_t6
  let c128_i32_41 : BitVec 32 := 128#32
  let v74 : BitVec 32 := Scalar.muli arg9 c128_i32_41
  let c0_i32_38 : BitVec 32 := 0#32
  let c1_i32_39 : BitVec 32 := 1#32
  let arg10 : BitVec 32 := Scf.iv c0_i32_38 c1_i32_39 k0_t7
  let c2_i32 : BitVec 32 := 2#32
  let v75 : BitVec 32 := Scalar.muli arg10 c2_i32
  let v76 : BitVec 32 := Scalar.addi v74 v75
  let c0_i32_42 : BitVec 32 := 0#32
  let v77 : BitVec 32 := Scalar.addi v76 c0_i32_42
  let c0_i32_48 : BitVec 32 := 0#32
  ![0, v77.toNat, 0]
def k0_off17 (v80 : BitVec 32) : Fin 3 → Nat :=
  let c0_i32_49 : BitVec 32 := 0#32
  let c0_i32_50 : BitVec 32 := 0#32
  ![v80.toNat, 0, 0]

def k0_chk5 (i : grid0.Coords) (v80 : BitVec 32) : Prop :=
  (∀ (k0_h2 : k0_cond2 i = 1#1), ∀ a, (k0_off17 v80) a + S1x1x2048.size a ≤ S16384x1x2048.size a)
theorem k0_off17_inb : ∀ (i : grid0.Coords) (v80 : BitVec 32) (k0_hw5 : k0_chk5 i v80), ∀ (k0_h2 : k0_cond2 i = 1#1), ∀ a, (k0_off17 v80) a + S1x1x2048.size a ≤ S16384x1x2048.size a := fun i v80 k0_hw5 k0_h2 => k0_hw5 k0_h2

def k0_off18 (k0_t6 : Fin k0_t6_loop.trips) (k0_t7 : Fin k0_t7_loop.trips) : Fin 3 → Nat :=
  let c0_55 : Index := 0#32
  let c0_56 : Index := 0#32
  let c0_i32_54 : BitVec 32 := 0#32
  let c0_i32_12 : BitVec 32 := 0#32
  let c1_i32_14 : BitVec 32 := 1#32
  let arg9 : BitVec 32 := Scf.iv c0_i32_12 c1_i32_14 k0_t6
  let c128_i32_51 : BitVec 32 := 128#32
  let v87 : BitVec 32 := Scalar.muli arg9 c128_i32_51
  let c0_i32_38 : BitVec 32 := 0#32
  let c1_i32_39 : BitVec 32 := 1#32
  let arg10 : BitVec 32 := Scf.iv c0_i32_38 c1_i32_39 k0_t7
  let c2_i32_52 : BitVec 32 := 2#32
  let v88 : BitVec 32 := Scalar.muli arg10 c2_i32_52
  let v89 : BitVec 32 := Scalar.addi v87 v88
  let c1_i32_53 : BitVec 32 := 1#32
  let v90 : BitVec 32 := Scalar.addi v89 c1_i32_53
  let v91 : BitVec 32 := Scalar.addi c0_i32_54 v90
  let v92 : Index := Scalar.indexCast v91
  ![0, 0, v92.toNat]
def k0_off19 (k0_t6 : Fin k0_t6_loop.trips) (k0_t7 : Fin k0_t7_loop.trips) : Fin 3 → Nat :=
  let c0_i32_57 : BitVec 32 := 0#32
  let c0_i32_12 : BitVec 32 := 0#32
  let c1_i32_14 : BitVec 32 := 1#32
  let arg9 : BitVec 32 := Scf.iv c0_i32_12 c1_i32_14 k0_t6
  let c128_i32_51 : BitVec 32 := 128#32
  let v87 : BitVec 32 := Scalar.muli arg9 c128_i32_51
  let c0_i32_38 : BitVec 32 := 0#32
  let c1_i32_39 : BitVec 32 := 1#32
  let arg10 : BitVec 32 := Scf.iv c0_i32_38 c1_i32_39 k0_t7
  let c2_i32_52 : BitVec 32 := 2#32
  let v88 : BitVec 32 := Scalar.muli arg10 c2_i32_52
  let v89 : BitVec 32 := Scalar.addi v87 v88
  let c1_i32_53 : BitVec 32 := 1#32
  let v90 : BitVec 32 := Scalar.addi v89 c1_i32_53
  let c0_i32_59 : BitVec 32 := 0#32
  ![0, v90.toNat, 0]
def k0_off20 (v93 : BitVec 32) : Fin 3 → Nat :=
  let c0_i32_60 : BitVec 32 := 0#32
  let c0_i32_61 : BitVec 32 := 0#32
  ![v93.toNat, 0, 0]

def k0_chk6 (i : grid0.Coords) (v93 : BitVec 32) : Prop :=
  (∀ (k0_h2 : k0_cond2 i = 1#1), ∀ a, (k0_off20 v93) a + S1x1x2048.size a ≤ S16384x1x2048.size a)
theorem k0_off20_inb : ∀ (i : grid0.Coords) (v93 : BitVec 32) (k0_hw6 : k0_chk6 i v93), ∀ (k0_h2 : k0_cond2 i = 1#1), ∀ a, (k0_off20 v93) a + S1x1x2048.size a ≤ S16384x1x2048.size a := fun i v93 k0_hw6 k0_h2 => k0_hw6 k0_h2

@[reducible] def k0_t8_loop : Scf.Loop 32 :=
  let c0_i32_16 : BitVec 32 := 0#32
  let c1024_i32_17 : BitVec 32 := 1024#32
  let v26 : BitVec 32 := Scalar.addi c0_i32_16 c1024_i32_17
  let c1_i32_18 : BitVec 32 := 1#32
  ⟨c0_i32_16, v26, c1_i32_18⟩
@[reducible] def k0_t9_loop : Scf.Loop 32 :=
  let c0_i32_19 : BitVec 32 := 0#32
  let c8_i32_20 : BitVec 32 := 8#32
  let v27 : BitVec 32 := Scalar.addi c0_i32_19 c8_i32_20
  let c1_i32_21 : BitVec 32 := 1#32
  ⟨c0_i32_19, v27, c1_i32_21⟩
def k0_off21 (k0_t9 : Fin k0_t9_loop.trips) : Fin 3 → Nat :=
  let c1 : Index := 1#32
  let c0_i32_19 : BitVec 32 := 0#32
  let c1_i32_21 : BitVec 32 := 1#32
  let arg9 : BitVec 32 := Scf.iv c0_i32_19 c1_i32_21 k0_t9
  let c128_i32 : BitVec 32 := 128#32
  let v29 : BitVec 32 := Scalar.muli arg9 c128_i32
  let v30 : Index := Scalar.indexCast v29
  let c0 : Index := 0#32
  ![1, v30.toNat, 0]
def k0_off22 (k0_t9 : Fin k0_t9_loop.trips) : Fin 2 → Nat :=
  let c8_i32_23 : BitVec 32 := 8#32
  let c0_i32_19 : BitVec 32 := 0#32
  let c1_i32_21 : BitVec 32 := 1#32
  let arg9 : BitVec 32 := Scf.iv c0_i32_19 c1_i32_21 k0_t9
  let v28 : BitVec 32 := Scalar.addi c8_i32_23 arg9
  let v34 : Index := Scalar.indexCast v28
  let c0_24 : Index := 0#32
  ![v34.toNat, 0]
@[reducible] def k0_t10_loop : Scf.Loop 32 :=
  let c0_i32_37 : BitVec 32 := 0#32
  let c64_i32 : BitVec 32 := 64#32
  let v73 : BitVec 32 := Scalar.addi c0_i32_37 c64_i32
  let c1_i32_38 : BitVec 32 := 1#32
  ⟨c0_i32_37, v73, c1_i32_38⟩
def k0_off23 (k0_t9 : Fin k0_t9_loop.trips) (k0_t10 : Fin k0_t10_loop.trips) : Fin 3 → Nat :=
  let c0_43 : Index := 0#32
  let c0_44 : Index := 0#32
  let c1024_i32_42 : BitVec 32 := 1024#32
  let c0_i32_19 : BitVec 32 := 0#32
  let c1_i32_21 : BitVec 32 := 1#32
  let arg9 : BitVec 32 := Scf.iv c0_i32_19 c1_i32_21 k0_t9
  let c128_i32_40 : BitVec 32 := 128#32
  let v74 : BitVec 32 := Scalar.muli arg9 c128_i32_40
  let c0_i32_37 : BitVec 32 := 0#32
  let c1_i32_38 : BitVec 32 := 1#32
  let arg10 : BitVec 32 := Scf.iv c0_i32_37 c1_i32_38 k0_t10
  let c2_i32 : BitVec 32 := 2#32
  let v75 : BitVec 32 := Scalar.muli arg10 c2_i32
  let v76 : BitVec 32 := Scalar.addi v74 v75
  let c0_i32_41 : BitVec 32 := 0#32
  let v77 : BitVec 32 := Scalar.addi v76 c0_i32_41
  let v78 : BitVec 32 := Scalar.addi c1024_i32_42 v77
  let v79 : Index := Scalar.indexCast v78
  ![0, 0, v79.toNat]
def k0_off24 (k0_t9 : Fin k0_t9_loop.trips) (k0_t10 : Fin k0_t10_loop.trips) : Fin 3 → Nat :=
  let c1_i32_45 : BitVec 32 := 1#32
  let c0_i32_19 : BitVec 32 := 0#32
  let c1_i32_21 : BitVec 32 := 1#32
  let arg9 : BitVec 32 := Scf.iv c0_i32_19 c1_i32_21 k0_t9
  let c128_i32_40 : BitVec 32 := 128#32
  let v74 : BitVec 32 := Scalar.muli arg9 c128_i32_40
  let c0_i32_37 : BitVec 32 := 0#32
  let c1_i32_38 : BitVec 32 := 1#32
  let arg10 : BitVec 32 := Scf.iv c0_i32_37 c1_i32_38 k0_t10
  let c2_i32 : BitVec 32 := 2#32
  let v75 : BitVec 32 := Scalar.muli arg10 c2_i32
  let v76 : BitVec 32 := Scalar.addi v74 v75
  let c0_i32_41 : BitVec 32 := 0#32
  let v77 : BitVec 32 := Scalar.addi v76 c0_i32_41
  let c0_i32_47 : BitVec 32 := 0#32
  ![1, v77.toNat, 0]
def k0_off25 (v80 : BitVec 32) : Fin 3 → Nat :=
  let c0_i32_48 : BitVec 32 := 0#32
  let c0_i32_49 : BitVec 32 := 0#32
  ![v80.toNat, 0, 0]

def k0_chk7 (i : grid0.Coords) (v80 : BitVec 32) : Prop :=
  (∀ (k0_h2 : k0_cond2 i = 1#1), ∀ a, (k0_off25 v80) a + S1x1x2048.size a ≤ S16384x1x2048.size a)
theorem k0_off25_inb : ∀ (i : grid0.Coords) (v80 : BitVec 32) (k0_hw7 : k0_chk7 i v80), ∀ (k0_h2 : k0_cond2 i = 1#1), ∀ a, (k0_off25 v80) a + S1x1x2048.size a ≤ S16384x1x2048.size a := fun i v80 k0_hw7 k0_h2 => k0_hw7 k0_h2

def k0_off26 (k0_t9 : Fin k0_t9_loop.trips) (k0_t10 : Fin k0_t10_loop.trips) : Fin 3 → Nat :=
  let c0_54 : Index := 0#32
  let c0_55 : Index := 0#32
  let c1024_i32_53 : BitVec 32 := 1024#32
  let c0_i32_19 : BitVec 32 := 0#32
  let c1_i32_21 : BitVec 32 := 1#32
  let arg9 : BitVec 32 := Scf.iv c0_i32_19 c1_i32_21 k0_t9
  let c128_i32_50 : BitVec 32 := 128#32
  let v87 : BitVec 32 := Scalar.muli arg9 c128_i32_50
  let c0_i32_37 : BitVec 32 := 0#32
  let c1_i32_38 : BitVec 32 := 1#32
  let arg10 : BitVec 32 := Scf.iv c0_i32_37 c1_i32_38 k0_t10
  let c2_i32_51 : BitVec 32 := 2#32
  let v88 : BitVec 32 := Scalar.muli arg10 c2_i32_51
  let v89 : BitVec 32 := Scalar.addi v87 v88
  let c1_i32_52 : BitVec 32 := 1#32
  let v90 : BitVec 32 := Scalar.addi v89 c1_i32_52
  let v91 : BitVec 32 := Scalar.addi c1024_i32_53 v90
  let v92 : Index := Scalar.indexCast v91
  ![0, 0, v92.toNat]
def k0_off27 (k0_t9 : Fin k0_t9_loop.trips) (k0_t10 : Fin k0_t10_loop.trips) : Fin 3 → Nat :=
  let c1_i32_56 : BitVec 32 := 1#32
  let c0_i32_19 : BitVec 32 := 0#32
  let c1_i32_21 : BitVec 32 := 1#32
  let arg9 : BitVec 32 := Scf.iv c0_i32_19 c1_i32_21 k0_t9
  let c128_i32_50 : BitVec 32 := 128#32
  let v87 : BitVec 32 := Scalar.muli arg9 c128_i32_50
  let c0_i32_37 : BitVec 32 := 0#32
  let c1_i32_38 : BitVec 32 := 1#32
  let arg10 : BitVec 32 := Scf.iv c0_i32_37 c1_i32_38 k0_t10
  let c2_i32_51 : BitVec 32 := 2#32
  let v88 : BitVec 32 := Scalar.muli arg10 c2_i32_51
  let v89 : BitVec 32 := Scalar.addi v87 v88
  let c1_i32_52 : BitVec 32 := 1#32
  let v90 : BitVec 32 := Scalar.addi v89 c1_i32_52
  let c0_i32_58 : BitVec 32 := 0#32
  ![1, v90.toNat, 0]
def k0_off28 (v93 : BitVec 32) : Fin 3 → Nat :=
  let c0_i32_59 : BitVec 32 := 0#32
  let c0_i32_60 : BitVec 32 := 0#32
  ![v93.toNat, 0, 0]

def k0_chk8 (i : grid0.Coords) (v93 : BitVec 32) : Prop :=
  (∀ (k0_h2 : k0_cond2 i = 1#1), ∀ a, (k0_off28 v93) a + S1x1x2048.size a ≤ S16384x1x2048.size a)
theorem k0_off28_inb : ∀ (i : grid0.Coords) (v93 : BitVec 32) (k0_hw8 : k0_chk8 i v93), ∀ (k0_h2 : k0_cond2 i = 1#1), ∀ a, (k0_off28 v93) a + S1x1x2048.size a ≤ S16384x1x2048.size a := fun i v93 k0_hw8 k0_h2 => k0_hw8 k0_h2

def k0_cond3 (i : grid0.Coords) : BitVec 1 :=
  let arg0 : BitVec 32 := BitVec.ofNat 32 (i 0).val
  let c2048_i32_8 : BitVec 32 := 2048#32
  let v21 : BitVec 1 := Scalar.cmpi .eq arg0 c2048_i32_8
  let v22 : BitVec 32 := Scalar.extui v21
  let c0_i32_9 : BitVec 32 := 0#32
  let v23 : BitVec 1 := Scalar.cmpi .ne v22 c0_i32_9
  v23

@[reducible] def k0_t11_loop : Scf.Loop 32 :=
  let c0_i32_10 : BitVec 32 := 0#32
  let c1024_i32 : BitVec 32 := 1024#32
  let v24 : BitVec 32 := Scalar.addi c0_i32_10 c1024_i32
  let c1_i32_11 : BitVec 32 := 1#32
  ⟨c0_i32_10, v24, c1_i32_11⟩
@[reducible] def k0_t12_loop : Scf.Loop 32 :=
  let c0_i32_12 : BitVec 32 := 0#32
  let c8_i32_13 : BitVec 32 := 8#32
  let v25 : BitVec 32 := Scalar.addi c0_i32_12 c8_i32_13
  let c1_i32_14 : BitVec 32 := 1#32
  ⟨c0_i32_12, v25, c1_i32_14⟩
def k0_off29 (k0_t12 : Fin k0_t12_loop.trips) : Fin 3 → Nat :=
  let c0 : Index := 0#32
  let c0_i32_12 : BitVec 32 := 0#32
  let c1_i32_14 : BitVec 32 := 1#32
  let arg9 : BitVec 32 := Scf.iv c0_i32_12 c1_i32_14 k0_t12
  let c128_i32 : BitVec 32 := 128#32
  let v29 : BitVec 32 := Scalar.muli arg9 c128_i32
  let v30 : Index := Scalar.indexCast v29
  let c0_24 : Index := 0#32
  ![0, v30.toNat, 0]
def k0_off30 (k0_t12 : Fin k0_t12_loop.trips) : Fin 2 → Nat :=
  let c0_i32_23 : BitVec 32 := 0#32
  let c0_i32_12 : BitVec 32 := 0#32
  let c1_i32_14 : BitVec 32 := 1#32
  let arg9 : BitVec 32 := Scf.iv c0_i32_12 c1_i32_14 k0_t12
  let v28 : BitVec 32 := Scalar.addi c0_i32_23 arg9
  let v34 : Index := Scalar.indexCast v28
  let c0_25 : Index := 0#32
  ![v34.toNat, 0]
@[reducible] def k0_t13_loop : Scf.Loop 32 :=
  let c0_i32_16 : BitVec 32 := 0#32
  let c1024_i32_17 : BitVec 32 := 1024#32
  let v26 : BitVec 32 := Scalar.addi c0_i32_16 c1024_i32_17
  let c1_i32_18 : BitVec 32 := 1#32
  ⟨c0_i32_16, v26, c1_i32_18⟩
@[reducible] def k0_t14_loop : Scf.Loop 32 :=
  let c0_i32_19 : BitVec 32 := 0#32
  let c8_i32_20 : BitVec 32 := 8#32
  let v27 : BitVec 32 := Scalar.addi c0_i32_19 c8_i32_20
  let c1_i32_21 : BitVec 32 := 1#32
  ⟨c0_i32_19, v27, c1_i32_21⟩
def k0_off31 (k0_t14 : Fin k0_t14_loop.trips) : Fin 3 → Nat :=
  let c1 : Index := 1#32
  let c0_i32_19 : BitVec 32 := 0#32
  let c1_i32_21 : BitVec 32 := 1#32
  let arg9 : BitVec 32 := Scf.iv c0_i32_19 c1_i32_21 k0_t14
  let c128_i32 : BitVec 32 := 128#32
  let v29 : BitVec 32 := Scalar.muli arg9 c128_i32
  let v30 : Index := Scalar.indexCast v29
  let c0 : Index := 0#32
  ![1, v30.toNat, 0]
def k0_off32 (k0_t14 : Fin k0_t14_loop.trips) : Fin 2 → Nat :=
  let c8_i32_23 : BitVec 32 := 8#32
  let c0_i32_19 : BitVec 32 := 0#32
  let c1_i32_21 : BitVec 32 := 1#32
  let arg9 : BitVec 32 := Scf.iv c0_i32_19 c1_i32_21 k0_t14
  let v28 : BitVec 32 := Scalar.addi c8_i32_23 arg9
  let v34 : Index := Scalar.indexCast v28
  let c0_24 : Index := 0#32
  ![v34.toNat, 0]
def cc0_transform_0 (i : grid0.Coords) : Fin 3 → Nat :=
  let arg0 : BitVec 32 := BitVec.ofNat 32 (i 0).val
  let c2047_i32 : BitVec 32 := 2047#32
  let v0 : BitVec 32 := Scalar.minsi arg0 c2047_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x1024 : Shape := ⟨2, ![32768, 1024]⟩
abbrev S32768x8x16 : Shape := ⟨3, ![32768, 8, 16]⟩
abbrev S16384x1024 : Shape := ⟨2, ![16384, 1024]⟩
abbrev S_ : Shape := ⟨0, ![]⟩
abbrev S32768x8x16x1 : Shape := ⟨4, ![32768, 8, 16, 1]⟩
abbrev S32768x8x16x1024 : Shape := ⟨4, ![32768, 8, 16, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x8x16, .i32⟩
  | .hbm, ⟨3, _⟩ => ⟨S32768x8x16, .f32⟩
  | .hbm, ⟨4, _⟩ => ⟨S16384x1024, .f32⟩
  | .hbm, ⟨5, _⟩ => ⟨S16384x1024, .f32⟩
  | .hbm, ⟨6, _⟩ => ⟨S_, .i32⟩
  | .hbm, ⟨7, _⟩ => ⟨S32768x8x16, .i32⟩
  | .hbm, ⟨8, _⟩ => ⟨S32768x8x16, .i1⟩
  | .hbm, ⟨9, _⟩ => ⟨S_, .i32⟩
  | .hbm, ⟨10, _⟩ => ⟨S32768x8x16, .i32⟩
  | .hbm, ⟨11, _⟩ => ⟨S32768x8x16, .i32⟩
  | .hbm, ⟨12, _⟩ => ⟨S32768x8x16, .i32⟩
  | .hbm, ⟨13, _⟩ => ⟨S32768x8x16x1, .i32⟩
  | .hbm, ⟨14, _⟩ => ⟨S32768x8x16x1024, .f32⟩
  | .hbm, ⟨15, _⟩ => ⟨S32768x8x16, .f32⟩
  | .hbm, ⟨16, _⟩ => ⟨S32768x8x16, .f32⟩
  | .hbm, ⟨17, _⟩ => ⟨S32768x8x16, .f32⟩
  | .hbm, ⟨18, _⟩ => ⟨S_, .f32⟩
  | .hbm, ⟨19, _⟩ => ⟨S32768x8x16, .f32⟩
  | .hbm, ⟨20, _⟩ => ⟨S32768x8x16, .f32⟩
  | .hbm, ⟨21, _⟩ => ⟨S32768x8x16, .f32⟩
  | .hbm, ⟨22, _⟩ => ⟨S_, .f32⟩
  | .hbm, ⟨23, _⟩ => ⟨S32768x8x16, .f32⟩
  | .hbm, ⟨24, _⟩ => ⟨S32768x8x16, .f32⟩
  | .hbm, ⟨25, _⟩ => ⟨S32768x8x16, .f32⟩
  | .hbm, ⟨26, _⟩ => ⟨S_, .f32⟩
  | .hbm, ⟨27, _⟩ => ⟨S32768x8x16, .f32⟩
  | .hbm, ⟨28, _⟩ => ⟨S32768x8x16, .f32⟩
  | .hbm, ⟨29, _⟩ => ⟨S_, .f32⟩
  | .hbm, ⟨30, _⟩ => ⟨S32768x8x16, .f32⟩
  | .hbm, ⟨31, _⟩ => ⟨S32768x8x16, .f32⟩
  | .hbm, ⟨32, _⟩ => ⟨S32768x8x16, .f32⟩
  | .hbm, ⟨33, _⟩ => ⟨S32768x8x16, .f32⟩
  | .hbm, ⟨34, _⟩ => ⟨S_, .i32⟩
  | .hbm, ⟨35, _⟩ => ⟨S32768x8x16, .i32⟩
  | .hbm, ⟨36, _⟩ => ⟨S32768x8x16, .i1⟩
  | .hbm, ⟨37, _⟩ => ⟨S_, .i32⟩
  | .hbm, ⟨38, _⟩ => ⟨S32768x8x16, .i32⟩
  | .hbm, ⟨39, _⟩ => ⟨S32768x8x16, .i32⟩
  | .hbm, ⟨40, _⟩ => ⟨S32768x8x16, .i32⟩
  | .hbm, ⟨41, _⟩ => ⟨S32768x8x16x1, .i32⟩
  | .hbm, ⟨42, _⟩ => ⟨S32768x8x16x1024, .f32⟩
  | .hbm, ⟨43, _⟩ => ⟨S32768x1024, .f32⟩
  | .hbm, ⟨44, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x4576 : Shape := ⟨2, ![1024, 4576]⟩
abbrev S2528 : Shape := ⟨1, ![2528]⟩
abbrev S32768x1024 : Shape := ⟨2, ![32768, 1024]⟩
abbrev S_ : Shape := ⟨0, ![]⟩
abbrev S2528x1 : Shape := ⟨2, ![2528, 1]⟩
abbrev S1024x2528 : Shape := ⟨2, ![1024, 2528]⟩
abbrev S1024x2560 : Shape := ⟨2, ![1024, 2560]⟩
abbrev S1x1024 : Shape := ⟨2, ![1, 1024]⟩
abbrev S32768x2560 : Shape := ⟨2, ![32768, 2560]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S32768x512 : Shape := ⟨2, ![32768, 512]⟩
abbrev S8x4096x512 : Shape := ⟨3, ![8, 4096, 512]⟩
abbrev S32768x768 : Shape := ⟨2, ![32768, 768]⟩
abbrev S8x4096x768 : Shape := ⟨3, ![8, 4096, 768]⟩
abbrev S32768x24 : Shape := ⟨2, ![32768, 24]⟩
abbrev S8x4096x24 : Shape := ⟨3, ![8, 4096, 24]⟩
abbrev S32768x128 : Shape := ⟨2, ![32768, 128]⟩
abbrev S8x4096x128 : Shape := ⟨3, ![8, 4096, 128]⟩
abbrev S32768x64 : Shape := ⟨2, ![32768, 64]⟩
abbrev S8x4096x64 : Shape := ⟨3, ![8, 4096, 64]⟩
abbrev S32768x8 : Shape := ⟨2, ![32768, 8]⟩
abbrev S8x4096x8 : Shape := ⟨3, ![8, 4096, 8]⟩

abbrev nBuf : Space → Nat
  | .hbm => 34
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4576, .f32⟩
  | .hbm, ⟨3, _⟩ => ⟨S2528, .i32⟩
  | .hbm, ⟨4, _⟩ => ⟨S2528, .i1⟩
  | .hbm, ⟨5, _⟩ => ⟨S32768x1024, .f32⟩
  | .hbm, ⟨6, _⟩ => ⟨S_, .i32⟩
  | .hbm, ⟨7, _⟩ => ⟨S2528, .i32⟩
  | .hbm, ⟨8, _⟩ => ⟨S2528, .i32⟩
  | .hbm, ⟨9, _⟩ => ⟨S2528, .i32⟩
  | .hbm, ⟨10, _⟩ => ⟨S2528x1, .i32⟩
  | .hbm, ⟨11, _⟩ => ⟨S1024x2528, .f32⟩
  | .hbm, ⟨12, _⟩ => ⟨S_, .i32⟩
  | .hbm, ⟨13, _⟩ => ⟨S_, .f32⟩
  | .hbm, ⟨14, _⟩ => ⟨S1024x2560, .f32⟩
  | .hbm, ⟨15, _⟩ => ⟨S1024x2560, .bf16⟩
  | .hbm, ⟨16, _⟩ => ⟨S1x1024, .f32⟩
  | .hbm, ⟨17, _⟩ => ⟨S32768x2560, .f32⟩
  | .hbm, ⟨18, _⟩ => ⟨S32768x512, .f32⟩
  | .hbm, ⟨19, _⟩ => ⟨S8x4096x512, .f32⟩
  | .hbm, ⟨20, _⟩ => ⟨S32768x768, .f32⟩
  | .hbm, ⟨21, _⟩ => ⟨S8x4096x768, .f32⟩
  | .hbm, ⟨22, _⟩ => ⟨S32768x24, .f32⟩
  | .hbm, ⟨23, _⟩ => ⟨S8x4096x24, .f32⟩
  | .hbm, ⟨24, _⟩ => ⟨S32768x512, .f32⟩
  | .hbm, ⟨25, _⟩ => ⟨S8x4096x512, .f32⟩
  | .hbm, ⟨26, _⟩ => ⟨S32768x128, .f32⟩
  | .hbm, ⟨27, _⟩ => ⟨S8x4096x128, .f32⟩
  | .hbm, ⟨28, _⟩ => ⟨S32768x512, .f32⟩
  | .hbm, ⟨29, _⟩ => ⟨S8x4096x512, .f32⟩
  | .hbm, ⟨30, _⟩ => ⟨S32768x64, .f32⟩
  | .hbm, ⟨31, _⟩ => ⟨S8x4096x64, .f32⟩
  | .hbm, ⟨32, _⟩ => ⟨S32768x8, .f32⟩
  | .hbm, ⟨33, _⟩ => ⟨S8x4096x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x4096x1024 : Shape := ⟨3, ![8, 4096, 1024]⟩
abbrev S1024 : Shape := ⟨1, ![1024]⟩
abbrev S1024x4576 : Shape := ⟨2, ![1024, 4576]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4576 : Shape := ⟨3, ![8, 4096, 4576]⟩
abbrev S8x4096x512 : Shape := ⟨3, ![8, 4096, 512]⟩
abbrev S8x4096x768 : Shape := ⟨3, ![8, 4096, 768]⟩
abbrev S8x4096x24 : Shape := ⟨3, ![8, 4096, 24]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x4096x2048 : Shape := ⟨3, ![8, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4576, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x4576, .f32⟩
  | .hbm, ⟨20, _⟩ => ⟨S8x4096x512, .f32⟩
  | .hbm, ⟨21, _⟩ => ⟨S8x4096x768, .f32⟩
  | .hbm, ⟨22, _⟩ => ⟨S8x4096x24, .f32⟩
  | .hbm, ⟨23, _⟩ => ⟨S8x4096x512, .f32⟩
  | .hbm, ⟨24, _⟩ => ⟨S8x4096x128, .f32⟩
  | .hbm, ⟨25, _⟩ => ⟨S8x4096x512, .f32⟩
  | .hbm, ⟨26, _⟩ => ⟨S8x4096x64, .f32⟩
  | .hbm, ⟨27, _⟩ => ⟨S8x4096x8, .f32⟩
  | .hbm, ⟨28, _⟩ => ⟨S8x4096x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S32768x2048 : Shape := ⟨2, ![32768, 2048]⟩
abbrev S512x512 : Shape := ⟨2, ![512, 512]⟩
abbrev S512x2048 : Shape := ⟨2, ![512, 2048]⟩

abbrev nBuf : Space → Nat
  | .hbm => 18
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S32768x1024, .f32⟩
  | .hbm, ⟨8, _⟩ => ⟨S32768x512, .f32⟩
  | .hbm, ⟨9, _⟩ => ⟨S32768x512, .bf16⟩
  | .hbm, ⟨10, _⟩ => ⟨S32768x512, .f32⟩
  | .hbm, ⟨11, _⟩ => ⟨S32768x512, .bf16⟩
  | .hbm, ⟨12, _⟩ => ⟨S32768x2048, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S32768x1024, .f32⟩
  | .hbm, ⟨17, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096x2048, .f32⟩
  | .hbm, ⟨11, _⟩ => ⟨S8x4096x2048, .f32⟩
  | .hbm, ⟨12, _⟩ => ⟨S_, .f32⟩
  | .hbm, ⟨13, _⟩ => ⟨S8x4096x2048, .f32⟩
  | .hbm, ⟨14, _⟩ => ⟨S8x4096x2048, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x256 : Shape := ⟨3, ![8, 4096, 256]⟩
abbrev S256x1024 : Shape := ⟨2, ![256, 1024]⟩
abbrev S1024x1024 : Shape := ⟨2, ![1024, 1024]⟩
abbrev S1024 : Shape := ⟨1, ![1024]⟩
abbrev S32768x1024 : Shape := ⟨2, ![32768, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S32768x1024, .f32⟩
  | .hbm, ⟨6, _⟩ => ⟨S32768x256, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .hbm, ⟨11, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x4096x1024 : Shape := ⟨3, ![8, 4096, 1024]⟩
abbrev S8x4096x256 : Shape := ⟨3, ![8, 4096, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x4576 : Shape := ⟨2, ![1024, 4576]⟩
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S1024x2048 : Shape := ⟨2, ![1024, 2048]⟩
abbrev S1x1024 : Shape := ⟨2, ![1, 1024]⟩
abbrev S32768x2048 : Shape := ⟨2, ![32768, 2048]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S8x4096x2048 : Shape := ⟨3, ![8, 4096, 2048]⟩

abbrev nBuf : Space → Nat
  | .hbm => 16
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4576, .f32⟩
  | .hbm, ⟨3, _⟩ => ⟨S2048, .i32⟩
  | .hbm, ⟨4, _⟩ => ⟨S2048, .i1⟩
  | .hbm, ⟨5, _⟩ => ⟨S32768x1024, .f32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1024x2048, .f32⟩
  | .hbm, ⟨12, _⟩ => ⟨S1024x2048, .bf16⟩
  | .hbm, ⟨13, _⟩ => ⟨S1x1024, .f32⟩
  | .hbm, ⟨14, _⟩ => ⟨S32768x2048, .f32⟩
  | .hbm, ⟨15, _⟩ => ⟨S8x4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x4096x1024 : Shape := ⟨3, ![8, 4096, 1024]⟩
abbrev S1024 : Shape := ⟨1, ![1024]⟩
abbrev S1024x4576 : Shape := ⟨2, ![1024, 4576]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4576 : Shape := ⟨3, ![8, 4096, 4576]⟩
abbrev S8x4096x512 : Shape := ⟨3, ![8, 4096, 512]⟩
abbrev S8x4096x768 : Shape := ⟨3, ![8, 4096, 768]⟩
abbrev S8x4096x24 : Shape := ⟨3, ![8, 4096, 24]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x4096x2048 : Shape := ⟨3, ![8, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4576, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x4576, .f32⟩
  | .hbm, ⟨20, _⟩ => ⟨S8x4096x512, .f32⟩
  | .hbm, ⟨21, _⟩ => ⟨S8x4096x768, .f32⟩
  | .hbm, ⟨22, _⟩ => ⟨S8x4096x24, .f32⟩
  | .hbm, ⟨23, _⟩ => ⟨S8x4096x512, .f32⟩
  | .hbm, ⟨24, _⟩ => ⟨S8x4096x128, .f32⟩
  | .hbm, ⟨25, _⟩ => ⟨S8x4096x512, .f32⟩
  | .hbm, ⟨26, _⟩ => ⟨S8x4096x64, .f32⟩
  | .hbm, ⟨27, _⟩ => ⟨S8x4096x8, .f32⟩
  | .hbm, ⟨28, _⟩ => ⟨S8x4096x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x2048 : Shape := ⟨2, ![1024, 2048]⟩
abbrev S2x128x128 : Shape := ⟨3, ![2, 128, 128]⟩
abbrev S80 : Shape := ⟨1, ![80]⟩
abbrev S80x128 : Shape := ⟨2, ![80, 128]⟩
abbrev S1x1024 : Shape := ⟨2, ![1, 1024]⟩
abbrev S256x128x128 : Shape := ⟨3, ![256, 128, 128]⟩
abbrev S128x1024 : Shape := ⟨2, ![128, 1024]⟩
abbrev S1x128x128 : Shape := ⟨3, ![1, 128, 128]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S16x128 : Shape := ⟨2, ![16, 128]⟩
abbrev S8x128 : Shape := ⟨2, ![8, 128]⟩
abbrev S1x16x128 : Shape := ⟨3, ![1, 16, 128]⟩
abbrev S32768x8x16 : Shape := ⟨3, ![32768, 8, 16]⟩

abbrev nBuf : Space → Nat
  | .hbm => 16
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S2x128x128, .f32⟩
  | .hbm, ⟨4, _⟩ => ⟨S80, .i32⟩
  | .hbm, ⟨5, _⟩ => ⟨S80x128, .i32⟩
  | .hbm, ⟨6, _⟩ => ⟨S1x1024, .f32⟩
  | .hbm, ⟨7, _⟩ => ⟨S1024x2048, .bf16⟩
  | .hbm, ⟨8, _⟩ => ⟨S2x128x128, .bf16⟩
  | .hbm, ⟨9, _⟩ => ⟨S32768x1024, .f32⟩
  | .hbm, ⟨10, _⟩ => ⟨S256x128x128, .i32⟩
  | .hbm, ⟨11, _⟩ => ⟨S256x128x128, .f32⟩
  | .hbm, ⟨12, _⟩ => ⟨S256x128x128, .i32⟩
  | .hbm, ⟨13, _⟩ => ⟨S32768x8x16, .i32⟩
  | .hbm, ⟨14, _⟩ => ⟨S256x128x128, .f32⟩
  | .hbm, ⟨15, _⟩ => ⟨S32768x8x16, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1024x2048, .bf16⟩
  | .local _ .vmem, ⟨4, _⟩ => ⟨S2x128x128, .bf16⟩
  | .local _ .vmem, ⟨5, _⟩ => ⟨S80x128, .i32⟩
  | .local _ .vmem, ⟨6, _⟩ => ⟨S128x1024, .f32⟩
  | .local _ .vmem, ⟨7, _⟩ => ⟨S128x1024, .f32⟩
  | .local _ .vmem, ⟨8, _⟩ => ⟨S1x128x128, .i32⟩
  | .local _ .vmem, ⟨9, _⟩ => ⟨S1x128x128, .i32⟩
  | .local _ .vmem, ⟨10, _⟩ => ⟨S1x128x128, .f32⟩
  | .local _ .vmem, ⟨11, _⟩ => ⟨S1x128x128, .f32⟩
  | .local _ .vmem, ⟨12, _⟩ => ⟨S128x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c8_i32 : BitVec 32 := 8#32
  let v26 : BitVec 32 := Scalar.addi c0_i32 c8_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2_i32 : BitVec 32 := 2#32
  let v27 : BitVec 32 := Scalar.muli arg10 c2_i32
  let c0_i32_15 : BitVec 32 := 0#32
  let v28 : BitVec 32 := Scalar.addi v27 c0_i32_15
  let c128_i32 : BitVec 32 := 128#32
  let v29 : BitVec 32 := Scalar.muli v28 c128_i32
  v29
def k0_off1 (k0_t1 : Fin k0_t1_loop.trips) (c0_i32_15 : BitVec 32) : Fin 2 → Nat :=
  let c0_19 : Index := 0#32
  let c0_i32 : BitVec 32 := 0#32
  let c1_i32 : BitVec 32 := 1#32
  let arg10 : BitVec 32 := Scf.iv c0_i32 c1_i32 k0_t1
  let c2_i32 : BitVec 32 := 2#32
  let v27 : BitVec 32 := Scalar.muli arg10 c2_i32
  let v28 : BitVec 32 := Scalar.addi v27 c0_i32_15
  let c128_i32 : BitVec 32 := 128#32
  let v29 : BitVec 32 := Scalar.muli v28 c128_i32
  let v32 : BitVec 32 := v29
  let v33 : Index := Scalar.indexCast v32
  ![0, v33.toNat]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c2_i32_83 : BitVec 32 := 2#32
  let v226 : BitVec 32 := Scalar.muli arg10 c2_i32_83
  let c1_i32_84 : BitVec 32 := 1#32
  let v227 : BitVec 32 := Scalar.addi v226 c1_i32_84
  let c128_i32_85 : BitVec 32 := 128#32
  let v228 : BitVec 32 := Scalar.muli v227 c128_i32_85
  v228
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c16_i32 : BitVec 32 := 16#32
  let v809 : BitVec 32 := Scalar.muli arg10 c16_i32
  v809
def k0_off2 (k0_t1 : Fin k0_t1_loop.trips) : Fin 3 → Nat :=
  let c0_257 : Index := 0#32
  let c0_i32 : BitVec 32 := 0#32
  let c1_i32 : BitVec 32 := 1#32
  let arg10 : BitVec 32 := Scf.iv c0_i32 c1_i32 k0_t1
  let c16_i32 : BitVec 32 := 16#32
  let v809 : BitVec 32 := Scalar.muli arg10 c16_i32
  let v810 : BitVec 32 := v809
  let v811 : Index := Scalar.indexCast v810
  let c0_258 : Index := 0#32
  ![0, v811.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c16_i32_259 : BitVec 32 := 16#32
  let v815 : BitVec 32 := Scalar.muli arg10 c16_i32_259
  v815
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S32768x1024 : Shape := ⟨2, ![32768, 1024]⟩
abbrev S1024 : Shape := ⟨1, ![1024]⟩
abbrev S1024x2048 : Shape := ⟨2, ![1024, 2048]⟩
abbrev S2x128x128 : Shape := ⟨3, ![2, 128, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S1x128x128 : Shape := ⟨3, ![1, 128, 128]⟩
abbrev S128x128 : Shape := ⟨2, ![128, 128]⟩
abbrev S32768x8x16 : Shape := ⟨3, ![32768, 8, 16]⟩
abbrev S32768x8x16x1 : Shape := ⟨4, ![32768, 8, 16, 1]⟩
abbrev S32768x8x1x16 : Shape := ⟨4, ![32768, 8, 1, 16]⟩
abbrev S32768x8x16x16 : Shape := ⟨4, ![32768, 8, 16, 16]⟩
abbrev S32768x8x256 : Shape := ⟨3, ![32768, 8, 256]⟩
abbrev S1 : Shape := ⟨1, ![1]⟩
abbrev S1x1x1x1 : Shape := ⟨4, ![1, 1, 1, 1]⟩
abbrev S32768x8 : Shape := ⟨2, ![32768, 8]⟩
abbrev S32768x8x1 : Shape := ⟨3, ![32768, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S2x128x128, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x2048, .f32⟩
  | .hbm, ⟨21, _⟩ => ⟨S32768x8x2x128, .f32⟩
  | .hbm, ⟨22, _⟩ => ⟨S32768x8x1x128, .f32⟩
  | .hbm, ⟨23, _⟩ => ⟨S32768x8x128, .f32⟩
  | .hbm, ⟨24, _⟩ => ⟨S1x128x128, .f32⟩
  | .hbm, ⟨25, _⟩ => ⟨S128x128, .f32⟩
  | .hbm, ⟨26, _⟩ => ⟨S32768x8x128, .f32⟩
  | .hbm, ⟨27, _⟩ => ⟨S32768x8x1x128, .f32⟩
  | .hbm, ⟨28, _⟩ => ⟨S32768x8x128, .f32⟩
  | .hbm, ⟨29, _⟩ => ⟨S1x128x128, .f32⟩
  | .hbm, ⟨30, _⟩ => ⟨S128x128, .f32⟩
  | .hbm, ⟨31, _⟩ => ⟨S32768x8x128, .f32⟩
  | .hbm, ⟨32, _⟩ => ⟨S32768x8x16, .f32⟩
  | .hbm, ⟨33, _⟩ => ⟨S32768x8x16, .i32⟩
  | .hbm, ⟨34, _⟩ => ⟨S32768x8x16, .f32⟩
  | .hbm, ⟨35, _⟩ => ⟨S32768x8x16, .i32⟩
  | .hbm, ⟨36, _⟩ => ⟨S32768x8x16x1, .f32⟩
  | .hbm, ⟨37, _⟩ => ⟨S32768x8x1x16, .f32⟩
  | .hbm, ⟨38, _⟩ => ⟨S32768x8x16x16, .f32⟩
  | .hbm, ⟨39, _⟩ => ⟨S32768x8x16x16, .f32⟩
  | .hbm, ⟨40, _⟩ => ⟨S32768x8x16x16, .f32⟩
  | .hbm, ⟨41, _⟩ => ⟨S32768x8x256, .f32⟩
  | .hbm, ⟨42, _⟩ => ⟨S32768x8x16x1, .i32⟩
  | .hbm, ⟨43, _⟩ => ⟨S_, .i32⟩
  | .hbm, ⟨44, _⟩ => ⟨S32768x8x16x1, .i32⟩
  | .hbm, ⟨45, _⟩ => ⟨S32768x8x16x1, .i32⟩
  | .hbm, ⟨46, _⟩ => ⟨S32768x8x1x16, .i32⟩
  | .hbm, ⟨47, _⟩ => ⟨S32768x8x16x16, .i32⟩
  | .hbm, ⟨48, _⟩ => ⟨S32768x8x16x16, .i32⟩
  | .hbm, ⟨49, _⟩ => ⟨S32768x8x16x16, .i32⟩
  | .hbm, ⟨50, _⟩ => ⟨S32768x8x256, .i32⟩
  | .hbm, ⟨51, _⟩ => ⟨S32768x8x16, .f32⟩
  | .hbm, ⟨52, _⟩ => ⟨S32768x8x16, .i32⟩
  | .hbm, ⟨53, _⟩ => ⟨S_, .i32⟩
  | .hbm, ⟨54, _⟩ => ⟨S32768x8x16, .i32⟩
  | .hbm, ⟨55, _⟩ => ⟨S32768x8x16, .i1⟩
  | .hbm, ⟨56, _⟩ => ⟨S_, .i32⟩
  | .hbm, ⟨57, _⟩ => ⟨S32768x8x16, .i32⟩
  | .hbm, ⟨58, _⟩ => ⟨S32768x8x16, .i32⟩
  | .hbm, ⟨59, _⟩ => ⟨S32768x8x16, .i32⟩
  | .hbm, ⟨60, _⟩ => ⟨S32768x8x16x1, .i32⟩
  | .hbm, ⟨61, _⟩ => ⟨S1, .i32⟩
  | .hbm, ⟨62, _⟩ => ⟨S_, .i32⟩
  | .hbm, ⟨63, _⟩ => ⟨S32768x8x16x1, .i32⟩
  | .hbm, ⟨64, _⟩ => ⟨S32768x8x16x1, .i1⟩
  | .hbm, ⟨65, _⟩ => ⟨S1x1x1x1, .i32⟩
  | .hbm, ⟨66, _⟩ => ⟨S32768x8x16x1, .i32⟩
  | .hbm, ⟨67, _⟩ => ⟨S32768x8x16x1, .i1⟩
  | .hbm, ⟨68, _⟩ => ⟨S32768x8x16x1, .i1⟩
  | .hbm, ⟨69, _⟩ => ⟨S_, .i1⟩
  | .hbm, ⟨70, _⟩ => ⟨S32768x8x16, .i1⟩
  | .hbm, ⟨71, _⟩ => ⟨S32768x8x16, .i32⟩
  | .hbm, ⟨72, _⟩ => ⟨S_, .i32⟩
  | .hbm, ⟨73, _⟩ => ⟨S32768x8x16, .i32⟩
  | .hbm, ⟨74, _⟩ => ⟨S32768x8x16, .i32⟩
  | .hbm, ⟨75, _⟩ => ⟨S_, .f32⟩
  | .hbm, ⟨76, _⟩ => ⟨S32768x8, .f32⟩
  | .hbm, ⟨77, _⟩ => ⟨S_, .f32⟩
  | .hbm, ⟨78, _⟩ => ⟨S32768x8, .f32⟩
  | .hbm, ⟨79, _⟩ => ⟨S32768x8, .f32⟩
  | .hbm, ⟨80, _⟩ => ⟨S32768x8x1, .f32⟩
  | .hbm, ⟨81, _⟩ => ⟨S32768x8x16, .f32⟩
  | .hbm, ⟨82, _⟩ => ⟨S32768x8x16, .f32⟩
  | .hbm, ⟨83, _⟩ => ⟨S32768x8x16, .f32⟩
  | .hbm, ⟨84, _⟩ => ⟨S_, .f32⟩
  | .hbm, ⟨85, _⟩ => ⟨S32768x8, .f32⟩
  | .hbm, ⟨86, _⟩ => ⟨S32768x8x1, .f32⟩
  | .hbm, ⟨87, _⟩ => ⟨S32768x8x16, .f32⟩
  | .hbm, ⟨88, _⟩ => ⟨S32768x8x16, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_values : Ref sig .tc := ⟨.hbm, 32, rfl⟩
abbrev main_indices : Ref sig .tc := ⟨.hbm, 33, rfl⟩
abbrev main_values_2 : Ref sig .tc := ⟨.hbm, 34, rfl⟩
abbrev main_indices_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_values_4 : Ref sig .tc := ⟨.hbm, 51, rfl⟩
abbrev main_indices_5 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_c_4 : Ref sig .tc := ⟨.hbm, 72, rfl⟩
abbrev main_call0_v14 : Ref sig .tc := ⟨.hbm, 73, rfl⟩
abbrev main_v39 : Ref sig .tc := ⟨.hbm, 74, rfl⟩
abbrev main_cst_6 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]
-- ==== Kernel7.lean ====
abbrev S8x4096x256 : Shape := ⟨3, ![8, 4096, 256]⟩
abbrev S8x4096 : Shape := ⟨2, ![8, 4096]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S128x128 : Shape := ⟨2, ![128, 128]⟩
abbrev S2x128 : Shape := ⟨2, ![2, 128]⟩
abbrev S8x256x16x2x2x64 : Shape := ⟨6, ![8, 256, 16, 2, 2, 64]⟩
abbrev S2x8x2x256x16x64 : Shape := ⟨6, ![2, 8, 2, 256, 16, 64]⟩
abbrev S2x8x2x256x1024 : Shape := ⟨5, ![2, 8, 2, 256, 1024]⟩
abbrev S2x8x2x255x1024 : Shape := ⟨5, ![2, 8, 2, 255, 1024]⟩
abbrev S2x8x2x255x2048 : Shape := ⟨5, ![2, 8, 2, 255, 2048]⟩
abbrev S_ : Shape := ⟨0, ![]⟩
abbrev S2x8x2x256x2048 : Shape := ⟨5, ![2, 8, 2, 256, 2048]⟩
abbrev S2x1x2048 : Shape := ⟨3, ![2, 1, 2048]⟩
abbrev S8x255 : Shape := ⟨2, ![8, 255]⟩
abbrev S8x256 : Shape := ⟨2, ![8, 256]⟩
abbrev S8x256x1 : Shape := ⟨3, ![8, 256, 1]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x8x256x128 : Shape := ⟨4, ![2, 8, 256, 128]⟩
abbrev S1x1x2x256x2048 : Shape := ⟨5, ![1, 1, 2, 256, 2048]⟩
abbrev S1x1x2048 : Shape := ⟨3, ![1, 1, 2048]⟩
abbrev S1x2048x256 : Shape := ⟨3, ![1, 2048, 256]⟩
abbrev S1x256x64 : Shape := ⟨3, ![1, 256, 64]⟩
abbrev S1x256x1 : Shape := ⟨3, ![1, 256, 1]⟩
abbrev S1x1x256x128 : Shape := ⟨4, ![1, 1, 256, 128]⟩
abbrev S1x1x1x256x2048 : Shape := ⟨5, ![1, 1, 1, 256, 2048]⟩
abbrev S256x2048 : Shape := ⟨2, ![256, 2048]⟩
abbrev S1x2048 : Shape := ⟨2, ![1, 2048]⟩
abbrev S2048x256 : Shape := ⟨2, ![2048, 256]⟩
abbrev S256x256 : Shape := ⟨2, ![256, 256]⟩
abbrev S256x64 : Shape := ⟨2, ![256, 64]⟩
abbrev S256x128 : Shape := ⟨2, ![256, 128]⟩
abbrev S256x1 : Shape := ⟨2, ![256, 1]⟩
abbrev S1x8x256x128 : Shape := ⟨4, ![1, 8, 256, 128]⟩
abbrev S8x256x128 : Shape := ⟨3, ![8, 256, 128]⟩
abbrev S8x255x128 : Shape := ⟨3, ![8, 255, 128]⟩
abbrev S8x255x2x64 : Shape := ⟨4, ![8, 255, 2, 64]⟩

abbrev nBuf : Space → Nat
  | .hbm => 34
  | .vmem => 15
  | .smem => 0
  | _ => 0

abbrev bufTy : (tb : Table) → Fin (tcTables nBuf tb) → BufTy
  | .hbm, ⟨0, _⟩ => ⟨S8x4096x256, .f32⟩
  | .hbm, ⟨1, _⟩ => ⟨S8x4096, .i32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S64, .f32⟩
  | .hbm, ⟨6, _⟩ => ⟨S128x128, .bf16⟩
  | .hbm, ⟨7, _⟩ => ⟨S2x128, .f32⟩
  | .hbm, ⟨8, _⟩ => ⟨S8x256x16x2x2x64, .f32⟩
  | .hbm, ⟨9, _⟩ => ⟨S2x8x2x256x16x64, .f32⟩
  | .hbm, ⟨10, _⟩ => ⟨S2x8x2x256x1024, .f32⟩
  | .hbm, ⟨11, _⟩ => ⟨S2x8x2x255x1024, .f32⟩
  | .hbm, ⟨12, _⟩ => ⟨S2x8x2x255x1024, .f32⟩
  | .hbm, ⟨13, _⟩ => ⟨S2x8x2x255x2048, .f32⟩
  | .hbm, ⟨14, _⟩ => ⟨S_, .i32⟩
  | .hbm, ⟨15, _⟩ => ⟨S_, .f32⟩
  | .hbm, ⟨16, _⟩ => ⟨S2x8x2x256x2048, .f32⟩
  | .hbm, ⟨17, _⟩ => ⟨S2x1x2048, .f32⟩
  | .hbm, ⟨18, _⟩ => ⟨S8x255, .i32⟩
  | .hbm, ⟨19, _⟩ => ⟨S_, .i32⟩
  | .hbm, ⟨20, _⟩ => ⟨S_, .i32⟩
  | .hbm, ⟨21, _⟩ => ⟨S8x256, .i32⟩
  | .hbm, ⟨22, _⟩ => ⟨S8x256x1, .i32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S2x2048x256, .bf16⟩
  | .hbm, ⟨28, _⟩ => ⟨S2x256x64, .bf16⟩
  | .hbm, ⟨29, _⟩ => ⟨S2x8x256x128, .f32⟩
  | .hbm, ⟨30, _⟩ => ⟨S1x8x256x128, .f32⟩
  | .hbm, ⟨31, _⟩ => ⟨S8x256x128, .f32⟩
  | .hbm, ⟨32, _⟩ => ⟨S8x255x128, .f32⟩
  | .hbm, ⟨33, _⟩ => ⟨S8x255x2x64, .f32⟩
  | .local _ .vmem, ⟨0, _⟩ => ⟨S1x1x2x256x2048, .f32⟩
  | .local _ .vmem, ⟨1, _⟩ => ⟨S1x1x2x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x256, .bf16⟩
  | .local _ .vmem, ⟨5, _⟩ => ⟨S1x2048x256, .bf16⟩
  | .local _ .vmem, ⟨6, _⟩ => ⟨S1x256x64, .bf16⟩
  | .local _ .vmem, ⟨7, _⟩ => ⟨S1x256x64, .bf16⟩
  | .local _ .vmem, ⟨8, _⟩ => ⟨S1x256x1, .i32⟩
  | .local _ .vmem, ⟨9, _⟩ => ⟨S1x256x1, .i32⟩
  | .local _ .vmem, ⟨10, _⟩ => ⟨S2x128, .f32⟩
  | .local _ .vmem, ⟨11, _⟩ => ⟨S1x128, .f32⟩
  | .local _ .vmem, ⟨12, _⟩ => ⟨S128x128, .bf16⟩
  | .local _ .vmem, ⟨13, _⟩ => ⟨S1x1x256x128, .f32⟩
  | .local _ .vmem, ⟨14, _⟩ => ⟨S1x1x256x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_37 : BitVec 32 := 0#32
  let v57 : BitVec 1 := Scalar.cmpi .ne v56 c0_i32_37
  v57

def k0_cond2 (i : grid0.Coords) : BitVec 1 :=
  let arg0 : BitVec 32 := BitVec.ofNat 32 (i 0).val
  let c0_i32_38 : BitVec 32 := 0#32
  let v58 : BitVec 1 := Scalar.cmpi .ne arg0 c0_i32_38
  let v59 : BitVec 32 := Scalar.extui v58
  let c0_i32_39 : BitVec 32 := 0#32
  let v60 : BitVec 1 := Scalar.cmpi .ne v59 c0_i32_39
  v60

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x4096x256 : Shape := ⟨3, ![8, 4096, 256]⟩
abbrev S8x4096 : Shape := ⟨2, ![8, 4096]⟩
abbrev S2x32x64 : Shape := ⟨3, ![2, 32, 64]⟩
abbrev S2x2048x256 : Shape := ⟨3, ![2, 2048, 256]⟩
abbrev S2x256x64 : Shape := ⟨3, ![2, 256, 64]⟩
abbrev S64 : Shape := ⟨1, ![64]⟩
abbrev S8x4096x2x2x64 : Shape := ⟨5, ![8, 4096, 2, 2, 64]⟩
abbrev S8x4096x1x2x64 : Shape := ⟨5, ![8, 4096, 1, 2, 64]⟩
abbrev S8x4096x2x64 : Shape := ⟨4, ![8, 4096, 2, 64]⟩
abbrev S8x256x16x2x64 : Shape := ⟨5, ![8, 256, 16, 2, 64]⟩
abbrev S8x255x16x2x64 : Shape := ⟨5, ![8, 255, 16, 2, 64]⟩
abbrev S8x255x32x2x64 : Shape := ⟨5, ![8, 255, 32, 2, 64]⟩
abbrev S1x32x64 : Shape := ⟨3, ![1, 32, 64]⟩
abbrev S32x64 : Shape := ⟨2, ![32, 64]⟩
abbrev S1x1x32x1x64 : Shape := ⟨5, ![1, 1, 32, 1, 64]⟩
abbrev S8x255x2x32x64 : Shape := ⟨5, ![8, 255, 2, 32, 64]⟩
abbrev S8x255x2x2048 : Shape := ⟨4, ![8, 255, 2, 2048]⟩
abbrev S1x2048x256 : Shape := ⟨3, ![1, 2048, 256]⟩
abbrev S2048x256 : Shape := ⟨2, ![2048, 256]⟩
abbrev S8x255x2x256 : Shape := ⟨4, ![8, 255, 2, 256]⟩
abbrev S_ : Shape := ⟨0, ![]⟩
abbrev S1x256x64 : Shape := ⟨3, ![1, 256, 64]⟩
abbrev S256x64 : Shape := ⟨2, ![256, 64]⟩
abbrev S8x255x2x64 : Shape := ⟨4, ![8, 255, 2, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096, .i32⟩
  | .hbm, ⟨2, _⟩ => ⟨S2x32x64, .f32⟩
  | .hbm, ⟨3, _⟩ => ⟨S2x2048x256, .f32⟩
  | .hbm, ⟨4, _⟩ => ⟨S2x256x64, .f32⟩
  | .hbm, ⟨5, _⟩ => ⟨S64, .f32⟩
  | .hbm, ⟨6, _⟩ => ⟨S8x4096x2x2x64, .f32⟩
  | .hbm, ⟨7, _⟩ => ⟨S8x4096x1x2x64, .f32⟩
  | .hbm, ⟨8, _⟩ => ⟨S8x4096x2x64, .f32⟩
  | .hbm, ⟨9, _⟩ => ⟨S8x256x16x2x64, .f32⟩
  | .hbm, ⟨10, _⟩ => ⟨S8x255x16x2x64, .f32⟩
  | .hbm, ⟨11, _⟩ => ⟨S8x255x16x2x64, .f32⟩
  | .hbm, ⟨12, _⟩ => ⟨S8x255x32x2x64, .f32⟩
  | .hbm, ⟨13, _⟩ => ⟨S1x32x64, .f32⟩
  | .hbm, ⟨14, _⟩ => ⟨S32x64, .f32⟩
  | .hbm, ⟨15, _⟩ => ⟨S1x1x32x1x64, .f32⟩
  | .hbm, ⟨16, _⟩ => ⟨S8x255x32x2x64, .f32⟩
  | .hbm, ⟨17, _⟩ => ⟨S8x255x32x2x64, .f32⟩
  | .hbm, ⟨18, _⟩ => ⟨S8x255x2x32x64, .f32⟩
  | .hbm, ⟨19, _⟩ => ⟨S8x255x2x2048, .f32⟩
  | .hbm, ⟨20, _⟩ => ⟨S1x2048x256, .f32⟩
  | .hbm, ⟨21, _⟩ => ⟨S2048x256, .f32⟩
  | .hbm, ⟨22, _⟩ => ⟨S8x255x2x256, .f32⟩
  | .hbm, ⟨23, _⟩ => ⟨S8x255x2x256, .f32⟩
  | .hbm, ⟨24, _⟩ => ⟨S8x255x2x256, .f32⟩
  | .hbm, ⟨25, _⟩ => ⟨S_, .f32⟩
  | .hbm, ⟨26, _⟩ => ⟨S8x255x2x256, .f32⟩
  | .hbm, ⟨27, _⟩ => ⟨S8x255x2x256, .f32⟩
  | .hbm, ⟨28, _⟩ => ⟨S8x255x2x256, .f32⟩
  | .hbm, ⟨29, _⟩ => ⟨S_, .f32⟩
  | .hbm, ⟨30, _⟩ => ⟨S8x255x2x256, .f32⟩
  | .hbm, ⟨31, _⟩ => ⟨S8x255x2x256, .f32⟩
  | .hbm, ⟨32, _⟩ => ⟨S8x255x2x256, .f32⟩
  | .hbm, ⟨33, _⟩ => ⟨S_, .f32⟩
  | .hbm, ⟨34, _⟩ => ⟨S8x255x2x256, .f32⟩
  | .hbm, ⟨35, _⟩ => ⟨S8x255x2x256, .f32⟩
  | .hbm, ⟨36, _⟩ => ⟨S_, .f32⟩
  | .hbm, ⟨37, _⟩ => ⟨S8x255x2x256, .f32⟩
  | .hbm, ⟨38, _⟩ => ⟨S8x255x2x256, .f32⟩
  | .hbm, ⟨39, _⟩ => ⟨S8x255x2x256, .f32⟩
  | .hbm, ⟨40, _⟩ => ⟨S1x256x64, .f32⟩
  | .hbm, ⟨41, _⟩ => ⟨S256x64, .f32⟩
  | .hbm, ⟨42, _⟩ => ⟨S8x255x2x64, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Rows.lean ====
module
public import proofs.«01_k».proof.Proof.Gen.KernelIdeal.Frame
public import Idealize.ShloMosaic.Lib.Batch
public import Idealize.ShloMosaic.Lib.Ring

@[expose] public section

noncomputable section

namespace Cert.KernelIdeal.Peer

open Idealize.ShloMosaic Idealize.ShloMosaic.TcCoe Idealize.ShloMosaic.Tactic Cert.KernelIdeal
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows the transfers move -/

/-- Row `r` of slot `s` of the row buffer. -/
def rowSet (s r : ℕ) : Finset S2x1024x2048.Idx := Finset.univ.filter fun y => (y 0).val = s ∧ (y 1).val = r
/-- Row `e` of the joined table. -/
def srcSet (e : ℕ) : Finset S16384x1x2048.Idx := Finset.univ.filter fun y => (y 0).val = e

/-- The table's element that belongs at `y` of the row buffer, the words naming the rows being `e`. -/
def gIdx (e : ℕ → ℕ) (y : S2x1024x2048.Idx) : S16384x1x2048.Idx :=
  fun a => match a with
    | 0 => ⟨e ((y 0).val * 1024 + (y 1).val) % 16384, Nat.mod_lt _ (by decide)⟩
    | 1 => ⟨0, by decide⟩
    | 2 => ⟨(y 2).val, (y 2).isLt⟩

/-- The row buffer once every row has landed. -/
def gath (w : S16384x1x2048.Idx → Elt F .f32) (e : ℕ → ℕ) : S2x1024x2048.Idx → Elt F .f32 := fun y => w (gIdx e y)

variable (c : Dev nD)

/-- Row `r` of slot `s`, held whole at contents `f`. -/
def row (s r : ℕ) (f : S2x1024x2048.Idx → Elt F .f32) : sProp 𝕄 :=
  ((c : Thread nD τ).loc cc0_scratch0) ↦[rowSet s r]{fullShare} f
/-- Row `e` of the table under read token `t`. -/
def src (w : S16384x1x2048.Idx → Elt F .f32) (e t : ℕ) : sProp 𝕄 :=
  ((c : Thread nD τ).loc main_v5) ↦[srcSet e]{Transfers.shareTokN fullShare t} w

/-- A row's credit. -/
abbrev NN : ℕ := ((Memref.whole cc0_scratch0).view.slice (Rect.unit (s := S2x1024x2048) ![0, 0, 0] S1x1x2048.size (by decide))).dmaCredit

/-- The two slots' semaphores. -/
def sem (s : Fin 2) : DmaSem sig := ⟨10 + s.val, by have := s.isLt; show 10 + s.val < 12; omega⟩

/-- What transfer `t` of slot `s` delivers. -/
def dlv (w : S16384x1x2048.Idx → Elt F .f32) (e : ℕ → ℕ) (s : Fin 2) (t : Fin 1024) : sProp 𝕄 :=
  iprop(row c s.val t.val (gath w e) ∗ src c w (e (s.val * 1024 + t.val)) (s.val * 1024 + t.val))

instance dlv_storable (w : S16384x1x2048.Idx → Elt F .f32) (e : ℕ → ℕ) (s : Fin 2) (t : Fin 1024) :
    BI.Storable (upEmb : UEmb _ 𝕄) (dlv c w e s t) := by
  unfold dlv row src; infer_instance

/-- Slot `s`'s transfers: `j` started, `u` units waited for. -/
def bat (w : S16384x1x2048.Idx → Elt F .f32) (e : ℕ → ℕ) (s : Fin 2) (j u : ℕ) : sProp 𝕄 :=
  Transfers.Batch (countersEmb (U := Pipeline.UD sig nD τ)) (c : Thread nD τ) (.dma (sem s)) () NN (dlv c w e s) j u

theorem rowSet_eq (s r : ℕ) (inb : ∀ a, (![s, r, 0] : Fin 3 → ℕ) a + S1x1x2048.size a ≤ S2x1024x2048.size a) :
    (Rect.unit (s := S2x1024x2048) ![s, r, 0] S1x1x2048.size inb).set = rowSet s r := by
  ext y
  rw [Rect.mem_set_unit]
  unfold rowSet
  rw [Finset.mem_filter]
  have h2 : (y 2).val < 2048 := (y 2).isLt
  constructor
  · intro h
    have h0 : s ≤ (y 0).val ∧ (y 0).val < s + 1 := h 0
    have h1 : r ≤ (y 1).val ∧ (y 1).val < r + 1 := h 1
    exact ⟨Finset.mem_univ _, by omega, by omega⟩
  · rintro ⟨-, h0, h1⟩ a
    fin_cases a
    · show s ≤ (y 0).val ∧ (y 0).val < s + 1; omega
    · show r ≤ (y 1).val ∧ (y 1).val < r + 1; omega
    · show 0 ≤ (y 2).val ∧ (y 2).val < 0 + 2048; omega

theorem srcSet_eq (e : ℕ) (inb : ∀ a, (![e, 0, 0] : Fin 3 → ℕ) a + S1x1x2048.size a ≤ S16384x1x2048.size a) :
    (Rect.unit (s := S16384x1x2048) ![e, 0, 0] S1x1x2048.size inb).set = srcSet e := by
  ext y
  rw [Rect.mem_set_unit]
  unfold srcSet
  rw [Finset.mem_filter]
  have h1 : (y 1).val < 1 := (y 1).isLt
  have h2 : (y 2).val < 2048 := (y 2).isLt
  constructor
  · intro h
    have h0 : e ≤ (y 0).val ∧ (y 0).val < e + 1 := h 0
    exact ⟨Finset.mem_univ _, by omega⟩
  · rintro ⟨-, h0⟩ a
    fin_cases a
    · show e ≤ (y 0).val ∧ (y 0).val < e + 1; omega
    · show 0 ≤ (y 1).val ∧ (y 1).val < 0 + 1; omega
    · show 0 ≤ (y 2).val ∧ (y 2).val < 0 + 2048; omega

theorem gIdx_emb (e : ℕ → ℕ) (s r : ℕ) (he : e (s * 1024 + r) < 16384)
    (inb : ∀ a, (![s, r, 0] : Fin 3 → ℕ) a + S1x1x2048.size a ≤ S2x1024x2048.size a)
    (inb' : ∀ a, (![e (s * 1024 + r), 0, 0] : Fin 3 → ℕ) a + S1x1x2048.size a ≤ S16384x1x2048.size a) (z : S1x1x2048.Idx) :
    gIdx e ((Rect.unit (s := S2x1024x2048) ![s, r, 0] S1x1x2048.size inb).emb z)
      = (Rect.unit (s := S16384x1x2048) ![e (s * 1024 + r), 0, 0] S1x1x2048.size inb').emb z := by
  have h0 : (z 0).val < 1 := (z 0).isLt
  have h1 : (z 1).val < 1 := (z 1).isLt
  have e0 : (((Rect.unit (s := S2x1024x2048) ![s, r, 0] S1x1x2048.size inb).emb z) 0 : ℕ) = s + 1 * (z 0).val := rfl
  have e1 : (((Rect.unit (s := S2x1024x2048) ![s, r, 0] S1x1x2048.size inb).emb z) 1 : ℕ) = r + 1 * (z 1).val := rfl
  refine funext fun a => Fin.ext ?_
  match a with
  | 0 =>
    show e (_ * 1024 + _) % 16384 = e (s * 1024 + r) + 1 * (z 0).val
    rw [e0, e1, show (s + 1 * (z 0).val) * 1024 + (r + 1 * (z 1).val) = s * 1024 + r by omega, Nat.mod_eq_of_lt he]; omega
  | 1 => show 0 = 0 + 1 * (z 1).val; omega
  | 2 => rfl

theorem wp_issue {Q : Unit → sProp 𝕄} {𝒱 : Variants} {bd : Option 𝒱.V} (w : S16384x1x2048.Idx → Elt F .f32) (e : ℕ → ℕ) (s : Fin 2) (r : ℕ)
    (hr : r < 1024) (he : e (s.val * 1024 + r) < 16384)
    (off off' : Fin 3 → ℕ) (ho : off = ![s.val, r, 0]) (ho' : off' = ![e (s.val * 1024 + r), 0, 0])
    (inb : ∀ a, off a + S1x1x2048.size a ≤ S2x1024x2048.size a) (inb' : ∀ a, off' a + S1x1x2048.size a ≤ S16384x1x2048.size a)
    (sm : DmaSem sig) (hs : sm = sem s)
    {sq sq' h1 h2 h3}
    {k : PUnit → Prog (TpuEff nD τ sig (Elt F) Λ₀ .tc) Unit} :
    iprop(src c w (e (s.val * 1024 + r)) (s.val * 1024 + r) ∗ (∃ f, row c s.val r f) ∗ bat c w e s r 0)
      ⊢ iprop((bat c w e s (r + 1) 0 -∗ wp frame (wpE defs₀ 𝒱 (c : Thread nD τ) bd) Set.univ (k ⟨⟩) Q)
        -∗ wp frame (wpE defs₀ 𝒱 (c : Thread nD τ) bd) Set.univ
          (.op (.enqueueDma (((Memref.whole main_v5).slice (Rect.unit (s := S16384x1x2048) off' S1x1x2048.size inb') (fun _ => rfl)).squeeze S1x2048 sq)
            (.here (((Memref.whole cc0_scratch0).slice (Rect.unit (s := S2x1024x2048) off S1x1x2048.size inb) (fun _ => rfl)).squeeze S1x2048 sq'))
            (.dma sm) h1 h2 h3) k) Q) := by
  subst ho ho' hs
  iintro ⟨Hs, ⟨%f, Hd⟩, HB⟩
  have hsr : (((Memref.whole main_v5).slice (Rect.unit (s := S16384x1x2048) ![e (s.val * 1024 + r), 0, 0] S1x1x2048.size inb') (fun _ => rfl)).squeeze S1x2048 sq).view.set = srcSet (e (s.val * 1024 + r)) :=
    (View.set_reshape _ _).trans ((View.set_slice_whole _ _).trans (srcSet_eq _ inb'))
  have hds : (((Memref.whole cc0_scratch0).slice (Rect.unit (s := S2x1024x2048) ![s.val, r, 0] S1x1x2048.size inb) (fun _ => rfl)).squeeze S1x2048 sq').view.set = rowSet s.val r :=
    (View.set_reshape _ _).trans ((View.set_slice_whole _ _).trans (rowSet_eq _ _ inb))
  unfold src row bat
  rw [← hsr]
  iapply (Transfers.wp_dmaBatch (countersEmb (U := Pipeline.UD sig nD τ)) 𝒱 (c : Thread nD τ) bd (D := dlv c w e s) (j := r) (u := 0) (q := Transfers.shareTokN fullShare (s.val * 1024 + r)) (fs := w) (fd := f)
    (Sd := rowSet s.val r) () NN rfl hds.le hr (Nat.zero_le _) ?_) $$ [Hs Hd HB]
  · unfold dlv src row
    rw [← hsr]
    refine BI.sep_mono (Entails.of_eq (pointsTo_congr ?_)) (Entails.refl _)
    intro y hy
    rw [← hds] at hy
    obtain ⟨x, -, hx⟩ := Finset.mem_map.mp hy
    subst hx
    refine (View.write_emb_of_mem _ _ (Finset.mem_univ x)).trans ?_
    rw [ReadAs.apply_same, View.read_apply, cast_cast, cast_eq]
    unfold gath
    exact congrArg w (gIdx_emb e s.val r he inb inb' (Shape.reshapeEquiv (s := S1x1x2048) (s' := S1x2048) rfl x)).symm
  isplitl [Hs]; · iexact Hs
  isplitl [Hd]; · iexact Hd
  iexact HB

end Cert.KernelIdeal.Peer
-- ==== Proof.Issue.lean ====
module
public import proofs.«01_k».proof.Proof.Rows
public import proofs.«01_k».proof.Proof.Gen.KernelIdeal.Loops
public import Idealize.ShloMosaic.Lib.Tactic

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The index block's element number `n`. -/
def wIdx (n : ℕ) : S1x1x2048.Idx := fun a => match a with
  | 0 => ⟨0, by decide⟩ | 1 => ⟨0, by decide⟩ | 2 => ⟨n % 2048, Nat.mod_lt _ (by decide)⟩
/-- The table row that word `n` of an index block names. -/
def eOf (X : S1x1x2048.Idx → Elt F .i32) (n : ℕ) : ℕ := BitVec.toNat (X (wIdx n))

variable (c : Dev nD)

/-- Slot `s` while its transfers are started: `n` started, the rows below `top` still to be lent, the table's tokens. -/
def issAt (w : S16384x1x2048.Idx → Elt F .f32) (e : ℕ → ℕ) (s : Fin 2) (n top : ℕ) : sProp 𝕄 :=
  iprop(bat c w e s n 0 ∗ bigSep (Ring.rangeSet 1024 n top) (fun t => iprop(∃ f, row c s.val t.val f))
    ∗ bigSep (Ring.rangeSet 1024 n 1024) (fun t => src c w (e (s.val * 1024 + t.val)) (s.val * 1024 + t.val)))

theorem issAt_head (w : S16384x1x2048.Idx → Elt F .f32) (e : ℕ → ℕ) (s : Fin 2) (n top : ℕ) (h : n < top) (h' : top ≤ 1024) :
    issAt c w e s n top = iprop(bat c w e s n 0 ∗ ((∃ f, row c s.val n f) ∗ bigSep (Ring.rangeSet 1024 (n + 1) top) (fun t => iprop(∃ f, row c s.val t.val f)))
      ∗ (src c w (e (s.val * 1024 + n)) (s.val * 1024 + n) ∗ bigSep (Ring.rangeSet 1024 (n + 1) 1024) (fun t => src c w (e (s.val * 1024 + t.val)) (s.val * 1024 + t.val)))) := by
  unfold issAt
  rw [Ring.bigSep_rangeSet_head (lo := n) (hi := top) (by omega) (by omega), Ring.bigSep_rangeSet_head (lo := n) (hi := 1024) (by omega) (by omega)]

/-- One transfer's start as the kernel writes it: the word of the index block, its range, the transfer. -/
def issue1 (arg1 : Memref sig .tc .smem S1x1x2048 .i32) (offw : Fin 3 → ℕ) (inbw : ∀ a, offw a + S1x1x1.size a ≤ S1x1x2048.size a)
    (chk : BitVec 32 → Prop) (dec : ∀ v, Decidable (chk v))
    (offd : Fin 3 → ℕ) (inbd : ∀ a, offd a + S1x1x2048.size a ≤ S2x1024x2048.size a)
    (offs : BitVec 32 → Fin 3 → ℕ) (inbs : ∀ v, chk v → ∀ a, offs v a + S1x1x2048.size a ≤ S16384x1x2048.size a)
    (sm : DmaSem sig) : Prog (TpuEff nD τ sig (Elt F) Λ₀ .tc) PUnit := do
  let v : Elt F .i32 ← smemLoad arg1 (Rect.unit (s := S1x1x2048) offw S1x1x1.size inbw) numel1_S1x1x1 rfl
  have h : chk v := (← Prog.lift (TpuEff.assume (chk v) (dec v))).down
  Prog.lift (.enqueueDma (((Memref.whole main_v5).slice (Rect.unit (s := S16384x1x2048) (offs v) S1x1x2048.size (inbs v h)) (fun _ => rfl)).squeeze S1x2048 squeezes_S1x1x2048_S1x2048)
    (.here (((Memref.whole cc0_scratch0).slice (Rect.unit (s := S2x1024x2048) offd S1x1x2048.size inbd) (fun _ => rfl)).squeeze S1x2048 squeezes_S1x1x2048_S1x2048))
    (.dma sm) ((View.wordExact_bits rfl).reshape _ _) ((View.wordExact_bits rfl).reshape _ _) ⟨Or.inl rfl, trivial⟩)

theorem wIdx_emb (n : ℕ) (hn : n < 2048) (inbw : ∀ a, (![0, 0, n] : Fin 3 → ℕ) a + S1x1x1.size a ≤ S1x1x2048.size a) (x : S1x1x1.Idx) :
    (Rect.unit (s := S1x1x2048) ![0, 0, n] S1x1x1.size inbw).emb x = wIdx n := by
  have h0 : (x 0).val < 1 := (x 0).isLt
  have h1 : (x 1).val < 1 := (x 1).isLt
  have h2 : (x 2).val < 1 := (x 2).isLt
  refine funext fun a => Fin.ext ?_
  match a with
  | 0 => show 0 + 1 * (x 0).val = 0; omega
  | 1 => show 0 + 1 * (x 1).val = 0; omega
  | 2 => show n + 1 * (x 2).val = n % 2048; omega

theorem wp_issue1 {Q : PUnit → sProp 𝕄} (w : S16384x1x2048.Idx → Elt F .f32)
    (arg1 : Memref sig .tc .smem S1x1x2048 .i32) (X : S1x1x2048.Idx → Elt F .i32) (hX : ∀ n, eOf X n < 16384) (s : Fin 2) (n : ℕ) (hn : n < 1024)
    (offw : Fin 3 → ℕ) (inbw : ∀ a, offw a + S1x1x1.size a ≤ S1x1x2048.size a) (how : offw = ![0, 0, s.val * 1024 + n])
    (chk : BitVec 32 → Prop) (dec : ∀ v, Decidable (chk v)) (hchk : ∀ v : BitVec 32, v.toNat < 16384 → chk v)
    (offd : Fin 3 → ℕ) (inbd : ∀ a, offd a + S1x1x2048.size a ≤ S2x1024x2048.size a) (hod : offd = ![s.val, n, 0])
    (offs : BitVec 32 → Fin 3 → ℕ) (inbs : ∀ v, chk v → ∀ a, offs v a + S1x1x2048.size a ≤ S16384x1x2048.size a) (hos : ∀ v, offs v = ![v.toNat, 0, 0])
    (sm : DmaSem sig) (hs : sm = sem s) :
    iprop(owns c arg1 fullShare X ∗ src c w (eOf X (s.val * 1024 + n)) (s.val * 1024 + n) ∗ (∃ f, row c s.val n f) ∗ bat c w (eOf X) s n 0)
      ⊢ iprop((owns c arg1 fullShare X ∗ bat c w (eOf X) s (n + 1) 0 -∗ Q ⟨⟩)
        -∗ wp frame (wpE defs₀ Variants.none (c : Thread nD τ) none) Set.univ (issue1 (F := F) arg1 offw inbw chk dec offd inbd offs inbs sm) Q) := by
  subst how
  unfold owns issue1
  iintro ⟨⟨%f1, %hf1, H1⟩, HS, HR, HB⟩ HQ
  iapply (wp_load (r := (Rect.unit (s := S1x1x2048) ![0, 0, s.val * 1024 + n] S1x1x1.size inbw).toLoadRect) Variants.none (c : Thread nD τ) none Set.univ (View.setOn_subset_set _ _)) $$ [H1]
  · iexact H1
  iintro H1
  have hs2 := s.isLt
  have hv : ∀ x, arg1.view.readAt (Elt F) (Rect.unit (s := S1x1x2048) ![0, 0, s.val * 1024 + n] S1x1x1.size inbw).toLoadRect f1 x = X (wIdx (s.val * 1024 + n)) := by
    intro x
    rw [← hf1, ← wIdx_emb (s.val * 1024 + n) (by omega) inbw x]
    rfl
  have hlt : BitVec.toNat (X (wIdx (s.val * 1024 + n))) < 16384 := hX (s.val * 1024 + n)
  generalize arg1.view.readAt (Elt F) (Rect.unit (s := S1x1x2048) ![0, 0, s.val * 1024 + n] S1x1x1.size inbw).toLoadRect f1 = ld at hv ⊢
  have hld : ld = fun _ => X (wIdx (s.val * 1024 + n)) := funext hv
  subst hld
  iapply (wp_assume Variants.none (c : Thread nD τ) none Set.univ (hchk _ hlt))
  iapply (wp_issue c w (eOf X) s n hn hlt offd (offs (X (wIdx (s.val * 1024 + n)))) hod (hos _) inbd (inbs _ (hchk _ hlt)) sm hs) $$ [HS HR HB]
  · isplitl [HS]; · iexact HS
    isplitl [HR]; · iexact HR
    iexact HB
  iintro HB
  sl_step
  iapply HQ
  isplitl [H1]
  · iexists f1
    isplitr; · ipureintro; exact hf1
    iexact H1
  iexact HB

/-- The two transfers one trip of an issue loop starts. -/
theorem pair_step (w : S16384x1x2048.Idx → Elt F .f32)
    (arg1 : Memref sig .tc .smem S1x1x2048 .i32) (X : S1x1x2048.Idx → Elt F .i32) (hX : ∀ n, eOf X n < 16384) (s : Fin 2) (n top : ℕ) (hn : n + 1 < top) (ht : top ≤ 1024)
    (offw offw' : Fin 3 → ℕ) (inbw : ∀ a, offw a + S1x1x1.size a ≤ S1x1x2048.size a) (inbw' : ∀ a, offw' a + S1x1x1.size a ≤ S1x1x2048.size a)
    (how : offw = ![0, 0, s.val * 1024 + n]) (how' : offw' = ![0, 0, s.val * 1024 + (n + 1)])
    (chk chk' : BitVec 32 → Prop) (dec : ∀ v, Decidable (chk v)) (dec' : ∀ v, Decidable (chk' v))
    (hchk : ∀ v : BitVec 32, v.toNat < 16384 → chk v) (hchk' : ∀ v : BitVec 32, v.toNat < 16384 → chk' v)
    (offd offd' : Fin 3 → ℕ) (inbd : ∀ a, offd a + S1x1x2048.size a ≤ S2x1024x2048.size a) (inbd' : ∀ a, offd' a + S1x1x2048.size a ≤ S2x1024x2048.size a)
    (hod : offd = ![s.val, n, 0]) (hod' : offd' = ![s.val, n + 1, 0])
    (offs offs' : BitVec 32 → Fin 3 → ℕ) (inbs : ∀ v, chk v → ∀ a, offs v a + S1x1x2048.size a ≤ S16384x1x2048.size a)
    (inbs' : ∀ v, chk' v → ∀ a, offs' v a + S1x1x2048.size a ≤ S16384x1x2048.size a)
    (hos : ∀ v, offs v = ![v.toNat, 0, 0]) (hos' : ∀ v, offs' v = ![v.toNat, 0, 0])
    (sm : DmaSem sig) (hs : sm = sem s) :
    iprop(owns c arg1 fullShare X ∗ issAt c w (eOf X) s n top)
      ⊢ wp frame (wpE defs₀ Variants.none (c : Thread nD τ) none) Set.univ
          (issue1 (F := F) arg1 offw inbw chk dec offd inbd offs inbs sm >>= fun _ =>
            issue1 (F := F) arg1 offw' inbw' chk' dec' offd' inbd' offs' inbs' sm >>= fun _ => pure ())
          fun _ => iprop(owns c arg1 fullShare X ∗ issAt c w (eOf X) s (n + 1 + 1) top) := by
  rw [issAt_head _ _ _ _ _ _ (by omega) ht, Ring.bigSep_rangeSet_head (lo := n + 1) (by omega) (by omega), Ring.bigSep_rangeSet_head (lo := n + 1) (by omega) (by omega)]
  iintro ⟨H1, HB, ⟨HR0, HR1, HR⟩, HS0, HS1, HS⟩
  rw [wp_bind]
  iapply (wp_issue1 c w arg1 X hX s n (by omega) offw inbw how chk dec hchk offd inbd hod offs inbs hos sm hs) $$ [H1 HB HR0 HS0]
  · isplitl [H1]; · iexact H1
    isplitl [HS0]; · iexact HS0
    isplitl [HR0]; · iexact HR0
    iexact HB
  iintro ⟨H1, HB⟩
  rw [wp_bind]
  iapply (wp_issue1 c w arg1 X hX s (n + 1) (by omega) offw' inbw' how' chk' dec' hchk' offd' inbd' hod' offs' inbs' hos' sm hs) $$ [H1 HB HR1 HS1]
  · isplitl [H1]; · iexact H1
    isplitl [HS1]; · iexact HS1
    isplitl [HR1]; · iexact HR1
    iexact HB
  iintro ⟨H1, HB⟩
  sl_step
  unfold issAt
  isplitl [H1]; · iexact H1
  isplitl [HB]; · iexact HB
  isplitl [HR]; · iexact HR
  iexact HS

theorem chk_of (off : Fin 3 → ℕ) (v : BitVec 32) (h : off = ![v.toNat, 0, 0]) (hv : v.toNat < 16384) (a : Fin 3) :
    off a + S1x1x2048.size a ≤ S16384x1x2048.size a := by
  subst h
  match a with
  | 0 => show v.toNat + 1 ≤ 16384; omega
  | 1 => show 0 + 1 ≤ 1; omega
  | 2 => show 0 + 2048 ≤ 2048; omega

theorem step2 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond1 i = 1#1) (ko : Fin k0_t1_loop.trips) (ti : Fin k0_t2_loop.trips) (acc : Unit) :
    iprop(owns c arg1 fullShare X ∗ issAt c w (eOf X) 0 (128 * ko.val + 2 * ti.val) 1024)
      ⊢ wp frame (wpE defs₀ Variants.none (c : Thread nD τ) none) Set.univ
          (k0_t2_body (F := F) i arg1 harg1 arg2 harg2 arg3 harg3 arg4 harg4 (Memref.whole main_v5) (Memref.isWhole_whole _) arg6 harg6 (Memref.whole cc0_scratch0) (Memref.isWhole_whole _) cc0_scratch1 hc ko ti acc)
          fun _ => iprop(owns c arg1 fullShare X ∗ issAt c w (eOf X) 0 (128 * ko.val + 2 * (ti.val + 1)) 1024) := by
  have h1 : ko.val < 8 := ko.isLt
  have h2 : ti.val < 64 := ti.isLt
  exact pair_step c w arg1 X hX 0 (128 * ko.val + 2 * ti.val) 1024 (by omega) le_rfl
    (k0_off1 ko ti) (k0_off4 ko ti) (k0_off1_inb i ko ti hc) (k0_off4_inb i ko ti hc)
    ((k0_off1_eq ko ti).trans (congrArg (fun n => ![0, 0, n]) (by show _ = 0 * 1024 + (128 * ko.val + 2 * ti.val); omega)))
    ((k0_off4_eq ko ti).trans (congrArg (fun n => ![0, 0, n]) (by show _ = 0 * 1024 + (128 * ko.val + 2 * ti.val + 1); omega)))
    (k0_chk1 i) (k0_chk2 i) (k0_chk1.dec i) (k0_chk2.dec i)
    (fun v hv _ => chk_of _ v rfl hv) (fun v hv _ => chk_of _ v rfl hv)
    (k0_off2 ko ti) (k0_off5 ko ti) (k0_off2_inb i ko ti hc) (k0_off5_inb i ko ti hc)
    (k0_off2_eq ko ti) (k0_off5_eq ko ti)
    k0_off3 k0_off6 (fun v h => k0_off3_inb i v h hc) (fun v h => k0_off6_inb i v h hc) (fun v => rfl) (fun v => rfl)
    (sem 0) rfl

/-- The 128 starts of one trip of the loop around it. -/
theorem loop2 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond1 i = 1#1) (ko : Fin k0_t1_loop.trips) {Q : Unit → sProp 𝕄} :
    iprop(owns c arg1 fullShare X ∗ issAt c w (eOf X) 0 (128 * ko.val) 1024)
      ⊢ iprop((owns c arg1 fullShare X ∗ issAt c w (eOf X) 0 (128 * (ko.val + 1)) 1024 -∗ Q ()) -∗
        wp frame (wpE defs₀ Variants.none (c : Thread nD τ) none) Set.univ
          (Scf.Loop.for k0_t2_loop (k0_t2_ok i hc) () (k0_t2_body (F := F) i arg1 harg1 arg2 harg2 arg3 harg3 arg4 harg4 (Memref.whole main_v5) (Memref.isWhole_whole _) arg6 harg6 (Memref.whole cc0_scratch0) (Memref.isWhole_whole _) cc0_scratch1 hc ko)) Q) := by
  iintro H HQ
  iapply (Scf.wp_for frame (wpE defs₀ Variants.none (c : Thread nD τ) none) Set.univ k0_t2_loop.lb k0_t2_loop.ub k0_t2_loop.st (k0_t2_ok i hc) () _
    (fun k _ => iprop(owns c arg1 fullShare X ∗ issAt c w (eOf X) 0 (128 * ko.val + 2 * k) 1024))
    (fun k acc => step2 c w i arg1 harg1 arg2 harg2 arg3 harg3 arg4 harg4 arg6 harg6 X hX hc ko k acc))
  isplitl [H]; · iexact H
  iintro %acc H
  iapply HQ
  rw [show 128 * (ko.val + 1) = 128 * ko.val + 2 * 64 by omega]
  iexact H

theorem step4 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond1 i = 1#1) (ko : Fin k0_t3_loop.trips) (ti : Fin k0_t4_loop.trips) (acc : Unit) :
    iprop(owns c arg1 fullShare X ∗ issAt c w (eOf X) 1 (128 * ko.val + 2 * ti.val) 1024)
      ⊢ wp frame (wpE defs₀ Variants.none (c : Thread nD τ) none) Set.univ
          (k0_t4_body (F := F) i arg1 harg1 arg2 harg2 arg3 harg3 arg4 harg4 (Memref.whole main_v5) (Memref.isWhole_whole _) arg6 harg6 (Memref.whole cc0_scratch0) (Memref.isWhole_whole _) cc0_scratch1 hc ko ti acc)
          fun _ => iprop(owns c arg1 fullShare X ∗ issAt c w (eOf X) 1 (128 * ko.val + 2 * (ti.val + 1)) 1024) := by
  have h1 : ko.val < 8 := ko.isLt
  have h2 : ti.val < 64 := ti.isLt
  exact pair_step c w arg1 X hX 1 (128 * ko.val + 2 * ti.val) 1024 (by omega) le_rfl
    (k0_off7 ko ti) (k0_off10 ko ti) (k0_off7_inb i ko ti hc) (k0_off10_inb i ko ti hc)
    ((k0_off7_eq ko ti).trans (congrArg (fun n => ![0, 0, n]) (by show _ = 1 * 1024 + (128 * ko.val + 2 * ti.val); omega)))
    ((k0_off10_eq ko ti).trans (congrArg (fun n => ![0, 0, n]) (by show _ = 1 * 1024 + (128 * ko.val + 2 * ti.val + 1); omega)))
    (k0_chk3 i) (k0_chk4 i) (k0_chk3.dec i) (k0_chk4.dec i)
    (fun v hv _ => chk_of _ v rfl hv) (fun v hv _ => chk_of _ v rfl hv)
    (k0_off8 ko ti) (k0_off11 ko ti) (k0_off8_inb i ko ti hc) (k0_off11_inb i ko ti hc)
    (k0_off8_eq ko ti) (k0_off11_eq ko ti)
    k0_off9 k0_off12 (fun v h => k0_off9_inb i v h hc) (fun v h => k0_off12_inb i v h hc) (fun v => rfl) (fun v => rfl)
    (sem 1) rfl

/-- The 128 starts of one trip of the loop around it. -/
theorem loop4 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond1 i = 1#1) (ko : Fin k0_t3_loop.trips) {Q : Unit → sProp 𝕄} :
    iprop(owns c arg1 fullShare X ∗ issAt c w (eOf X) 1 (128 * ko.val) 1024)
      ⊢ iprop((owns c arg1 fullShare X ∗ issAt c w (eOf X) 1 (128 * (ko.val + 1)) 1024 -∗ Q ()) -∗
        wp frame (wpE defs₀ Variants.none (c : Thread nD τ) none) Set.univ
          (Scf.Loop.for k0_t4_loop (k0_t4_ok i hc) () (k0_t4_body (F := F) i arg1 harg1 arg2 harg2 arg3 harg3 arg4 harg4 (Memref.whole main_v5) (Memref.isWhole_whole _) arg6 harg6 (Memref.whole cc0_scratch0) (Memref.isWhole_whole _) cc0_scratch1 hc ko)) Q) := by
  iintro H HQ
  iapply (Scf.wp_for frame (wpE defs₀ Variants.none (c : Thread nD τ) none) Set.univ k0_t4_loop.lb k0_t4_loop.ub k0_t4_loop.st (k0_t4_ok i hc) () _
    (fun k _ => iprop(owns c arg1 fullShare X ∗ issAt c w (eOf X) 1 (128 * ko.val + 2 * k) 1024))
    (fun k acc => step4 c w i arg1 harg1 arg2 harg2 arg3 harg3 arg4 harg4 arg6 harg6 X hX hc ko k acc))
  isplitl [H]; · iexact H
  iintro %acc H
  iapply HQ
  rw [show 128 * (ko.val + 1) = 128 * ko.val + 2 * 64 by omega]
  iexact H

theorem step7 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond2 i = 1#1) (ko : Fin k0_t6_loop.trips) (ti : Fin k0_t7_loop.trips) (acc : Unit) :
    iprop(owns c arg1 fullShare X ∗ issAt c w (eOf X) 0 (128 * ko.val + 2 * ti.val) (128 * ko.val + 128))
      ⊢ wp frame (wpE defs₀ Variants.none (c : Thread nD τ) none) Set.univ
          (k0_t7_body (F := F) i arg1 harg1 arg2 harg2 arg3 harg3 arg4 harg4 (Memref.whole main_v5) (Memref.isWhole_whole _) arg6 harg6 (Memref.whole cc0_scratch0) (Memref.isWhole_whole _) cc0_scratch1 hc ko ti acc)
          fun _ => iprop(owns c arg1 fullShare X ∗ issAt c w (eOf X) 0 (128 * ko.val + 2 * (ti.val + 1)) (128 * ko.val + 128)) := by
  have h1 : ko.val < 8 := ko.isLt
  have h2 : ti.val < 64 := ti.isLt
  exact pair_step c w arg1 X hX 0 (128 * ko.val + 2 * ti.val) (128 * ko.val + 128) (by omega) (by omega)
    (k0_off15 ko ti) (k0_off18 ko ti) (k0_off15_inb i ko ti hc) (k0_off18_inb i ko ti hc)
    ((k0_off15_eq ko ti).trans (congrArg (fun n => ![0, 0, n]) (by show _ = 0 * 1024 + (128 * ko.val + 2 * ti.val); omega)))
    ((k0_off18_eq ko ti).trans (congrArg (fun n => ![0, 0, n]) (by show _ = 0 * 1024 + (128 * ko.val + 2 * ti.val + 1); omega)))
    (k0_chk5 i) (k0_chk6 i) (k0_chk5.dec i) (k0_chk6.dec i)
    (fun v hv _ => chk_of _ v rfl hv) (fun v hv _ => chk_of _ v rfl hv)
    (k0_off16 ko ti) (k0_off19 ko ti) (k0_off16_inb i ko ti hc) (k0_off19_inb i ko ti hc)
    (k0_off16_eq ko ti) (k0_off19_eq ko ti)
    k0_off17 k0_off20 (fun v h => k0_off17_inb i v h hc) (fun v h => k0_off20_inb i v h hc) (fun v => rfl) (fun v => rfl)
    (sem 0) rfl

/-- The 128 starts of one trip of the loop around it. -/
theorem loop7 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond2 i = 1#1) (ko : Fin k0_t6_loop.trips) {Q : Unit → sProp 𝕄} :
    iprop(owns c arg1 fullShare X ∗ issAt c w (eOf X) 0 (128 * ko.val) (128 * ko.val + 128))
      ⊢ iprop((owns c arg1 fullShare X ∗ issAt c w (eOf X) 0 (128 * (ko.val + 1)) (128 * ko.val + 128) -∗ Q ()) -∗
        wp frame (wpE defs₀ Variants.none (c : Thread nD τ) none) Set.univ
          (Scf.Loop.for k0_t7_loop (k0_t7_ok i hc) () (k0_t7_body (F := F) i arg1 harg1 arg2 harg2 arg3 harg3 arg4 harg4 (Memref.whole main_v5) (Memref.isWhole_whole _) arg6 harg6 (Memref.whole cc0_scratch0) (Memref.isWhole_whole _) cc0_scratch1 hc ko)) Q) := by
  iintro H HQ
  iapply (Scf.wp_for frame (wpE defs₀ Variants.none (c : Thread nD τ) none) Set.univ k0_t7_loop.lb k0_t7_loop.ub k0_t7_loop.st (k0_t7_ok i hc) () _
    (fun k _ => iprop(owns c arg1 fullShare X ∗ issAt c w (eOf X) 0 (128 * ko.val + 2 * k) (128 * ko.val + 128)))
    (fun k acc => step7 c w i arg1 harg1 arg2 harg2 arg3 harg3 arg4 harg4 arg6 harg6 X hX hc ko k acc))
  isplitl [H]; · iexact H
  iintro %acc H
  iapply HQ
  rw [show 128 * (ko.val + 1) = 128 * ko.val + 2 * 64 by omega]
  iexact H

theorem step10 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond2 i = 1#1) (ko : Fin k0_t9_loop.trips) (ti : Fin k0_t10_loop.trips) (acc : Unit) :
    iprop(owns c arg1 fullShare X ∗ issAt c w (eOf X) 1 (128 * ko.val + 2 * ti.val) (128 * ko.val + 128))
      ⊢ wp frame (wpE defs₀ Variants.none (c : Thread nD τ) none) Set.univ
          (k0_t10_body (F := F) i arg1 harg1 arg2 harg2 arg3 harg3 arg4 harg4 (Memref.whole main_v5) (Memref.isWhole_whole _) arg6 harg6 (Memref.whole cc0_scratch0) (Memref.isWhole_whole _) cc0_scratch1 hc ko ti acc)
          fun _ => iprop(owns c arg1 fullShare X ∗ issAt c w (eOf X) 1 (128 * ko.val + 2 * (ti.val + 1)) (128 * ko.val + 128)) := by
  have h1 : ko.val < 8 := ko.isLt
  have h2 : ti.val < 64 := ti.isLt
  exact pair_step c w arg1 X hX 1 (128 * ko.val + 2 * ti.val) (128 * ko.val + 128) (by omega) (by omega)
    (k0_off23 ko ti) (k0_off26 ko ti) (k0_off23_inb i ko ti hc) (k0_off26_inb i ko ti hc)
    ((k0_off23_eq ko ti).trans (congrArg (fun n => ![0, 0, n]) (by show _ = 1 * 1024 + (128 * ko.val + 2 * ti.val); omega)))
    ((k0_off26_eq ko ti).trans (congrArg (fun n => ![0, 0, n]) (by show _ = 1 * 1024 + (128 * ko.val + 2 * ti.val + 1); omega)))
    (k0_chk7 i) (k0_chk8 i) (k0_chk7.dec i) (k0_chk8.dec i)
    (fun v hv _ => chk_of _ v rfl hv) (fun v hv _ => chk_of _ v rfl hv)
    (k0_off24 ko ti) (k0_off27 ko ti) (k0_off24_inb i ko ti hc) (k0_off27_inb i ko ti hc)
    (k0_off24_eq ko ti) (k0_off27_eq ko ti)
    k0_off25 k0_off28 (fun v h => k0_off25_inb i v h hc) (fun v h => k0_off28_inb i v h hc) (fun v => rfl) (fun v => rfl)
    (sem 1) rfl

/-- The 128 starts of one trip of the loop around it. -/
theorem loop10 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond2 i = 1#1) (ko : Fin k0_t9_loop.trips) {Q : Unit → sProp 𝕄} :
    iprop(owns c arg1 fullShare X ∗ issAt c w (eOf X) 1 (128 * ko.val) (128 * ko.val + 128))
      ⊢ iprop((owns c arg1 fullShare X ∗ issAt c w (eOf X) 1 (128 * (ko.val + 1)) (128 * ko.val + 128) -∗ Q ()) -∗
        wp frame (wpE defs₀ Variants.none (c : Thread nD τ) none) Set.univ
          (Scf.Loop.for k0_t10_loop (k0_t10_ok i hc) () (k0_t10_body (F := F) i arg1 harg1 arg2 harg2 arg3 harg3 arg4 harg4 (Memref.whole main_v5) (Memref.isWhole_whole _) arg6 harg6 (Memref.whole cc0_scratch0) (Memref.isWhole_whole _) cc0_scratch1 hc ko)) Q) := by
  iintro H HQ
  iapply (Scf.wp_for frame (wpE defs₀ Variants.none (c : Thread nD τ) none) Set.univ k0_t10_loop.lb k0_t10_loop.ub k0_t10_loop.st (k0_t10_ok i hc) () _
    (fun k _ => iprop(owns c arg1 fullShare X ∗ issAt c w (eOf X) 1 (128 * ko.val + 2 * k) (128 * ko.val + 128)))
    (fun k acc => step10 c w i arg1 harg1 arg2 harg2 arg3 harg3 arg4 harg4 arg6 harg6 X hX hc ko k acc))
  isplitl [H]; · iexact H
  iintro %acc H
  iapply HQ
  rw [show 128 * (ko.val + 1) = 128 * ko.val + 2 * 64 by omega]
  iexact H

end Cert.KernelIdeal.Peer
-- ==== Proof.Lend.lean ====
module
public import proofs.«01_k».proof.Proof.Issue

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- All the starts into slot 0 of the first grid point. -/
theorem lend1 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond1 i = 1#1) {Q : Unit → sProp 𝕄} :
    iprop(owns c arg1 fullShare X ∗ issAt c w (eOf X) 0 0 1024)
      ⊢ iprop((owns c arg1 fullShare X ∗ issAt c w (eOf X) 0 1024 1024 -∗ Q ()) -∗
        wp frame (wpE defs₀ Variants.none (c : Thread nD τ) none) Set.univ
          (Scf.Loop.for k0_t1_loop (k0_t1_ok i hc) () (k0_t1_body (F := F) i arg1 harg1 arg2 harg2 arg3 harg3 arg4 harg4 (Memref.whole main_v5) (Memref.isWhole_whole _) arg6 harg6 (Memref.whole cc0_scratch0) (Memref.isWhole_whole _) cc0_scratch1 hc)) Q) := by
  iintro H HQ
  iapply (Scf.wp_for frame (wpE defs₀ Variants.none (c : Thread nD τ) none) Set.univ k0_t1_loop.lb k0_t1_loop.ub k0_t1_loop.st (k0_t1_ok i hc) () _
    (fun k _ => iprop(owns c arg1 fullShare X ∗ issAt c w (eOf X) 0 (128 * k) 1024)) ?_)
  · intro k acc
    unfold k0_t1_body
    rw [wp_bind]
    iintro H
    iapply (loop2 c w i arg1 harg1 arg2 harg2 arg3 harg3 arg4 harg4 arg6 harg6 X hX hc k) $$ [H]
    · iexact H
    iintro H
    sl_step
    iexact H
  isplitl [H]; · iexact H
  iintro %acc H
  iapply HQ
  iexact H

/-- All the starts into slot 1 of the first grid point. -/
theorem lend3 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (X : S1x1x2048.Idx → Elt F .i32) (hX : ∀ n, eOf X n < 16384) (hc : k0_cond1 i = 1#1) {Q : Unit → sProp 𝕄} :
    iprop(owns c arg1 fullShare X ∗ issAt c w (eOf X) 1 0 1024)
      ⊢ iprop((owns c arg1 fullShare X ∗ issAt c w (eOf X) 1 1024 1024 -∗ Q ()) -∗
        wp frame (wpE defs₀ Variants.none (c : Thread nD τ) none) Set.univ
          (Scf.Loop.for k0_t3_loop (k0_t3_ok i hc) () (k0_t3_body (F := F) i arg1 harg1 arg2 harg2 arg3 harg3 arg4 harg4 (Memref.whole main_v5) (Memref.isWhole_whole _) arg6 harg6 (Memref.whole cc0_scratch0) (Memref.isWhole_whole _) cc0_scratch1 hc)) Q) := by
  iintro H HQ
  iapply (Scf.wp_for frame (wpE defs₀ Variants.none (c : Thread nD τ) none) Set.univ k0_t3_loop.lb k0_t3_loop.ub k0_t3_loop.st (k0_t3_ok i hc) () _
    (fun k _ => iprop(owns c arg1 fullShare X ∗ issAt c w (eOf X) 1 (128 * k) 1024)) ?_)
  · intro k acc
    unfold k0_t3_body
    rw [wp_bind]
    iintro H
    iapply (loop4 c w i arg1 harg1 arg2 harg2 arg3 harg3 arg4 harg4 arg6 harg6 X hX hc k) $$ [H]
    · iexact H
    iintro H
    sl_step
    iexact H
  isplitl [H]; · iexact H
  iintro %acc H
  iapply HQ
  iexact H

/-- One wait as the kernel writes it: the row it names is the slot's first. -/
def wait1 (sm : DmaSem sig) (offd : Fin 3 → ℕ) (inbd : ∀ a, offd a + S1x1x2048.size a ≤ S2x1024x2048.size a)
    (inbs : ∀ a, (![0, 0, 0] : Fin 3 → ℕ) a + S1x1x2048.size a ≤ S16384x1x2048.size a) : Prog (TpuEff nD τ sig (Elt F) Λ₀ .tc) PUnit :=
  Prog.lift (.waitDma2 sm (((Memref.whole main_v5).slice (Rect.unit (s := S16384x1x2048) ![0, 0, 0] S1x1x2048.size inbs) (fun _ => rfl)).squeeze S1x2048 squeezes_S1x1x2048_S1x2048)
    (((Memref.whole cc0_scratch0).slice (Rect.unit (s := S2x1024x2048) offd S1x1x2048.size inbd) (fun _ => rfl)).squeeze S1x2048 squeezes_S1x1x2048_S1x2048)
    ((View.wordExact_bits rfl).reshape _ _) ((View.wordExact_bits rfl).reshape _ _))

theorem wait_step (w : S16384x1x2048.Idx → Elt F .f32) (e : ℕ → ℕ) (s : Fin 2) (k : ℕ) (hk : k < 1024) (sm : DmaSem sig) (hs : sm = sem s)
    (offd : Fin 3 → ℕ) (inbd : ∀ a, offd a + S1x1x2048.size a ≤ S2x1024x2048.size a)
    (inbs : ∀ a, (![0, 0, 0] : Fin 3 → ℕ) a + S1x1x2048.size a ≤ S16384x1x2048.size a) :
    iprop(bat c w e s 1024 (k * NN) ∗ (∃ W, owes (c : Thread nD τ) 0 W))
      ⊢ wp frame (wpE defs₀ Variants.none (c : Thread nD τ) none) Set.univ (wait1 (F := F) sm offd inbd inbs >>= fun _ => pure ())
          fun _ => iprop(bat c w e s 1024 ((k + 1) * NN) ∗ (∃ W, owes (c : Thread nD τ) 0 W)) := by
  subst hs
  rw [wp_bind]
  unfold bat wait1
  iintro ⟨HB, %W, HW⟩
  iapply (Transfers.wp_waitBatchMul (Lvl := ℕ) (countersEmb (U := Pipeline.UD sig nD τ)) Variants.none (c : Thread nD τ) none (n := 1024) (N := NN) (D := dlv c w e s) (j := 1024) (u := k * NN) () 1 (by show NN = 1 * NN; omega) (show k * NN + 1 * NN ≤ NN * 1024 by rw [Nat.mul_comm NN]; exact (Nat.add_mul k 1 NN) ▸ Nat.mul_le_mul_right NN hk)) $$ [HB HW]
  · isplitl [HB]; · iexact HB
    iexact HW
  iintro ⟨HB, HW⟩
  sl_step
  sl_step
  isplitl [HB]
  · rw [Nat.add_mul]; iexact HB
  iexists _
  iexact HW

/-- The waits for the rows of slot 0: all of its credit is taken. -/
theorem wait5 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (e : ℕ → ℕ) (hc : k0_cond2 i = 1#1) {Q : Unit → sProp 𝕄} :
    iprop(bat c w e 0 1024 0 ∗ (∃ W, owes (c : Thread nD τ) 0 W))
      ⊢ iprop((bat c w e 0 1024 (1024 * NN) ∗ (∃ W, owes (c : Thread nD τ) 0 W) -∗ Q ()) -∗
        wp frame (wpE defs₀ Variants.none (c : Thread nD τ) none) Set.univ
          (Scf.Loop.for k0_t5_loop (k0_t5_ok i hc) () (k0_t5_body (F := F) i arg1 harg1 arg2 harg2 arg3 harg3 arg4 harg4 (Memref.whole main_v5) (Memref.isWhole_whole _) arg6 harg6 (Memref.whole cc0_scratch0) (Memref.isWhole_whole _) cc0_scratch1 hc)) Q) := by
  iintro H HQ
  iapply (Scf.wp_for frame (wpE defs₀ Variants.none (c : Thread nD τ) none) Set.univ k0_t5_loop.lb k0_t5_loop.ub k0_t5_loop.st (k0_t5_ok i hc) () _
    (fun k _ => iprop(bat c w e 0 1024 (k * NN) ∗ (∃ W, owes (c : Thread nD τ) 0 W))) ?_)
  · intro k acc
    exact wait_step c w e 0 k.val k.isLt _ rfl _ _ _
  isplitl [H]; · rw [Nat.zero_mul]; iexact H
  iintro %acc H
  iapply HQ
  iexact H

/-- The waits for the rows of slot 1: all of its credit is taken. -/
theorem wait8 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (e : ℕ → ℕ) (hc : k0_cond2 i = 1#1) {Q : Unit → sProp 𝕄} :
    iprop(bat c w e 1 1024 0 ∗ (∃ W, owes (c : Thread nD τ) 0 W))
      ⊢ iprop((bat c w e 1 1024 (1024 * NN) ∗ (∃ W, owes (c : Thread nD τ) 0 W) -∗ Q ()) -∗
        wp frame (wpE defs₀ Variants.none (c : Thread nD τ) none) Set.univ
          (Scf.Loop.for k0_t8_loop (k0_t8_ok i hc) () (k0_t8_body (F := F) i arg1 harg1 arg2 harg2 arg3 harg3 arg4 harg4 (Memref.whole main_v5) (Memref.isWhole_whole _) arg6 harg6 (Memref.whole cc0_scratch0) (Memref.isWhole_whole _) cc0_scratch1 hc)) Q) := by
  iintro H HQ
  iapply (Scf.wp_for frame (wpE defs₀ Variants.none (c : Thread nD τ) none) Set.univ k0_t8_loop.lb k0_t8_loop.ub k0_t8_loop.st (k0_t8_ok i hc) () _
    (fun k _ => iprop(bat c w e 1 1024 (k * NN) ∗ (∃ W, owes (c : Thread nD τ) 0 W))) ?_)
  · intro k acc
    exact wait_step c w e 1 k.val k.isLt _ rfl _ _ _
  isplitl [H]; · rw [Nat.zero_mul]; iexact H
  iintro %acc H
  iapply HQ
  iexact H

/-- The waits for the rows of slot 0: all of its credit is taken. -/
theorem wait11 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (e : ℕ → ℕ) (hc : k0_cond3 i = 1#1) {Q : Unit → sProp 𝕄} :
    iprop(bat c w e 0 1024 0 ∗ (∃ W, owes (c : Thread nD τ) 0 W))
      ⊢ iprop((bat c w e 0 1024 (1024 * NN) ∗ (∃ W, owes (c : Thread nD τ) 0 W) -∗ Q ()) -∗
        wp frame (wpE defs₀ Variants.none (c : Thread nD τ) none) Set.univ
          (Scf.Loop.for k0_t11_loop (k0_t11_ok i hc) () (k0_t11_body (F := F) i arg1 harg1 arg2 harg2 arg3 harg3 arg4 harg4 (Memref.whole main_v5) (Memref.isWhole_whole _) arg6 harg6 (Memref.whole cc0_scratch0) (Memref.isWhole_whole _) cc0_scratch1 hc)) Q) := by
  iintro H HQ
  iapply (Scf.wp_for frame (wpE defs₀ Variants.none (c : Thread nD τ) none) Set.univ k0_t11_loop.lb k0_t11_loop.ub k0_t11_loop.st (k0_t11_ok i hc) () _
    (fun k _ => iprop(bat c w e 0 1024 (k * NN) ∗ (∃ W, owes (c : Thread nD τ) 0 W))) ?_)
  · intro k acc
    exact wait_step c w e 0 k.val k.isLt _ rfl _ _ _
  isplitl [H]; · rw [Nat.zero_mul]; iexact H
  iintro %acc H
  iapply HQ
  iexact H

/-- The waits for the rows of slot 1: all of its credit is taken. -/
theorem wait13 (w : S16384x1x2048.Idx → Elt F .f32) (i : grid0.Coords)
    (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole)
    (e : ℕ → ℕ) (hc : k0_cond3 i = 1#1) {Q : Unit → sProp 𝕄} :
    iprop(bat c w e 1 1024 0 ∗ (∃ W, owes (c : Thread nD τ) 0 W))
      ⊢ iprop((bat c w e 1 1024 (1024 * NN) ∗ (∃ W, owes (c : Thread nD τ) 0 W) -∗ Q ()) -∗
        wp frame (wpE defs₀ Variants.none (c : Thread nD τ) none) Set.univ
          (Scf.Loop.for k0_t13_loop (k0_t13_ok i hc) () (k0_t13_body (F := F) i arg1 harg1 arg2 harg2 arg3 harg3 arg4 harg4 (Memref.whole main_v5) (Memref.isWhole_whole _) arg6 harg6 (Memref.whole cc0_scratch0) (Memref.isWhole_whole _) cc0_scratch1 hc)) Q) := by
  iintro H HQ
  iapply (Scf.wp_for frame (wpE defs₀ Variants.none (c : Thread nD τ) none) Set.univ k0_t13_loop.lb k0_t13_loop.ub k0_t13_loop.st (k0_t13_ok i hc) () _
    (fun k _ => iprop(bat c w e 1 1024 (k * NN) ∗ (∃ W, owes (c : Thread nD τ) 0 W))) ?_)
  · intro k acc
    exact wait_step c w e 1 k.val k.isLt _ rfl _ _ _
  isplitl [H]; · rw [Nat.zero_mul]; iexact H
  iintro %acc H
  iapply HQ
  iexact H

end Cert.KernelIdeal.Peer
-- ==== Proof.Token.lean ====
module
public import proofs.«01_k».proof.Proof.Lend
public import Idealize.ShloMosaic.Lib.WritesUnit

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One token's row -/

/-- The slots' activations: the gathered rows' first halves against the token's row. -/
def actOf (blk : Vec F S1x128x2048 .f32) (hr : Vec F S1x1024 .f32) : FVec F S128x1 .f32 :=
  shapeCast S128x1 (multiReduction .add [1] S128
    (mulf (extractStridedSlice S128x1024 ![0, 0] (shapeCast S128x2048 blk shapeCasts_S1x128x2048_S128x2048) slices_S128x2048_o0_0_S128x1024 : FVec F S128x1024 .f32)
      (broadcastTo S128x1024 hr broadcasts_S1x1024_S128x1024)) 0x00000000#32 reduces_S128x1024_S128 (.inl rfl) rfl) shapeCasts_S128_S128x1

/-- The token's column of the gates, picked by the lane number. -/
def gateOf (col : BitVec 32) (gt : Vec F S1x128x128 .f32) : FVec F S128x1 .f32 :=
  shapeCast S128x1 (multiReduction .add [1] S128
    (select (cmpi .eq (iota .tc S128x128 32 [1] iota_S128x128_d1_w32 : IVec S128x128 32) (broadcast S128x128 col))
      (shapeCast S128x128 gt shapeCasts_S1x128x128_S128x128 : FVec F S128x128 .f32) (broadcast S128x128 (Scalar.ofBits .f32 0x00000000#32 : F .f32)))
    0x00000000#32 reduces_S128x128_S128 (.inl rfl) rfl) shapeCasts_S128_S128x1

/-- The tanh form of gelu. -/
def geluOf (a : FVec F S128x1 .f32) : FVec F S128x1 .f32 :=
  mulf a (mulf (broadcast S128x1 (Scalar.ofBits .f32 0x3F000000#32 : F .f32))
    (addf (broadcast S128x1 (Scalar.ofBits .f32 0x3F800000#32 : F .f32))
      (tanh (mulf (broadcast S128x1 (Scalar.ofBits .f32 0x3F4C422A#32 : F .f32))
        (addf a (mulf (broadcast S128x1 (Scalar.ofBits .f32 0x3D372713#32 : F .f32)) (mulf a (mulf a a))))))))

/-- A token's row of the result. -/
def peerRow (col : BitVec 32) (blk : Vec F S1x128x2048 .f32) (hr : Vec F S1x1024 .f32) (gt : Vec F S1x128x128 .f32) (xr : Vec F S1x1024 .f32) : FVec F S1x1024 .f32 :=
  addf xr (shapeCast S1x1024 (multiReduction .add [0] S1024
    (mulf (broadcastTo S128x1024 (mulf (gateOf col gt) (geluOf (actOf blk hr))) broadcasts_S128x1_S128x1024)
      (extractStridedSlice S128x1024 ![0, 1024] (shapeCast S128x2048 blk shapeCasts_S1x128x2048_S128x2048) slices_S128x2048_o0_1024_S128x1024 : FVec F S128x1024 .f32))
    0x00000000#32 reduces_S128x1024_S1024 (.inl rfl) rfl) shapeCasts_S1024_S1x1024)

/-- Where row `ρ` of a block of 16 tokens finds its gathered rows. -/
def bIdx (ρ : ℕ) (z : S1x128x2048.Idx) : S2x1024x2048.Idx := fun a => match a with
  | 0 => ⟨ρ / 8 % 2, Nat.mod_lt _ (by decide)⟩
  | 1 => ⟨128 * (ρ % 8) + (z 1).val, by have : (z 1).val < 128 := (z 1).isLt; show _ < 1024; omega⟩
  | 2 => ⟨(z 2).val, (z 2).isLt⟩
/-- Row `ρ` of a block of 16 rows. -/
def rIdx (ρ : ℕ) (z : S1x1024.Idx) : S16x1024.Idx := fun a => match a with
  | 0 => ⟨ρ % 16, Nat.mod_lt _ (by decide)⟩
  | 1 => ⟨(z 1).val, (z 1).isLt⟩
def colIdx (y : S16x1024.Idx) : S1x1024.Idx := fun a => match a with
  | 0 => ⟨0, by decide⟩
  | 1 => ⟨(y 1).val, (y 1).isLt⟩

/-- The block a grid point leaves: its gathered rows being `G`, its three blocks `H`, `gt`, `X4`. -/
def outAt (v12 : BitVec 32) (G : S2x1024x2048.Idx → Elt F .f32) (H : S16x1024.Idx → Elt F .f32) (gt : S1x128x128.Idx → Elt F .f32) (X4 : S16x1024.Idx → Elt F .f32) :
    S16x1024.Idx → Elt F .f32 := fun y =>
  peerRow (Scalar.addi v12 (BitVec.ofNat 32 (y 0).val)) (fun z => G (bIdx (y 0).val z)) (fun z => H (rIdx (y 0).val z)) gt (fun z => X4 (rIdx (y 0).val z)) (colIdx y)

variable (c : Dev nD)

/-- The output block with its first `n` rows written. -/
def outUpto (arg6 : Memref sig .tc .vmem S16x1024 .f32) (O : S16x1024.Idx → Elt F .f32) (n : ℕ) : sProp 𝕄 :=
  iprop(∃ f, ⌜∀ y : S16x1024.Idx, (y 0).val < n → View.read (Elt F) arg6.view f y = O y⌝ ∗ arg6.view.loc (c : Thread nD τ) ↦[arg6.view.set]{fullShare} f)

/-- One token's evaluation as the kernel writes it. -/
def eval1 (arg2 : Memref sig .tc .vmem S16x1024 .f32) (arg3 : Memref sig .tc .vmem S1x128x128 .f32) (arg4 arg6 : Memref sig .tc .vmem S16x1024 .f32)
    (offb : Fin 3 → ℕ) (inbb : ∀ a, offb a + S1x128x2048.size a ≤ S2x1024x2048.size a)
    (offr : Fin 2 → ℕ) (inbr : ∀ a, offr a + S1x1024.size a ≤ S16x1024.size a)
    (inbg : ∀ a, (![0, 0, 0] : Fin 3 → ℕ) a + S1x128x128.size a ≤ S1x128x128.size a)
    (pay : Vec F S1x128x2048 .f32 → Vec F S1x1024 .f32 → Vec F S1x128x128 .f32 → Vec F S1x1024 .f32 → FVec F S1x1024 .f32) :
    Prog (TpuEff nD τ sig (Elt F) Λ₀ .tc) PUnit := do
  let v31 : Vec F S1x128x2048 .f32 ← Prog.lift (.load (Memref.whole cc0_scratch0) (Rect.unit (s := S2x1024x2048) offb S1x128x2048.size inbb).toLoadRect (View.loadsAt_vmem h_S1x128x2048))
  let v35 : Vec F S1x1024 .f32 ← Prog.lift (.load arg2 (Rect.unit (s := S16x1024) offr S1x1024.size inbr).toLoadRect (View.loadsAt_vmem h_S1x1024))
  let v43 : Vec F S1x128x128 .f32 ← Prog.lift (.load arg3 (Rect.unit (s := S1x128x128) ![0, 0, 0] S1x128x128.size inbg).toLoadRect (View.loadsAt_vmem h_S1x128x128))
  let v64 : Vec F S1x1024 .f32 ← Prog.lift (.load arg4 (Rect.unit (s := S16x1024) offr S1x1024.size inbr).toLoadRect (View.loadsAt_vmem h_S1x1024))
  let v72 : Vec F S1x1024 .f32 ← Prog.lift (.load arg6 (Rect.unit (s := S16x1024) offr S1x1024.size inbr).toLoadRect (View.loadsAt_vmem h_S1x1024))
  Prog.lift (.store arg6 (Rect.unit (s := S16x1024) offr S1x1024.size inbr) (pay v31 v35 v43 v64) Finset.univ (View.stores_vmem_bits_univ h_S1x1024 rfl) (.inl rfl))

/-- The chunk of 128 rows a token reads. -/
theorem chunk_sub (s t : ℕ) (hs : s < 2) (ht : t < 8) (inbb : ∀ a, (![s, 128 * t, 0] : Fin 3 → ℕ) a + S1x128x2048.size a ≤ S2x1024x2048.size a) :
    (Memref.whole cc0_scratch0).view.setOn (Rect.unit (s := S2x1024x2048) ![s, 128 * t, 0] S1x128x2048.size inbb).toLoadRect.set
      ⊆ (Ring.rangeSet 1024 (128 * t) (128 * t + 128)).biUnion fun r : Fin 1024 => rowSet s r.val := by
  intro y hy
  obtain ⟨x, hx, hxy⟩ := Finset.mem_map.mp hy
  subst hxy
  have hx' := (Rect.mem_set_unit (s := S2x1024x2048) (i := x)).mp hx
  have h0 : s ≤ (x 0).val ∧ (x 0).val < s + 1 := hx' 0
  have h1 : 128 * t ≤ (x 1).val ∧ (x 1).val < 128 * t + 128 := hx' 1
  refine Finset.mem_biUnion.mpr ⟨⟨(x 1).val, (x 1).isLt⟩, (Ring.mem_rangeSet _ _ _).mpr ⟨h1.1, h1.2⟩, ?_⟩
  exact Finset.mem_filter.mpr ⟨Finset.mem_univ _, show (x 0).val = s by omega, rfl⟩

theorem rows_join (s a b : ℕ) (f : S2x1024x2048.Idx → Elt F .f32) :
    (((c : Thread nD τ).loc cc0_scratch0) ↦[(Ring.rangeSet 1024 a b).biUnion fun r : Fin 1024 => rowSet s r.val]{fullShare} f : sProp 𝕄)
      = bigSep (Ring.rangeSet 1024 a b) fun r => row c s r.val f := by
  refine pointsTo_biUnion _ _ ?_
  intro r _ r' _ hne
  refine Finset.disjoint_left.mpr fun y hy hy' => hne (Fin.ext ?_)
  have h := (Finset.mem_filter.mp hy).2.2
  have h' := (Finset.mem_filter.mp hy').2.2
  omega

theorem bIdx_emb (s t : ℕ) (hs : s < 2) (ht : t < 8) (inbb : ∀ a, (![s, 128 * t, 0] : Fin 3 → ℕ) a + S1x128x2048.size a ≤ S2x1024x2048.size a) (z : S1x128x2048.Idx) :
    (Rect.unit (s := S2x1024x2048) ![s, 128 * t, 0] S1x128x2048.size inbb).emb z = bIdx (8 * s + t) z := by
  have h0 : (z 0).val < 1 := (z 0).isLt
  refine funext fun a => Fin.ext ?_
  match a with
  | 0 => show s + 1 * (z 0).val = (8 * s + t) / 8 % 2; omega
  | 1 => show 128 * t + 1 * (z 1).val = 128 * ((8 * s + t) % 8) + (z 1).val; omega
  | 2 => show 0 + 1 * (z 2).val = (z 2).val; omega

theorem rIdx_emb (ρ : ℕ) (hρ : ρ < 16) (inbr : ∀ a, (![ρ, 0] : Fin 2 → ℕ) a + S1x1024.size a ≤ S16x1024.size a) (z : S1x1024.Idx) :
    (Rect.unit (s := S16x1024) ![ρ, 0] S1x1024.size inbr).emb z = rIdx ρ z := by
  have h0 : (z 0).val < 1 := (z 0).isLt
  refine funext fun a => Fin.ext ?_
  match a with
  | 0 => show ρ + 1 * (z 0).val = ρ % 16; omega
  | 1 => show 0 + 1 * (z 1).val = (z 1).val; omega

theorem gt_emb (inbg : ∀ a, (![0, 0, 0] : Fin 3 → ℕ) a + S1x128x128.size a ≤ S1x128x128.size a) (z : S1x128x128.Idx) :
    (Rect.unit (s := S1x128x128) ![0, 0, 0] S1x128x128.size inbg).emb z = z := by
  refine funext fun a => Fin.ext ?_
  match a with
  | 0 => show 0 + 1 * (z 0).val = (z 0).val; omega
  | 1 => show 0 + 1 * (z 1).val = (z 1).val; omega
  | 2 => show 0 + 1 * (z 2).val = (z 2).val; omega

theorem readRow (m : Memref sig .tc .vmem S16x1024 .f32) (f : m.view.ty.Contents (Elt F)) (H : S16x1024.Idx → Elt F .f32) (hf : View.read (Elt F) m.view f = H)
    (ρ : ℕ) (hρ : ρ < 16) (inbr : ∀ a, (![ρ, 0] : Fin 2 → ℕ) a + S1x1024.size a ≤ S16x1024.size a) :
    m.view.readAt (Elt F) (Rect.unit (s := S16x1024) ![ρ, 0] S1x1024.size inbr).toLoadRect f = fun z => H (rIdx ρ z) := by
  subst hf
  exact funext fun z => congrArg (View.read (Elt F) m.view f) (rIdx_emb ρ hρ inbr z)

theorem readGt (m : Memref sig .tc .vmem S1x128x128 .f32) (f : m.view.ty.Contents (Elt F)) (H : S1x128x128.Idx → Elt F .f32) (hf : View.read (Elt F) m.view f = H)
    (inbg : ∀ a, (![0, 0, 0] : Fin 3 → ℕ) a + S1x128x128.size a ≤ S1x128x128.size a) :
    m.view.readAt (Elt F) (Rect.unit (s := S1x128x128) ![0, 0, 0] S1x128x128.size inbg).toLoadRect f = H := by
  subst hf
  exact funext fun z => congrArg (View.read (Elt F) m.view f) (gt_emb inbg z)

theorem upto_write (m : Memref sig .tc .vmem S16x1024 .f32) (f : m.view.ty.Contents (Elt F)) (O : S16x1024.Idx → Elt F .f32) (n : ℕ)
    (inbr : ∀ a, (![n, 0] : Fin 2 → ℕ) a + S1x1024.size a ≤ S16x1024.size a) (p : S1x1024.Idx → Elt F .f32)
    (hf : ∀ y : S16x1024.Idx, (y 0).val < n → View.read (Elt F) m.view f y = O y) (hp : ∀ y : S16x1024.Idx, (y 0).val = n → p (colIdx y) = O y)
    (y : S16x1024.Idx) (hy : (y 0).val < n + 1) :
    View.read (Elt F) m.view (m.view.writes (Elt F) f [⟨Rect.unit (s := S16x1024) ![n, 0] S1x1024.size inbr, p⟩]) y = O y := by
  by_cases hlt : (y 0).val < n
  · exact (View.read_writes_cons_rows_of_not_mem (d := S16x1024.size) m.view f inbr p [] y rfl (W := 1) rfl (Or.inl hlt)).trans (hf y hlt)
  · have hy0 : (y 0).val = n := by omega
    exact (View.read_writes_cons_rows_of_mem (d := S16x1024.size) m.view f inbr p [] y (colIdx y) rfl (by show _ = _ + 0; omega) rfl).trans (hp y hy0)

theorem wp_eval1 {Q : PUnit → sProp 𝕄} (w : S16384x1x2048.Idx → Elt F .f32) (e : ℕ → ℕ) (s t : ℕ) (hs : s < 2) (ht : t < 8) (v12 : BitVec 32)
    (arg2 : Memref sig .tc .vmem S16x1024 .f32) (arg3 : Memref sig .tc .vmem S1x128x128 .f32) (arg4 arg6 : Memref sig .tc .vmem S16x1024 .f32)
    (H : S16x1024.Idx → Elt F .f32) (gt : S1x128x128.Idx → Elt F .f32) (X4 : S16x1024.Idx → Elt F .f32)
    (offb : Fin 3 → ℕ) (inbb : ∀ a, offb a + S1x128x2048.size a ≤ S2x1024x2048.size a) (hob : offb = ![s, 128 * t, 0])
    (offr : Fin 2 → ℕ) (inbr : ∀ a, offr a + S1x1024.size a ≤ S16x1024.size a) (hor : offr = ![8 * s + t, 0])
    (inbg : ∀ a, (![0, 0, 0] : Fin 3 → ℕ) a + S1x128x128.size a ≤ S1x128x128.size a)
    (pay : Vec F S1x128x2048 .f32 → Vec F S1x1024 .f32 → Vec F S1x128x128 .f32 → Vec F S1x1024 .f32 → FVec F S1x1024 .f32)
    (hpay : ∀ b h g x, pay b h g x = peerRow (Scalar.addi v12 (BitVec.ofNat 32 (8 * s + t))) b h g x) :
    iprop(owns c arg2 fullShare H ∗ owns c arg3 fullShare gt ∗ owns c arg4 fullShare X4
        ∗ outUpto c arg6 (outAt v12 (gath w e) H gt X4) (8 * s + t) ∗ bigSep (Ring.rangeSet 1024 (128 * t) (128 * t + 128)) (fun r => row c s r.val (gath w e)))
      ⊢ iprop((owns c arg2 fullShare H ∗ owns c arg3 fullShare gt ∗ owns c arg4 fullShare X4
        ∗ outUpto c arg6 (outAt v12 (gath w e) H gt X4) (8 * s + t + 1) ∗ bigSep (Ring.rangeSet 1024 (128 * t) (128 * t + 128)) (fun r => row c s r.val (gath w e)) -∗ Q ⟨⟩)
        -∗ wp frame (wpE defs₀ Variants.none (c : Thread nD τ) none) Set.univ (eval1 (F := F) arg2 arg3 arg4 arg6 offb inbb offr inbr inbg pay) Q) := by
  subst hob hor
  unfold owns outUpto eval1
  rw [← rows_join]
  iintro ⟨⟨%f2, %hf2, H2⟩, ⟨%f3, %hf3, H3⟩, ⟨%f4, %hf4, H4⟩, ⟨%f6, %hf6, H6⟩, HR⟩ HQ
  iapply (wp_load (m := Memref.whole cc0_scratch0) (r := (Rect.unit (s := S2x1024x2048) ![s, 128 * t, 0] S1x128x2048.size inbb).toLoadRect) Variants.none (c : Thread nD τ) none Set.univ (chunk_sub s t hs ht inbb)) $$ [HR]
  · iexact HR
  iintro HR
  iapply (wp_load (r := (Rect.unit (s := S16x1024) ![8 * s + t, 0] S1x1024.size inbr).toLoadRect) Variants.none (c : Thread nD τ) none Set.univ (View.setOn_subset_set _ _)) $$ [H2]
  · iexact H2
  iintro H2
  iapply (wp_load (r := (Rect.unit (s := S1x128x128) ![0, 0, 0] S1x128x128.size inbg).toLoadRect) Variants.none (c : Thread nD τ) none Set.univ (View.setOn_subset_set _ _)) $$ [H3]
  · iexact H3
  iintro H3
  iapply (wp_load (r := (Rect.unit (s := S16x1024) ![8 * s + t, 0] S1x1024.size inbr).toLoadRect) Variants.none (c : Thread nD τ) none Set.univ (View.setOn_subset_set _ _)) $$ [H4]
  · iexact H4
  iintro H4
  iapply (wp_load (r := (Rect.unit (s := S16x1024) ![8 * s + t, 0] S1x1024.size inbr).toLoadRect) Variants.none (c : Thread nD τ) none Set.univ (View.setOn_subset_set _ _)) $$ [H6]
  · iexact H6
  iintro H6
  have e1 : (Memref.whole cc0_scratch0).view.readAt (Elt F) (Rect.unit (s := S2x1024x2048) ![s, 128 * t, 0] S1x128x2048.size inbb).toLoadRect (gath w e) = fun z => gath w e (bIdx (8 * s + t) z) :=
    funext fun z => congrArg (gath w e) (bIdx_emb s t hs ht inbb z)
  rw [e1, readRow arg2 f2 H hf2 (8 * s + t) (by omega) inbr, readGt arg3 f3 gt hf3 inbg, readRow arg4 f4 X4 hf4 (8 * s + t) (by omega) inbr, hpay]
  iapply (wp_store_writes₀ Variants.none (c : Thread nD τ) none Set.univ (m := arg6) (View.set_slice_subset _ _)) $$ [H6]
  · iexact H6
  iintro H6
  sl_step
  iapply HQ
  isplitl [H2]
  · iexists f2
    isplitr; · ipureintro; exact hf2
    iexact H2
  isplitl [H3]
  · iexists f3
    isplitr; · ipureintro; exact hf3
    iexact H3
  isplitl [H4]
  · iexists f4
    isplitr; · ipureintro; exact hf4
    iexact H4
  isplitl [H6]
  · iexists arg6.view.writes (Elt F) f6 [⟨Rect.unit (s := S16x1024) ![8 * s + t, 0] S1x1024.size inbr, (peerRow (Scalar.addi v12 (BitVec.ofNat 32 (8 * s + t))) (fun z => gath w e (bIdx (8 * s + t) z)) (fun z => H (rIdx (8 * s + t) z)) gt (fun z => X4 (rIdx (8 * s + t) z)))⟩]
    isplitr
    · ipureintro
      exact upto_write arg6 _ _ (8 * s + t) inbr _ hf6 fun y hy0 => by unfold outAt; rw [hy0]
    iexact H6
  iexact HR

end Cert.KernelIdeal.Peer
-- ==== Proof.Tokens.lean ====
module
public import proofs.«01_k».proof.Proof.Token

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The lanes' numbers. -/
abbrev lanes : IVec S128x128 32 := iota .tc S128x128 32 [1] iota_S128x128_d1_w32

theorem tok_lo : ∀ t : Fin 8, Scalar.addi 0#32 (Scf.iv 0#32 1#32 t) = BitVec.ofNat 32 (8 * 0 + t.val) := by decide
theorem tok_hi : ∀ t : Fin 8, Scalar.addi 8#32 (Scf.iv 0#32 1#32 t) = BitVec.ofNat 32 (8 * 1 + t.val) := by decide

theorem rows_any (S : Finset (Fin 1024)) (s : ℕ) (f : S2x1024x2048.Idx → Elt F .f32) :
    bigSep S (fun r => row c s r.val f) ⊢ bigSep S (fun r => (iprop(∃ g, row c s r.val g) : sProp 𝕄)) := by
  have key : ∀ r : Fin 1024, row c s r.val f ⊢ (iprop(∃ g, row c s r.val g) : sProp 𝕄) := fun r => by
    iintro H
    iexists f
    iexact H
  exact BI.bigSep_mono fun r _ => key r

theorem issAt_lend (w : S16384x1x2048.Idx → Elt F .f32) (e : ℕ → ℕ) (s : Fin 2) (n m : ℕ) (f : S2x1024x2048.Idx → Elt F .f32) :
    iprop(issAt c w e s n n ∗ bigSep (Ring.rangeSet 1024 n m) (fun r => row c s.val r.val f)) ⊢ issAt c w e s n m := by
  unfold issAt
  rw [Ring.bigSep_rangeSet_empty (le_refl n)]
  iintro ⟨⟨HB, -, HS⟩, HR⟩
  isplitl [HB]; · iexact HB
  isplitl [HR]
  · iapply (rows_any c _ s.val f) $$ [HR]
    iexact HR
  iexact HS

/-- A slot between two tokens of a grid point that both evaluates and starts: `k` tokens done. -/
def tokSt (w : S16384x1x2048.Idx → Elt F .f32) (v12 : BitVec 32) (e e' : ℕ → ℕ) (arg1 : Memref sig .tc .smem S1x1x2048 .i32) (arg2 : Memref sig .tc .vmem S16x1024 .f32) (arg3 : Memref sig .tc .vmem S1x128x128 .f32) (arg4 arg6 : Memref sig .tc .vmem S16x1024 .f32)
    (X : S1x1x2048.Idx → Elt F .i32) (H : S16x1024.Idx → Elt F .f32) (gt : S1x128x128.Idx → Elt F .f32) (X4 : S16x1024.Idx → Elt F .f32) (s : Fin 2) (k : ℕ) : sProp 𝕄 :=
  iprop(owns c arg1 fullShare X ∗ owns c arg2 fullShare H ∗ owns c arg3 fullShare gt ∗ owns c arg4 fullShare X4
    ∗ outUpto c arg6 (outAt v12 (gath w e) H gt X4) (8 * s.val + k) ∗ issAt c w e' s (128 * k) (128 * k)
    ∗ bigSep (Ring.rangeSet 1024 (128 * k) 1024) (fun r => row c s.val r.val (gath w e)))

/-- The same at the last grid point, which starts nothing. -/
def tokEnd (w : S16384x1x2048.Idx → Elt F .f32) (v12 : BitVec 32) (e : ℕ → ℕ) (arg2 : Memref sig .tc .vmem S16x1024 .f32) (arg3 : Memref sig .tc .vmem S1x128x128 .f32) (arg4 arg6 : Memref sig .tc .vmem S16x1024 .f32)
    (H : S16x1024.Idx → Elt F .f32) (gt : S1x128x128.Idx → Elt F .f32) (X4 : S16x1024.Idx → Elt F .f32) (s : Fin 2) (k : ℕ) : sProp 𝕄 :=
  iprop(owns c arg2 fullShare H ∗ owns c arg3 fullShare gt ∗ owns c arg4 fullShare X4
    ∗ outUpto c arg6 (outAt v12 (gath w e) H gt X4) (8 * s.val + k)
    ∗ bigSep (Ring.rangeSet 1024 0 1024) (fun r => row c s.val r.val (gath w e)))

theorem body6_eq (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond2 i = 1#1) (t : Fin k0_t6_loop.trips) (acc : Unit) :
    k0_t6_body (F := F) i arg1 harg1 arg2 harg2 arg3 harg3 arg4 harg4 (Memref.whole main_v5) (Memref.isWhole_whole _) arg6 harg6 (Memref.whole cc0_scratch0) (Memref.isWhole_whole _) cc0_scratch1 lanes v12 hc t acc
      = (eval1 (F := F) arg2 arg3 arg4 arg6 (k0_off13 t) (k0_off13_inb i t hc) (k0_off14 t) (k0_off14_inb i t hc) inb_S1x128x128_S1x128x128_0_0_0
          (fun b h g x => k0_pay1 x (k0_pay5 lanes v12 0#32 1#32 t b h g)) >>= fun _ =>
        Scf.Loop.for k0_t7_loop (k0_t7_ok i hc) () (k0_t7_body (F := F) i arg1 harg1 arg2 harg2 arg3 harg3 arg4 harg4 (Memref.whole main_v5) (Memref.isWhole_whole _) arg6 harg6 (Memref.whole cc0_scratch0) (Memref.isWhole_whole _) cc0_scratch1 hc t) >>= fun _ => pure ()) := rfl

theorem tokens6 (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond2 i = 1#1)
    (e : ℕ → ℕ) (X : S1x1x2048.Idx → Elt F .i32) (hX : ∀ n, eOf X n < 16384) (H : S16x1024.Idx → Elt F .f32) (gt : S1x128x128.Idx → Elt F .f32) (X4 : S16x1024.Idx → Elt F .f32) {Q : Unit → sProp 𝕄} :
    tokSt c w v12 e (eOf X) arg1 arg2 arg3 arg4 arg6 X H gt X4 0 0
      ⊢ iprop((tokSt c w v12 e (eOf X) arg1 arg2 arg3 arg4 arg6 X H gt X4 0 8 -∗ Q ()) -∗
        wp frame (wpE defs₀ Variants.none (c : Thread nD τ) none) Set.univ
          (Scf.Loop.for k0_t6_loop (k0_t6_ok i hc) () (k0_t6_body (F := F) i arg1 harg1 arg2 harg2 arg3 harg3 arg4 harg4 (Memref.whole main_v5) (Memref.isWhole_whole _) arg6 harg6 (Memref.whole cc0_scratch0) (Memref.isWhole_whole _) cc0_scratch1 lanes v12 hc)) Q) := by
  iintro H HQ
  iapply (Scf.wp_for frame (wpE defs₀ Variants.none (c : Thread nD τ) none) Set.univ k0_t6_loop.lb k0_t6_loop.ub k0_t6_loop.st (k0_t6_ok i hc) () _
    (fun k _ => tokSt c w v12 e (eOf X) arg1 arg2 arg3 arg4 arg6 X H gt X4 0 k) ?_)
  · intro k acc
    have hk : k.val < 8 := k.isLt
    rw [body6_eq, wp_bind]
    unfold tokSt
    rw [Ring.bigSep_rangeSet_split (a := 128 * k.val) (b := 128 * k.val + 128) (d := 1024) (by omega) (by omega)]
    iintro ⟨H1, H2, H3, H4, HO, HI, HR, HR'⟩
    iapply (wp_eval1 c w e 0 k.val (by omega) hk v12 arg2 arg3 arg4 arg6 H gt X4 _ _ (k0_off13_eq k) _ _ ((k0_off14_eq k).trans (congrArg (fun n => ![n, 0]) (by omega))) _ _
      (fun b h g x => (show _ = peerRow (Scalar.addi v12 (Scalar.addi 0#32 (Scf.iv 0#32 1#32 k))) b h g x from rfl).trans (congrArg (fun n => peerRow (Scalar.addi v12 n) b h g x) (tok_lo k)))) $$ [H2 H3 H4 HO HR]
    · isplitl [H2]; · iexact H2
      isplitl [H3]; · iexact H3
      isplitl [H4]; · iexact H4
      isplitl [HO]; · iexact HO
      iexact HR
    iintro ⟨H2, H3, H4, HO, HR⟩
    rw [wp_bind]
    iapply (loop7 c w i arg1 harg1 arg2 harg2 arg3 harg3 arg4 harg4 arg6 harg6 X hX hc k) $$ [H1 HI HR]
    · isplitl [H1]; · iexact H1
      iapply (issAt_lend c w (eOf X) 0 (128 * k.val) (128 * k.val + 128) (gath w e)) $$ [HI HR]
      isplitl [HI]; · iexact HI
      iexact HR
    iintro ⟨H1, HI⟩
    sl_step
    isplitl [H1]; · iexact H1
    isplitl [H2]; · iexact H2
    isplitl [H3]; · iexact H3
    isplitl [H4]; · iexact H4
    isplitl [HO]; · iexact HO
    isplitl [HI]; · iexact HI
    iexact HR'
  isplitl [H]; · iexact H
  iintro %acc H
  iapply HQ
  iexact H

theorem body9_eq (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond2 i = 1#1) (t : Fin k0_t9_loop.trips) (acc : Unit) :
    k0_t9_body (F := F) i arg1 harg1 arg2 harg2 arg3 harg3 arg4 harg4 (Memref.whole main_v5) (Memref.isWhole_whole _) arg6 harg6 (Memref.whole cc0_scratch0) (Memref.isWhole_whole _) cc0_scratch1 lanes v12 hc t acc
      = (eval1 (F := F) arg2 arg3 arg4 arg6 (k0_off21 t) (k0_off21_inb i t hc) (k0_off22 t) (k0_off22_inb i t hc) inb_S1x128x128_S1x128x128_0_0_0
          (fun b h g x => k0_pay2 x (k0_pay6 lanes v12 0#32 1#32 t b h g)) >>= fun _ =>
        Scf.Loop.for k0_t10_loop (k0_t10_ok i hc) () (k0_t10_body (F := F) i arg1 harg1 arg2 harg2 arg3 harg3 arg4 harg4 (Memref.whole main_v5) (Memref.isWhole_whole _) arg6 harg6 (Memref.whole cc0_scratch0) (Memref.isWhole_whole _) cc0_scratch1 hc t) >>= fun _ => pure ()) := rfl

theorem tokens9 (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond2 i = 1#1)
    (e : ℕ → ℕ) (X : S1x1x2048.Idx → Elt F .i32) (hX : ∀ n, eOf X n < 16384) (H : S16x1024.Idx → Elt F .f32) (gt : S1x128x128.Idx → Elt F .f32) (X4 : S16x1024.Idx → Elt F .f32) {Q : Unit → sProp 𝕄} :
    tokSt c w v12 e (eOf X) arg1 arg2 arg3 arg4 arg6 X H gt X4 1 0
      ⊢ iprop((tokSt c w v12 e (eOf X) arg1 arg2 arg3 arg4 arg6 X H gt X4 1 8 -∗ Q ()) -∗
        wp frame (wpE defs₀ Variants.none (c : Thread nD τ) none) Set.univ
          (Scf.Loop.for k0_t9_loop (k0_t9_ok i hc) () (k0_t9_body (F := F) i arg1 harg1 arg2 harg2 arg3 harg3 arg4 harg4 (Memref.whole main_v5) (Memref.isWhole_whole _) arg6 harg6 (Memref.whole cc0_scratch0) (Memref.isWhole_whole _) cc0_scratch1 lanes v12 hc)) Q) := by
  iintro H HQ
  iapply (Scf.wp_for frame (wpE defs₀ Variants.none (c : Thread nD τ) none) Set.univ k0_t9_loop.lb k0_t9_loop.ub k0_t9_loop.st (k0_t9_ok i hc) () _
    (fun k _ => tokSt c w v12 e (eOf X) arg1 arg2 arg3 arg4 arg6 X H gt X4 1 k) ?_)
  · intro k acc
    have hk : k.val < 8 := k.isLt
    rw [body9_eq, wp_bind]
    unfold tokSt
    rw [Ring.bigSep_rangeSet_split (a := 128 * k.val) (b := 128 * k.val + 128) (d := 1024) (by omega) (by omega)]
    iintro ⟨H1, H2, H3, H4, HO, HI, HR, HR'⟩
    iapply (wp_eval1 c w e 1 k.val (by omega) hk v12 arg2 arg3 arg4 arg6 H gt X4 _ _ (k0_off21_eq k) _ _ ((k0_off22_eq k).trans (congrArg (fun n => ![n, 0]) (by omega))) _ _
      (fun b h g x => (show _ = peerRow (Scalar.addi v12 (Scalar.addi 8#32 (Scf.iv 0#32 1#32 k))) b h g x from rfl).trans (congrArg (fun n => peerRow (Scalar.addi v12 n) b h g x) (tok_hi k)))) $$ [H2 H3 H4 HO HR]
    · isplitl [H2]; · iexact H2
      isplitl [H3]; · iexact H3
      isplitl [H4]; · iexact H4
      isplitl [HO]; · iexact HO
      iexact HR
    iintro ⟨H2, H3, H4, HO, HR⟩
    rw [wp_bind]
    iapply (loop10 c w i arg1 harg1 arg2 harg2 arg3 harg3 arg4 harg4 arg6 harg6 X hX hc k) $$ [H1 HI HR]
    · isplitl [H1]; · iexact H1
      iapply (issAt_lend c w (eOf X) 1 (128 * k.val) (128 * k.val + 128) (gath w e)) $$ [HI HR]
      isplitl [HI]; · iexact HI
      iexact HR
    iintro ⟨H1, HI⟩
    sl_step
    isplitl [H1]; · iexact H1
    isplitl [H2]; · iexact H2
    isplitl [H3]; · iexact H3
    isplitl [H4]; · iexact H4
    isplitl [HO]; · iexact HO
    isplitl [HI]; · iexact HI
    iexact HR'
  isplitl [H]; · iexact H
  iintro %acc H
  iapply HQ
  iexact H

theorem body12_eq (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond3 i = 1#1) (t : Fin k0_t12_loop.trips) (acc : Unit) :
    k0_t12_body (F := F) i arg1 harg1 arg2 harg2 arg3 harg3 arg4 harg4 (Memref.whole main_v5) (Memref.isWhole_whole _) arg6 harg6 (Memref.whole cc0_scratch0) (Memref.isWhole_whole _) cc0_scratch1 lanes v12 hc t acc
      = (eval1 (F := F) arg2 arg3 arg4 arg6 (k0_off29 t) (k0_off29_inb i t hc) (k0_off30 t) (k0_off30_inb i t hc) inb_S1x128x128_S1x128x128_0_0_0
          (fun b h g x => k0_pay3 x (k0_pay7 lanes v12 0#32 1#32 t b h g)) >>= fun _ => pure ()) := rfl

theorem tokens12 (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond3 i = 1#1)
    (e : ℕ → ℕ) (H : S16x1024.Idx → Elt F .f32) (gt : S1x128x128.Idx → Elt F .f32) (X4 : S16x1024.Idx → Elt F .f32) {Q : Unit → sProp 𝕄} :
    tokEnd c w v12 e arg2 arg3 arg4 arg6 H gt X4 0 0
      ⊢ iprop((tokEnd c w v12 e arg2 arg3 arg4 arg6 H gt X4 0 8 -∗ Q ()) -∗
        wp frame (wpE defs₀ Variants.none (c : Thread nD τ) none) Set.univ
          (Scf.Loop.for k0_t12_loop (k0_t12_ok i hc) () (k0_t12_body (F := F) i arg1 harg1 arg2 harg2 arg3 harg3 arg4 harg4 (Memref.whole main_v5) (Memref.isWhole_whole _) arg6 harg6 (Memref.whole cc0_scratch0) (Memref.isWhole_whole _) cc0_scratch1 lanes v12 hc)) Q) := by
  iintro H HQ
  iapply (Scf.wp_for frame (wpE defs₀ Variants.none (c : Thread nD τ) none) Set.univ k0_t12_loop.lb k0_t12_loop.ub k0_t12_loop.st (k0_t12_ok i hc) () _
    (fun k _ => tokEnd c w v12 e arg2 arg3 arg4 arg6 H gt X4 0 k) ?_)
  · intro k acc
    have hk : k.val < 8 := k.isLt
    rw [body12_eq, wp_bind]
    unfold tokEnd
    rw [Ring.bigSep_rangeSet_take (a := 0) (lo := 128 * k.val) (hi := 128 * k.val + 128) (d := 1024) (by omega) (by omega) (by omega)]
    iintro ⟨H2, H3, H4, HO, HR, HR'⟩
    iapply (wp_eval1 c w e 0 k.val (by omega) hk v12 arg2 arg3 arg4 arg6 H gt X4 _ _ (k0_off29_eq k) _ _ ((k0_off30_eq k).trans (congrArg (fun n => ![n, 0]) (by omega))) _ _
      (fun b h g x => (show _ = peerRow (Scalar.addi v12 (Scalar.addi 0#32 (Scf.iv 0#32 1#32 k))) b h g x from rfl).trans (congrArg (fun n => peerRow (Scalar.addi v12 n) b h g x) (tok_lo k)))) $$ [H2 H3 H4 HO HR]
    · isplitl [H2]; · iexact H2
      isplitl [H3]; · iexact H3
      isplitl [H4]; · iexact H4
      isplitl [HO]; · iexact HO
      iexact HR
    iintro ⟨H2, H3, H4, HO, HR⟩
    sl_step
    isplitl [H2]; · iexact H2
    isplitl [H3]; · iexact H3
    isplitl [H4]; · iexact H4
    isplitl [HO]; · iexact HO
    isplitl [HR]; · iexact HR
    iexact HR'
  isplitl [H]; · iexact H
  iintro %acc H
  iapply HQ
  iexact H

theorem body14_eq (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond3 i = 1#1) (t : Fin k0_t14_loop.trips) (acc : Unit) :
    k0_t14_body (F := F) i arg1 harg1 arg2 harg2 arg3 harg3 arg4 harg4 (Memref.whole main_v5) (Memref.isWhole_whole _) arg6 harg6 (Memref.whole cc0_scratch0) (Memref.isWhole_whole _) cc0_scratch1 lanes v12 hc t acc
      = (eval1 (F := F) arg2 arg3 arg4 arg6 (k0_off31 t) (k0_off31_inb i t hc) (k0_off32 t) (k0_off32_inb i t hc) inb_S1x128x128_S1x128x128_0_0_0
          (fun b h g x => k0_pay4 x (k0_pay8 lanes v12 0#32 1#32 t b h g)) >>= fun _ => pure ()) := rfl

theorem tokens14 (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond3 i = 1#1)
    (e : ℕ → ℕ) (H : S16x1024.Idx → Elt F .f32) (gt : S1x128x128.Idx → Elt F .f32) (X4 : S16x1024.Idx → Elt F .f32) {Q : Unit → sProp 𝕄} :
    tokEnd c w v12 e arg2 arg3 arg4 arg6 H gt X4 1 0
      ⊢ iprop((tokEnd c w v12 e arg2 arg3 arg4 arg6 H gt X4 1 8 -∗ Q ()) -∗
        wp frame (wpE defs₀ Variants.none (c : Thread nD τ) none) Set.univ
          (Scf.Loop.for k0_t14_loop (k0_t14_ok i hc) () (k0_t14_body (F := F) i arg1 harg1 arg2 harg2 arg3 harg3 arg4 harg4 (Memref.whole main_v5) (Memref.isWhole_whole _) arg6 harg6 (Memref.whole cc0_scratch0) (Memref.isWhole_whole _) cc0_scratch1 lanes v12 hc)) Q) := by
  iintro H HQ
  iapply (Scf.wp_for frame (wpE defs₀ Variants.none (c : Thread nD τ) none) Set.univ k0_t14_loop.lb k0_t14_loop.ub k0_t14_loop.st (k0_t14_ok i hc) () _
    (fun k _ => tokEnd c w v12 e arg2 arg3 arg4 arg6 H gt X4 1 k) ?_)
  · intro k acc
    have hk : k.val < 8 := k.isLt
    rw [body14_eq, wp_bind]
    unfold tokEnd
    rw [Ring.bigSep_rangeSet_take (a := 0) (lo := 128 * k.val) (hi := 128 * k.val + 128) (d := 1024) (by omega) (by omega) (by omega)]
    iintro ⟨H2, H3, H4, HO, HR, HR'⟩
    iapply (wp_eval1 c w e 1 k.val (by omega) hk v12 arg2 arg3 arg4 arg6 H gt X4 _ _ (k0_off31_eq k) _ _ ((k0_off32_eq k).trans (congrArg (fun n => ![n, 0]) (by omega))) _ _
      (fun b h g x => (show _ = peerRow (Scalar.addi v12 (Scalar.addi 8#32 (Scf.iv 0#32 1#32 k))) b h g x from rfl).trans (congrArg (fun n => peerRow (Scalar.addi v12 n) b h g x) (tok_hi k)))) $$ [H2 H3 H4 HO HR]
    · isplitl [H2]; · iexact H2
      isplitl [H3]; · iexact H3
      isplitl [H4]; · iexact H4
      isplitl [HO]; · iexact HO
      iexact HR
    iintro ⟨H2, H3, H4, HO, HR⟩
    sl_step
    isplitl [H2]; · iexact H2
    isplitl [H3]; · iexact H3
    isplitl [H4]; · iexact H4
    isplitl [HO]; · iexact HO
    isplitl [HR]; · iexact HR
    iexact HR'
  isplitl [H]; · iexact H
  iintro %acc H
  iapply HQ
  iexact H

end Cert.KernelIdeal.Peer
-- ==== Proof.Slots.lean ====
module
public import proofs.«01_k».proof.Proof.Tokens

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- Slot `s`'s read tokens of the table, none lent. -/
def toks (w : S16384x1x2048.Idx → Elt F .f32) (s : Fin 2) : sProp 𝕄 :=
  bigSep Finset.univ fun t : Fin 1024 => ((c : Thread nD τ).loc main_v5) ↦[Finset.univ]{Transfers.shareTokN fullShare (s.val * 1024 + t.val)} w
/-- What is left of them beside the rows the words `e` name. -/
def offs (w : S16384x1x2048.Idx → Elt F .f32) (e : ℕ → ℕ) (s : Fin 2) : sProp 𝕄 :=
  bigSep Finset.univ fun t : Fin 1024 => ((c : Thread nD τ).loc main_v5) ↦[Finset.univ \ srcSet (e (s.val * 1024 + t.val))]{Transfers.shareTokN fullShare (s.val * 1024 + t.val)} w
def srcs (w : S16384x1x2048.Idx → Elt F .f32) (e : ℕ → ℕ) (s : Fin 2) : sProp 𝕄 :=
  bigSep Finset.univ fun t : Fin 1024 => src c w (e (s.val * 1024 + t.val)) (s.val * 1024 + t.val)
/-- Slot `s` with no transfer in flight. -/
def free (w : S16384x1x2048.Idx → Elt F .f32) (s : Fin 2) : sProp 𝕄 := iprop(semVal ((c : Thread nD τ), SemLoc.dma (sem s)) 0 ∗ toks c w s)
/-- Slot `s` with its 1024 transfers in flight, the words being `e`. -/
def busy (w : S16384x1x2048.Idx → Elt F .f32) (e : ℕ → ℕ) (s : Fin 2) : sProp 𝕄 := iprop(bat c w e s 1024 0 ∗ offs c w e s)
/-- Slot `s`'s rows at contents `f`. -/
def rows (s : Fin 2) (f : S2x1024x2048.Idx → Elt F .f32) : sProp 𝕄 := bigSep (Ring.rangeSet 1024 0 1024) fun r => row c s.val r.val f

theorem eq_of {P Q : sProp 𝕄} (h1 : P ⊢ Q) (h2 : Q ⊢ P) : P = Q := equiv_iff.mp ⟨h1, h2⟩

theorem toks_eq (w : S16384x1x2048.Idx → Elt F .f32) (e : ℕ → ℕ) (s : Fin 2) :
    toks c w s = iprop(srcs c w e s ∗ offs c w e s) := by
  unfold toks srcs offs src
  have h : ∀ t : Fin 1024, (((c : Thread nD τ).loc main_v5) ↦[Finset.univ]{Transfers.shareTokN fullShare (s.val * 1024 + t.val)} w : sProp 𝕄)
      = iprop((((c : Thread nD τ).loc main_v5) ↦[srcSet (e (s.val * 1024 + t.val))]{Transfers.shareTokN fullShare (s.val * 1024 + t.val)} w)
        ∗ ((c : Thread nD τ).loc main_v5) ↦[Finset.univ \ srcSet (e (s.val * 1024 + t.val))]{Transfers.shareTokN fullShare (s.val * 1024 + t.val)} w) := fun t =>
    eq_of (pointsTo_split_subset (Finset.subset_univ _)).1 (pointsTo_split_subset (Finset.subset_univ _)).2
  refine (BI.bigSep_congr fun t _ => h t).trans ?_
  exact BI.bigSep_sep _ _ _

theorem slot_start (w : S16384x1x2048.Idx → Elt F .f32) (e : ℕ → ℕ) (s : Fin 2) :
    free c w s ⊢ |={Set.univ}=> iprop(issAt c w e s 0 0 ∗ offs c w e s) := by
  unfold free issAt bat
  rw [toks_eq c w e s, Ring.bigSep_rangeSet_empty (le_refl 0), Ring.rangeSet_univ]
  iintro ⟨Hq, HS, HO⟩
  imod (Transfers.batch_alloc' (Lvl := ℕ) (countersEmb (U := Pipeline.UD sig nD τ)) (c : Thread nD τ) () NN (dlv c w e s) (sm := .dma (sem s)) (E := Set.univ)) $$ Hq with HB
  imodintro
  isplitr [HO]
  · isplitl [HB]; · iexact HB
    isplitr
    · iempintro
    unfold srcs; iexact HS
  iexact HO

theorem slot_busy (w : S16384x1x2048.Idx → Elt F .f32) (e : ℕ → ℕ) (s : Fin 2) :
    iprop(issAt c w e s 1024 1024 ∗ offs c w e s) ⊢ busy c w e s := by
  unfold busy issAt
  iintro ⟨⟨HB, -, -⟩, HO⟩
  isplitl [HB]; · iexact HB
  iexact HO

theorem slot_done (w : S16384x1x2048.Idx → Elt F .f32) (e : ℕ → ℕ) (s : Fin 2) :
    iprop(bat c w e s 1024 (1024 * NN) ∗ offs c w e s) ⊢ |={Set.univ}=> iprop(rows c s (gath w e) ∗ free c w s) := by
  have key : bigSep Finset.univ (dlv c w e s) = iprop(bigSep Finset.univ (fun r : Fin 1024 => row c s.val r.val (gath w e)) ∗ srcs c w e s) := BI.bigSep_sep _ _ _
  unfold free rows bat
  rw [toks_eq c w e s, Ring.rangeSet_univ]
  iintro ⟨HB, HO⟩
  imod (Transfers.batch_collect' (Lvl := ℕ) (countersEmb (U := Pipeline.UD sig nD τ)) (c : Thread nD τ) (ι := ()) (N := NN) (D := dlv c w e s) (sm := .dma (sem s)) (by decide)) $$ [HB] with ⟨HD, HS⟩
  · rw [show NN * 1024 = 1024 * NN from Nat.mul_comm _ _]; iexact HB
  imodintro
  ihave HD' := (Entails.of_eq key) $$ HD
  icases HD' with ⟨HR, HD⟩
  isplitl [HR]; · iexact HR
  isplitl [HS]; · iexact HS
  isplitl [HD]; · iexact HD
  iexact HO

theorem mem_slot (s : ℕ) (y : S2x1024x2048.Idx) : (y ∈ (Ring.rangeSet 1024 0 1024).biUnion fun r : Fin 1024 => rowSet s r.val) ↔ (y 0).val = s := by
  rw [Finset.mem_biUnion]
  constructor
  · rintro ⟨r, -, hr⟩
    exact (Finset.mem_filter.mp hr).2.1
  · intro h
    refine ⟨⟨(y 1).val, (y 1).isLt⟩, ?_, ?_⟩
    · rw [Ring.mem_rangeSet]; exact ⟨Nat.zero_le _, (y 1).isLt⟩
    · exact Finset.mem_filter.mpr ⟨Finset.mem_univ _, h, rfl⟩

/-- The row buffer is the two slots' rows. -/
theorem scratch_eq (f : S2x1024x2048.Idx → Elt F .f32) :
    (((c : Thread nD τ).loc cc0_scratch0) ↦[Finset.univ]{fullShare} f : sProp 𝕄) = iprop(rows c 0 f ∗ rows c 1 f) := by
  unfold rows
  have e0 := rows_join (F := F) c 0 0 1024 f
  have e1 := rows_join (F := F) c 1 0 1024 f
  have hd : Disjoint ((Ring.rangeSet 1024 0 1024).biUnion fun r : Fin 1024 => rowSet 0 r.val) ((Ring.rangeSet 1024 0 1024).biUnion fun r : Fin 1024 => rowSet 1 r.val) := by
    refine Finset.disjoint_left.mpr fun y h0 h1 => ?_
    rw [mem_slot] at h0 h1
    omega
  have hu : (Finset.univ : Finset S2x1024x2048.Idx) = ((Ring.rangeSet 1024 0 1024).biUnion fun r : Fin 1024 => rowSet 0 r.val) ∪ ((Ring.rangeSet 1024 0 1024).biUnion fun r : Fin 1024 => rowSet 1 r.val) := by
    refine Finset.ext fun y => ⟨fun _ => ?_, fun _ => Finset.mem_univ _⟩
    have h0 : (y 0).val < 2 := (y 0).isLt
    rw [Finset.mem_union, mem_slot, mem_slot]
    omega
  refine (congrArg (fun S => (((c : Thread nD τ).loc cc0_scratch0) ↦[S]{fullShare} f : sProp 𝕄)) hu).trans ?_
  refine (eq_of (pointsTo_union hd).1 (pointsTo_union hd).2).trans ?_
  rw [e0, e1]
  rfl

/-- The table whole is the two slots' tokens and a rest. -/
theorem table_eq (w : S16384x1x2048.Idx → Elt F .f32) :
    (((c : Thread nD τ).loc main_v5) ↦[Finset.univ]{fullShare} w : sProp 𝕄)
      = iprop((((c : Thread nD τ).loc main_v5) ↦[Finset.univ]{Transfers.shareDrop fullShare 2048} w) ∗ toks c w 0 ∗ toks c w 1) := by
  refine (eq_of (Transfers.pointsTo_toks_range fullShare 2048).1 (Transfers.pointsTo_toks_range fullShare 2048).2).trans ?_
  have hu : Finset.range 2048 = (Finset.univ : Finset (Fin 1024)).map ⟨fun t => (0 : Fin 2).val * 1024 + t.val, fun a b h => Fin.ext (by simpa using h)⟩
      ∪ (Finset.univ : Finset (Fin 1024)).map ⟨fun t => (1 : Fin 2).val * 1024 + t.val, fun a b h => Fin.ext (by simpa using h)⟩ := by
    refine Finset.ext fun n => ?_
    simp only [Finset.mem_range, Finset.mem_union, Finset.mem_map, Finset.mem_univ, true_and, Function.Embedding.coeFn_mk]
    constructor
    · intro h
      rcases Nat.lt_or_ge n 1024 with h' | h'
      · exact Or.inl ⟨⟨n, h'⟩, by show 0 * 1024 + n = n; omega⟩
      · exact Or.inr ⟨⟨n - 1024, by omega⟩, by show 1 * 1024 + (n - 1024) = n; omega⟩
    · rintro (⟨t, ht⟩ | ⟨t, ht⟩)
      · have := t.isLt
        change 0 * 1024 + t.val = n at ht; omega
      · have := t.isLt
        change 1 * 1024 + t.val = n at ht; omega
  unfold toks
  rw [hu, BI.bigSep_union, BI.bigSep_map, BI.bigSep_map]
  · rfl
  · refine Finset.disjoint_left.mpr fun n h0 h1 => ?_
    obtain ⟨t, -, ht⟩ := Finset.mem_map.mp h0
    obtain ⟨t', -, ht'⟩ := Finset.mem_map.mp h1
    have := t.isLt
    change 0 * 1024 + t.val = n at ht
    change 1 * 1024 + t'.val = n at ht'
    omega

theorem upto_zero (arg6 : Memref sig .tc .vmem S16x1024 .f32) (O d : S16x1024.Idx → Elt F .f32) : owns c arg6 fullShare d ⊢ (outUpto c arg6 O 0 : sProp 𝕄) := by
  unfold owns outUpto
  iintro ⟨%f, %hf, H⟩
  iexists f
  isplitr
  · ipureintro; exact fun y hy => absurd hy (Nat.not_lt_zero _)
  iexact H

theorem upto_all (arg6 : Memref sig .tc .vmem S16x1024 .f32) (O : S16x1024.Idx → Elt F .f32) : outUpto c arg6 O 16 ⊢ (owns c arg6 fullShare O : sProp 𝕄) := by
  unfold owns outUpto
  iintro ⟨%f, %hf, H⟩
  iexists f
  isplitr
  · ipureintro; exact funext fun y => hf y (y 0).isLt
  iexact H

end Cert.KernelIdeal.Peer
-- ==== Proof.Steps.lean ====
module
public import proofs.«01_k».proof.Proof.Slots

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The first lane of a grid point's tokens among the 128 of its gate block. -/
def lane0 (i : grid0.Coords) : BitVec 32 :=
  let k : BitVec 32 := Scalar.subi (BitVec.ofNat 32 (i 0).val) 1#32
  let m : BitVec 32 := Scalar.select (Scalar.cmpi .eq 8#32 0#32) 1#32 8#32
  let r : BitVec 32 := Scalar.remsi k m
  Scalar.muli (Scalar.select (Scalar.andi (Scalar.xori (Scalar.cmpi .slt r 0#32) (Scalar.cmpi .slt m 0#32)) (Scalar.cmpi .ne r 0#32)) (Scalar.addi r m) r) 16#32

/-- The first grid point: everything is started. -/
def brA (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (hc : k0_cond1 i = 1#1) : Prog (TpuEff nD τ sig (Elt F) Λ₀ .tc) PUnit :=
  Scf.Loop.for k0_t1_loop (k0_t1_ok i hc) () (k0_t1_body (F := F) i arg1 harg1 arg2 harg2 arg3 harg3 arg4 harg4 (Memref.whole main_v5) (Memref.isWhole_whole _) arg6 harg6 (Memref.whole cc0_scratch0) (Memref.isWhole_whole _) cc0_scratch1 hc) >>= fun _ =>
  Scf.Loop.for k0_t3_loop (k0_t3_ok i hc) () (k0_t3_body (F := F) i arg1 harg1 arg2 harg2 arg3 harg3 arg4 harg4 (Memref.whole main_v5) (Memref.isWhole_whole _) arg6 harg6 (Memref.whole cc0_scratch0) (Memref.isWhole_whole _) cc0_scratch1 hc) >>= fun _ => pure ⟨⟩

/-- A grid point in the middle: each slot is waited for, evaluated and started again. -/
def brB (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond2 i = 1#1) : Prog (TpuEff nD τ sig (Elt F) Λ₀ .tc) PUnit :=
  Scf.Loop.for k0_t5_loop (k0_t5_ok i hc) () (k0_t5_body (F := F) i arg1 harg1 arg2 harg2 arg3 harg3 arg4 harg4 (Memref.whole main_v5) (Memref.isWhole_whole _) arg6 harg6 (Memref.whole cc0_scratch0) (Memref.isWhole_whole _) cc0_scratch1 hc) >>= fun _ =>
  Scf.Loop.for k0_t6_loop (k0_t6_ok i hc) () (k0_t6_body (F := F) i arg1 harg1 arg2 harg2 arg3 harg3 arg4 harg4 (Memref.whole main_v5) (Memref.isWhole_whole _) arg6 harg6 (Memref.whole cc0_scratch0) (Memref.isWhole_whole _) cc0_scratch1 lanes v12 hc) >>= fun _ =>
  Scf.Loop.for k0_t8_loop (k0_t8_ok i hc) () (k0_t8_body (F := F) i arg1 harg1 arg2 harg2 arg3 harg3 arg4 harg4 (Memref.whole main_v5) (Memref.isWhole_whole _) arg6 harg6 (Memref.whole cc0_scratch0) (Memref.isWhole_whole _) cc0_scratch1 hc) >>= fun _ =>
  Scf.Loop.for k0_t9_loop (k0_t9_ok i hc) () (k0_t9_body (F := F) i arg1 harg1 arg2 harg2 arg3 harg3 arg4 harg4 (Memref.whole main_v5) (Memref.isWhole_whole _) arg6 harg6 (Memref.whole cc0_scratch0) (Memref.isWhole_whole _) cc0_scratch1 lanes v12 hc) >>= fun _ => pure ⟨⟩

/-- The last grid point: each slot is waited for and evaluated. -/
def brC (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond3 i = 1#1) : Prog (TpuEff nD τ sig (Elt F) Λ₀ .tc) PUnit :=
  Scf.Loop.for k0_t11_loop (k0_t11_ok i hc) () (k0_t11_body (F := F) i arg1 harg1 arg2 harg2 arg3 harg3 arg4 harg4 (Memref.whole main_v5) (Memref.isWhole_whole _) arg6 harg6 (Memref.whole cc0_scratch0) (Memref.isWhole_whole _) cc0_scratch1 hc) >>= fun _ =>
  Scf.Loop.for k0_t12_loop (k0_t12_ok i hc) () (k0_t12_body (F := F) i arg1 harg1 arg2 harg2 arg3 harg3 arg4 harg4 (Memref.whole main_v5) (Memref.isWhole_whole _) arg6 harg6 (Memref.whole cc0_scratch0) (Memref.isWhole_whole _) cc0_scratch1 lanes v12 hc) >>= fun _ =>
  Scf.Loop.for k0_t13_loop (k0_t13_ok i hc) () (k0_t13_body (F := F) i arg1 harg1 arg2 harg2 arg3 harg3 arg4 harg4 (Memref.whole main_v5) (Memref.isWhole_whole _) arg6 harg6 (Memref.whole cc0_scratch0) (Memref.isWhole_whole _) cc0_scratch1 hc) >>= fun _ =>
  Scf.Loop.for k0_t14_loop (k0_t14_ok i hc) () (k0_t14_body (F := F) i arg1 harg1 arg2 harg2 arg3 harg3 arg4 harg4 (Memref.whole main_v5) (Memref.isWhole_whole _) arg6 harg6 (Memref.whole cc0_scratch0) (Memref.isWhole_whole _) cc0_scratch1 lanes v12 hc) >>= fun _ => pure ⟨⟩

theorem body_A (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (h1 : k0_cond1 i = 1#1) (h2 : ¬ k0_cond2 i = 1#1) (h3 : ¬ k0_cond3 i = 1#1) :
    cc0_peer_eval (F := F) i arg1 harg1 arg2 harg2 arg3 harg3 arg4 harg4 (Memref.whole main_v5) (Memref.isWhole_whole _) arg6 harg6 (Memref.whole cc0_scratch0) (Memref.isWhole_whole _) cc0_scratch1 = brA (F := F) i arg1 harg1 arg2 harg2 arg3 harg3 arg4 harg4 arg6 harg6 h1 := by
  rw [cc0_peer_eval_eq_skeleton]
  unfold cc0_peer_eval_skel brA
  simp only [dif_pos h1, dif_neg h2, dif_neg h3]

theorem body_B (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (h1 : ¬ k0_cond1 i = 1#1) (h2 : k0_cond2 i = 1#1) (h3 : ¬ k0_cond3 i = 1#1) :
    cc0_peer_eval (F := F) i arg1 harg1 arg2 harg2 arg3 harg3 arg4 harg4 (Memref.whole main_v5) (Memref.isWhole_whole _) arg6 harg6 (Memref.whole cc0_scratch0) (Memref.isWhole_whole _) cc0_scratch1 = brB (F := F) i arg1 harg1 arg2 harg2 arg3 harg3 arg4 harg4 arg6 harg6 (lane0 i) h2 := by
  rw [cc0_peer_eval_eq_skeleton]
  unfold cc0_peer_eval_skel brB
  simp only [dif_neg h1, dif_pos h2, dif_neg h3, pure_bind, bind_assoc]
  rfl

theorem body_C (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (h1 : ¬ k0_cond1 i = 1#1) (h2 : ¬ k0_cond2 i = 1#1) (h3 : k0_cond3 i = 1#1) :
    cc0_peer_eval (F := F) i arg1 harg1 arg2 harg2 arg3 harg3 arg4 harg4 (Memref.whole main_v5) (Memref.isWhole_whole _) arg6 harg6 (Memref.whole cc0_scratch0) (Memref.isWhole_whole _) cc0_scratch1 = brC (F := F) i arg1 harg1 arg2 harg2 arg3 harg3 arg4 harg4 arg6 harg6 (lane0 i) h3 := by
  rw [cc0_peer_eval_eq_skeleton]
  unfold cc0_peer_eval_skel brC
  simp only [dif_neg h1, dif_neg h2, dif_pos h3, pure_bind, bind_assoc]
  rfl

theorem stepA (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (hc : k0_cond1 i = 1#1)
    (X : S1x1x2048.Idx → Elt F .i32) (hX : ∀ n, eOf X n < 16384) (f : S2x1024x2048.Idx → Elt F .f32) :
    iprop(owns c arg1 fullShare X ∗ free c w 0 ∗ free c w 1 ∗ ((c : Thread nD τ).loc cc0_scratch0) ↦[Finset.univ]{fullShare} f)
      ⊢ wp frame (wpE defs₀ Variants.none (c : Thread nD τ) none) Set.univ (brA (F := F) i arg1 harg1 arg2 harg2 arg3 harg3 arg4 harg4 arg6 harg6 hc)
        fun _ => iprop(owns c arg1 fullShare X ∗ busy c w (eOf X) 0 ∗ busy c w (eOf X) 1) := by
  rw [scratch_eq]
  unfold brA rows
  rw [wp_bind]
  iintro ⟨H1, HF0, HF1, HR0, HR1⟩
  imod (slot_start c w (eOf X) 0) $$ HF0 with ⟨HI0, HO0⟩
  imod (slot_start c w (eOf X) 1) $$ HF1 with ⟨HI1, HO1⟩
  iapply (lend1 c w i arg1 harg1 arg2 harg2 arg3 harg3 arg4 harg4 arg6 harg6 X hX hc) $$ [H1 HI0 HR0]
  · isplitl [H1]; · iexact H1
    iapply (issAt_lend c w (eOf X) 0 0 1024 f) $$ [HI0 HR0]
    isplitl [HI0]; · iexact HI0
    iexact HR0
  iintro ⟨H1, HI0⟩
  rw [wp_bind]
  iapply (lend3 c w i arg1 harg1 arg2 harg2 arg3 harg3 arg4 harg4 arg6 harg6 X hX hc) $$ [H1 HI1 HR1]
  · isplitl [H1]; · iexact H1
    iapply (issAt_lend c w (eOf X) 1 0 1024 f) $$ [HI1 HR1]
    isplitl [HI1]; · iexact HI1
    iexact HR1
  iintro ⟨H1, HI1⟩
  sl_step
  isplitl [H1]; · iexact H1
  isplitl [HI0 HO0]
  · iapply (slot_busy c w (eOf X) 0) $$ [HI0 HO0]
    isplitl [HI0]; · iexact HI0
    iexact HO0
  iapply (slot_busy c w (eOf X) 1) $$ [HI1 HO1]
  isplitl [HI1]; · iexact HI1
  iexact HO1

theorem tokSt_out (w : S16384x1x2048.Idx → Elt F .f32) (v12 : BitVec 32) (e e' : ℕ → ℕ) (arg1 : Memref sig .tc .smem S1x1x2048 .i32) (arg2 : Memref sig .tc .vmem S16x1024 .f32) (arg3 : Memref sig .tc .vmem S1x128x128 .f32) (arg4 arg6 : Memref sig .tc .vmem S16x1024 .f32)
    (X : S1x1x2048.Idx → Elt F .i32) (H : S16x1024.Idx → Elt F .f32) (gt : S1x128x128.Idx → Elt F .f32) (X4 : S16x1024.Idx → Elt F .f32) (s : Fin 2) :
    tokSt c w v12 e e' arg1 arg2 arg3 arg4 arg6 X H gt X4 s 8 ⊢ iprop(owns c arg1 fullShare X ∗ owns c arg2 fullShare H ∗ owns c arg3 fullShare gt ∗ owns c arg4 fullShare X4
      ∗ outUpto c arg6 (outAt v12 (gath w e) H gt X4) (8 * s.val + 8) ∗ issAt c w e' s 1024 1024) := by
  unfold tokSt
  iintro ⟨H1, H2, H3, H4, HO, HI, -⟩
  isplitl [H1]; · iexact H1
  isplitl [H2]; · iexact H2
  isplitl [H3]; · iexact H3
  isplitl [H4]; · iexact H4
  isplitl [HO]; · iexact HO
  iexact HI

theorem tokSt_in (w : S16384x1x2048.Idx → Elt F .f32) (v12 : BitVec 32) (e e' : ℕ → ℕ) (arg1 : Memref sig .tc .smem S1x1x2048 .i32) (arg2 : Memref sig .tc .vmem S16x1024 .f32) (arg3 : Memref sig .tc .vmem S1x128x128 .f32) (arg4 arg6 : Memref sig .tc .vmem S16x1024 .f32)
    (X : S1x1x2048.Idx → Elt F .i32) (H : S16x1024.Idx → Elt F .f32) (gt : S1x128x128.Idx → Elt F .f32) (X4 : S16x1024.Idx → Elt F .f32) (s : Fin 2) :
    iprop(owns c arg1 fullShare X ∗ owns c arg2 fullShare H ∗ owns c arg3 fullShare gt ∗ owns c arg4 fullShare X4
      ∗ outUpto c arg6 (outAt v12 (gath w e) H gt X4) (8 * s.val) ∗ issAt c w e' s 0 0 ∗ rows c s (gath w e)) ⊢ tokSt c w v12 e e' arg1 arg2 arg3 arg4 arg6 X H gt X4 s 0 :=
  Entails.refl _

theorem stepB (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond2 i = 1#1) (e : ℕ → ℕ)
    (X : S1x1x2048.Idx → Elt F .i32) (hX : ∀ n, eOf X n < 16384) (H : S16x1024.Idx → Elt F .f32) (gt : S1x128x128.Idx → Elt F .f32) (X4 d : S16x1024.Idx → Elt F .f32) :
    iprop(owns c arg1 fullShare X ∗ owns c arg2 fullShare H ∗ owns c arg3 fullShare gt ∗ owns c arg4 fullShare X4 ∗ owns c arg6 fullShare d
        ∗ busy c w e 0 ∗ busy c w e 1 ∗ (∃ W, owes (c : Thread nD τ) 0 W))
      ⊢ wp frame (wpE defs₀ Variants.none (c : Thread nD τ) none) Set.univ (brB (F := F) i arg1 harg1 arg2 harg2 arg3 harg3 arg4 harg4 arg6 harg6 v12 hc)
        fun _ => iprop(owns c arg1 fullShare X ∗ owns c arg2 fullShare H ∗ owns c arg3 fullShare gt ∗ owns c arg4 fullShare X4 ∗ owns c arg6 fullShare (outAt v12 (gath w e) H gt X4)
          ∗ busy c w (eOf X) 0 ∗ busy c w (eOf X) 1 ∗ (∃ W, owes (c : Thread nD τ) 0 W)) := by
  unfold brB
  rw [wp_bind]
  have hb0 : busy c w e 0 = iprop(bat c w e 0 1024 0 ∗ offs c w e 0) := rfl
  have hb1 : busy c w e 1 = iprop(bat c w e 1 1024 0 ∗ offs c w e 1) := rfl
  rw [hb0, hb1]
  iintro ⟨H1, H2, H3, H4, H6, ⟨HB0, HO0⟩, ⟨HB1, HO1⟩, HW⟩
  iapply (wait5 c w i arg1 harg1 arg2 harg2 arg3 harg3 arg4 harg4 arg6 harg6 e hc) $$ [HB0 HW]
  · isplitl [HB0]; · iexact HB0
    iexact HW
  iintro ⟨HB0, HW⟩
  rw [wp_bind]
  imod (slot_done c w e 0) $$ [HB0 HO0] with ⟨HR0, HF0⟩
  · isplitl [HB0]; · iexact HB0
    iexact HO0
  imod (slot_start c w (eOf X) 0) $$ HF0 with ⟨HI0, HO0⟩
  iapply (tokens6 c w i arg1 harg1 arg2 harg2 arg3 harg3 arg4 harg4 arg6 harg6 v12 hc e X hX H gt X4) $$ [H1 H2 H3 H4 H6 HI0 HR0]
  · iapply (tokSt_in c w v12 e (eOf X) arg1 arg2 arg3 arg4 arg6 X H gt X4 0) $$ [H1 H2 H3 H4 H6 HI0 HR0]
    isplitl [H1]; · iexact H1
    isplitl [H2]; · iexact H2
    isplitl [H3]; · iexact H3
    isplitl [H4]; · iexact H4
    isplitl [H6]; · iapply (upto_zero c arg6 _ d) $$ [H6]; iexact H6
    isplitl [HI0]; · iexact HI0
    iexact HR0
  iintro HT
  ihave HT' := (tokSt_out c w v12 e (eOf X) arg1 arg2 arg3 arg4 arg6 X H gt X4 0) $$ HT
  icases HT' with ⟨H1, H2, H3, H4, H6, HI0⟩
  rw [wp_bind]
  iapply (wait8 c w i arg1 harg1 arg2 harg2 arg3 harg3 arg4 harg4 arg6 harg6 e hc) $$ [HB1 HW]
  · isplitl [HB1]; · iexact HB1
    iexact HW
  iintro ⟨HB1, HW⟩
  rw [wp_bind]
  imod (slot_done c w e 1) $$ [HB1 HO1] with ⟨HR1, HF1⟩
  · isplitl [HB1]; · iexact HB1
    iexact HO1
  imod (slot_start c w (eOf X) 1) $$ HF1 with ⟨HI1, HO1⟩
  iapply (tokens9 c w i arg1 harg1 arg2 harg2 arg3 harg3 arg4 harg4 arg6 harg6 v12 hc e X hX H gt X4) $$ [H1 H2 H3 H4 H6 HI1 HR1]
  · iapply (tokSt_in c w v12 e (eOf X) arg1 arg2 arg3 arg4 arg6 X H gt X4 1) $$ [H1 H2 H3 H4 H6 HI1 HR1]
    isplitl [H1]; · iexact H1
    isplitl [H2]; · iexact H2
    isplitl [H3]; · iexact H3
    isplitl [H4]; · iexact H4
    isplitl [H6]; · iexact H6
    isplitl [HI1]; · iexact HI1
    iexact HR1
  iintro HT
  ihave HT' := (tokSt_out c w v12 e (eOf X) arg1 arg2 arg3 arg4 arg6 X H gt X4 1) $$ HT
  icases HT' with ⟨H1, H2, H3, H4, H6, HI1⟩
  sl_step
  isplitl [H1]; · iexact H1
  isplitl [H2]; · iexact H2
  isplitl [H3]; · iexact H3
  isplitl [H4]; · iexact H4
  isplitl [H6]; · iapply (upto_all c arg6 (outAt v12 (gath w e) H gt X4)) $$ [H6]; iexact H6
  isplitl [HI0 HO0]
  · iapply (slot_busy c w (eOf X) 0) $$ [HI0 HO0]
    isplitl [HI0]; · iexact HI0
    iexact HO0
  isplitl [HI1 HO1]
  · iapply (slot_busy c w (eOf X) 1) $$ [HI1 HO1]
    isplitl [HI1]; · iexact HI1
    iexact HO1
  iexact HW

theorem stepC (w : S16384x1x2048.Idx → Elt F .f32) (i : grid0.Coords) (arg1 : Memref sig .tc .smem S1x1x2048 .i32) (harg1 : arg1.IsWhole) (arg2 : Memref sig .tc .vmem S16x1024 .f32) (harg2 : arg2.IsWhole) (arg3 : Memref sig .tc .vmem S1x128x128 .f32) (harg3 : arg3.IsWhole) (arg4 : Memref sig .tc .vmem S16x1024 .f32) (harg4 : arg4.IsWhole) (arg6 : Memref sig .tc .vmem S16x1024 .f32) (harg6 : arg6.IsWhole) (v12 : BitVec 32) (hc : k0_cond3 i = 1#1) (e : ℕ → ℕ)
    (H : S16x1024.Idx → Elt F .f32) (gt : S1x128x128.Idx → Elt F .f32) (X4 d : S16x1024.Idx → Elt F .f32) :
    iprop(owns c arg2 fullShare H ∗ owns c arg3 fullShare gt ∗ owns c arg4 fullShare X4 ∗ owns c arg6 fullShare d
        ∗ busy c w e 0 ∗ busy c w e 1 ∗ (∃ W, owes (c : Thread nD τ) 0 W))
      ⊢ wp frame (wpE defs₀ Variants.none (c : Thread nD τ) none) Set.univ (brC (F := F) i arg1 harg1 arg2 harg2 arg3 harg3 arg4 harg4 arg6 harg6 v12 hc)
        fun _ => iprop(owns c arg2 fullShare H ∗ owns c arg3 fullShare gt ∗ owns c arg4 fullShare X4 ∗ owns c arg6 fullShare (outAt v12 (gath w e) H gt X4)
          ∗ free c w 0 ∗ free c w 1 ∗ (((c : Thread nD τ).loc cc0_scratch0) ↦[Finset.univ]{fullShare} (gath w e)) ∗ (∃ W, owes (c : Thread nD τ) 0 W)) := by
  unfold brC
  rw [wp_bind, scratch_eq]
  have hb0 : busy c w e 0 = iprop(bat c w e 0 1024 0 ∗ offs c w e 0) := rfl
  have hb1 : busy c w e 1 = iprop(bat c w e 1 1024 0 ∗ offs c w e 1) := rfl
  rw [hb0, hb1]
  iintro ⟨H2, H3, H4, H6, ⟨HB0, HO0⟩, ⟨HB1, HO1⟩, HW⟩
  iapply (wait11 c w i arg1 harg1 arg2 harg2 arg3 harg3 arg4 harg4 arg6 harg6 e hc) $$ [HB0 HW]
  · isplitl [HB0]; · iexact HB0
    iexact HW
  iintro ⟨HB0, HW⟩
  rw [wp_bind]
  imod (slot_done c w e 0) $$ [HB0 HO0] with ⟨HR0, HF0⟩
  · isplitl [HB0]; · iexact HB0
    iexact HO0
  iapply (tokens12 c w i arg1 harg1 arg2 harg2 arg3 harg3 arg4 harg4 arg6 harg6 v12 hc e H gt X4) $$ [H2 H3 H4 H6 HR0]
  · unfold tokEnd
    isplitl [H2]; · iexact H2
    isplitl [H3]; · iexact H3
    isplitl [H4]; · iexact H4
    isplitl [H6]; · iapply (upto_zero c arg6 _ d) $$ [H6]; iexact H6
    unfold rows; iexact HR0
  unfold tokEnd
  iintro ⟨H2, H3, H4, H6, HR0⟩
  rw [wp_bind]
  iapply (wait13 c w i arg1 harg1 arg2 harg2 arg3 harg3 arg4 harg4 arg6 harg6 e hc) $$ [HB1 HW]
  · isplitl [HB1]; · iexact HB1
    iexact HW
  iintro ⟨HB1, HW⟩
  rw [wp_bind]
  imod (slot_done c w e 1) $$ [HB1 HO1] with ⟨HR1, HF1⟩
  · isplitl [HB1]; · iexact HB1
    iexact HO1
  iapply (tokens14 c w i arg1 harg1 arg2 harg2 arg3 harg3 arg4 harg4 arg6 harg6 v12 hc e H gt X4) $$ [H2 H3 H4 H6 HR1]
  · unfold tokEnd
    isplitl [H2]; · iexact H2
    isplitl [H3]; · iexact H3
    isplitl [H4]; · iexact H4
    isplitl [H6]; · iexact H6
    unfold rows; iexact HR1
  unfold tokEnd
  iintro ⟨H2, H3, H4, H6, HR1⟩
  sl_step
  isplitl [H2]; · iexact H2
  isplitl [H3]; · iexact H3
  isplitl [H4]; · iexact H4
  isplitl [H6]; · iapply (upto_all c arg6 (outAt v12 (gath w e) H gt X4)) $$ [H6]; iexact H6
  isplitl [HF0]; · iexact HF0
  isplitl [HF1]; · iexact HF1
  isplitl [HR0 HR1]
  · unfold rows
    isplitl [HR0]; · iexact HR0
    iexact HR1
  iexact HW

end Cert.KernelIdeal.Peer
-- ==== Proof.Launch.lean ====
module
public import proofs.«01_k».proof.Proof.Steps
public import proofs.«01_k».proof.Proof.Gen.KernelIdeal.Frame
public import Idealize.ShloMosaic.Lib.Pipeline.FrameBody

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points of the grid -/

theorem N_cfg : cfg0.N = 2049 := N_0

/-- Point number `n`. -/
def pt (n : ℕ) : Fin cfg0.N := ⟨min n 2048, N_cfg ▸ (by omega : min n 2048 < 2049)⟩

theorem pt_of (t : Fin cfg0.N) : pt t.val = t := by
  apply Fin.ext
  have h : t.val < 2049 := lt_of_lt_of_eq t.isLt N_cfg
  show min t.val 2048 = t.val
  omega

theorem coord (t : Fin cfg0.N) : (grid0.coords t 0).val = t.val := by
  have h : t.val < 2049 := lt_of_lt_of_eq t.isLt N_cfg
  rw [Pipeline.Grid.coords_val t 0 (S := 1) (B := 2049) (by decide) rfl]
  omega

theorem conds_all : ∀ n < 2049,
    ((Scalar.cmpi .ne (Scalar.extui (Scalar.cmpi .eq (BitVec.ofNat 32 n) 0#32) : BitVec 32) 0#32 == 1#1) = decide (n = 0))
    ∧ ((Scalar.cmpi .ne (Scalar.extui (Scalar.andi (Scalar.cmpi .sgt (BitVec.ofNat 32 n) 0#32) (Scalar.cmpi .slt (BitVec.ofNat 32 n) 2048#32)) : BitVec 32) 0#32 == 1#1) = decide (0 < n ∧ n < 2048))
    ∧ ((Scalar.cmpi .ne (Scalar.extui (Scalar.cmpi .eq (BitVec.ofNat 32 n) 2048#32) : BitVec 32) 0#32 == 1#1) = decide (n = 2048)) := by
  decide +kernel

theorem cond1_iff (t : Fin cfg0.N) : k0_cond1 (grid0.coords t) = 1#1 ↔ t.val = 0 := by
  have h := (conds_all t.val (N_cfg ▸ t.isLt)).1
  rw [← coord t] at h ⊢
  rw [← beq_iff_eq, ← decide_eq_true_iff (p := (grid0.coords t 0).val = 0), ← h]
  exact Iff.rfl

theorem cond2_iff (t : Fin cfg0.N) : k0_cond2 (grid0.coords t) = 1#1 ↔ (0 < t.val ∧ t.val < 2048) := by
  have h := (conds_all t.val (N_cfg ▸ t.isLt)).2.1
  rw [← coord t] at h ⊢
  rw [← beq_iff_eq, ← decide_eq_true_iff (p := 0 < (grid0.coords t 0).val ∧ (grid0.coords t 0).val < 2048), ← h]
  exact Iff.rfl

theorem cond3_iff (t : Fin cfg0.N) : k0_cond3 (grid0.coords t) = 1#1 ↔ t.val = 2048 := by
  have h := (conds_all t.val (N_cfg ▸ t.isLt)).2.2
  rw [← coord t] at h ⊢
  rw [← beq_iff_eq, ← decide_eq_true_iff (p := (grid0.coords t 0).val = 2048), ← h]
  exact Iff.rfl

theorem idle_first (t : Fin cfg0.N) (h : t.val = 0) : cfg0.idle 4 (cfg0.grid.coords t) = true := by
  have h2 : ¬ k0_cond2 (grid0.coords t) = 1#1 := fun h' => by have := (cond2_iff t).mp h'; omega
  have h3 : ¬ k0_cond3 (grid0.coords t) = 1#1 := fun h' => by have := (cond3_iff t).mp h'; omega
  show (!(k0_cond2 (grid0.coords t) == 1#1) && !(k0_cond3 (grid0.coords t) == 1#1)) = true
  rw [beq_eq_false_iff_ne.mpr h2, beq_eq_false_iff_ne.mpr h3]; rfl

theorem idle_later (t : Fin cfg0.N) (h : t.val ≠ 0) : cfg0.idle 4 (cfg0.grid.coords t) = false := by
  have hN : t.val < 2049 := N_cfg ▸ t.isLt
  show (!(k0_cond2 (grid0.coords t) == 1#1) && !(k0_cond3 (grid0.coords t) == 1#1)) = false
  by_cases h3 : t.val = 2048
  · rw [(cond3_iff t).mpr h3]; simp
  · rw [(cond2_iff t).mpr ⟨by omega, by omega⟩]; rfl

theorem flush_first (t : Fin cfg0.N) (h : t.val = 0) : (cfg0.win 4).flush t = false := by
  have ht : t = pt 0 := by rw [← h, pt_of]
  rw [ht]
  decide +kernel

/-! ## @main up to the region -/

abbrev V (c : Dev nD) (b : Ref sig .tc) : Buf (Elt F) ((c : Thread nD τ).loc b) := Gen.V m c b

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The two cells of the kernel's own transfers. -/
abbrev osem0 : Fin 2 → SemLoc sig := fun s => SemLoc.dma (sem s)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (sem 0)) 0 ∗ semVal ((c : Thread nD τ), SemLoc.dma (sem 1)) 0) := by
  rw [Pipeline.ownSems0_eq_of_list c osem0 [0, 1] (by decide) (by decide)]; rfl

/-- The table, which the kernel's transfers read where it lies. -/
def H0 : Finset (Ref sig .tc) := {main_v5}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_v5) ↦{fullShare} V m c main_v5) := by
  rw [BI.bigSep_eq_bigSepL_of_eq [main_v5] (by decide) (by decide)]; rfl

theorem PhiD0_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f)
          ∗ (∃ r, prngReg c r)
          ∗ (semVal ((c : Thread nD τ), SemLoc.dma (sem 0)) 0 ∗ semVal ((c : Thread nD τ), SemLoc.dma (sem 1)) 0)
          ∗ (((c : Thread nD τ).loc main_v5) ↦{fullShare} V m c main_v5)) := by
  rw [Pipeline.ΦD_eq, scopedRest0_eq, ownSems00_eq, hbmPts0_eq]

/-! ## What a point finds and leaves -/

abbrev ib0 (c : Dev nD) (t : Fin cfg0.N) : S1x1x2048.Idx → Elt F .i32 := Gen.iblk m c 0 t
abbrev ib1 (c : Dev nD) (t : Fin cfg0.N) : S16x1024.Idx → Elt F .f32 := Gen.iblk m c 1 t
abbrev ib2 (c : Dev nD) (t : Fin cfg0.N) : S1x128x128.Idx → Elt F .f32 := Gen.iblk m c 2 t
abbrev ib3 (c : Dev nD) (t : Fin cfg0.N) : S16x1024.Idx → Elt F .f32 := Gen.iblk m c 3 t

/-- The table as the region finds it. -/
abbrev tab (c : Dev nD) : S16384x1x2048.Idx → Elt F .f32 := V m c main_v5
/-- The words of point `n`'s index block. -/
def wds (c : Dev nD) (n : ℕ) : ℕ → ℕ := eOf (ib0 m c (pt n))

/-- Between point `n` and the next: both slots in flight with point `n`'s words. -/
def mid (c : Dev nD) (n : ℕ) : sProp 𝕄 :=
  iprop(busy c (tab m c) (wds m c n) 0 ∗ busy c (tab m c) (wds m c n) 1
    ∗ (((c : Thread nD τ).loc main_v5) ↦[Finset.univ]{Transfers.shareDrop fullShare 2048} tab m c) ∗ (∃ r, prngReg c r))

def stAt (c : Dev nD) (n : ℕ) (_ : n ≤ cfg0.N) : sProp 𝕄 :=
  if n = 0 ∨ n = 2049 then Pipeline.ΦD osem0 spec0 H0 (V m) c else mid m c (n - 1)

/-- The output block that point `t` writes. -/
def outB (c : Dev nD) (t : Fin cfg0.N) : S16x1024.Idx → Elt F .f32 :=
  outAt (lane0 (grid0.coords t)) (gath (tab m c) (wds m c (t.val - 1))) (ib1 m c t) (ib2 m c t) (ib3 m c t)

def dats (_ : Fin 1) (c : Dev nD) : Dat τ (Elt F) Unit ℕ (Pipeline.UD sig nD τ) ℕ cfg0 c where
  A w := V m c (Pipeline.arrRef spec0 w)
  after w t := match w with
    | ⟨0, _⟩ => ib0 m c t
    | ⟨1, _⟩ => ib1 m c t
    | ⟨2, _⟩ => ib2 m c t
    | ⟨3, _⟩ => ib3 m c t
    | ⟨4, _⟩ => outB m c t
  Φ t := stAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_cast (c : Dev nD) (t : Fin cfg0.N) : (dats m 0 c).Φ t.castSucc = stAt m c t.val (Nat.le_of_lt t.isLt) := by
  dsimp only [dats]; exact Pipeline.Dat.Φ_castSucc (stAt m c) t
theorem Phi_succ (c : Dev nD) (t : Fin cfg0.N) : (dats m 0 c).Φ t.succ = stAt m c (t.val + 1) t.isLt := by
  dsimp only [dats]; rfl

theorem after_0 (c : Dev nD) (t : Fin cfg0.N) : (dats m 0 c).after 0 t = ib0 m c t := by dsimp only [dats]
theorem before_0 (c : Dev nD) (t : Fin cfg0.N) (d) : (dats m 0 c).before 0 t d = ib0 m c t :=
  ((dats m 0 c).before_in_eq_fetched 0 rfl (fun _ => rfl) (fun _ _ _ => rfl) (fun t => by rw [after_0]; unfold Dat.blockOf ib0 Gen.iblk; rw [A_eq]; try rfl) t d).trans
    (by unfold Dat.fetched Dat.blockOf ib0 Gen.iblk; rw [A_eq]; try rfl)
theorem after_1 (c : Dev nD) (t : Fin cfg0.N) : (dats m 0 c).after 1 t = ib1 m c t := by dsimp only [dats]
theorem before_1 (c : Dev nD) (t : Fin cfg0.N) (d) : (dats m 0 c).before 1 t d = ib1 m c t :=
  ((dats m 0 c).before_in_eq_fetched 1 rfl (fun _ => rfl) (fun _ _ _ => rfl) (fun t => by rw [after_1]; unfold Dat.blockOf ib1 Gen.iblk; rw [A_eq]; try rfl) t d).trans
    (by unfold Dat.fetched Dat.blockOf ib1 Gen.iblk; rw [A_eq]; try rfl)
theorem after_2 (c : Dev nD) (t : Fin cfg0.N) : (dats m 0 c).after 2 t = ib2 m c t := by dsimp only [dats]
theorem before_2 (c : Dev nD) (t : Fin cfg0.N) (d) : (dats m 0 c).before 2 t d = ib2 m c t :=
  ((dats m 0 c).before_in_eq_fetched 2 rfl (fun _ => rfl) (fun _ _ _ => rfl) (fun t => by rw [after_2]; unfold Dat.blockOf ib2 Gen.iblk; rw [A_eq]; try rfl) t d).trans
    (by unfold Dat.fetched Dat.blockOf ib2 Gen.iblk; rw [A_eq]; try rfl)
theorem after_3 (c : Dev nD) (t : Fin cfg0.N) : (dats m 0 c).after 3 t = ib3 m c t := by dsimp only [dats]
theorem before_3 (c : Dev nD) (t : Fin cfg0.N) (d) : (dats m 0 c).before 3 t d = ib3 m c t :=
  ((dats m 0 c).before_in_eq_fetched 3 rfl (fun _ => rfl) (fun _ _ _ => rfl) (fun t => by rw [after_3]; unfold Dat.blockOf ib3 Gen.iblk; rw [A_eq]; try rfl) t d).trans
    (by unfold Dat.fetched Dat.blockOf ib3 Gen.iblk; rw [A_eq]; try rfl)
theorem after_4 (c : Dev nD) (t : Fin cfg0.N) : (dats m 0 c).after 4 t = outB m c t := by dsimp only [dats]

end Cert.KernelIdeal.Peer
-- ==== Proof.Frame.lean ====
module
public import proofs.«01_k».proof.Proof.Launch

@[expose] public section

noncomputable section

namespace Cert.KernelIdeal.Peer

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of every index block names a row of the table. -/
def InRange : Prop := ∀ (c : Dev nD) (t : Fin cfg0.N) (n : ℕ), eOf (ib0 m c t) n < 16384

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
/-- What the body leaves, the output's buffer at `P`. -/
def bodyPost (c : Dev nD) (t : Fin cfg0.N) (P : sProp 𝕄) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ P)

theorem owes_open (c : Dev nD) (t : Fin (cfg0.N + 1)) : (dats m 0 c).owesAt () t ⊢ (iprop(∃ W, owes (c : Thread nD τ) 0 W) : sProp 𝕄) := by
  unfold Dat.owesAt Pipeline.owesWithin
  rw [show (dats m 0 c).owed t = 0 from rfl]
  iintro ⟨%W, -, HW⟩
  iexists W; iexact HW
theorem owes_close (c : Dev nD) (t : Fin (cfg0.N + 1)) : (iprop(∃ W, owes (c : Thread nD τ) 0 W) : sProp 𝕄) ⊢ (dats m 0 c).owesAt () t := by
  unfold Dat.owesAt Pipeline.owesWithin
  rw [show (dats m 0 c).owed t = 0 from rfl]
  iintro ⟨%W, HW⟩
  iexists W; isplitr; · ipureintro; exact fun _ _ => Or.inl trivial
  iexact HW

theorem stAt_mid (c : Dev nD) (n : ℕ) (h : n ≤ cfg0.N) (h0 : n ≠ 0) (h1 : n ≠ 2049) : stAt m c n h = mid m c (n - 1) := by
  unfold stAt; rw [if_neg (by omega)]
theorem stAt_end (c : Dev nD) (n : ℕ) (h : n ≤ cfg0.N) (h0 : n = 0 ∨ n = 2049) : stAt m c n h = Pipeline.ΦD osem0 spec0 H0 (V m) c := by
  unfold stAt; rw [if_pos h0]

theorem cps (c : Dev nD) {P Q : sProp 𝕄} {p : Prog (TpuEff nD τ sig (Elt F) Λ₀ .tc) PUnit}
    (h : P ⊢ wp frame (wpE (defs₀ (F := F)) Variants.none (c : Thread nD τ) none) Set.univ p fun _ => Q) (K : PUnit → sProp 𝕄) :
    P ⊢ iprop((Q -∗ K ⟨⟩) -∗ wp frame (wpE (defs₀ (F := F)) Variants.none (c : Thread nD τ) none) Set.univ p K) := by
  have key : (iprop(P ∗ (Q -∗ K ⟨⟩)) : sProp 𝕄)
      ⊢ (iprop(wp frame (wpE (defs₀ (F := F)) Variants.none (c : Thread nD τ) none) Set.univ p (fun _ => Q) ∗ (∀ a, Q -∗ K a)) : sProp 𝕄) := by
    iintro ⟨HP, HK⟩
    isplitl [HP]
    · iapply h $$ [HP]; iexact HP
    iintro %a
    iexact HK
  exact BI.wand_intro (BI.Entails.trans key (wp_wand_r frame (wpE (defs₀ (F := F)) Variants.none (c : Thread nD τ) none) Set.univ (Q := fun _ => Q)))

theorem body_first (hr : InRange m) (c : Dev nD) (t : Fin cfg0.N) (h : t.val = 0) :
    bodyPre m c t ⊢ wp frame (wpE (defs₀ (F := F)) Variants.none c none) Set.univ (bodyAt0 t)
      (fun _ => bodyPost m c t iprop(∃ d, owns (c : Thread nD τ) (win0_4.stage (cfg0.slots t 4)) fullShare ((dats m 0 c).before 4 t d))) := by
  have hN : t.val < 2049 := lt_of_lt_of_eq t.isLt N_cfg
  unfold bodyPre bodyPost bodyAt0
  rw [body_A (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) ((cond1_iff t).mpr h) (fun h' => by have := (cond2_iff t).mp h'; omega) (fun h' => by have := (cond3_iff t).mp h'; omega)]
  rw [Phi_cast, Phi_succ, stAt_end m c _ _ (Or.inl h), stAt_mid m c _ _ (by omega) (by omega), PhiD0_eq, table_eq c (tab m c)]
  simp only [before_0, before_1, before_2, before_3, after_0, after_1, after_2, after_3]
  have hm : mid m c (t.val + 1 - 1) = iprop(busy c (tab m c) (eOf (ib0 m c t)) 0 ∗ busy c (tab m c) (eOf (ib0 m c t)) 1
    ∗ (((c : Thread nD τ).loc main_v5) ↦[Finset.univ]{Transfers.shareDrop fullShare 2048} tab m c) ∗ (∃ r, prngReg c r)) := by
    unfold mid wds; rw [Nat.add_sub_cancel, pt_of]
  rw [hm]
  iintro ⟨⟨⟨%f, HS⟩, Hg, ⟨Hs0, Hs1⟩, ⟨HD, HT0, HT1⟩⟩, HO, ⟨%d0, H0⟩, ⟨%d1, H1⟩, ⟨%d2, H2⟩, ⟨%d3, H3⟩, H4⟩
  iapply (cps c (stepA c (tab m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) ((cond1_iff t).mpr h) (ib0 m c t) (hr c t) f) _) $$ [H0 HS Hs0 Hs1 HT0 HT1]
  · isplitl [H0]; · iexact H0
    isplitl [Hs0 HT0]
    · unfold free
      isplitl [Hs0]; · iexact Hs0
      iexact HT0
    isplitl [Hs1 HT1]
    · unfold free
      isplitl [Hs1]; · iexact Hs1
      iexact HT1
    iexact HS
  iintro ⟨H0, HB0, HB1⟩
  isplitl [HB0 HB1 HD Hg]
  · isplitl [HB0]; · iexact HB0
    isplitl [HB1]; · iexact HB1
    isplitl [HD]; · iexact HD
    iexact Hg
  isplitl [HO]
  · iapply (owes_close m c t.succ) $$ [HO]
    iapply (owes_open m c t.castSucc) $$ [HO]
    iexact HO
  isplitl [H0]; · iexact H0
  isplitl [H1]; · iexact H1
  isplitl [H2]; · iexact H2
  isplitl [H3]; · iexact H3
  iexact H4

theorem body_mid (hr : InRange m) (c : Dev nD) (t : Fin cfg0.N) (h0 : t.val ≠ 0) (h1 : t.val ≠ 2048) :
    bodyPre m c t ⊢ wp frame (wpE (defs₀ (F := F)) Variants.none c none) Set.univ (bodyAt0 t)
      (fun _ => bodyPost m c t (owns (c : Thread nD τ) (win0_4.stage (cfg0.slots t 4)) fullShare ((dats m 0 c).after 4 t))) := by
  have hN : t.val < 2049 := lt_of_lt_of_eq t.isLt N_cfg
  unfold bodyPre bodyPost bodyAt0
  have hc := (cond2_iff t).mpr ⟨by omega, by omega⟩
  rw [body_B (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (fun h' => by have := (cond1_iff t).mp h'; omega) hc (fun h' => by have := (cond3_iff t).mp h'; omega)]
  rw [Phi_cast, Phi_succ, stAt_mid m c _ _ h0 (by omega), stAt_mid m c _ _ (by omega) (by omega), after_4]
  simp only [before_0, before_1, before_2, before_3, after_0, after_1, after_2, after_3]
  have hm : mid m c (t.val + 1 - 1) = iprop(busy c (tab m c) (eOf (ib0 m c t)) 0 ∗ busy c (tab m c) (eOf (ib0 m c t)) 1
    ∗ (((c : Thread nD τ).loc main_v5) ↦[Finset.univ]{Transfers.shareDrop fullShare 2048} tab m c) ∗ (∃ r, prngReg c r)) := by
    unfold mid wds; rw [Nat.add_sub_cancel, pt_of]
  rw [hm]
  unfold mid outB
  iintro ⟨⟨HB0, HB1, HD, Hg⟩, HO, ⟨%d0, H0⟩, ⟨%d1, H1⟩, ⟨%d2, H2⟩, ⟨%d3, H3⟩, ⟨%d4, H4⟩⟩
  iapply (cps c (stepB c (tab m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (lane0 (grid0.coords t)) hc (wds m c (t.val - 1)) (ib0 m c t) (hr c t) (ib1 m c t) (ib2 m c t) (ib3 m c t) ((dats m 0 c).before 4 t d4)) _) $$ [H0 H1 H2 H3 H4 HB0 HB1 HO]
  · isplitl [H0]; · iexact H0
    isplitl [H1]; · iexact H1
    isplitl [H2]; · iexact H2
    isplitl [H3]; · iexact H3
    isplitl [H4]; · iexact H4
    isplitl [HB0]; · iexact HB0
    isplitl [HB1]; · iexact HB1
    iapply (owes_open m c t.castSucc) $$ [HO]
    iexact HO
  iintro ⟨H0, H1, H2, H3, H4, HB0, HB1, HO⟩
  isplitl [HB0 HB1 HD Hg]
  · isplitl [HB0]; · iexact HB0
    isplitl [HB1]; · iexact HB1
    isplitl [HD]; · iexact HD
    iexact Hg
  isplitl [HO]
  · iapply (owes_close m c t.succ) $$ [HO]
    iexact HO
  isplitl [H0]; · iexact H0
  isplitl [H1]; · iexact H1
  isplitl [H2]; · iexact H2
  isplitl [H3]; · iexact H3
  iexact H4

theorem body_last (hr : InRange m) (c : Dev nD) (t : Fin cfg0.N) (h1 : t.val = 2048) :
    bodyPre m c t ⊢ wp frame (wpE (defs₀ (F := F)) Variants.none c none) Set.univ (bodyAt0 t)
      (fun _ => bodyPost m c t (owns (c : Thread nD τ) (win0_4.stage (cfg0.slots t 4)) fullShare ((dats m 0 c).after 4 t))) := by
  unfold bodyPre bodyPost bodyAt0
  have hc := (cond3_iff t).mpr h1
  rw [body_C (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (fun h' => by have := (cond1_iff t).mp h'; omega) (fun h' => by have := (cond2_iff t).mp h'; omega) hc]
  rw [Phi_cast, Phi_succ, stAt_mid m c _ _ (by omega) (by omega), stAt_end m c _ _ (Or.inr (by omega)), after_4, PhiD0_eq, table_eq c (tab m c)]
  simp only [before_0, before_1, before_2, before_3, after_0, after_1, after_2, after_3]
  unfold mid outB
  iintro ⟨⟨HB0, HB1, HD, Hg⟩, HO, ⟨%d0, H0⟩, ⟨%d1, H1⟩, ⟨%d2, H2⟩, ⟨%d3, H3⟩, ⟨%d4, H4⟩⟩
  iapply (cps c (stepC c (tab m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (lane0 (grid0.coords t)) hc (wds m c (t.val - 1)) (ib1 m c t) (ib2 m c t) (ib3 m c t) ((dats m 0 c).before 4 t d4)) _) $$ [H1 H2 H3 H4 HB0 HB1 HO]
  · isplitl [H1]; · iexact H1
    isplitl [H2]; · iexact H2
    isplitl [H3]; · iexact H3
    isplitl [H4]; · iexact H4
    isplitl [HB0]; · iexact HB0
    isplitl [HB1]; · iexact HB1
    iapply (owes_open m c t.castSucc) $$ [HO]
    iexact HO
  unfold free
  iintro ⟨H1, H2, H3, H4, ⟨Hs0, HT0⟩, ⟨Hs1, HT1⟩, HS, HO⟩
  isplitl [HS Hs0 Hs1 HT0 HT1 HD Hg]
  · isplitl [HS]; · iexists _; iexact HS
    isplitl [Hg]; · iexact Hg
    isplitl [Hs0 Hs1]
    · isplitl [Hs0]; · iexact Hs0
      iexact Hs1
    isplitl [HD]; · iexact HD
    isplitl [HT0]; · iexact HT0
    iexact HT1
  isplitl [HO]
  · iapply (owes_close m c t.succ) $$ [HO]
    iexact HO
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (hr : InRange m) (c : Dev nD) : BodyObligation (dats (F := F) m 0 c) (defs₀ (F := F)) Variants.none () Set.univ := fun t => by
  rw [bigSep_W0, bigSep_W0, defs₀_row]
  by_cases h0 : t.val = 0
  · rw [idle_first t h0, flush_first t h0]
    exact triple_restated (body_first m hr c t h0) rfl .rfl fun _ => .rfl
  · rw [idle_later t h0]
    by_cases h1 : t.val = 2048
    · exact triple_restated (body_last m hr c t h1) rfl .rfl fun _ => .rfl
    · exact triple_restated (body_mid m hr c t h0 h1) rfl .rfl fun _ => .rfl

set_option backward.isDefEq.respectTransparency.types false in
theorem run_main (hr : InRange m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hr c).loose) (hshare := fun c => (dats m 0 c).share_full fun _ => rfl)
    (howed := fun _ _ => rfl) (V := V m) (hmain := hmain m Variants.none) (hA := A_eq m)
    (hin := fun c => .of_eq (stAt_end m c 0 (Nat.zero_le _) (Or.inl rfl)).symm)
    (hout := fun c => .of_eq (stAt_end m c cfg0.N (le_refl _) (Or.inr N_cfg)))

/-- The run, with the result's array and every argument array read off it. -/
theorem run (hr : InRange m) : θ_run defs (onTc (τ := τ) (main (F := F))) ⟨m, fun _ => 0, ρ⟩ (fun r => (∀ c : Dev nD,
      r.2.mem ((c.tc : Thread nD τ).loc main_v8) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).1 3).trans (((dats m 0 c).arrAt_in 3 rfl _).trans ((A_eq m c 3).trans (Gen.V_main_arg0 m c))),
      ((h.1 c).1 1).trans (((dats m 0 c).arrAt_in 1 rfl _).trans ((A_eq m c 1).trans (Gen.V_main_arg1 m c))),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      ((h.1 c).2 main_arg5 (Pipeline.mem_restRefs_of main_arg5 (by decide) (by decide))).trans (Gen.V_main_arg5 m c)⟩, h.2⟩) (run_main m ρ hr)

end Cert.KernelIdeal.Peer
-- ==== Proof.Words.lean ====
module
public import proofs.«01_k».proof.Proof.Frame
public import Idealize.ShloMosaic.Lib.Pipeline.Value

@[expose] public section

noncomputable section

namespace Cert.KernelIdeal.Peer

open Idealize.ShloMosaic Idealize.ShloMosaic.TcCoe Idealize.ShloMosaic.Tactic Cert.KernelIdeal Cert.KernelIdeal.Gen
open Idealize.ShloMosaic.StableHlo

variable {F : FTy → Type} [FloatOps F]
variable (m : (ℓ : Loc nD τ sig) → Buf (Elt F) ℓ)

/-! ## What the region finds, in the arguments -/

/-- Twice the transpose of the last two axes is the array. -/
theorem transpose_twice {α : Type} (x : S256x128x128.Idx → α) :
    transpose S256x128x128 [0, 2, 1] (transpose S256x128x128 [0, 2, 1] x transposes_S256x128x128_S256x128x128_0_2_1)
      transposes_S256x128x128_S256x128x128_0_2_1 = x := by
  funext j
  have e1 := transpose_apply [0, 2, 1] (transpose S256x128x128 [0, 2, 1] x transposes_S256x128x128_S256x128x128_0_2_1) transposes_S256x128x128_S256x128x128_0_2_1 j
    (fun a => match a with | ⟨0, _⟩ => j 0 | ⟨1, _⟩ => j 2 | ⟨2, _⟩ => j 1) (fun b => by fin_cases b <;> rfl)
  rw [e1]
  exact transpose_apply [0, 2, 1] x transposes_S256x128x128_S256x128x128_0_2_1 _ j (fun b => by fin_cases b <;> rfl)

theorem V7_eq (c : Dev nD) : V m c main_v7
    = shapeCast S2048x1x2048 (shapeCast S256x128x128 (m ((c : Thread nD τ).loc main_arg2) : S32768x8x16.Idx → Elt F .i32) shapeCasts_S32768x8x16_S256x128x128)
        shapeCasts_S256x128x128_S2048x1x2048 := by
  have e : V m c main_v7 = shapeCast S2048x1x2048 (transpose S256x128x128 [0, 2, 1] (transpose S256x128x128 [0, 2, 1] (shapeCast S256x128x128 (m ((c : Thread nD τ).loc main_arg2) : S32768x8x16.Idx → Elt F .i32) shapeCasts_S32768x8x16_S256x128x128) transposes_S256x128x128_S256x128x128_0_2_1)
      transposes_S256x128x128_S256x128x128_0_2_1) shapeCasts_S256x128x128_S2048x1x2048 := by
    show StableHlo.after hostOps0 (fun b => m (c, b)) (Proc.devRef .tc main_v7) = _
    after_results
    rfl
  rw [e, transpose_twice]

/-- A word of the index blocks is the argument's at the same place in row-major order. -/
theorem V7_at (c : Dev nD) (x : S2048x1x2048.Idx) (k : S32768x8x16.Idx)
    (h : ((k 0).val * 8 + (k 1).val) * 16 + (k 2).val = (x 0).val * 2048 + (x 2).val) :
    V m c main_v7 x = m ((c : Thread nD τ).loc main_arg2) k := by
  rw [V7_eq]
  unfold shapeCast
  rw [Shape.reshapeEquiv_reshapeEquiv]
  refine congrArg (m ((c : Thread nD τ).loc main_arg2)) (Shape.reshapeEquiv_eq_of_rowMajor _ ?_)
  show (S32768x8x16.rowMajor k).val = (S2048x1x2048.rowMajor x).val
  rw [Shape.rowMajor_val_three, Shape.rowMajor_val_three]
  have h1 : (x 1).val < 1 := (x 1).isLt
  show ((k 0).val * 8 + (k 1).val) * 16 + (k 2).val = ((x 0).val * 1 + (x 1).val) * 2048 + (x 2).val
  omega

theorem V3_eq (c : Dev nD) : V m c main_v3
    = transpose S256x128x128 [0, 2, 1] (shapeCast S256x128x128 (m ((c : Thread nD τ).loc main_arg3) : S32768x8x16.Idx → Elt F .f32) shapeCasts_S32768x8x16_S256x128x128)
      transposes_S256x128x128_S256x128x128_0_2_1 := by
  show StableHlo.after hostOps0 (fun b => m (c, b)) (Proc.devRef .tc main_v3) = _
  after_results
  rfl

/-- A gate of the transposed blocks: block, pair, token of the block. -/
theorem V3_at (c : Dev nD) (x : S256x128x128.Idx) (k : S32768x8x16.Idx)
    (h : ((k 0).val * 8 + (k 1).val) * 16 + (k 2).val = ((x 0).val * 128 + (x 2).val) * 128 + (x 1).val) :
    V m c main_v3 x = m ((c : Thread nD τ).loc main_arg3) k := by
  rw [V3_eq, transpose_apply [0, 2, 1] _ transposes_S256x128x128_S256x128x128_0_2_1 x
    (fun a => match a with | ⟨0, _⟩ => x 0 | ⟨1, _⟩ => x 2 | ⟨2, _⟩ => x 1) (fun b => by fin_cases b <;> rfl)]
  refine shapeCast_apply _ _ _ k ?_
  show (S32768x8x16.rowMajor k).val = (S256x128x128.rowMajor _).val
  rw [Shape.rowMajor_val_three, Shape.rowMajor_val_three]
  exact h

theorem V5_eq (c : Dev nD) : V m c main_v5
    = shapeCast S16384x1x2048 (concatenate S16384x2048 1 [⟨S16384x1024, (m ((c : Thread nD τ).loc main_arg4) : S16384x1024.Idx → Elt F .f32)⟩, ⟨S16384x1024, (m ((c : Thread nD τ).loc main_arg5) : S16384x1024.Idx → Elt F .f32)⟩] concatenates_S16384x1024_S16384x1024_S16384x2048_d1)
        shapeCasts_S16384x2048_S16384x1x2048 := by
  show StableHlo.after hostOps0 (fun b => m (c, b)) (Proc.devRef .tc main_v5) = _
  after_results
  rfl

/-- A table row: the first half is the down row, the second the up row. -/
theorem V5_lo (c : Dev nD) (x : S16384x1x2048.Idx) (k : S16384x1024.Idx) (h0 : (k 0).val = (x 0).val) (h1 : (k 1).val = (x 2).val) :
    V m c main_v5 x = m ((c : Thread nD τ).loc main_arg4) k := by
  rw [V5_eq]
  refine (shapeCast_apply _ _ x (fun a => match a with | ⟨0, _⟩ => x 0 | ⟨1, _⟩ => x 2 : S16384x2048.Idx) ?_).trans ?_
  · show (S16384x2048.rowMajor _).val = (S16384x1x2048.rowMajor _).val
    rw [Shape.rowMajor_val_two, Shape.rowMajor_val_three]
    have hx : (x 1).val < 1 := (x 1).isLt
    show (x 0).val * 2048 + (x 2).val = ((x 0).val * 1 + (x 1).val) * 2048 + (x 2).val
    omega
  · exact concatenate_pair_apply_left (s₁ := S16384x1024) (s₂ := S16384x1024) (t := S16384x2048) 1 _ _ _ _ rfl k (fun b => by fin_cases b; exacts [h0, h1])

theorem V5_hi (c : Dev nD) (x : S16384x1x2048.Idx) (k : S16384x1024.Idx) (h0 : (k 0).val = (x 0).val) (h1 : (k 1).val + 1024 = (x 2).val) :
    V m c main_v5 x = m ((c : Thread nD τ).loc main_arg5) k := by
  rw [V5_eq]
  refine (shapeCast_apply _ _ x (fun a => match a with | ⟨0, _⟩ => x 0 | ⟨1, _⟩ => x 2 : S16384x2048.Idx) ?_).trans ?_
  · show (S16384x2048.rowMajor _).val = (S16384x1x2048.rowMajor _).val
    rw [Shape.rowMajor_val_two, Shape.rowMajor_val_three]
    have hx : (x 1).val < 1 := (x 1).isLt
    show (x 0).val * 2048 + (x 2).val = ((x 0).val * 1 + (x 1).val) * 2048 + (x 2).val
    omega
  · exact concatenate_pair_apply_right (s₁ := S16384x1024) (s₂ := S16384x1024) (t := S16384x2048) 1 _ _ _ _ rfl rfl k
      (fun b hb => by fin_cases b; exacts [h0, absurd rfl hb]) h1

/-! ## The range of the indices -/

theorem V7_some (c : Dev nD) (x : S2048x1x2048.Idx) : ∃ k : S32768x8x16.Idx, V m c main_v7 x = m ((c : Thread nD τ).loc main_arg2) k := by
  rw [V7_eq]; exact ⟨_, rfl⟩

/-- When every index names a row of the tables, so does every word of the index blocks. -/
theorem inRange (h : ∀ (c : Dev nD) (k : S32768x8x16.Idx), (m ((c : Thread nD τ).loc main_arg2) k : BitVec 32).toNat < 16384) : InRange m := by
  intro c t n
  unfold eOf ib0 Gen.iblk
  rw [View.read_apply, cast_eq]
  refine (fun x => ?_ : ∀ x : S2048x1x2048.Idx, (V m c main_v7 x : BitVec 32).toNat < 16384) _
  obtain ⟨k, e⟩ := V7_some m c x
  rw [e]
  exact h c k

end Cert.KernelIdeal.Peer

end

end
-- ==== Proof.KernelWords.lean ====
module
public import proofs.«01_k».proof.Proof.KernelFrame
public import Idealize.ShloMosaic.Lib.Pipeline.Value

@[expose] public section

noncomputable section

namespace Cert.Kernel.Peer

open Idealize.ShloMosaic Idealize.ShloMosaic.TcCoe Idealize.ShloMosaic.Tactic Cert.Kernel Cert.Kernel.Gen
open Idealize.ShloMosaic.StableHlo

variable {F : FTy → Type} [FloatOps F]
variable (m : (ℓ : Loc nD τ sig) → Buf (Elt F) ℓ)

/-! ## What the region finds, in the arguments -/

/-- Twice the transpose of the last two axes is the array. -/
theorem transpose_twice {α : Type} (x : S256x128x128.Idx → α) :
    transpose S256x128x128 [0, 2, 1] (transpose S256x128x128 [0, 2, 1] x transposes_S256x128x128_S256x128x128_0_2_1)
      transposes_S256x128x128_S256x128x128_0_2_1 = x := by
  funext j
  have e1 := transpose_apply [0, 2, 1] (transpose S256x128x128 [0, 2, 1] x transposes_S256x128x128_S256x128x128_0_2_1) transposes_S256x128x128_S256x128x128_0_2_1 j
    (fun a => match a with | ⟨0, _⟩ => j 0 | ⟨1, _⟩ => j 2 | ⟨2, _⟩ => j 1) (fun b => by fin_cases b <;> rfl)
  rw [e1]
  exact transpose_apply [0, 2, 1] x transposes_S256x128x128_S256x128x128_0_2_1 _ j (fun b => by fin_cases b <;> rfl)

theorem V7_eq (c : Dev nD) : V m c main_v7
    = shapeCast S2048x1x2048 (shapeCast S256x128x128 (m ((c : Thread nD τ).loc main_arg2) : S32768x8x16.Idx → Elt F .i32) shapeCasts_S32768x8x16_S256x128x128)
        shapeCasts_S256x128x128_S2048x1x2048 := by
  have e : V m c main_v7 = shapeCast S2048x1x2048 (transpose S256x128x128 [0, 2, 1] (transpose S256x128x128 [0, 2, 1] (shapeCast S256x128x128 (m ((c : Thread nD τ).loc main_arg2) : S32768x8x16.Idx → Elt F .i32) shapeCasts_S32768x8x16_S256x128x128) transposes_S256x128x128_S256x128x128_0_2_1)
      transposes_S256x128x128_S256x128x128_0_2_1) shapeCasts_S256x128x128_S2048x1x2048 := by
    show StableHlo.after hostOps0 (fun b => m (c, b)) (Proc.devRef .tc main_v7) = _
    after_results
    rfl
  rw [e, transpose_twice]

/-- A word of the index blocks is the argument's at the same place in row-major order. -/
theorem V7_at (c : Dev nD) (x : S2048x1x2048.Idx) (k : S32768x8x16.Idx)
    (h : ((k 0).val * 8 + (k 1).val) * 16 + (k 2).val = (x 0).val * 2048 + (x 2).val) :
    V m c main_v7 x = m ((c : Thread nD τ).loc main_arg2) k := by
  rw [V7_eq]
  unfold shapeCast
  rw [Shape.reshapeEquiv_reshapeEquiv]
  refine congrArg (m ((c : Thread nD τ).loc main_arg2)) (Shape.reshapeEquiv_eq_of_rowMajor _ ?_)
  show (S32768x8x16.rowMajor k).val = (S2048x1x2048.rowMajor x).val
  rw [Shape.rowMajor_val_three, Shape.rowMajor_val_three]
  have h1 : (x 1).val < 1 := (x 1).isLt
  show ((k 0).val * 8 + (k 1).val) * 16 + (k 2).val = ((x 0).val * 1 + (x 1).val) * 2048 + (x 2).val
  omega

/-! ## The range of the indices -/

theorem V7_some (c : Dev nD) (x : S2048x1x2048.Idx) : ∃ k : S32768x8x16.Idx, V m c main_v7 x = m ((c : Thread nD τ).loc main_arg2) k := by
  rw [V7_eq]; exact ⟨_, rfl⟩

/-- When every index names a row of the tables, so does every word of the index blocks. -/
theorem inRange (h : ∀ (c : Dev nD) (k : S32768x8x16.Idx), (m ((c : Thread nD τ).loc main_arg2) k : BitVec 32).toNat < 16384) : InRange m := by
  intro c t n
  unfold eOf ib0 Gen.iblk
  rw [View.read_apply, cast_eq]
  refine (fun x => ?_ : ∀ x : S2048x1x2048.Idx, (V m c main_v7 x : BitVec 32).toNat < 16384) _
  obtain ⟨k, e⟩ := V7_some m c x
  rw [e]
  exact h c k

end Cert.Kernel.Peer

end

end
-- ==== Proof.Pre.lean ====
module
public import proofs.«01_k».proof.Defs
public import proofs.«01_k».proof.Proof.Gen.Pre_in_range
public import Idealize.ShloMosaic.Lib.ReduceAll

@[expose] public section

noncomputable section

namespace Cert.Peer

open Idealize.ShloMosaic

/-- The precondition, read at one index: it names a row of the tables. -/
theorem index_of_pre {F : FTy → Type} [FloatOps F] (a0 a1 a2 a3 a4 a5) (h : Cert.Pre_in_range.fn (F := F) a0 a1 a2 a3 a4 a5 = fun _ => 1#1)
    (k : Cert.Pre_in_range.S32768x8x16.Idx) : (a2 k).toNat < 16384 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hs : Subsingleton Cert.Pre_in_range.S_.Idx := ⟨fun a b => funext fun i => i.elim0⟩
  have e := Host.reduce_andi_all _ _ _ _ (fun i => i.elim0) (congrFun h (fun i => i.elim0)) k
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.Peer

end

end
-- ==== Proof.RowValue.lean ====
module
public import proofs.«01_k».proof.Proof.Token
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.KernelIdeal.Peer

open Idealize.ShloMosaic Idealize.ShloMosaic.Tactic Cert.KernelIdeal Cert.KernelIdeal.Gen

/-- The tanh form of gelu over the extended reals. -/
def gelu (a : EReal) : EReal :=
  a * (Ideal.ofBits FTy.f32 0x3F000000#32 * (1 + Ideal.tanh (Ideal.ofBits FTy.f32 0x3F4C422A#32 * (a + Ideal.ofBits FTy.f32 0x3D372713#32 * (a * (a * a))))))

theorem act_at (blk : Vec Ideal S1x128x2048 .f32) (hr : Vec Ideal S1x1024 .f32) (k : Fin 128) (z : Fin 1) :
    actOf blk hr (ix2 k z) = ∑ x : Fin 1024, blk (ix3 0 k ⟨x.val, by omega⟩) * hr (ix2 0 x) := by
  unfold actOf
  pointwise

theorem gate_at (col : BitVec 32) (gt : Vec Ideal S1x128x128 .f32) (k : Fin 128) (z : Fin 1) :
    gateOf col gt (ix2 k z) = ∑ x : Fin 128, Scalar.select (IntOp.cmpi CmpIPredicate.eq (BitVec.ofNat 32 x.val) col) (gt (ix3 0 k x)) 0 := by
  unfold gateOf
  pointwise

theorem select_ite {α : Type} (p : BitVec 32) (q : BitVec 32) (a b : α) :
    Scalar.select (IntOp.cmpi CmpIPredicate.eq p q) a b = if p = q then a else b := by
  by_cases h : p = q
  · subst h; simp [Scalar.select, IntOp.cmpi]
  · have hb : (p == q) = false := by simpa using h
    rw [if_neg h]
    simp [Scalar.select, IntOp.cmpi, hb]

/-- The sum over the lanes picks the lane asked for. -/
theorem gate_at_lane (n : Fin 128) (gt : Vec Ideal S1x128x128 .f32) (k : Fin 128) (z : Fin 1) :
    gateOf (BitVec.ofNat 32 n.val) gt (ix2 k z) = gt (ix3 0 k n) := by
  rw [gate_at]
  have e (x : Fin 128) : (BitVec.ofNat 32 x.val = BitVec.ofNat 32 n.val) ↔ x = n := by
    constructor
    · intro h
      have := congrArg BitVec.toNat h
      simp only [BitVec.toNat_ofNat] at this
      apply Fin.ext; omega
    · rintro rfl; rfl
  simp only [select_ite, e]
  exact Finset.sum_ite_eq' Finset.univ n (fun x => gt (ix3 0 k x)) |>.trans (if_pos (Finset.mem_univ _))

theorem gelu_at (a : FVec Ideal S128x1 .f32) (k : Fin 128) (z : Fin 1) : geluOf a (ix2 k z) = gelu (a (ix2 k z)) := by
  unfold geluOf gelu
  pointwise

/-- A token's row of the result, in its blocks. -/
theorem row_at (n : Fin 128) (blk : Vec Ideal S1x128x2048 .f32) (hr : Vec Ideal S1x1024 .f32) (gt : Vec Ideal S1x128x128 .f32) (xr : Vec Ideal S1x1024 .f32) (z : Fin 1) (d : Fin 1024) :
    peerRow (BitVec.ofNat 32 n.val) blk hr gt xr (ix2 z d) = xr (ix2 z d)
      + ∑ k : Fin 128, gt (ix3 0 k n) * gelu (∑ x : Fin 1024, blk (ix3 0 k ⟨x.val, by omega⟩) * hr (ix2 0 x)) * blk (ix3 0 k ⟨1024 + d.val, by omega⟩) := by
  have e : peerRow (BitVec.ofNat 32 n.val) blk hr gt xr (ix2 z d) = xr (ix2 z d)
      + ∑ k : Fin 128, gateOf (BitVec.ofNat 32 n.val) gt (ix2 k 0) * geluOf (actOf blk hr) (ix2 k 0) * blk (ix3 0 k ⟨1024 + d.val, by omega⟩) := by
    unfold peerRow
    pointwise
  rw [e]
  simp only [gate_at_lane, gelu_at, act_at]

end Cert.KernelIdeal.Peer

end

end
-- ==== Proof.Spec.lean ====
module
public import proofs.«01_k».proof.Proof.Words
public import proofs.«01_k».proof.Proof.RowValue

@[expose] public section

set_option maxRecDepth 16384

noncomputable section

namespace Cert.KernelIdeal.Peer

open Idealize.ShloMosaic Idealize.ShloMosaic.TcCoe Idealize.ShloMosaic.Tactic Cert.KernelIdeal Cert.KernelIdeal.Gen

/-! ## The layer, per token and column -/

/-- The head of pair `k`, and its slot in the head. -/
def hd (k : Fin 128) : Fin 8 := ⟨k.val / 16, by omega⟩
def sl (k : Fin 128) : Fin 16 := ⟨k.val % 16, by omega⟩

/-- The expert that token `t`'s pair `k` names. -/
def ex (I : S32768x8x16.Idx → BitVec 32) (t : Fin 32768) (k : Fin 128) : Fin 16384 :=
  ⟨(I (ix3 t (hd k) (sl k))).toNat % 16384, Nat.mod_lt _ (by decide)⟩

/-- Token `t`, column `d` of the result: the stream plus, over the 128 pairs, gate times gelu of the expert's down row
    against the token, times the expert's up row. -/
def peerVal (X H : S32768x1024.Idx → EReal) (I : S32768x8x16.Idx → BitVec 32) (g : S32768x8x16.Idx → EReal)
    (U W : S16384x1024.Idx → EReal) (t : Fin 32768) (d : Fin 1024) : EReal :=
  X (ix2 t d) + ∑ k : Fin 128, g (ix3 t (hd k) (sl k)) * gelu (∑ x : Fin 1024, U (ix2 (ex I t k) x) * H (ix2 t x)) * W (ix2 (ex I t k) d)

def peerArr (X H : S32768x1024.Idx → EReal) (I : S32768x8x16.Idx → BitVec 32) (g : S32768x8x16.Idx → EReal)
    (U W : S16384x1024.Idx → EReal) : S32768x1024.Idx → EReal := fun j => peerVal X H I g U W (j 0) (j 1)

/-! ## The blocks of a grid point -/

theorem tr0 (n : Fin 2049) : (Scalar.minsi (BitVec.ofNat 32 n.val) 2047#32).toNat = min n.val 2047 := by
  revert n; decide +kernel
theorem tr1 (n : Fin 2049) : (Scalar.maxsi (Scalar.subi (BitVec.ofNat 32 n.val) 1#32) 0#32).toNat = n.val - 1 := by
  revert n; decide +kernel

variable (t : Fin cfg0.N)

theorem lt_N : t.val < 2049 := lt_of_lt_of_eq t.isLt N_cfg

theorem index0 : win0_0.index t (0 : Fin 3) = min t.val 2047 := by
  have h := tr0 ⟨t.val, lt_N t⟩
  rw [← h]
  show (Scalar.minsi (BitVec.ofNat 32 (grid0.coords t 0).val) 2047#32).toNat = _
  rw [coord]
theorem index1 : win0_1.index t (0 : Fin 2) = t.val - 1 := by
  have h := tr1 ⟨t.val, lt_N t⟩
  rw [← h]
  show (Scalar.maxsi (Scalar.subi (BitVec.ofNat 32 (grid0.coords t 0).val) 1#32) 0#32).toNat = _
  rw [coord]
theorem index3 : win0_3.index t (0 : Fin 2) = t.val - 1 := index1 t
theorem index4 : win0_4.index t (0 : Fin 2) = t.val - 1 := index1 t

/-- The coordinate of point `n`. -/
def crd (n : ℕ) : grid0.Coords := fun a => match a with
  | ⟨0, _⟩ => ⟨n % 2049, Nat.mod_lt _ (by decide)⟩
  | ⟨_ + 1, h⟩ => absurd h (by show ¬ _ < 1; omega)

def tr2f (n : ℕ) : Fin 3 → ℕ := cc0_transform_2 (crd n)
theorem tr2 (n : Fin 2049) : tr2f n.val 0 = (n.val - 1) / 8 := by
  revert n; decide +kernel

theorem grid_ext (i i' : grid0.Coords) (h : (i 0).val = (i' 0).val) : i = i' := by
  funext a
  fin_cases a
  exact Fin.ext h

theorem index2 : win0_2.index t (0 : Fin 3) = (t.val - 1) / 8 := by
  have h := tr2 ⟨t.val, lt_N t⟩
  rw [← h]
  show cc0_transform_2 (grid0.coords t) 0 = cc0_transform_2 _ 0
  refine congrArg (fun i => cc0_transform_2 i 0) (grid_ext _ _ ?_)
  rw [coord]
  exact (Nat.mod_eq_of_lt (lt_N t)).symm

def laneF (n : ℕ) : BitVec 32 := lane0 (crd n)
theorem lane_all (n : Fin 2049) (h : 0 < n.val) : laneF n.val = BitVec.ofNat 32 (16 * ((n.val - 1) % 8)) := by
  revert n; decide +kernel
theorem lane_at (h : 0 < t.val) : lane0 (grid0.coords t) = BitVec.ofNat 32 (16 * ((t.val - 1) % 8)) := by
  rw [← lane_all ⟨t.val, lt_N t⟩ h]
  refine congrArg lane0 (grid_ext _ _ ?_)
  rw [coord]
  exact (Nat.mod_eq_of_lt (lt_N t)).symm

/-! ## What the blocks hold -/

variable {F : FTy → Type} [FloatOps F]
variable (m : (ℓ : Loc nD τ sig) → Buf (Elt F) ℓ) (c : Dev nD)

theorem emb4 (j : S16x1024.Idx) : ((((cfg0.win 4).blk t).view.emb j) (0 : Fin 2)).val = 16 * (t.val - 1) + (j 0).val
    ∧ ((((cfg0.win 4).blk t).view.emb j) (1 : Fin 2)).val = (j 1).val := by
  constructor
  · show win0_4.index t (0 : Fin 2) * 16 + 1 * (j 0).val = _
    rw [index4]; omega
  · show 0 * 1024 + 1 * (j 1).val = _
    omega

theorem ib1_at (ht : 0 < t.val) (r : Fin 16) (d : Fin 1024) :
    ib1 m c t (ix2 r d) = m ((c : Thread nD τ).loc main_arg1) (ix2 (⟨16 * (t.val - 1) + r.val, by have := lt_N t; omega⟩ : Fin 32768) d) := by
  show V m c main_arg1 (((cfg0.win 1).blk t).view.emb (ix2 r d)) = _
  refine (congrFun (V_main_arg1 m c) _).trans ?_
  refine congrArg (m ((c : Thread nD τ).loc main_arg1)) ?_
  funext a; apply Fin.ext
  match a with
  | ⟨0, _⟩ => show win0_1.index t (0 : Fin 2) * 16 + 1 * r.val = 16 * (t.val - 1) + r.val; rw [index1]; omega
  | ⟨1, _⟩ => show 0 * 1024 + 1 * d.val = d.val; omega

theorem ib3_at (ht : 0 < t.val) (r : Fin 16) (d : Fin 1024) :
    ib3 m c t (ix2 r d) = m ((c : Thread nD τ).loc main_arg0) (ix2 (⟨16 * (t.val - 1) + r.val, by have := lt_N t; omega⟩ : Fin 32768) d) := by
  show V m c main_arg0 (((cfg0.win 3).blk t).view.emb (ix2 r d)) = _
  refine (congrFun (V_main_arg0 m c) _).trans ?_
  refine congrArg (m ((c : Thread nD τ).loc main_arg0)) ?_
  funext a; apply Fin.ext
  match a with
  | ⟨0, _⟩ => show win0_3.index t (0 : Fin 2) * 16 + 1 * r.val = 16 * (t.val - 1) + r.val; rw [index3]; omega
  | ⟨1, _⟩ => show 0 * 1024 + 1 * d.val = d.val; omega

/-- The gate of pair `k` for the token in row `r` of the block. -/
theorem ib2_at (ht : 0 < t.val) (k : Fin 128) (r : Fin 16) :
    ib2 m c t (ix3 0 k (⟨16 * ((t.val - 1) % 8) + r.val, by omega⟩ : Fin 128))
      = m ((c : Thread nD τ).loc main_arg3) (ix3 (⟨16 * (t.val - 1) + r.val, by have := lt_N t; omega⟩ : Fin 32768) (hd k) (sl k)) := by
  show V m c main_v3 (((cfg0.win 2).blk t).view.emb (ix3 0 k _)) = _
  refine V3_at m c _ _ ?_
  show ((16 * (t.val - 1) + r.val) * 8 + k.val / 16) * 16 + k.val % 16
    = ((win0_2.index t (0 : Fin 3) * 1 + 1 * 0) * 128 + (0 * 128 + 1 * (16 * ((t.val - 1) % 8) + r.val))) * 128 + (0 * 128 + 1 * k.val)
  rw [index2]
  omega

/-- Word `128 r + k` of the index block of point `t - 1` is pair `k` of the token in row `r` of point `t`'s block. -/
theorem word_at (ht : 0 < t.val) (r : Fin 16) (k : Fin 128) :
    wds m c (t.val - 1) (128 * r.val + k.val)
      = (m ((c : Thread nD τ).loc main_arg2) (ix3 (⟨16 * (t.val - 1) + r.val, by have := lt_N t; omega⟩ : Fin 32768) (hd k) (sl k)) : BitVec 32).toNat := by
  have hl := lt_N t
  unfold wds eOf
  refine congrArg BitVec.toNat ?_
  show V m c main_v7 (((cfg0.win 0).blk (pt (t.val - 1))).view.emb (wIdx _)) = _
  refine V7_at m c _ _ ?_
  show ((16 * (t.val - 1) + r.val) * 8 + k.val / 16) * 16 + k.val % 16
    = (win0_0.index (pt (t.val - 1)) (0 : Fin 3) * 1 + 1 * 0) * 2048 + (0 * 2048 + 1 * ((128 * r.val + k.val) % 2048))
  rw [index0]
  show _ = (min (min (t.val - 1) 2048) 2047 * 1 + 1 * 0) * 2048 + (0 * 2048 + 1 * ((128 * r.val + k.val) % 2048))
  omega

end Cert.KernelIdeal.Peer

end

end
-- ==== Proof.Result.lean ====
module
public import proofs.«01_k».proof.Proof.Spec

@[expose] public section

set_option maxRecDepth 16384

noncomputable section

namespace Cert.KernelIdeal.Peer

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The layer of the arguments. -/
def peerOf : S32768x1024.Idx → EReal :=
  peerArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The token in row `r` of point `t`'s block. -/
def tok (t : Fin cfg0.N) (r : Fin 16) : Fin 32768 := ⟨16 * (t.val - 1) + r.val, by have := lt_N t; omega⟩

variable (t : Fin cfg0.N) (ht : 0 < t.val)
include ht

/-- A gathered row's first half is the down row of its pair's expert, -/
theorem gath_lo (r : Fin 16) (k : Fin 128) (x : Fin 1024) (z : S1x128x2048.Idx) (h1 : (z 1).val = k.val) (h2 : (z 2).val = x.val) :
    gath (tab m c) (wds m c (t.val - 1)) (bIdx r.val z)
      = m ((c : Thread nD τ).loc main_arg4) (ix2 (ex (m ((c : Thread nD τ).loc main_arg2)) (tok t r) k) x) := by
  unfold gath tab
  refine V5_lo m c _ _ ?_ h2.symm
  show (m ((c : Thread nD τ).loc main_arg2) (ix3 (tok t r) (hd k) (sl k)) : BitVec 32).toNat % 16384
    = wds m c (t.val - 1) (r.val / 8 % 2 * 1024 + (128 * (r.val % 8) + (z 1).val)) % 16384
  rw [show r.val / 8 % 2 * 1024 + (128 * (r.val % 8) + (z 1).val) = 128 * r.val + k.val by omega, word_at t m c ht]
  rfl

/-- and its second half the up row. -/
theorem gath_hi (r : Fin 16) (k : Fin 128) (x : Fin 1024) (z : S1x128x2048.Idx) (h1 : (z 1).val = k.val) (h2 : (z 2).val = 1024 + x.val) :
    gath (tab m c) (wds m c (t.val - 1)) (bIdx r.val z)
      = m ((c : Thread nD τ).loc main_arg5) (ix2 (ex (m ((c : Thread nD τ).loc main_arg2)) (tok t r) k) x) := by
  unfold gath tab
  refine V5_hi m c _ _ ?_ ((Nat.add_comm _ _).trans h2.symm)
  show (m ((c : Thread nD τ).loc main_arg2) (ix3 (tok t r) (hd k) (sl k)) : BitVec 32).toNat % 16384
    = wds m c (t.val - 1) (r.val / 8 % 2 * 1024 + (128 * (r.val % 8) + (z 1).val)) % 16384
  rw [show r.val / 8 % 2 * 1024 + (128 * (r.val % 8) + (z 1).val) = 128 * r.val + k.val by omega, word_at t m c ht]
  rfl

/-- A grid point leaves its 16 rows of the layer. -/
theorem outB_at (r : Fin 16) (d : Fin 1024) : outB m c t (ix2 r d) = peerOf m c (ix2 (tok t r) d) := by
  unfold outB outAt
  have hl : Scalar.addi (lane0 (grid0.coords t)) (BitVec.ofNat 32 r.val)
      = BitVec.ofNat 32 (⟨16 * ((t.val - 1) % 8) + r.val, by omega⟩ : Fin 128).val := by
    rw [lane_at t ht]
    exact (BitVec.ofNat_add _ _).symm
  have hc : colIdx (ix2 r d) = ix2 0 d := by
    funext a
    match a with
    | ⟨0, _⟩ => rfl
    | ⟨1, _⟩ => rfl
  have hr : ∀ x : Fin 1024, rIdx r.val (ix2 0 x) = ix2 r x := by
    intro x
    funext a; apply Fin.ext
    match a with
    | ⟨0, _⟩ => exact Nat.mod_eq_of_lt r.isLt
    | ⟨1, _⟩ => rfl
  rw [hc]
  refine (congrArg (fun w => peerRow w _ _ _ _ _) hl).trans ?_
  refine (row_at _ _ _ _ _ 0 d).trans ?_
  show ib3 m c t (rIdx r.val (ix2 0 d)) + _ = peerVal _ _ _ _ _ _ (tok t r) d
  unfold peerVal
  refine congrArg₂ (· + ·) ?_ (Finset.sum_congr rfl fun k _ => congrArg₂ (· * ·) (congrArg₂ (· * ·) ?_ (congrArg gelu (Finset.sum_congr rfl fun x _ => congrArg₂ (· * ·) ?_ ?_))) ?_)
  · rw [hr]; exact ib3_at t m c ht r d
  · exact ib2_at t m c ht k r
  · exact gath_lo m c t ht r k x _ rfl rfl
  · show ib1 m c t (rIdx r.val (ix2 0 x)) = _
    rw [hr]; exact ib1_at t m c ht r x
  · exact gath_hi m c t ht r k d _ rfl rfl

omit ht

theorem pos_of_flush (h : (cfg0.win 4).flush t = true) : 0 < t.val := by
  rcases Nat.eq_zero_or_pos t.val with e | e
  · rw [flush_first t e] at h; exact absurd h (by decide)
  · exact e

theorem flush_of_pos (h : 0 < t.val) : (cfg0.win 4).flush t = true := by
  show (true && (decide (t.val + 1 = cfg0.N) || decide (∃ h : t.val + 1 < cfg0.N, win0_4.index ⟨t.val + 1, h⟩ ≠ win0_4.index t))) = true
  by_cases e : t.val + 1 = cfg0.N
  · simp [e]
  · have h' : ∃ h : t.val + 1 < cfg0.N, win0_4.index ⟨t.val + 1, h⟩ ≠ win0_4.index t := by
      refine ⟨by have := t.isLt; omega, fun q => ?_⟩
      have q0 := congrFun q (0 : Fin 2)
      rw [index4, index4] at q0
      dsimp only at q0
      omega
    rw [decide_eq_true h']
    simp

/-- What a point writes back is its block of the layer. -/
theorem flushed_eq (hf : (cfg0.win 4).flush t = true) :
    (dats m 0 c).flushed 4 t = ((cfg0.win 4).blk t).view.read (Elt Ideal) (peerOf m c) := by
  show (cfg0.win 4).cut (grid0.coords t) ((dats m 0 c).after 4 t) = _
  rw [after_4]
  funext j
  idx_vars j
  show outB m c t (ix2 j0 j1) = peerOf m c (((cfg0.win 4).blk t).view.emb (ix2 j0 j1))
  refine (outB_at m c t (pos_of_flush t hf) j0 j1).trans (congrArg (peerOf m c) ?_)
  obtain ⟨e0, e1⟩ := emb4 t (ix2 j0 j1)
  funext a; apply Fin.ext
  match a with
  | ⟨0, _⟩ => exact e0.symm
  | ⟨1, _⟩ => exact e1.symm

/-- The blocks cover the result. -/
theorem cover (i : S32768x1024.Idx) : ∃ t : Fin cfg0.N, (cfg0.win 4).flush t = true ∧ i ∈ ((cfg0.win 4).blk t).view.set := by
  have h0 : (i 0).val < 32768 := (i 0).isLt
  let t : Fin cfg0.N := ⟨(i 0).val / 16 + 1, by rw [N_cfg]; omega⟩
  refine ⟨t, flush_of_pos t (by show 0 < (i 0).val / 16 + 1; omega), ?_⟩
  have h := ((cfg0.win 4).blk t).view.emb_mem_set (ix2 (⟨(i 0).val % 16, Nat.mod_lt _ (by decide)⟩ : Fin 16) (⟨(i 1).val, (i 1).isLt⟩ : Fin 1024))
  obtain ⟨e0, e1⟩ := emb4 t (ix2 (⟨(i 0).val % 16, Nat.mod_lt _ (by decide)⟩ : Fin 16) (⟨(i 1).val, (i 1).isLt⟩ : Fin 1024))
  have e : (((cfg0.win 4).blk t).view.emb (ix2 (⟨(i 0).val % 16, Nat.mod_lt _ (by decide)⟩ : Fin 16) (⟨(i 1).val, (i 1).isLt⟩ : Fin 1024))) = i := by
    funext a; apply Fin.ext
    match a with
    | ⟨0, _⟩ =>
      refine e0.trans ?_
      show 16 * ((i 0).val / 16 + 1 - 1) + (i 0).val % 16 = (i 0).val
      omega
    | ⟨1, _⟩ => exact e1
  rw [e] at h
  exact h

/-- The result array after the run is the layer of the arguments. -/
theorem final_eq : (dats m 0 c).arrAt 4 cfg0.N = peerOf m c :=
  (dats m 0 c).arrAt_eq_of_cover 4 (peerOf m c) (fun t hf => flushed_eq m c t hf) cover

end Cert.KernelIdeal.Peer

end

end
-- ==== Proof.RefValue.lean ====
module
public import proofs.«01_k».proof.Proof.Spec
public import proofs.«01_k».proof.Proof.Gen.ReferenceIdeal
public import proofs.«01_k».proof.Proof.Gen.ReferenceIdeal.Run
public import Idealize.ShloMosaic.Lib.ValueIdxCore

@[expose] public section

set_option maxRecDepth 16384

noncomputable section

namespace Cert.ReferenceIdeal.Peer

open Idealize.ShloMosaic Idealize.ShloMosaic.TcCoe Idealize.ShloMosaic.Tactic Cert.ReferenceIdeal Cert.ReferenceIdeal.Value
open Cert.KernelIdeal.Peer (gelu hd sl ex peerVal peerArr)

/-- The rows the index array names, as the reference takes them. -/
theorem rows_at (x : S16384x1024.Idx → EReal) (I : S32768x8x16x1.Idx → BitVec 32) (t : Fin 32768) (h : Fin 8) (k : Fin 16) (d : Fin 1024)
    (hI : (I (ix4 t h k 0)).toNat < 16384) :
    Host.gather gather_S16384x1024_S32768x8x16x1_S32768x8x16x1024_3_0_n_n_0_3_11024 x I (ix4 t h k d)
      = x (ix2 ⟨(I (ix4 t h k 0)).toNat, hI⟩ d) := by
  unfold Host.gather
  refine congrArg x (funext fun a => Fin.ext ?_)
  match a with
  | ⟨0, _⟩ =>
    show gather_S16384x1024_S32768x8x16x1_S32768x8x16x1024_3_0_n_n_0_3_11024.start (ix4 t h k d) I 0
      + gather_S16384x1024_S32768x8x16x1_S32768x8x16x1024_3_0_n_n_0_3_11024.batchCoord (ix4 t h k d) 0
      + gather_S16384x1024_S32768x8x16x1_S32768x8x16x1024_3_0_n_n_0_3_11024.offCoord (ix4 t h k d) 0 = (I (ix4 t h k 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x1024_S32768x8x16x1_S32768x8x16x1024_3_0_n_n_0_3_11024.startIndexMap from List.mem_singleton.mpr rfl)]
    have hsi : gather_S16384x1024_S32768x8x16x1_S32768x8x16x1024_3_0_n_n_0_3_11024.siIdx (ix4 t h k d)
        ⟨List.idxOf (0 : Fin 2) gather_S16384x1024_S32768x8x16x1_S32768x8x16x1024_3_0_n_n_0_3_11024.startIndexMap,
          List.idxOf_lt_length_iff.2 (List.mem_singleton.mpr rfl)⟩ = ix4 t h k 0 := by
      funext b; refine Fin.ext ?_
      match b with
      | ⟨0, _⟩ => rfl
      | ⟨1, _⟩ => rfl
      | ⟨2, _⟩ => rfl
      | ⟨3, _⟩ => rfl
    rw [hsi]
    show min (I (ix4 t h k 0)).toInt.toNat (16384 - 1) = (I (ix4 t h k 0)).toNat
    rw [BitVec.toInt_eq_toNat_of_lt (by omega)]
    omega
  | ⟨1, _⟩ =>
    show gather_S16384x1024_S32768x8x16x1_S32768x8x16x1024_3_0_n_n_0_3_11024.start (ix4 t h k d) I 1
      + gather_S16384x1024_S32768x8x16x1_S32768x8x16x1024_3_0_n_n_0_3_11024.batchCoord (ix4 t h k d) 1
      + gather_S16384x1024_S32768x8x16x1_S32768x8x16x1024_3_0_n_n_0_3_11024.offCoord (ix4 t h k d) 1 = d.val
    rw [GatherDims.batchCoord_eq_zero _ _ _ List.not_mem_nil]
    unfold GatherDims.start
    rw [dif_neg (show (1 : Fin 2) ∉ gather_S16384x1024_S32768x8x16x1_S32768x8x16x1024_3_0_n_n_0_3_11024.startIndexMap by decide)]
    show 0 + 0 + d.val = d.val
    omega

/-- An index below the tables' length is not negative: it is taken as it is. -/
theorem index_at (I : S32768x8x16.Idx → BitVec 32) (t : Fin 32768) (h : Fin 8) (k : Fin 16) (hI : (I (ix3 t h k)).toNat < 16384) :
    broadcastInDim S32768x8x16x1 ![0, 1, 2] Gen.bcast_S32768x8x16_S32768x8x16x1_0_1_2
      (select (cmpi CmpIPredicate.slt I (broadcastInDim S32768x8x16 ![] Gen.bcast_S_S32768x8x16 (constantI S_ 32 0#32)))
        (addi I (broadcastInDim S32768x8x16 ![] Gen.bcast_S_S32768x8x16 (constantI S_ 32 16384#32))) I) (ix4 t h k 0)
      = I (ix3 t h k) := by
  have e : broadcastInDim S32768x8x16x1 ![0, 1, 2] Gen.bcast_S32768x8x16_S32768x8x16x1_0_1_2
      (select (cmpi CmpIPredicate.slt I (broadcastInDim S32768x8x16 ![] Gen.bcast_S_S32768x8x16 (constantI S_ 32 0#32)))
        (addi I (broadcastInDim S32768x8x16 ![] Gen.bcast_S_S32768x8x16 (constantI S_ 32 16384#32))) I) (ix4 t h k 0)
      = Scalar.select (IntOp.cmpi .slt (I (ix3 t h k)) 0#32) (IntOp.addi (I (ix3 t h k)) 16384#32) (I (ix3 t h k)) := by
    pointwise
  rw [e]
  generalize I (ix3 t h k) = v at hI
  have hc : IntOp.cmpi .slt v 0#32 = 0#1 := by
    have hs : v.slt 0#32 = false := by
      simp only [BitVec.slt, BitVec.toInt_eq_toNat_of_lt (show 2 * v.toNat < 2 ^ 32 by omega)]
      simp
    simp [IntOp.cmpi, hs]
  rw [hc]
  rfl

/-- A row of a table that a token's pair names. -/
theorem take_at (I : S32768x8x16.Idx → BitVec 32) (hI : ∀ k, (I k).toNat < 16384) (x : S16384x1024.Idx → EReal) (t : Fin 32768) (h : Fin 8) (k : Fin 16) (d : Fin 1024) :
    Host.gather gather_S16384x1024_S32768x8x16x1_S32768x8x16x1024_3_0_n_n_0_3_11024 x
      (broadcastInDim S32768x8x16x1 ![0, 1, 2] Gen.bcast_S32768x8x16_S32768x8x16x1_0_1_2
      (select (cmpi CmpIPredicate.slt I (broadcastInDim S32768x8x16 ![] Gen.bcast_S_S32768x8x16 (constantI S_ 32 0#32)))
        (addi I (broadcastInDim S32768x8x16 ![] Gen.bcast_S_S32768x8x16 (constantI S_ 32 16384#32))) I)) (ix4 t h k d)
      = x (ix2 ⟨(I (ix3 t h k)).toNat % 16384, Nat.mod_lt _ (by decide)⟩ d) := by
  have e := index_at I t h k (hI _)
  rw [rows_at x _ t h k d (by rw [e]; exact hI _)]
  refine congrArg (fun q => x (ix2 q d)) (Fin.ext ?_)
  show BitVec.toNat _ = _
  rw [e]
  exact (Nat.mod_eq_of_lt (hI _)).symm

variable (m : (ℓ : Loc nD τ sig) → Buf (Elt Ideal) ℓ) (c : Dev nD)

/-- The two orders of the products. -/
theorem order (g a w b : EReal) (h : b = a) :
    g * (a * (Ideal.ofBits FTy.f32 0x3F000000#32 * (1 + Ideal.tanh (Ideal.ofBits FTy.f32 0x3F4C422A#32 * (b + Ideal.ofBits FTy.f32 0x3D372713#32 * (b * b * b)))))) * w
      = g * gelu a * w := by
  subst h
  unfold gelu
  simp only [mul_assoc]

/-- The reference's result is the layer of its arguments. -/
theorem res_eq (hI : ∀ k, (m ((c : Thread nD τ).loc main_arg2) k : BitVec 32).toNat < 16384) :
    res_main_v30 m c = peerArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext j
  idx_vars j
  show _ = peerVal _ _ _ _ _ _ j0 j1
  unfold peerVal
  rw [Fin.sum_univ_tiles 8 16 rfl]
  have hh : ∀ (h : Fin 8) (k : Fin 16) (q : h.val * 16 + k.val < 128), hd ⟨h.val * 16 + k.val, q⟩ = h := fun h k q =>
    Fin.ext (show (h.val * 16 + k.val) / 16 = h.val by omega)
  have hs : ∀ (h : Fin 8) (k : Fin 16) (q : h.val * 16 + k.val < 128), sl ⟨h.val * 16 + k.val, q⟩ = k := fun h k q =>
    Fin.ext (show (h.val * 16 + k.val) % 16 = k.val by omega)
  unfold ex
  simp only [hh, hs]
  unfold res_main_v30
  pointwise
  simp only [take_at _ hI]
  refine congrArg₂ (· + ·) rfl (Finset.sum_congr rfl fun h _ => Finset.sum_congr rfl fun k _ => ?_)
  have e : ∀ (a b : Fin 1024 → EReal), ∑ x, a x * b x = ∑ x, b x * a x := fun a b => Finset.sum_congr rfl fun _ _ => mul_comm _ _
  refine (order _ _ _ _ rfl).trans ?_
  rw [e]

end Cert.ReferenceIdeal.Peer

end

end
-- ==== Proof.TopRank.lean ====
module

public import Idealize.ShloMosaic.Lib.SortPrefix
public import Idealize.ShloMosaic.Lib.Pointwise

@[expose] public section

/-! The order in which a top-k lists the positions of a row, and the same order found by repeatedly taking the
greatest entry and striking it out. -/

namespace Cert.Top

open Idealize.ShloMosaic

/-- Position `i` comes before position `j`: a greater entry, or an equal one further to the left. -/
noncomputable def ahead {n : Nat} (f : Fin n → EReal) (i j : Fin n) : Bool :=
  decide (f j < f i) || (decide (f i = f j) && decide (i < j))

theorem ahead_iff {n : Nat} (f : Fin n → EReal) (i j : Fin n) :
    ahead f i j = true ↔ f j < f i ∨ (f i = f j ∧ i < j) := by
  simp [ahead]

theorem ahead_total {n : Nat} (f : Fin n → EReal) : StrictTotalBefore (ahead f) := by
  have h := StrictTotalBefore.of_key_then_position (n := n) (fun a b : EReal => decide (b < a)) f
    (fun a => by simp) (fun a b c hab hbc => by
      simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  exact h

/-- The position listed `r`-th. -/
noncomputable def rank {n : Nat} (f : Fin n → EReal) (r : Fin n) : Fin n := sortedFrom (ahead f) r

theorem rank_inj {n : Nat} (f : Fin n → EReal) : Function.Injective (rank f) := sortedFrom_injective _
theorem rank_surj {n : Nat} (f : Fin n → EReal) : Function.Surjective (rank f) := sortedFrom_surjective _

theorem rank_ahead {n : Nat} (f : Fin n → EReal) (i j : Fin n) (h : i < j) : ahead f (rank f i) (rank f j) = true := by
  have h1 := sortedFrom_noInversion (ahead f) (ahead f) (fun a b h => (ahead_total f).asymm a b h) (fun _ _ h => h)
    (ahead_total f).negTrans i j h
  rcases (ahead_total f).total (rank f i) (rank f j) (fun e => absurd (rank_inj f e) h.ne) with h2 | h2
  · exact h2
  · unfold rank at h2; rw [h1] at h2; exact absurd h2 (by decide)

/-- A sort that compares the entries alone lists the positions in the same order. -/
theorem rank_of_key {n : Nat} (f : Fin n → EReal) :
    sortedFrom (fun i j => decide (f j < f i)) = rank f := by
  have key : ∀ l : List (Fin n), l.Pairwise (· < ·) →
      stableSort (fun i j => decide (f j < f i)) l = stableSort (ahead f) l := by
    intro l hl
    induction l with
    | nil => rfl
    | cons a l ih =>
      rw [List.pairwise_cons] at hl
      unfold stableSort
      rw [ih hl.2]
      refine insertBefore_congr _ _ a _ fun b hb => ?_
      have hb' := hl.1 b ((perm_stableSort _ l).mem_iff.mp hb)
      simp [ahead, not_lt.mpr hb'.le]
  funext k
  unfold rank sortedFrom
  rw [List.get_of_eq (show sortPositions n _ = sortPositions n (ahead f) from key _ (List.pairwise_lt_finRange n))]
  rfl

/-- The row with its first `k` listed positions struck out. -/
noncomputable def cut {n : Nat} (f : Fin n → EReal) (k : Nat) (j : Fin n) : EReal :=
  open Classical in if ∃ r : Fin n, r.val < k ∧ rank f r = j then ⊥ else f j

theorem cut_zero {n : Nat} (f : Fin n → EReal) : cut f 0 = f := by
  funext j; simp [cut]

theorem cut_of_ge {n : Nat} (f : Fin n → EReal) (k : Nat) (r : Fin n) (h : k ≤ r.val) : cut f k (rank f r) = f (rank f r) := by
  unfold cut
  rw [if_neg]
  rintro ⟨r', h1, h2⟩
  have := rank_inj f h2
  subst this; omega

theorem cut_of_lt {n : Nat} (f : Fin n → EReal) (k : Nat) (r : Fin n) (h : r.val < k) : cut f k (rank f r) = ⊥ := by
  unfold cut
  exact if_pos ⟨r, h, rfl⟩

theorem cut_succ {n : Nat} (f : Fin n → EReal) (k : Fin n) (j : Fin n) :
    (if j = rank f k then ⊥ else cut f k.val j) = cut f (k.val + 1) j := by
  obtain ⟨r, rfl⟩ := rank_surj f j
  by_cases h : r = k
  · subst h; rw [if_pos rfl, cut_of_lt _ _ _ (by omega)]
  · rw [if_neg (fun e => h (rank_inj f e))]
    rcases Nat.lt_or_ge r.val k.val with h1 | h1
    · rw [cut_of_lt _ _ _ h1, cut_of_lt _ _ _ (by omega)]
    · have : r.val ≠ k.val := fun e => h (Fin.ext e)
      rw [cut_of_ge _ _ _ h1, cut_of_ge _ _ _ (by omega)]

theorem le_of_rank {n : Nat} (f : Fin n → EReal) (i j : Fin n) (h : i ≤ j) : f (rank f j) ≤ f (rank f i) := by
  rcases h.eq_or_lt with h | h
  · rw [h]
  · rcases (ahead_iff f _ _).mp (rank_ahead f i j h) with h | h
    · exact h.le
    · exact h.1.ge

/-- The greatest entry of what is left is the next listed one. -/
theorem cut_max {n : Nat} (f : Fin n → EReal) (k : Fin n) :
    (Finset.univ : Finset (Fin n)).fold max ⊥ (cut f k.val) = f (rank f k) := by
  apply le_antisymm
  · rw [Finset.fold_max_le]
    refine ⟨bot_le, fun j _ => ?_⟩
    obtain ⟨r, rfl⟩ := rank_surj f j
    rcases Nat.lt_or_ge r.val k.val with h1 | h1
    · rw [cut_of_lt _ _ _ h1]; exact bot_le
    · rw [cut_of_ge _ _ _ h1]; exact le_of_rank f k r h1
  · rw [Finset.le_fold_max]
    exact Or.inr ⟨rank f k, Finset.mem_univ _, (cut_of_ge _ _ _ le_rfl).ge⟩

theorem cut_eq {n : Nat} (f : Fin n → EReal) (hf : ∀ j, f j ≠ ⊥) (k : Fin n) (j : Fin n)
    (h : cut f k.val j = f (rank f k)) : rank f k ≤ j := by
  obtain ⟨r, rfl⟩ := rank_surj f j
  rcases Nat.lt_or_ge r.val k.val with h1 | h1
  · rw [cut_of_lt _ _ _ h1] at h; exact absurd h.symm (hf _)
  · rw [cut_of_ge _ _ _ h1] at h
    rcases (show k ≤ r from h1).eq_or_lt with h2 | h2
    · rw [h2]
    · rcases (ahead_iff f _ _).mp (rank_ahead f k r h2) with h3 | h3
      · rw [h] at h3; exact absurd h3 (lt_irrefl _)
      · exact h3.2.le

theorem toInt_minsi (a b : BitVec 32) : (IntOp.minsi a b).toInt = min a.toInt b.toInt := by
  unfold IntOp.minsi
  simp only [BitVec.slt]
  grind

theorem toInt_maxsi (a b : BitVec 32) : (IntOp.maxsi a b).toInt = max a.toInt b.toInt := by
  unfold IntOp.maxsi
  simp only [BitVec.slt]
  grind

/-- The least of some words, one of which is no greater than any other. -/
theorem fold_min_of {n : Nat} (b : BitVec 32) (g : Fin n → BitVec 32) (j : Fin n) (hb : (g j).toInt ≤ b.toInt)
    (h : ∀ i, (g j).toInt ≤ (g i).toInt) : (Finset.univ : Finset (Fin n)).fold IntOp.minsi b g = g j := by
  apply BitVec.eq_of_toInt_eq
  have e := Finset.fold_hom (s := (Finset.univ : Finset (Fin n))) (op := IntOp.minsi) (op' := min) (b := b) (f := g)
    (m := BitVec.toInt) toInt_minsi
  rw [← e]
  apply le_antisymm
  · rw [Finset.fold_min_le]; exact Or.inr ⟨j, Finset.mem_univ _, le_rfl⟩
  · rw [Finset.le_fold_min]; exact ⟨hb, fun i _ => h i⟩

theorem fold_max_of {n : Nat} (b : BitVec 32) (g : Fin n → BitVec 32) (j : Fin n) (hb : b.toInt ≤ (g j).toInt)
    (h : ∀ i, (g i).toInt ≤ (g j).toInt) : (Finset.univ : Finset (Fin n)).fold IntOp.maxsi b g = g j := by
  apply BitVec.eq_of_toInt_eq
  have e := Finset.fold_hom (s := (Finset.univ : Finset (Fin n))) (op := IntOp.maxsi) (op' := max) (b := b) (f := g)
    (m := BitVec.toInt) toInt_maxsi
  rw [← e]
  apply le_antisymm
  · rw [Finset.fold_max_le]; exact ⟨hb, fun i _ => h i⟩
  · rw [Finset.le_fold_max]; exact Or.inr ⟨j, Finset.mem_univ _, le_rfl⟩

/-- The names a row's positions carry: in order, and all in reach. -/
structure Named {n : Nat} (id : Fin n → BitVec 32) : Prop where
  mono : ∀ i j, i ≤ j → (id i).toInt ≤ (id j).toInt
  inj : ∀ i j, id i = id j → i = j
  nonneg : ∀ i, 0 ≤ (id i).toInt
  small : ∀ i, (id i).toInt ≤ 1000

theorem cut_pick {n : Nat} (f : Fin n → EReal) (hf : ∀ j, f j ≠ ⊥) (id : Fin n → BitVec 32) (hid : Named id) (k : Fin n) :
    (Finset.univ : Finset (Fin n)).fold IntOp.minsi 2147483647#32
      (fun j => if cut f k.val j = f (rank f k) then id j else 1073741824#32) = id (rank f k) := by
  have e : (if cut f k.val (rank f k) = f (rank f k) then id (rank f k) else 1073741824#32) = id (rank f k) :=
    if_pos (cut_of_ge _ _ _ le_rfl)
  have hs := hid.small (rank f k)
  rw [fold_min_of _ _ (rank f k)]
  · exact e
  · rw [e]; exact hs.trans (by decide)
  · intro i
    rw [e]
    split
    · rename_i h; exact hid.mono _ _ (cut_eq f hf k i h)
    · exact hs.trans (by decide)

end Cert.Top
-- ==== Proof.TopStair.lean ====
module

public import proofs.«01_k».proof.Proof.TopRank

@[expose] public section

/-! Of the 256 sums of two listed rows of sixteen, the sixteen greatest lie among eighty: a sum at `(a, b)` comes after every
sum at `(a', b')` with `a' ≤ a` and `b' ≤ b`, so `(a + 1) (b + 1) ≤ 16`. -/

namespace Cert.Top

open Idealize.ShloMosaic

/-- The number `16 a + b` of the `q`-th of the eighty sums. -/
def stairN (q : Nat) : Nat :=
  if q < 16 then q else if q < 72 then (1 + (q - 16) / 8) * 16 + (q - 16) % 8 else (q - 64) * 16

theorem stairN_lt (q : Nat) (h : q < 80) : stairN q < 256 := by
  unfold stairN; split_ifs <;> omega

def stair (q : Fin 80) : Fin 256 := ⟨stairN q.val, stairN_lt _ q.isLt⟩

theorem stairN_mono (p q : Nat) (h : p < q) : stairN p < stairN q := by
  unfold stairN; split_ifs <;> omega

theorem stair_lt (p q : Fin 80) : stair p < stair q ↔ p < q := by
  constructor
  · intro h
    by_contra h'
    rcases (not_lt.mp h').eq_or_lt with h2 | h2
    · subst h2; exact absurd h (lt_irrefl _)
    · exact absurd (lt_trans h (stairN_mono _ _ h2)) (lt_irrefl _)
  · exact fun h => stairN_mono _ _ h

theorem stair_inj : Function.Injective stair := by
  intro p q h
  rcases lt_trichotomy p q with h1 | h1 | h1
  · exact absurd h ((stair_lt _ _).mpr h1).ne
  · exact h1
  · exact absurd h.symm ((stair_lt _ _).mpr h1).ne

theorem stair_covers (p : Fin 256) (h : (p.val / 16 + 1) * (p.val % 16 + 1) ≤ 16) : ∃ q, stair q = p := by
  have hp := p.isLt
  generalize ha : p.val / 16 = a at h
  generalize hb : p.val % 16 = b at h
  have e : p.val = a * 16 + b := by omega
  have ha' : a < 16 := by omega
  have hb' : b < 16 := by omega
  rcases Nat.lt_or_ge a 1 with h1 | h1
  · refine ⟨⟨b, by omega⟩, Fin.ext ?_⟩
    show stairN b = p.val
    unfold stairN; split_ifs; omega
  · have hb8 : b < 8 := by nlinarith
    rcases Nat.lt_or_ge a 8 with h2 | h2
    · refine ⟨⟨16 + 8 * (a - 1) + b, by omega⟩, Fin.ext ?_⟩
      show stairN (16 + 8 * (a - 1) + b) = p.val
      unfold stairN; split_ifs <;> omega
    · have hb0 : b = 0 := by
        by_contra hne
        have : 1 ≤ b := by omega
        nlinarith
      refine ⟨⟨72 + (a - 8), by omega⟩, Fin.ext ?_⟩
      show stairN (72 + (a - 8)) = p.val
      unfold stairN; split_ifs <;> omega

/-- The sums of two rows, `16 a + b` holding `u a + v b`. -/
noncomputable def sums (u v : Fin 16 → EReal) (p : Fin 256) : EReal :=
  u ⟨p.val / 16, by omega⟩ + v ⟨p.val % 16, by omega⟩

theorem sums_le (u v : Fin 16 → EReal) (hu : Antitone u) (hv : Antitone v) (p q : Fin 256)
    (h1 : q.val / 16 ≤ p.val / 16) (h2 : q.val % 16 ≤ p.val % 16) : sums u v p ≤ sums u v q :=
  add_le_add (hu h1) (hv h2)

theorem rank_box (u v : Fin 16 → EReal) (hu : Antitone u) (hv : Antitone v) (r : Fin 256) :
    ((rank (sums u v) r).val / 16 + 1) * ((rank (sums u v) r).val % 16 + 1) ≤ r.val + 1 := by
  set f := sums u v with hf
  set p := rank f r with hp
  have hplt := p.isLt
  let box : Finset (Fin 16 × Fin 16) := (Finset.univ.filter (fun a : Fin 16 => a.val ≤ p.val / 16)) ×ˢ (Finset.univ.filter (fun b : Fin 16 => b.val ≤ p.val % 16))
  have hcard : box.card = (p.val / 16 + 1) * (p.val % 16 + 1) := by
    rw [Finset.card_product]
    have key : ∀ c < 16, (Finset.univ.filter (fun a : Fin 16 => a.val ≤ c)).card = c + 1 := by decide
    rw [key _ (by omega), key _ (by omega)]
  have hinj : box.card ≤ (Finset.univ.filter (fun i : Fin 256 => i.val ≤ r.val)).card := by
    let pos : Fin 16 × Fin 16 → Fin 256 := fun ab => ⟨ab.1.val * 16 + ab.2.val, by have := ab.1.isLt; have := ab.2.isLt; omega⟩
    choose back hback using rank_surj f
    refine Finset.card_le_card_of_injOn (fun ab => back (pos ab)) ?_ ?_
    · intro ab hab
      simp only [box, Finset.coe_product, Finset.coe_filter, Finset.mem_univ, true_and, Set.mem_prod, Set.mem_setOf_eq] at hab
      simp only [Finset.coe_filter, Finset.mem_univ, true_and, Set.mem_setOf_eq]
      by_contra hlt
      have hr : r < back (pos ab) := by
        rw [not_le] at hlt; exact hlt
      have h1 := (ahead_iff f _ _).mp (rank_ahead f _ _ hr)
      rw [hback, ← hp] at h1
      have hle : f p ≤ f (pos ab) := by
        refine sums_le u v hu hv _ _ ?_ ?_ <;> simp only [pos] <;> omega
      rcases h1 with h1 | h1
      · exact absurd h1 (not_lt.mpr hle)
      · have h3 : p.val < ab.1.val * 16 + ab.2.val := h1.2
        omega
    · intro ab _ cd _ h
      have h2 : pos ab = pos cd := by rw [← hback (pos ab), ← hback (pos cd)]; exact congrArg (rank f) h
      have h3 : ab.1.val * 16 + ab.2.val = cd.1.val * 16 + cd.2.val := congrArg Fin.val h2
      have := ab.1.isLt; have := ab.2.isLt; have := cd.1.isLt; have := cd.2.isLt
      refine Prod.ext (Fin.ext ?_) (Fin.ext ?_) <;> omega
  rw [← hcard]
  refine hinj.trans ?_
  have : (Finset.univ.filter (fun i : Fin 256 => i.val ≤ r.val)) = Finset.Iic r := by
    ext i; simp only [Finset.mem_filter, Finset.mem_univ, true_and, Finset.mem_Iic]; exact Iff.rfl
  rw [this, Fin.card_Iic]

theorem ahead_stair (f : Fin 256 → EReal) (i j : Fin 80) : ahead (fun q => f (stair q)) i j = ahead f (stair i) (stair j) := by
  unfold ahead
  simp only [stair_lt]

/-- The sixteen greatest of the eighty sums are the sixteen greatest of all. -/
theorem rank_stair (u v : Fin 16 → EReal) (hu : Antitone u) (hv : Antitone v) (r : Fin 16) :
    stair (rank (fun q => sums u v (stair q)) (r.castLE (by decide))) = rank (sums u v) (r.castLE (by decide)) := by
  have hex : ∀ i : Fin 16, ∃ q, stair q = rank (sums u v) (i.castLE (by decide)) := fun i =>
    stair_covers _ ((rank_box u v hu hv _).trans (by have := i.isLt; simp only [Fin.val_castLE]; omega))
  choose σ hσ using hex
  have hB := ahead_total (fun q => sums u v (stair q))
  have := hB.sortedFrom_eq_of_prefix (k := 16) (by decide) σ
    (fun i j h => by
      have h2 := congrArg stair h
      rw [hσ, hσ] at h2
      exact Fin.castLE_injective _ (rank_inj _ h2))
    (fun i j h => by
      rw [ahead_stair, hσ, hσ]
      exact (ahead_total _).asymm _ _ (rank_ahead _ _ _ h))
    (fun i p h => by
      rw [ahead_stair, hσ]
      obtain ⟨s, hs⟩ := rank_surj (sums u v) (stair p)
      rw [← hs]
      refine (ahead_total _).asymm _ _ (rank_ahead _ _ _ ?_)
      by_contra hlt
      have hsv : s.val < 16 := by
        have := i.isLt
        rw [not_lt] at hlt
        have : s.val ≤ i.val := hlt
        omega
      refine h ⟨s.val, hsv⟩ (stair_inj ?_)
      rw [hσ, ← hs]
      rfl) r
  unfold rank at hσ ⊢
  rw [this, hσ]

end Cert.Top
-- ==== Proof.TopRounds.lean ====
module

public import proofs.«01_k».proof.Proof.Gen.Kernel6Ideal
public import proofs.«01_k».proof.Proof.Gen.Kernel6Ideal.Frame
public import proofs.«01_k».proof.Proof.TopRank
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

set_option maxRecDepth 16384

noncomputable section

namespace Cert.Kernel6Ideal.Topk

open Idealize.ShloMosaic Idealize.ShloMosaic.TcCoe Idealize.ShloMosaic.Tactic Cert.Kernel6Ideal Cert.Kernel6Ideal.Gen Cert.Top

/-! ## One round of the selection, per column -/

section Rounds

variable {n : Nat} (hr : (⟨2, ![n, 128]⟩ : Shape).Reduces [0] S128) (hb : S1x128.Broadcasts (⟨2, ![n, 128]⟩ : Shape))

/-- The greatest entry of each column. -/
def mx (s : FVec Ideal (⟨2, ![n, 128]⟩ : Shape) .f32) : FVec Ideal S1x128 .f32 :=
  shapeCast S1x128 (multiReduction .maximumf [0] S128 s 0xFF800000#32 hr (.inl rfl) rfl) shapeCasts_S128_S1x128

/-- The least name attaining it. -/
def pk (v : IVec (⟨2, ![n, 128]⟩ : Shape) 32) (s : FVec Ideal (⟨2, ![n, 128]⟩ : Shape) .f32) : IVec S1x128 32 :=
  shapeCast S1x128 (multiReductionI .minsi [0] S128
    (select (cmpf .oeq s (broadcastTo (⟨2, ![n, 128]⟩ : Shape) (mx hr s) hb)) v (broadcast (⟨2, ![n, 128]⟩ : Shape) 1073741824#32))
    2147483647#32 hr rfl) shapeCasts_S128_S1x128

/-- The column with that name struck out. -/
def nx (v : IVec (⟨2, ![n, 128]⟩ : Shape) 32) (s : FVec Ideal (⟨2, ![n, 128]⟩ : Shape) .f32) : FVec Ideal (⟨2, ![n, 128]⟩ : Shape) .f32 :=
  select (cmpi .eq v (broadcastTo (⟨2, ![n, 128]⟩ : Shape) (pk hr hb v s) hb))
    (broadcast (⟨2, ![n, 128]⟩ : Shape) (Scalar.ofBits (F := Ideal) .f32 0xFF800000#32)) s

def cur (v : IVec (⟨2, ![n, 128]⟩ : Shape) 32) (s : FVec Ideal (⟨2, ![n, 128]⟩ : Shape) .f32) : Nat → FVec Ideal (⟨2, ![n, 128]⟩ : Shape) .f32
  | 0 => s
  | k + 1 => nx hr hb v (cur v s k)

theorem neg_inf : (Ideal.ofBits FTy.f32 0xFF800000#32 : EReal) = ⊥ := by
  simp [Ideal.ofBits, Ideal.ieee]

theorem mx_read (s : FVec Ideal (⟨2, ![n, 128]⟩ : Shape) .f32) (t : Fin 128) :
    mx hr s (ix2 0 t) = (Finset.univ : Finset (Fin n)).fold max (⊥ : EReal) (fun k => s (ix2 k t)) := by
  unfold mx
  pointwise
  rw [neg_inf]

theorem pk_read (v : IVec (⟨2, ![n, 128]⟩ : Shape) 32) (s : FVec Ideal (⟨2, ![n, 128]⟩ : Shape) .f32) (t : Fin 128) :
    pk hr hb v s (ix2 0 t) = (Finset.univ : Finset (Fin n)).fold IntOp.minsi 2147483647#32
      (fun j => if s (ix2 j t) = mx hr s (ix2 0 t) then v (ix2 j t) else 1073741824#32) := by
  unfold pk
  pointwise

theorem nx_read (v : IVec (⟨2, ![n, 128]⟩ : Shape) 32) (s : FVec Ideal (⟨2, ![n, 128]⟩ : Shape) .f32) (j : Fin n) (t : Fin 128) :
    nx hr hb v s (ix2 j t) = if v (ix2 j t) = pk hr hb v s (ix2 0 t) then (⊥ : EReal) else s (ix2 j t) := by
  unfold nx
  pointwise
  rw [neg_inf]
  by_cases h : v (ix2 j t) = pk hr hb v s (ix2 0 t)
  · rw [if_pos h, h]; simp [Scalar.select, IntOp.cmpi]
  · have hne : (v (ix2 j t) == pk hr hb v s (ix2 0 t)) = false := beq_false_of_ne h
    rw [if_neg h]; simp [Scalar.select, IntOp.cmpi, hne]

theorem cur_read (v : IVec (⟨2, ![n, 128]⟩ : Shape) 32) (s : FVec Ideal (⟨2, ![n, 128]⟩ : Shape) .f32) (t : Fin 128)
    (f : Fin n → EReal) (id : Fin n → BitVec 32) (hs : ∀ j, s (ix2 j t) = f j) (hv : ∀ j, v (ix2 j t) = id j)
    (hf : ∀ j, f j ≠ ⊥) (hid : Named id) (k : Nat) (hk : k ≤ n) (j : Fin n) :
    cur hr hb v s k (ix2 j t) = cut f k j := by
  induction k generalizing j with
  | zero => rw [cut_zero]; exact hs j
  | succ k ih =>
    have ih' := fun j => ih (by omega) j
    have hm : mx hr (cur hr hb v s k) (ix2 0 t) = f (rank f ⟨k, by omega⟩) := by
      rw [mx_read, ← cut_max f ⟨k, by omega⟩]
      exact congrArg (fun g => Finset.fold max ⊥ g Finset.univ) (funext ih')
    have hp : pk hr hb v (cur hr hb v s k) (ix2 0 t) = id (rank f ⟨k, by omega⟩) := by
      rw [pk_read, hm, ← cut_pick f hf id hid ⟨k, by omega⟩]
      refine congrArg (fun g => Finset.fold IntOp.minsi _ g Finset.univ) (funext fun j => ?_)
      rw [ih' j, hv j]
    show nx hr hb v (cur hr hb v s k) (ix2 j t) = _
    rw [nx_read, hp, hv, ih', ← cut_succ f ⟨k, by omega⟩ j]
    by_cases e : j = rank f ⟨k, by omega⟩
    · rw [if_pos e, if_pos (congrArg id e)]
    · rw [if_neg e, if_neg (fun h => e (hid.inj _ _ h))]

theorem mx_cur (v : IVec (⟨2, ![n, 128]⟩ : Shape) 32) (s : FVec Ideal (⟨2, ![n, 128]⟩ : Shape) .f32) (t : Fin 128)
    (f : Fin n → EReal) (id : Fin n → BitVec 32) (hs : ∀ j, s (ix2 j t) = f j) (hv : ∀ j, v (ix2 j t) = id j)
    (hf : ∀ j, f j ≠ ⊥) (hid : Named id) (k : Fin n) :
    mx hr (cur hr hb v s k.val) (ix2 0 t) = f (rank f k) := by
  rw [mx_read, ← cut_max f k]
  exact congrArg (fun g => Finset.fold max ⊥ g Finset.univ)
    (funext fun j => cur_read hr hb v s t f id hs hv hf hid k.val k.isLt.le j)

theorem pk_cur (v : IVec (⟨2, ![n, 128]⟩ : Shape) 32) (s : FVec Ideal (⟨2, ![n, 128]⟩ : Shape) .f32) (t : Fin 128)
    (f : Fin n → EReal) (id : Fin n → BitVec 32) (hs : ∀ j, s (ix2 j t) = f j) (hv : ∀ j, v (ix2 j t) = id j)
    (hf : ∀ j, f j ≠ ⊥) (hid : Named id) (k : Fin n) :
    pk hr hb v (cur hr hb v s k.val) (ix2 0 t) = id (rank f k) := by
  rw [pk_read, mx_cur hr hb v s t f id hs hv hf hid k, ← cut_pick f hf id hid k]
  refine congrArg (fun g => Finset.fold IntOp.minsi _ g Finset.univ) (funext fun j => ?_)
  rw [cur_read hr hb v s t f id hs hv hf hid k.val k.isLt.le j, hv j]

end Rounds

end Cert.Kernel6Ideal.Topk
-- ==== Proof.TopWords.lean ====
module

public import proofs.«01_k».proof.Proof.Gen.Kernel6Ideal
public import proofs.«01_k».proof.Proof.Gen.Kernel6Ideal.Frame
public import proofs.«01_k».proof.Proof.TopRank
public import proofs.«01_k».proof.Proof.TopRounds
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

set_option maxRecDepth 16384

noncomputable section

namespace Cert.Kernel6Ideal.Topk

open Idealize.ShloMosaic Idealize.ShloMosaic.TcCoe Idealize.ShloMosaic.Tactic Cert.Kernel6Ideal Cert.Kernel6Ideal.Gen Cert.Top

/-- Sixteen rows stacked. -/
def cat16 {α : Type} (p : Nat → S1x128.Idx → α) : S16x128.Idx → α :=
  concatenate S16x128 0 [⟨S1x128, p 0⟩, ⟨S1x128, p 1⟩, ⟨S1x128, p 2⟩, ⟨S1x128, p 3⟩, ⟨S1x128, p 4⟩, ⟨S1x128, p 5⟩, ⟨S1x128, p 6⟩, ⟨S1x128, p 7⟩, ⟨S1x128, p 8⟩, ⟨S1x128, p 9⟩, ⟨S1x128, p 10⟩, ⟨S1x128, p 11⟩, ⟨S1x128, p 12⟩, ⟨S1x128, p 13⟩, ⟨S1x128, p 14⟩, ⟨S1x128, p 15⟩] concatenates_S1x128_S1x128_S1x128_S1x128_S1x128_S1x128_S1x128_S1x128_S1x128_S1x128_S1x128_S1x128_S1x128_S1x128_S1x128_S1x128_S16x128_d0

/-- The expert numbers of the eighty pairs. -/
def grid80 (i1 i2 : IVec S16x128 32) : IVec S80x128 32 :=
  concatenate S80x128 0 [⟨S16x128, addi (broadcastTo S16x128 (muli (extractStridedSlice S1x128 ![0, 0] i1 slices_S16x128_o0_0_S1x128) (broadcast S1x128 128#32)) broadcasts_S1x128_S16x128) i2⟩,
    ⟨S8x128, addi (broadcastTo S8x128 (muli (extractStridedSlice S1x128 ![1, 0] i1 slices_S16x128_o1_0_S1x128) (broadcast S1x128 128#32)) broadcasts_S1x128_S8x128) (extractStridedSlice S8x128 ![0, 0] i2 slices_S16x128_o0_0_S8x128)⟩,
    ⟨S8x128, addi (broadcastTo S8x128 (muli (extractStridedSlice S1x128 ![2, 0] i1 slices_S16x128_o2_0_S1x128) (broadcast S1x128 128#32)) broadcasts_S1x128_S8x128) (extractStridedSlice S8x128 ![0, 0] i2 slices_S16x128_o0_0_S8x128)⟩,
    ⟨S8x128, addi (broadcastTo S8x128 (muli (extractStridedSlice S1x128 ![3, 0] i1 slices_S16x128_o3_0_S1x128) (broadcast S1x128 128#32)) broadcasts_S1x128_S8x128) (extractStridedSlice S8x128 ![0, 0] i2 slices_S16x128_o0_0_S8x128)⟩,
    ⟨S8x128, addi (broadcastTo S8x128 (muli (extractStridedSlice S1x128 ![4, 0] i1 slices_S16x128_o4_0_S1x128) (broadcast S1x128 128#32)) broadcasts_S1x128_S8x128) (extractStridedSlice S8x128 ![0, 0] i2 slices_S16x128_o0_0_S8x128)⟩,
    ⟨S8x128, addi (broadcastTo S8x128 (muli (extractStridedSlice S1x128 ![5, 0] i1 slices_S16x128_o5_0_S1x128) (broadcast S1x128 128#32)) broadcasts_S1x128_S8x128) (extractStridedSlice S8x128 ![0, 0] i2 slices_S16x128_o0_0_S8x128)⟩,
    ⟨S8x128, addi (broadcastTo S8x128 (muli (extractStridedSlice S1x128 ![6, 0] i1 slices_S16x128_o6_0_S1x128) (broadcast S1x128 128#32)) broadcasts_S1x128_S8x128) (extractStridedSlice S8x128 ![0, 0] i2 slices_S16x128_o0_0_S8x128)⟩,
    ⟨S8x128, addi (broadcastTo S8x128 (muli (extractStridedSlice S1x128 ![7, 0] i1 slices_S16x128_o7_0_S1x128) (broadcast S1x128 128#32)) broadcasts_S1x128_S8x128) (extractStridedSlice S8x128 ![0, 0] i2 slices_S16x128_o0_0_S8x128)⟩,
    ⟨S8x128, addi (muli (extractStridedSlice S8x128 ![8, 0] i1 slices_S16x128_o8_0_S8x128) (broadcast S8x128 128#32)) (broadcastTo S8x128 (extractStridedSlice S1x128 ![0, 0] i2 slices_S16x128_o0_0_S1x128) broadcasts_S1x128_S8x128)⟩]
    concatenates_S16x128_S8x128_S8x128_S8x128_S8x128_S8x128_S8x128_S8x128_S8x128_S80x128_d0

def sA (arg4 : Memref sig .tc .vmem S2x128x128 .bf16) (arg9 : Memref sig .tc .vmem S128x2048 .bf16) (X_arg4 : BufTy.Contents (Elt Ideal) arg4.view.ty) (X_arg9 : BufTy.Contents (Elt Ideal) arg9.view.ty) (k : Fin k0_t1_loop.trips) : FVec Ideal S128x128 .f32 :=
  k0_pay5 (View.readAt (Elt Ideal) arg4.view (Rect.unit (s := S2x128x128) ![0, 0, 0] S1x128x128.size inb_S2x128x128_S1x128x128_0_0_0).toLoadRect X_arg4)
    (View.readAt (Elt Ideal) arg9.view (Rect.unit (s := S128x2048) (k0_off1 k 0#32) S128x128.size (k0_off1_inb k 0)).toLoadRect X_arg9)

def sB (arg4 : Memref sig .tc .vmem S2x128x128 .bf16) (arg9 : Memref sig .tc .vmem S128x2048 .bf16) (X_arg4 : BufTy.Contents (Elt Ideal) arg4.view.ty) (X_arg9 : BufTy.Contents (Elt Ideal) arg9.view.ty) (k : Fin k0_t1_loop.trips) : FVec Ideal S128x128 .f32 :=
  k0_pay58 (View.readAt (Elt Ideal) arg4.view (Rect.unit (s := S2x128x128) ![1, 0, 0] S1x128x128.size inb_S2x128x128_S1x128x128_1_0_0).toLoadRect X_arg4)
    (View.readAt (Elt Ideal) arg9.view (Rect.unit (s := S128x2048) (k0_off1 k 1#32) S128x128.size (k0_off1_inb k 1)).toLoadRect X_arg9)

def cand (arg4 : Memref sig .tc .vmem S2x128x128 .bf16) (arg9 : Memref sig .tc .vmem S128x2048 .bf16) (v21 : IVec S128x128 32) (X_arg4 : BufTy.Contents (Elt Ideal) arg4.view.ty) (X_arg9 : BufTy.Contents (Elt Ideal) arg9.view.ty) (k : Fin k0_t1_loop.trips) : FVec Ideal S80x128 .f32 :=
  k0_pay111 (cat16 (fun j => mx reduces_S128x128_S128 (cur reduces_S128x128_S128 broadcasts_S1x128_S128x128 v21 (sA arg4 arg9 X_arg4 X_arg9 k) j))) (cat16 (fun j => mx reduces_S128x128_S128 (cur reduces_S128x128_S128 broadcasts_S1x128_S128x128 v21 (sB arg4 arg9 X_arg4 X_arg9 k) j)))

def cexp (arg4 : Memref sig .tc .vmem S2x128x128 .bf16) (arg9 : Memref sig .tc .vmem S128x2048 .bf16) (v21 : IVec S128x128 32) (X_arg4 : BufTy.Contents (Elt Ideal) arg4.view.ty) (X_arg9 : BufTy.Contents (Elt Ideal) arg9.view.ty) (k : Fin k0_t1_loop.trips) : IVec S80x128 32 :=
  grid80 (cat16 (fun j => pk reduces_S128x128_S128 broadcasts_S1x128_S128x128 v21 (cur reduces_S128x128_S128 broadcasts_S1x128_S128x128 v21 (sA arg4 arg9 X_arg4 X_arg9 k) j))) (cat16 (fun j => pk reduces_S128x128_S128 broadcasts_S1x128_S128x128 v21 (cur reduces_S128x128_S128 broadcasts_S1x128_S128x128 v21 (sB arg4 arg9 X_arg4 X_arg9 k) j)))

section Words
variable (arg4 : Memref sig .tc .vmem S2x128x128 .bf16) (arg9 : Memref sig .tc .vmem S128x2048 .bf16) (v21 : IVec S128x128 32) (v22 : Vec Ideal S80x128 .i32) (X_arg4 : BufTy.Contents (Elt Ideal) arg4.view.ty) (X_arg9 : BufTy.Contents (Elt Ideal) arg9.view.ty) (k : Fin k0_t1_loop.trips)
theorem w_r : trip_k0_t1.sl.r (F := Ideal) arg4 arg9 X_arg4 X_arg9 k = (mx reduces_S128x128_S128 (cur reduces_S128x128_S128 broadcasts_S1x128_S128x128 v21 (sA arg4 arg9 X_arg4 X_arg9 k) 0)) := by
  unfold trip_k0_t1.sl.r
  rfl
theorem w_r_1 : trip_k0_t1.sl.r_1 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 0)) := by
  unfold trip_k0_t1.sl.r_1
  rfl
theorem w_r_2 : trip_k0_t1.sl.r_2 (F := Ideal) arg4 arg9 v21 X_arg4 X_arg9 k = (mx reduces_S128x128_S128 (cur reduces_S128x128_S128 broadcasts_S1x128_S128x128 v21 (sA arg4 arg9 X_arg4 X_arg9 k) 1)) := by
  unfold trip_k0_t1.sl.r_2
  rfl
theorem w_r_3 : trip_k0_t1.sl.r_3 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 1)) := by
  unfold trip_k0_t1.sl.r_3
  rfl
theorem w_r_4 : trip_k0_t1.sl.r_4 (F := Ideal) arg4 arg9 v21 X_arg4 X_arg9 k = (cur reduces_S128x128_S128 broadcasts_S1x128_S128x128 v21 (sA arg4 arg9 X_arg4 X_arg9 k) 2) := by
  unfold trip_k0_t1.sl.r_4
  rfl
theorem w_r_5 : trip_k0_t1.sl.r_5 (F := Ideal) arg4 arg9 v21 X_arg4 X_arg9 k = (mx reduces_S128x128_S128 (cur reduces_S128x128_S128 broadcasts_S1x128_S128x128 v21 (sA arg4 arg9 X_arg4 X_arg9 k) 2)) := by
  unfold trip_k0_t1.sl.r_5
  rfl
theorem w_r_6 : trip_k0_t1.sl.r_6 (F := Ideal) arg4 arg9 v21 X_arg4 X_arg9 k = (multiReductionI .minsi [0] S128 (select (cmpf .oeq (cur reduces_S128x128_S128 broadcasts_S1x128_S128x128 v21 (sA arg4 arg9 X_arg4 X_arg9 k) 2) (broadcastTo S128x128 (mx reduces_S128x128_S128 (cur reduces_S128x128_S128 broadcasts_S1x128_S128x128 v21 (sA arg4 arg9 X_arg4 X_arg9 k) 2)) broadcasts_S1x128_S128x128)) v21 (broadcast S128x128 1073741824#32)) 2147483647#32 reduces_S128x128_S128 rfl) := by
  unfold trip_k0_t1.sl.r_6
  rfl
theorem w_r_7 : trip_k0_t1.sl.r_7 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 2)) := by
  unfold trip_k0_t1.sl.r_7
  rw [w_r_6]
  rfl
theorem w_r_8 : trip_k0_t1.sl.r_8 (F := Ideal) arg4 arg9 v21 X_arg4 X_arg9 k = (mx reduces_S128x128_S128 (cur reduces_S128x128_S128 broadcasts_S1x128_S128x128 v21 (sA arg4 arg9 X_arg4 X_arg9 k) 3)) := by
  unfold trip_k0_t1.sl.r_8
  rw [w_r_4, w_r_6]
  rfl
theorem w_r_9 : trip_k0_t1.sl.r_9 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 3)) := by
  unfold trip_k0_t1.sl.r_9
  rw [w_r_4, w_r_6]
  rfl
theorem w_r_10 : trip_k0_t1.sl.r_10 (F := Ideal) arg4 arg9 v21 X_arg4 X_arg9 k = (mx reduces_S128x128_S128 (cur reduces_S128x128_S128 broadcasts_S1x128_S128x128 v21 (sA arg4 arg9 X_arg4 X_arg9 k) 4)) := by
  unfold trip_k0_t1.sl.r_10
  rw [w_r_4, w_r_6]
  rfl
theorem w_r_11 : trip_k0_t1.sl.r_11 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 4)) := by
  unfold trip_k0_t1.sl.r_11
  rw [w_r_4, w_r_6]
  rfl
theorem w_r_12 : trip_k0_t1.sl.r_12 (F := Ideal) arg4 arg9 v21 X_arg4 X_arg9 k = (mx reduces_S128x128_S128 (cur reduces_S128x128_S128 broadcasts_S1x128_S128x128 v21 (sA arg4 arg9 X_arg4 X_arg9 k) 5)) := by
  unfold trip_k0_t1.sl.r_12
  rw [w_r_4, w_r_6]
  rfl
theorem w_r_13 : trip_k0_t1.sl.r_13 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 5)) := by
  unfold trip_k0_t1.sl.r_13
  rw [w_r_4, w_r_6]
  rfl
theorem w_r_14 : trip_k0_t1.sl.r_14 (F := Ideal) arg4 arg9 v21 X_arg4 X_arg9 k = (cur reduces_S128x128_S128 broadcasts_S1x128_S128x128 v21 (sA arg4 arg9 X_arg4 X_arg9 k) 6) := by
  unfold trip_k0_t1.sl.r_14
  rw [w_r_4, w_r_6]
  rfl
theorem w_r_15 : trip_k0_t1.sl.r_15 (F := Ideal) arg4 arg9 v21 X_arg4 X_arg9 k = (mx reduces_S128x128_S128 (cur reduces_S128x128_S128 broadcasts_S1x128_S128x128 v21 (sA arg4 arg9 X_arg4 X_arg9 k) 6)) := by
  unfold trip_k0_t1.sl.r_15
  rw [w_r_4, w_r_6]
  rfl
theorem w_r_16 : trip_k0_t1.sl.r_16 (F := Ideal) arg4 arg9 v21 X_arg4 X_arg9 k = (cmpf .oeq (cur reduces_S128x128_S128 broadcasts_S1x128_S128x128 v21 (sA arg4 arg9 X_arg4 X_arg9 k) 6) (broadcastTo S128x128 (mx reduces_S128x128_S128 (cur reduces_S128x128_S128 broadcasts_S1x128_S128x128 v21 (sA arg4 arg9 X_arg4 X_arg9 k) 6)) broadcasts_S1x128_S128x128)) := by
  unfold trip_k0_t1.sl.r_16
  rw [w_r_4, w_r_6]
  rfl
theorem w_r_17 : trip_k0_t1.sl.r_17 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 6)) := by
  unfold trip_k0_t1.sl.r_17
  rw [w_r_16]
  rfl
theorem w_r_18 : trip_k0_t1.sl.r_18 (F := Ideal) arg4 arg9 v21 X_arg4 X_arg9 k = (mx reduces_S128x128_S128 (cur reduces_S128x128_S128 broadcasts_S1x128_S128x128 v21 (sA arg4 arg9 X_arg4 X_arg9 k) 7)) := by
  unfold trip_k0_t1.sl.r_18
  rw [w_r_14, w_r_16]
  rfl
theorem w_r_19 : trip_k0_t1.sl.r_19 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 7)) := by
  unfold trip_k0_t1.sl.r_19
  rw [w_r_14, w_r_16]
  rfl
theorem w_r_20 : trip_k0_t1.sl.r_20 (F := Ideal) arg4 arg9 v21 X_arg4 X_arg9 k = (mx reduces_S128x128_S128 (cur reduces_S128x128_S128 broadcasts_S1x128_S128x128 v21 (sA arg4 arg9 X_arg4 X_arg9 k) 8)) := by
  unfold trip_k0_t1.sl.r_20
  rw [w_r_14, w_r_16]
  rfl
theorem w_r_21 : trip_k0_t1.sl.r_21 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 8)) := by
  unfold trip_k0_t1.sl.r_21
  rw [w_r_14, w_r_16]
  rfl
theorem w_r_22 : trip_k0_t1.sl.r_22 (F := Ideal) arg4 arg9 v21 X_arg4 X_arg9 k = (mx reduces_S128x128_S128 (cur reduces_S128x128_S128 broadcasts_S1x128_S128x128 v21 (sA arg4 arg9 X_arg4 X_arg9 k) 9)) := by
  unfold trip_k0_t1.sl.r_22
  rw [w_r_14, w_r_16]
  rfl
theorem w_r_23 : trip_k0_t1.sl.r_23 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 9)) := by
  unfold trip_k0_t1.sl.r_23
  rw [w_r_14, w_r_16]
  rfl
theorem w_r_24 : trip_k0_t1.sl.r_24 (F := Ideal) arg4 arg9 v21 X_arg4 X_arg9 k = (cur reduces_S128x128_S128 broadcasts_S1x128_S128x128 v21 (sA arg4 arg9 X_arg4 X_arg9 k) 10) := by
  unfold trip_k0_t1.sl.r_24
  rw [w_r_14, w_r_16]
  rfl
theorem w_r_25 : trip_k0_t1.sl.r_25 (F := Ideal) arg4 arg9 v21 X_arg4 X_arg9 k = (multiReduction .maximumf [0] S128 (cur reduces_S128x128_S128 broadcasts_S1x128_S128x128 v21 (sA arg4 arg9 X_arg4 X_arg9 k) 10) 0xFF800000#32 reduces_S128x128_S128 (.inl rfl) rfl) := by
  unfold trip_k0_t1.sl.r_25
  rw [w_r_14, w_r_16]
  rfl
theorem w_r_26 : trip_k0_t1.sl.r_26 (F := Ideal) arg4 arg9 v21 X_arg4 X_arg9 k = (mx reduces_S128x128_S128 (cur reduces_S128x128_S128 broadcasts_S1x128_S128x128 v21 (sA arg4 arg9 X_arg4 X_arg9 k) 10)) := by
  unfold trip_k0_t1.sl.r_26
  rw [w_r_25]
  rfl
theorem w_r_27 : trip_k0_t1.sl.r_27 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 10)) := by
  unfold trip_k0_t1.sl.r_27
  rw [w_r_24, w_r_25]
  rfl
theorem w_r_28 : trip_k0_t1.sl.r_28 (F := Ideal) arg4 arg9 v21 X_arg4 X_arg9 k = (mx reduces_S128x128_S128 (cur reduces_S128x128_S128 broadcasts_S1x128_S128x128 v21 (sA arg4 arg9 X_arg4 X_arg9 k) 11)) := by
  unfold trip_k0_t1.sl.r_28
  rw [w_r_24, w_r_25]
  rfl
theorem w_r_29 : trip_k0_t1.sl.r_29 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 11)) := by
  unfold trip_k0_t1.sl.r_29
  rw [w_r_24, w_r_25]
  rfl
theorem w_r_30 : trip_k0_t1.sl.r_30 (F := Ideal) arg4 arg9 v21 X_arg4 X_arg9 k = (mx reduces_S128x128_S128 (cur reduces_S128x128_S128 broadcasts_S1x128_S128x128 v21 (sA arg4 arg9 X_arg4 X_arg9 k) 12)) := by
  unfold trip_k0_t1.sl.r_30
  rw [w_r_24, w_r_25]
  rfl
theorem w_r_31 : trip_k0_t1.sl.r_31 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 12)) := by
  unfold trip_k0_t1.sl.r_31
  rw [w_r_24, w_r_25]
  rfl
theorem w_r_32 : trip_k0_t1.sl.r_32 (F := Ideal) arg4 arg9 v21 X_arg4 X_arg9 k = (cur reduces_S128x128_S128 broadcasts_S1x128_S128x128 v21 (sA arg4 arg9 X_arg4 X_arg9 k) 13) := by
  unfold trip_k0_t1.sl.r_32
  rw [w_r_24, w_r_25]
  rfl
theorem w_r_33 : trip_k0_t1.sl.r_33 (F := Ideal) arg4 arg9 v21 X_arg4 X_arg9 k = (mx reduces_S128x128_S128 (cur reduces_S128x128_S128 broadcasts_S1x128_S128x128 v21 (sA arg4 arg9 X_arg4 X_arg9 k) 13)) := by
  unfold trip_k0_t1.sl.r_33
  rw [w_r_24, w_r_25]
  rfl
theorem w_r_34 : trip_k0_t1.sl.r_34 (F := Ideal) arg4 arg9 v21 X_arg4 X_arg9 k = (pk reduces_S128x128_S128 broadcasts_S1x128_S128x128 v21 (cur reduces_S128x128_S128 broadcasts_S1x128_S128x128 v21 (sA arg4 arg9 X_arg4 X_arg9 k) 13)) := by
  unfold trip_k0_t1.sl.r_34
  rw [w_r_24, w_r_25]
  rfl
theorem w_r_35 : trip_k0_t1.sl.r_35 (F := Ideal) arg4 arg9 v21 X_arg4 X_arg9 k = (cmpi .eq v21 (broadcastTo S128x128 (pk reduces_S128x128_S128 broadcasts_S1x128_S128x128 v21 (cur reduces_S128x128_S128 broadcasts_S1x128_S128x128 v21 (sA arg4 arg9 X_arg4 X_arg9 k) 13)) broadcasts_S1x128_S128x128)) := by
  unfold trip_k0_t1.sl.r_35
  rw [w_r_24, w_r_25]
  rfl
theorem w_r_36 : trip_k0_t1.sl.r_36 (F := Ideal) arg4 arg9 v21 X_arg4 X_arg9 k = cat16 (fun j => mx reduces_S128x128_S128 (cur reduces_S128x128_S128 broadcasts_S1x128_S128x128 v21 (sA arg4 arg9 X_arg4 X_arg9 k) j)) := by
  unfold trip_k0_t1.sl.r_36
  rw [w_r, w_r_2, w_r_5, w_r_8, w_r_10, w_r_12, w_r_15, w_r_18, w_r_20, w_r_22, w_r_26, w_r_28, w_r_30, w_r_32, w_r_33, w_r_35]
  rfl
theorem w_r_37 : trip_k0_t1.sl.r_37 (F := Ideal) arg4 arg9 v21 X_arg4 X_arg9 k = cat16 (fun j => pk reduces_S128x128_S128 broadcasts_S1x128_S128x128 v21 (cur reduces_S128x128_S128 broadcasts_S1x128_S128x128 v21 (sA arg4 arg9 X_arg4 X_arg9 k) j)) := by
  unfold trip_k0_t1.sl.r_37
  rw [w_r_1, w_r_3, w_r_7, w_r_9, w_r_11, w_r_13, w_r_17, w_r_19, w_r_21, w_r_23, w_r_27, w_r_29, w_r_31, w_r_32, w_r_34, w_r_35]
  rfl
theorem w_r_38 : trip_k0_t1.sl.r_38 (F := Ideal) arg4 arg9 X_arg4 X_arg9 k = (cur reduces_S128x128_S128 broadcasts_S1x128_S128x128 v21 (sB arg4 arg9 X_arg4 X_arg9 k) 0) := by
  unfold trip_k0_t1.sl.r_38
  rfl
theorem w_r_39 : trip_k0_t1.sl.r_39 (F := Ideal) arg4 arg9 X_arg4 X_arg9 k = (mx reduces_S128x128_S128 (cur reduces_S128x128_S128 broadcasts_S1x128_S128x128 v21 (sB arg4 arg9 X_arg4 X_arg9 k) 0)) := by
  unfold trip_k0_t1.sl.r_39
  rfl
theorem w_r_40 : trip_k0_t1.sl.r_40 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 0)) := by
  unfold trip_k0_t1.sl.r_40
  rfl
theorem w_r_41 : trip_k0_t1.sl.r_41 (F := Ideal) arg4 arg9 v21 X_arg4 X_arg9 k = (broadcastTo S128x128 (pk reduces_S128x128_S128 broadcasts_S1x128_S128x128 v21 (cur reduces_S128x128_S128 broadcasts_S1x128_S128x128 v21 (sB arg4 arg9 X_arg4 X_arg9 k) 0)) broadcasts_S1x128_S128x128) := by
  unfold trip_k0_t1.sl.r_41
  rfl
theorem w_r_42 : trip_k0_t1.sl.r_42 (F := Ideal) arg4 arg9 v21 X_arg4 X_arg9 k = (mx reduces_S128x128_S128 (cur reduces_S128x128_S128 broadcasts_S1x128_S128x128 v21 (sB arg4 arg9 X_arg4 X_arg9 k) 1)) := by
  unfold trip_k0_t1.sl.r_42
  rw [w_r_38, w_r_41]
  rfl
theorem w_r_43 : trip_k0_t1.sl.r_43 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 1)) := by
  unfold trip_k0_t1.sl.r_43
  rw [w_r_38, w_r_41]
  rfl
theorem w_r_44 : trip_k0_t1.sl.r_44 (F := Ideal) arg4 arg9 v21 X_arg4 X_arg9 k = (mx reduces_S128x128_S128 (cur reduces_S128x128_S128 broadcasts_S1x128_S128x128 v21 (sB arg4 arg9 X_arg4 X_arg9 k) 2)) := by
  unfold trip_k0_t1.sl.r_44
  rw [w_r_38, w_r_41]
  rfl
theorem w_r_45 : trip_k0_t1.sl.r_45 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 2)) := by
  unfold trip_k0_t1.sl.r_45
  rw [w_r_38, w_r_41]
  rfl
theorem w_r_46 : trip_k0_t1.sl.r_46 (F := Ideal) arg4 arg9 v21 X_arg4 X_arg9 k = (mx reduces_S128x128_S128 (cur reduces_S128x128_S128 broadcasts_S1x128_S128x128 v21 (sB arg4 arg9 X_arg4 X_arg9 k) 3)) := by
  unfold trip_k0_t1.sl.r_46
  rw [w_r_38, w_r_41]
  rfl
theorem w_r_47 : trip_k0_t1.sl.r_47 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 3)) := by
  unfold trip_k0_t1.sl.r_47
  rw [w_r_38, w_r_41]
  rfl
theorem w_r_48 : trip_k0_t1.sl.r_48 (F := Ideal) arg4 arg9 v21 X_arg4 X_arg9 k = (cur reduces_S128x128_S128 broadcasts_S1x128_S128x128 v21 (sB arg4 arg9 X_arg4 X_arg9 k) 4) := by
  unfold trip_k0_t1.sl.r_48
  rw [w_r_38, w_r_41]
  rfl
theorem w_r_49 : trip_k0_t1.sl.r_49 (F := Ideal) arg4 arg9 v21 X_arg4 X_arg9 k = (mx reduces_S128x128_S128 (cur reduces_S128x128_S128 broadcasts_S1x128_S128x128 v21 (sB arg4 arg9 X_arg4 X_arg9 k) 4)) := by
  unfold trip_k0_t1.sl.r_49
  rw [w_r_38, w_r_41]
  rfl
theorem w_r_50 : trip_k0_t1.sl.r_50 (F := Ideal) arg4 arg9 v21 X_arg4 X_arg9 k = (select (cmpf .oeq (cur reduces_S128x128_S128 broadcasts_S1x128_S128x128 v21 (sB arg4 arg9 X_arg4 X_arg9 k) 4) (broadcastTo S128x128 (mx reduces_S128x128_S128 (cur reduces_S128x128_S128 broadcasts_S1x128_S128x128 v21 (sB arg4 arg9 X_arg4 X_arg9 k) 4)) broadcasts_S1x128_S128x128)) v21 (broadcast S128x128 1073741824#32)) := by
  unfold trip_k0_t1.sl.r_50
  rw [w_r_38, w_r_41]
  rfl
theorem w_r_51 : trip_k0_t1.sl.r_51 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 4)) := by
  unfold trip_k0_t1.sl.r_51
  rw [w_r_50]
  rfl
theorem w_r_52 : trip_k0_t1.sl.r_52 (F := Ideal) arg4 arg9 v21 X_arg4 X_arg9 k = (mx reduces_S128x128_S128 (cur reduces_S128x128_S128 broadcasts_S1x128_S128x128 v21 (sB arg4 arg9 X_arg4 X_arg9 k) 5)) := by
  unfold trip_k0_t1.sl.r_52
  rw [w_r_48, w_r_50]
  rfl
theorem w_r_53 : trip_k0_t1.sl.r_53 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 5)) := by
  unfold trip_k0_t1.sl.r_53
  rw [w_r_48, w_r_50]
  rfl
theorem w_r_54 : trip_k0_t1.sl.r_54 (F := Ideal) arg4 arg9 v21 X_arg4 X_arg9 k = (mx reduces_S128x128_S128 (cur reduces_S128x128_S128 broadcasts_S1x128_S128x128 v21 (sB arg4 arg9 X_arg4 X_arg9 k) 6)) := by
  unfold trip_k0_t1.sl.r_54
  rw [w_r_48, w_r_50]
  rfl
theorem w_r_55 : trip_k0_t1.sl.r_55 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 6)) := by
  unfold trip_k0_t1.sl.r_55
  rw [w_r_48, w_r_50]
  rfl
theorem w_r_56 : trip_k0_t1.sl.r_56 (F := Ideal) arg4 arg9 v21 X_arg4 X_arg9 k = (mx reduces_S128x128_S128 (cur reduces_S128x128_S128 broadcasts_S1x128_S128x128 v21 (sB arg4 arg9 X_arg4 X_arg9 k) 7)) := by
  unfold trip_k0_t1.sl.r_56
  rw [w_r_48, w_r_50]
  rfl
theorem w_r_57 : trip_k0_t1.sl.r_57 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 7)) := by
  unfold trip_k0_t1.sl.r_57
  rw [w_r_48, w_r_50]
  rfl
theorem w_r_58 : trip_k0_t1.sl.r_58 (F := Ideal) arg4 arg9 v21 X_arg4 X_arg9 k = (cur reduces_S128x128_S128 broadcasts_S1x128_S128x128 v21 (sB arg4 arg9 X_arg4 X_arg9 k) 8) := by
  unfold trip_k0_t1.sl.r_58
  rw [w_r_48, w_r_50]
  rfl
theorem w_r_59 : trip_k0_t1.sl.r_59 (F := Ideal) arg4 arg9 v21 X_arg4 X_arg9 k = (mx reduces_S128x128_S128 (cur reduces_S128x128_S128 broadcasts_S1x128_S128x128 v21 (sB arg4 arg9 X_arg4 X_arg9 k) 8)) := by
  unfold trip_k0_t1.sl.r_59
  rw [w_r_48, w_r_50]
  rfl
theorem w_r_60 : trip_k0_t1.sl.r_60 (F := Ideal) arg4 arg9 v21 X_arg4 X_arg9 k = (broadcastTo S128x128 (mx reduces_S128x128_S128 (cur reduces_S128x128_S128 broadcasts_S1x128_S128x128 v21 (sB arg4 arg9 X_arg4 X_arg9 k) 8)) broadcasts_S1x128_S128x128) := by
  unfold trip_k0_t1.sl.r_60
  rw [w_r_48, w_r_50]
  rfl
theorem w_r_61 : trip_k0_t1.sl.r_61 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 8)) := by
  unfold trip_k0_t1.sl.r_61
  rw [w_r_58, w_r_60]
  rfl
theorem w_r_62 : trip_k0_t1.sl.r_62 (F := Ideal) arg4 arg9 v21 X_arg4 X_arg9 k = (mx reduces_S128x128_S128 (cur reduces_S128x128_S128 broadcasts_S1x128_S128x128 v21 (sB arg4 arg9 X_arg4 X_arg9 k) 9)) := by
  unfold trip_k0_t1.sl.r_62
  rw [w_r_58, w_r_60]
  rfl
theorem w_r_63 : trip_k0_t1.sl.r_63 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 9)) := by
  unfold trip_k0_t1.sl.r_63
  rw [w_r_58, w_r_60]
  rfl
theorem w_r_64 : trip_k0_t1.sl.r_64 (F := Ideal) arg4 arg9 v21 X_arg4 X_arg9 k = (mx reduces_S128x128_S128 (cur reduces_S128x128_S128 broadcasts_S1x128_S128x128 v21 (sB arg4 arg9 X_arg4 X_arg9 k) 10)) := by
  unfold trip_k0_t1.sl.r_64
  rw [w_r_58, w_r_60]
  rfl
theorem w_r_65 : trip_k0_t1.sl.r_65 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 10)) := by
  unfold trip_k0_t1.sl.r_65
  rw [w_r_58, w_r_60]
  rfl
theorem w_r_66 : trip_k0_t1.sl.r_66 (F := Ideal) arg4 arg9 v21 X_arg4 X_arg9 k = (mx reduces_S128x128_S128 (cur reduces_S128x128_S128 broadcasts_S1x128_S128x128 v21 (sB arg4 arg9 X_arg4 X_arg9 k) 11)) := by
  unfold trip_k0_t1.sl.r_66
  rw [w_r_58, w_r_60]
  rfl
theorem w_r_67 : trip_k0_t1.sl.r_67 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 11)) := by
  unfold trip_k0_t1.sl.r_67
  rw [w_r_58, w_r_60]
  rfl
theorem w_r_68 : trip_k0_t1.sl.r_68 (F := Ideal) arg4 arg9 v21 X_arg4 X_arg9 k = (cur reduces_S128x128_S128 broadcasts_S1x128_S128x128 v21 (sB arg4 arg9 X_arg4 X_arg9 k) 12) := by
  unfold trip_k0_t1.sl.r_68
  rw [w_r_58, w_r_60]
  rfl
theorem w_r_69 : trip_k0_t1.sl.r_69 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 12)) := by
  unfold trip_k0_t1.sl.r_69
  rw [w_r_68]
  rfl
theorem w_r_70 : trip_k0_t1.sl.r_70 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 13)) := by
  unfold trip_k0_t1.sl.r_70
  rw [w_r_68]
  rfl
theorem w_r_71 : trip_k0_t1.sl.r_71 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 14)) := by
  unfold trip_k0_t1.sl.r_71
  rw [w_r_68]
  rfl
theorem w_r_72 : trip_k0_t1.sl.r_72 (F := Ideal) arg4 arg9 v21 X_arg4 X_arg9 k = (pk reduces_S128x128_S128 broadcasts_S1x128_S128x128 v21 (cur reduces_S128x128_S128 broadcasts_S1x128_S128x128 v21 (sB arg4 arg9 X_arg4 X_arg9 k) 15)) := by
  unfold trip_k0_t1.sl.r_72
  rw [w_r_68]
  rfl
theorem w_r_73 : trip_k0_t1.sl.r_73 (F := Ideal) arg4 arg9 v21 X_arg4 X_arg9 k = cat16 (fun j => mx reduces_S128x128_S128 (cur reduces_S128x128_S128 broadcasts_S1x128_S128x128 v21 (sB arg4 arg9 X_arg4 X_arg9 k) j)) := by
  unfold trip_k0_t1.sl.r_73
  rw [w_r_39, w_r_42, w_r_44, w_r_46, w_r_49, w_r_52, w_r_54, w_r_56, w_r_59, w_r_62, w_r_64, w_r_66, w_r_68]
  rfl
theorem w_r_74 : trip_k0_t1.sl.r_74 (F := Ideal) arg4 arg9 v21 X_arg4 X_arg9 k = cat16 (fun j => pk reduces_S128x128_S128 broadcasts_S1x128_S128x128 v21 (cur reduces_S128x128_S128 broadcasts_S1x128_S128x128 v21 (sB arg4 arg9 X_arg4 X_arg9 k) j)) := by
  unfold trip_k0_t1.sl.r_74
  rw [w_r_40, w_r_43, w_r_45, w_r_47, w_r_51, w_r_53, w_r_55, w_r_57, w_r_61, w_r_63, w_r_65, w_r_67, w_r_69, w_r_70, w_r_71, w_r_72]
  rfl
theorem w_r_75 : trip_k0_t1.sl.r_75 (F := Ideal) arg4 arg9 v21 X_arg4 X_arg9 k = (cur reduces_S80x128_S128 broadcasts_S1x128_S80x128 v22 (cand arg4 arg9 v21 X_arg4 X_arg9 k) 0) := by
  unfold trip_k0_t1.sl.r_75
  rw [w_r_36, w_r_73]
  rfl
theorem w_r_81 : trip_k0_t1.sl.r_81 (F := Ideal) arg4 arg9 v21 X_arg4 X_arg9 k = cexp arg4 arg9 v21 X_arg4 X_arg9 k := by
  unfold trip_k0_t1.sl.r_81 trip_k0_t1.sl.r_76 trip_k0_t1.sl.r_77 trip_k0_t1.sl.r_78 trip_k0_t1.sl.r_79 trip_k0_t1.sl.r_80
  rw [w_r_37, w_r_74, w_r_40, w_r_43, w_r_45, w_r_47, w_r_51, w_r_53, w_r_55, w_r_57, w_r_61, w_r_63, w_r_65, w_r_67, w_r_69, w_r_70, w_r_71, w_r_72]
  rfl
theorem w_r_82 : trip_k0_t1.sl.r_82 (F := Ideal) arg4 arg9 v21 X_arg4 X_arg9 k = (mx reduces_S80x128_S128 (cur reduces_S80x128_S128 broadcasts_S1x128_S80x128 v22 (cand arg4 arg9 v21 X_arg4 X_arg9 k) 0)) := by
  unfold trip_k0_t1.sl.r_82
  rw [w_r_75]
  rfl
theorem w_r_83 : trip_k0_t1.sl.r_83 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 0)) := by
  unfold trip_k0_t1.sl.r_83
  rw [w_r_75]
  rfl
theorem w_r_84 : trip_k0_t1.sl.r_84 (F := Ideal) arg4 arg9 v21 v22 X_arg4 X_arg9 k = (cur reduces_S80x128_S128 broadcasts_S1x128_S80x128 v22 (cand arg4 arg9 v21 X_arg4 X_arg9 k) 1) := by
  unfold trip_k0_t1.sl.r_84
  rw [w_r_75]
  rfl
theorem w_r_85 : trip_k0_t1.sl.r_85 (F := Ideal) arg4 arg9 v21 v22 X_arg4 X_arg9 k = (mx reduces_S80x128_S128 (cur reduces_S80x128_S128 broadcasts_S1x128_S80x128 v22 (cand arg4 arg9 v21 X_arg4 X_arg9 k) 1)) := by
  unfold trip_k0_t1.sl.r_85
  rw [w_r_75]
  rfl
theorem w_r_86 : trip_k0_t1.sl.r_86 (F := Ideal) arg4 arg9 v21 v22 X_arg4 X_arg9 k = (broadcastTo S80x128 (mx reduces_S80x128_S128 (cur reduces_S80x128_S128 broadcasts_S1x128_S80x128 v22 (cand arg4 arg9 v21 X_arg4 X_arg9 k) 1)) broadcasts_S1x128_S80x128) := by
  unfold trip_k0_t1.sl.r_86
  rw [w_r_75]
  rfl
theorem w_r_87 : trip_k0_t1.sl.r_87 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 1)) := by
  unfold trip_k0_t1.sl.r_87
  rw [w_r_84, w_r_86]
  rfl
theorem w_r_88 : trip_k0_t1.sl.r_88 (F := Ideal) arg4 arg9 v21 v22 X_arg4 X_arg9 k = (mx reduces_S80x128_S128 (cur reduces_S80x128_S128 broadcasts_S1x128_S80x128 v22 (cand arg4 arg9 v21 X_arg4 X_arg9 k) 2)) := by
  unfold trip_k0_t1.sl.r_88
  rw [w_r_84, w_r_86]
  rfl
theorem w_r_89 : trip_k0_t1.sl.r_89 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 2)) := by
  unfold trip_k0_t1.sl.r_89
  rw [w_r_84, w_r_86]
  rfl
theorem w_r_90 : trip_k0_t1.sl.r_90 (F := Ideal) arg4 arg9 v21 v22 X_arg4 X_arg9 k = (mx reduces_S80x128_S128 (cur reduces_S80x128_S128 broadcasts_S1x128_S80x128 v22 (cand arg4 arg9 v21 X_arg4 X_arg9 k) 3)) := by
  unfold trip_k0_t1.sl.r_90
  rw [w_r_84, w_r_86]
  rfl
theorem w_r_91 : trip_k0_t1.sl.r_91 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 3)) := by
  unfold trip_k0_t1.sl.r_91
  rw [w_r_84, w_r_86]
  rfl
theorem w_r_92 : trip_k0_t1.sl.r_92 (F := Ideal) arg4 arg9 v21 v22 X_arg4 X_arg9 k = (mx reduces_S80x128_S128 (cur reduces_S80x128_S128 broadcasts_S1x128_S80x128 v22 (cand arg4 arg9 v21 X_arg4 X_arg9 k) 4)) := by
  unfold trip_k0_t1.sl.r_92
  rw [w_r_84, w_r_86]
  rfl
theorem w_r_93 : trip_k0_t1.sl.r_93 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 4)) := by
  unfold trip_k0_t1.sl.r_93
  rw [w_r_84, w_r_86]
  rfl
theorem w_r_94 : trip_k0_t1.sl.r_94 (F := Ideal) arg4 arg9 v21 v22 X_arg4 X_arg9 k = (cur reduces_S80x128_S128 broadcasts_S1x128_S80x128 v22 (cand arg4 arg9 v21 X_arg4 X_arg9 k) 5) := by
  unfold trip_k0_t1.sl.r_94
  rw [w_r_84, w_r_86]
  rfl
theorem w_r_95 : trip_k0_t1.sl.r_95 (F := Ideal) arg4 arg9 v21 v22 X_arg4 X_arg9 k = (mx reduces_S80x128_S128 (cur reduces_S80x128_S128 broadcasts_S1x128_S80x128 v22 (cand arg4 arg9 v21 X_arg4 X_arg9 k) 5)) := by
  unfold trip_k0_t1.sl.r_95
  rw [w_r_94]
  rfl
theorem w_r_96 : trip_k0_t1.sl.r_96 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 5)) := by
  unfold trip_k0_t1.sl.r_96
  rw [w_r_94]
  rfl
theorem w_r_97 : trip_k0_t1.sl.r_97 (F := Ideal) arg4 arg9 v21 v22 X_arg4 X_arg9 k = (mx reduces_S80x128_S128 (cur reduces_S80x128_S128 broadcasts_S1x128_S80x128 v22 (cand arg4 arg9 v21 X_arg4 X_arg9 k) 6)) := by
  unfold trip_k0_t1.sl.r_97
  rw [w_r_94]
  rfl
theorem w_r_98 : trip_k0_t1.sl.r_98 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 6)) := by
  unfold trip_k0_t1.sl.r_98
  rw [w_r_94]
  rfl
theorem w_r_99 : trip_k0_t1.sl.r_99 (F := Ideal) arg4 arg9 v21 v22 X_arg4 X_arg9 k = (mx reduces_S80x128_S128 (cur reduces_S80x128_S128 broadcasts_S1x128_S80x128 v22 (cand arg4 arg9 v21 X_arg4 X_arg9 k) 7)) := by
  unfold trip_k0_t1.sl.r_99
  rw [w_r_94]
  rfl
theorem w_r_100 : trip_k0_t1.sl.r_100 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 7)) := by
  unfold trip_k0_t1.sl.r_100
  rw [w_r_94]
  rfl
theorem w_r_101 : trip_k0_t1.sl.r_101 (F := Ideal) arg4 arg9 v21 v22 X_arg4 X_arg9 k = (cur reduces_S80x128_S128 broadcasts_S1x128_S80x128 v22 (cand arg4 arg9 v21 X_arg4 X_arg9 k) 8) := by
  unfold trip_k0_t1.sl.r_101
  rw [w_r_94]
  rfl
theorem w_r_102 : trip_k0_t1.sl.r_102 (F := Ideal) arg4 arg9 v21 v22 X_arg4 X_arg9 k = (mx reduces_S80x128_S128 (cur reduces_S80x128_S128 broadcasts_S1x128_S80x128 v22 (cand arg4 arg9 v21 X_arg4 X_arg9 k) 8)) := by
  unfold trip_k0_t1.sl.r_102
  rw [w_r_94]
  rfl
theorem w_r_103 : trip_k0_t1.sl.r_103 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 8)) := by
  unfold trip_k0_t1.sl.r_103
  rw [w_r_94]
  rfl
theorem w_r_104 : trip_k0_t1.sl.r_104 (F := Ideal) arg4 arg9 v21 v22 X_arg4 X_arg9 k = (broadcastTo S80x128 (pk reduces_S80x128_S128 broadcasts_S1x128_S80x128 v22 (cur reduces_S80x128_S128 broadcasts_S1x128_S80x128 v22 (cand arg4 arg9 v21 X_arg4 X_arg9 k) 8)) broadcasts_S1x128_S80x128) := by
  unfold trip_k0_t1.sl.r_104
  rw [w_r_94]
  rfl
theorem w_r_105 : trip_k0_t1.sl.r_105 (F := Ideal) arg4 arg9 v21 v22 X_arg4 X_arg9 k = (mx reduces_S80x128_S128 (cur reduces_S80x128_S128 broadcasts_S1x128_S80x128 v22 (cand arg4 arg9 v21 X_arg4 X_arg9 k) 9)) := by
  unfold trip_k0_t1.sl.r_105
  rw [w_r_101, w_r_104]
  rfl
theorem w_r_106 : trip_k0_t1.sl.r_106 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 9)) := by
  unfold trip_k0_t1.sl.r_106
  rw [w_r_101, w_r_104]
  rfl
theorem w_r_107 : trip_k0_t1.sl.r_107 (F := Ideal) arg4 arg9 v21 v22 X_arg4 X_arg9 k = (mx reduces_S80x128_S128 (cur reduces_S80x128_S128 broadcasts_S1x128_S80x128 v22 (cand arg4 arg9 v21 X_arg4 X_arg9 k) 10)) := by
  unfold trip_k0_t1.sl.r_107
  rw [w_r_101, w_r_104]
  rfl
theorem w_r_108 : trip_k0_t1.sl.r_108 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 10)) := by
  unfold trip_k0_t1.sl.r_108
  rw [w_r_101, w_r_104]
  rfl
theorem w_r_109 : trip_k0_t1.sl.r_109 (F := Ideal) arg4 arg9 v21 v22 X_arg4 X_arg9 k = (mx reduces_S80x128_S128 (cur reduces_S80x128_S128 broadcasts_S1x128_S80x128 v22 (cand arg4 arg9 v21 X_arg4 X_arg9 k) 11)) := by
  unfold trip_k0_t1.sl.r_109
  rw [w_r_101, w_r_104]
  rfl
theorem w_r_110 : trip_k0_t1.sl.r_110 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 11)) := by
  unfold trip_k0_t1.sl.r_110
  rw [w_r_101, w_r_104]
  rfl
theorem w_r_111 : trip_k0_t1.sl.r_111 (F := Ideal) arg4 arg9 v21 v22 X_arg4 X_arg9 k = (cur reduces_S80x128_S128 broadcasts_S1x128_S80x128 v22 (cand arg4 arg9 v21 X_arg4 X_arg9 k) 12) := by
  unfold trip_k0_t1.sl.r_111
  rw [w_r_101, w_r_104]
  rfl
theorem w_r_112 : trip_k0_t1.sl.r_112 (F := Ideal) arg4 arg9 v21 v22 X_arg4 X_arg9 k = (mx reduces_S80x128_S128 (cur reduces_S80x128_S128 broadcasts_S1x128_S80x128 v22 (cand arg4 arg9 v21 X_arg4 X_arg9 k) 12)) := by
  unfold trip_k0_t1.sl.r_112
  rw [w_r_101, w_r_104]
  rfl
theorem w_r_113 : trip_k0_t1.sl.r_113 (F := Ideal) arg4 arg9 v21 v22 X_arg4 X_arg9 k = (select (cmpf .oeq (cur reduces_S80x128_S128 broadcasts_S1x128_S80x128 v22 (cand arg4 arg9 v21 X_arg4 X_arg9 k) 12) (broadcastTo S80x128 (mx reduces_S80x128_S128 (cur reduces_S80x128_S128 broadcasts_S1x128_S80x128 v22 (cand arg4 arg9 v21 X_arg4 X_arg9 k) 12)) broadcasts_S1x128_S80x128)) v22 (broadcast S80x128 1073741824#32)) := by
  unfold trip_k0_t1.sl.r_113
  rw [w_r_101, w_r_104]
  rfl
theorem w_r_114 : trip_k0_t1.sl.r_114 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 12)) := by
  unfold trip_k0_t1.sl.r_114
  rw [w_r_113]
  rfl
theorem w_r_115 : trip_k0_t1.sl.r_115 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 13)) := by
  unfold trip_k0_t1.sl.r_115
  rw [w_r_111, w_r_113]
  rfl
theorem w_r_116 : trip_k0_t1.sl.r_116 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 14)) := by
  unfold trip_k0_t1.sl.r_116
  rw [w_r_111, w_r_113]
  rfl
theorem w_r_117 : trip_k0_t1.sl.r_117 (F := Ideal) arg4 arg9 v21 v22 X_arg4 X_arg9 k = (pk reduces_S80x128_S128 broadcasts_S1x128_S80x128 v22 (cur reduces_S80x128_S128 broadcasts_S1x128_S80x128 v22 (cand arg4 arg9 v21 X_arg4 X_arg9 k) 15)) := by
  unfold trip_k0_t1.sl.r_117
  rw [w_r_111, w_r_113]
  rfl
theorem w_r_118 : trip_k0_t1.sl.r_118 (F := Ideal) arg4 arg9 v21 v22 X_arg4 X_arg9 k = cat16 (fun j => mx reduces_S80x128_S128 (cur reduces_S80x128_S128 broadcasts_S1x128_S80x128 v22 (cand arg4 arg9 v21 X_arg4 X_arg9 k) j)) := by
  unfold trip_k0_t1.sl.r_118
  rw [w_r_82, w_r_85, w_r_88, w_r_90, w_r_92, w_r_95, w_r_97, w_r_99, w_r_102, w_r_105, w_r_107, w_r_109, w_r_111, w_r_112, w_r_113]
  rfl
end Words

end Cert.Kernel6Ideal.Topk
end
-- ==== Proof.TopTrip.lean ====
module

public import proofs.«01_k».proof.Proof.Gen.Kernel6Ideal
public import proofs.«01_k».proof.Proof.Gen.Kernel6Ideal.Frame
public import proofs.«01_k».proof.Proof.TopRank
public import proofs.«01_k».proof.Proof.TopWords
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

set_option maxRecDepth 16384

noncomputable section

namespace Cert.Kernel6Ideal.Topk

open Idealize.ShloMosaic Idealize.ShloMosaic.TcCoe Idealize.ShloMosaic.Tactic Cert.Kernel6Ideal Cert.Kernel6Ideal.Gen Cert.Top

/-- The expert number the `j`-th pick names. -/
def eid (arg4 : Memref sig .tc .vmem S2x128x128 .bf16) (arg9 : Memref sig .tc .vmem S128x2048 .bf16) (v21 : IVec S128x128 32) (v22 : Vec Ideal S80x128 .i32) (X_arg4 : BufTy.Contents (Elt Ideal) arg4.view.ty) (X_arg9 : BufTy.Contents (Elt Ideal) arg9.view.ty) (k : Fin k0_t1_loop.trips) (j : Nat) : IVec S1x128 32 :=
  k0_pay169 (F := Ideal) v22 (cexp arg4 arg9 v21 X_arg4 X_arg9 k) (pk reduces_S80x128_S128 broadcasts_S1x128_S80x128 v22 (cur reduces_S80x128_S128 broadcasts_S1x128_S80x128 v22 (cand arg4 arg9 v21 X_arg4 X_arg9 k)  j))

def top16 (arg4 : Memref sig .tc .vmem S2x128x128 .bf16) (arg9 : Memref sig .tc .vmem S128x2048 .bf16) (v21 : IVec S128x128 32) (v22 : Vec Ideal S80x128 .i32) (X_arg4 : BufTy.Contents (Elt Ideal) arg4.view.ty) (X_arg9 : BufTy.Contents (Elt Ideal) arg9.view.ty) (k : Fin k0_t1_loop.trips) : FVec Ideal S16x128 .f32 :=
  cat16 (fun j => mx reduces_S80x128_S128 (cur reduces_S80x128_S128 broadcasts_S1x128_S80x128 v22 (cand arg4 arg9 v21 X_arg4 X_arg9 k) j))

section Trip
variable (arg4 : Memref sig .tc .vmem S2x128x128 .bf16) (arg9 : Memref sig .tc .vmem S128x2048 .bf16) (v21 : IVec S128x128 32) (v22 : Vec Ideal S80x128 .i32) (X_arg4 : BufTy.Contents (Elt Ideal) arg4.view.ty) (X_arg9 : BufTy.Contents (Elt Ideal) arg9.view.ty) (k : Fin k0_t1_loop.trips)
theorem w_r_119 : trip_k0_t1.sl.r_119 (F := Ideal) arg4 arg9 v21 v22 X_arg4 X_arg9 k = eid arg4 arg9 v21 v22 X_arg4 X_arg9 k 0 := by
  unfold trip_k0_t1.sl.r_119
  rw [w_r_81, w_r_83]
  rfl
theorem w_v715 : trip_k0_t1.sl.v715 (F := Ideal) arg4 arg9 v21 v22 X_arg4 X_arg9 k = eid arg4 arg9 v21 v22 X_arg4 X_arg9 k 1 := by
  unfold trip_k0_t1.sl.v715 trip_k0_t1.sl.v714 trip_k0_t1.sl.v713 trip_k0_t1.sl.v711 trip_k0_t1.sl.v710 trip_k0_t1.sl.v712
  rw [w_r_87, w_r_81]
  rfl
theorem w_v721 : trip_k0_t1.sl.v721 (F := Ideal) arg4 arg9 v21 v22 X_arg4 X_arg9 k = eid arg4 arg9 v21 v22 X_arg4 X_arg9 k 2 := by
  unfold trip_k0_t1.sl.v721 trip_k0_t1.sl.v720 trip_k0_t1.sl.v719 trip_k0_t1.sl.v717 trip_k0_t1.sl.v716 trip_k0_t1.sl.v712
  rw [w_r_89, w_r_81]
  rfl
theorem w_v727 : trip_k0_t1.sl.v727 (F := Ideal) arg4 arg9 v21 v22 X_arg4 X_arg9 k = eid arg4 arg9 v21 v22 X_arg4 X_arg9 k 3 := by
  unfold trip_k0_t1.sl.v727 trip_k0_t1.sl.v726 trip_k0_t1.sl.v725 trip_k0_t1.sl.v723 trip_k0_t1.sl.v722 trip_k0_t1.sl.v712
  rw [w_r_91, w_r_81]
  rfl
theorem w_v733 : trip_k0_t1.sl.v733 (F := Ideal) arg4 arg9 v21 v22 X_arg4 X_arg9 k = eid arg4 arg9 v21 v22 X_arg4 X_arg9 k 4 := by
  unfold trip_k0_t1.sl.v733 trip_k0_t1.sl.v732 trip_k0_t1.sl.v731 trip_k0_t1.sl.v729 trip_k0_t1.sl.v728 trip_k0_t1.sl.v712
  rw [w_r_93, w_r_81]
  rfl
theorem w_v739 : trip_k0_t1.sl.v739 (F := Ideal) arg4 arg9 v21 v22 X_arg4 X_arg9 k = eid arg4 arg9 v21 v22 X_arg4 X_arg9 k 5 := by
  unfold trip_k0_t1.sl.v739 trip_k0_t1.sl.v738 trip_k0_t1.sl.v737 trip_k0_t1.sl.v735 trip_k0_t1.sl.v734 trip_k0_t1.sl.v712
  rw [w_r_96, w_r_81]
  rfl
theorem w_v745 : trip_k0_t1.sl.v745 (F := Ideal) arg4 arg9 v21 v22 X_arg4 X_arg9 k = eid arg4 arg9 v21 v22 X_arg4 X_arg9 k 6 := by
  unfold trip_k0_t1.sl.v745 trip_k0_t1.sl.v744 trip_k0_t1.sl.v743 trip_k0_t1.sl.v741 trip_k0_t1.sl.v740 trip_k0_t1.sl.v712
  rw [w_r_98, w_r_81]
  rfl
theorem w_v751 : trip_k0_t1.sl.v751 (F := Ideal) arg4 arg9 v21 v22 X_arg4 X_arg9 k = eid arg4 arg9 v21 v22 X_arg4 X_arg9 k 7 := by
  unfold trip_k0_t1.sl.v751 trip_k0_t1.sl.v750 trip_k0_t1.sl.v749 trip_k0_t1.sl.v747 trip_k0_t1.sl.v746 trip_k0_t1.sl.v712
  rw [w_r_100, w_r_81]
  rfl
theorem w_v757 : trip_k0_t1.sl.v757 (F := Ideal) arg4 arg9 v21 v22 X_arg4 X_arg9 k = eid arg4 arg9 v21 v22 X_arg4 X_arg9 k 8 := by
  unfold trip_k0_t1.sl.v757 trip_k0_t1.sl.v756 trip_k0_t1.sl.v755 trip_k0_t1.sl.v753 trip_k0_t1.sl.v752 trip_k0_t1.sl.v712
  rw [w_r_103, w_r_81]
  rfl
theorem w_v763 : trip_k0_t1.sl.v763 (F := Ideal) arg4 arg9 v21 v22 X_arg4 X_arg9 k = eid arg4 arg9 v21 v22 X_arg4 X_arg9 k 9 := by
  unfold trip_k0_t1.sl.v763 trip_k0_t1.sl.v762 trip_k0_t1.sl.v761 trip_k0_t1.sl.v759 trip_k0_t1.sl.v758 trip_k0_t1.sl.v712
  rw [w_r_106, w_r_81]
  rfl
theorem w_v769 : trip_k0_t1.sl.v769 (F := Ideal) arg4 arg9 v21 v22 X_arg4 X_arg9 k = eid arg4 arg9 v21 v22 X_arg4 X_arg9 k 10 := by
  unfold trip_k0_t1.sl.v769 trip_k0_t1.sl.v768 trip_k0_t1.sl.v767 trip_k0_t1.sl.v765 trip_k0_t1.sl.v764 trip_k0_t1.sl.v712
  rw [w_r_108, w_r_81]
  rfl
theorem w_v775 : trip_k0_t1.sl.v775 (F := Ideal) arg4 arg9 v21 v22 X_arg4 X_arg9 k = eid arg4 arg9 v21 v22 X_arg4 X_arg9 k 11 := by
  unfold trip_k0_t1.sl.v775 trip_k0_t1.sl.v774 trip_k0_t1.sl.v773 trip_k0_t1.sl.v771 trip_k0_t1.sl.v770 trip_k0_t1.sl.v712
  rw [w_r_110, w_r_81]
  rfl
theorem w_v781 : trip_k0_t1.sl.v781 (F := Ideal) arg4 arg9 v21 v22 X_arg4 X_arg9 k = eid arg4 arg9 v21 v22 X_arg4 X_arg9 k 12 := by
  unfold trip_k0_t1.sl.v781 trip_k0_t1.sl.v780 trip_k0_t1.sl.v779 trip_k0_t1.sl.v777 trip_k0_t1.sl.v776 trip_k0_t1.sl.v712
  rw [w_r_114, w_r_81]
  rfl
theorem w_v787 : trip_k0_t1.sl.v787 (F := Ideal) arg4 arg9 v21 v22 X_arg4 X_arg9 k = eid arg4 arg9 v21 v22 X_arg4 X_arg9 k 13 := by
  unfold trip_k0_t1.sl.v787 trip_k0_t1.sl.v786 trip_k0_t1.sl.v785 trip_k0_t1.sl.v783 trip_k0_t1.sl.v782 trip_k0_t1.sl.v712
  rw [w_r_115, w_r_81]
  rfl
theorem w_v793 : trip_k0_t1.sl.v793 (F := Ideal) arg4 arg9 v21 v22 X_arg4 X_arg9 k = eid arg4 arg9 v21 v22 X_arg4 X_arg9 k 14 := by
  unfold trip_k0_t1.sl.v793 trip_k0_t1.sl.v792 trip_k0_t1.sl.v791 trip_k0_t1.sl.v789 trip_k0_t1.sl.v788 trip_k0_t1.sl.v712
  rw [w_r_116, w_r_81]
  rfl
theorem w_v799 : trip_k0_t1.sl.v799 (F := Ideal) arg4 arg9 v21 v22 X_arg4 X_arg9 k = eid arg4 arg9 v21 v22 X_arg4 X_arg9 k 15 := by
  unfold trip_k0_t1.sl.v799 trip_k0_t1.sl.v798 trip_k0_t1.sl.v797 trip_k0_t1.sl.v795 trip_k0_t1.sl.v794 trip_k0_t1.sl.v712
  rw [w_r_117, w_r_81]
  rfl

/-- The expert numbers one head writes. -/
def outI : IVec S1x16x128 32 :=
  shapeCast S1x16x128 (cat16 (eid arg4 arg9 v21 v22 X_arg4 X_arg9 k)) shapeCasts_S16x128_S1x16x128

theorem trip_fst (𝒱 : Variants) (c : Dev nD) (bd : Option 𝒱.V) (i : grid0.Coords) (arg1 : Memref sig .tc .vmem S128x1024 .f32) (harg1 : arg1.IsWhole) (arg2 : Memref sig .tc .vmem S1x1024 .f32) (harg2 : arg2.IsWhole) (arg3 : Memref sig .tc .vmem S1024x2048 .bf16) (harg3 : arg3.IsWhole) (harg4 : arg4.IsWhole) (arg5 : Memref sig .tc .vmem S80x128 .i32) (harg5 : arg5.IsWhole) (arg6 : Memref sig .tc .vmem S128x1024 .f32) (harg6 : arg6.IsWhole) (arg7 : Memref sig .tc .vmem S1x128x128 .i32) (harg7 : arg7.IsWhole) (arg8 : Memref sig .tc .vmem S1x128x128 .f32) (harg8 : arg8.IsWhole) (harg9 : arg9.IsWhole) :
    (trip_k0_t1 (F := Ideal) 𝒱 c bd i arg1 harg1 arg2 harg2 arg3 harg3 arg4 harg4 arg5 harg5 arg6 harg6 arg7 harg7 arg8 harg8 arg9 harg9 v21 v22 X_arg4 X_arg9 k).1 = [⟨Rect.unit (s := S1x128x128) (k0_off2 k) S1x16x128.size (k0_off2_inb k), outI arg4 arg9 v21 v22 X_arg4 X_arg9 k⟩] := by
  unfold trip_k0_t1
  dsimp only
  rw [w_r_119, w_v715, w_v721, w_v727, w_v733, w_v739, w_v745, w_v751, w_v757, w_v763, w_v769, w_v775, w_v781, w_v787, w_v793, w_v799]
  rfl

theorem trip_snd (𝒱 : Variants) (c : Dev nD) (bd : Option 𝒱.V) (i : grid0.Coords) (arg1 : Memref sig .tc .vmem S128x1024 .f32) (harg1 : arg1.IsWhole) (arg2 : Memref sig .tc .vmem S1x1024 .f32) (harg2 : arg2.IsWhole) (arg3 : Memref sig .tc .vmem S1024x2048 .bf16) (harg3 : arg3.IsWhole) (harg4 : arg4.IsWhole) (arg5 : Memref sig .tc .vmem S80x128 .i32) (harg5 : arg5.IsWhole) (arg6 : Memref sig .tc .vmem S128x1024 .f32) (harg6 : arg6.IsWhole) (arg7 : Memref sig .tc .vmem S1x128x128 .i32) (harg7 : arg7.IsWhole) (arg8 : Memref sig .tc .vmem S1x128x128 .f32) (harg8 : arg8.IsWhole) (harg9 : arg9.IsWhole) :
    (trip_k0_t1 (F := Ideal) 𝒱 c bd i arg1 harg1 arg2 harg2 arg3 harg3 arg4 harg4 arg5 harg5 arg6 harg6 arg7 harg7 arg8 harg8 arg9 harg9 v21 v22 X_arg4 X_arg9 k).2.1 = [⟨Rect.unit (s := S1x128x128) (k0_off2 k) S1x16x128.size (k0_off2_inb k), k0_pay4 (top16 arg4 arg9 v21 v22 X_arg4 X_arg9 k)⟩] := by
  unfold trip_k0_t1
  dsimp only
  rw [w_r_118]
  rfl
end Trip

end Cert.Kernel6Ideal.Topk
end
-- ==== Proof.TopHead.lean ====
module

public import proofs.«01_k».proof.Proof.Gen.Kernel6Ideal
public import proofs.«01_k».proof.Proof.Gen.Kernel6Ideal.Frame
public import proofs.«01_k».proof.Proof.TopStair
public import proofs.«01_k».proof.Proof.TopTrip
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

set_option maxRecDepth 16384

noncomputable section

namespace Cert.Kernel6Ideal.Topk

open Idealize.ShloMosaic Idealize.ShloMosaic.TcCoe Idealize.ShloMosaic.Tactic Cert.Kernel6Ideal Cert.Kernel6Ideal.Gen Cert.Top

/-! ## One head's results, per token -/

theorem cat16_read {α : Type} (p : Nat → S1x128.Idx → α) (r : Fin 16) (t : Fin 128) : cat16 p (ix2 r t) = p r.val (ix2 0 t) := by
  unfold cat16
  fin_cases r <;> (pointwise; try rfl)

/-- The two ranks of the `q`-th of the eighty pairs. -/
def sa (q : Fin 80) : Fin 16 := ⟨(stair q).val / 16, by omega⟩
def sb (q : Fin 80) : Fin 16 := ⟨(stair q).val % 16, by omega⟩

theorem stairN_cases (q : Nat) : (q < 16 ∧ stairN q = q) ∨ (16 ≤ q ∧ q < 72 ∧ stairN q = (1 + (q - 16) / 8) * 16 + (q - 16) % 8)
    ∨ (72 ≤ q ∧ stairN q = (q - 64) * 16) := by
  unfold stairN
  by_cases h : q < 16
  · exact .inl ⟨h, if_pos h⟩
  · rw [if_neg h]
    by_cases h' : q < 72
    · exact .inr (.inl ⟨by omega, h', if_pos h'⟩)
    · exact .inr (.inr ⟨by omega, if_neg h'⟩)

theorem sa_of (q : Fin 80) (a : Fin 16) (h : stairN q.val / 16 = a.val) : sa q = a := Fin.ext h
theorem sb_of (q : Fin 80) (a : Fin 16) (h : stairN q.val % 16 = a.val) : sb q = a := Fin.ext h

set_option maxHeartbeats 2000000 in
theorem grid_read (i1 i2 : IVec S16x128 32) (q : Fin 80) (t : Fin 128) :
    grid80 i1 i2 (ix2 q t) = i1 (ix2 (sa q) t) * 128#32 + i2 (ix2 (sb q) t) := by
  unfold grid80
  pointwise
  have hq := q.isLt
  have hc := stairN_cases q.val
  generalize hN : stairN q.val = N at hc
  split_ifs <;> refine congrArg₂ (fun a b : Fin 16 => i1 (ix2 a t) * 128#32 + i2 (ix2 b t)) (Fin.ext ?_) (Fin.ext ?_)
  all_goals first | (show _ = stairN q.val / 16; rw [hN]) | (show _ = stairN q.val % 16; rw [hN])
  all_goals first | omega | (simp only [Fin.isValue, Fin.coe_ofNat_eq_mod]; omega)

set_option maxHeartbeats 2000000 in
theorem cand_read (v1 v2 : FVec Ideal S16x128 .f32) (q : Fin 80) (t : Fin 128) :
    k0_pay111 v1 v2 (ix2 q t) = (v1 (ix2 (sa q) t) + v2 (ix2 (sb q) t) : EReal) := by
  unfold k0_pay111
  pointwise
  have hq := q.isLt
  have hc := stairN_cases q.val
  generalize hN : stairN q.val = N at hc
  split_ifs <;> refine congrArg₂ (fun a b : Fin 16 => (v1 (ix2 a t) + v2 (ix2 b t) : EReal)) (Fin.ext ?_) (Fin.ext ?_)
  all_goals first | (show _ = stairN q.val / 16; rw [hN]) | (show _ = stairN q.val % 16; rw [hN])
  all_goals first | omega | (simp only [Fin.isValue, Fin.coe_ofNat_eq_mod]; omega)

theorem look_read (v22 : Vec Ideal S80x128 .i32) (e : IVec S80x128 32) (p : IVec S1x128 32) (t : Fin 128) :
    k0_pay169 v22 e p (ix2 0 t) = (Finset.univ : Finset (Fin 80)).fold IntOp.maxsi 2147483648#32
      (fun j => if v22 (ix2 j t) = p (ix2 0 t) then e (ix2 j t) else 4294967295#32) := by
  unfold k0_pay169
  pointwise
  refine congrArg (fun g => Finset.fold IntOp.maxsi 2147483648#32 g Finset.univ) (funext fun j => ?_)
  by_cases h : v22 (ix2 j t) = p (ix2 0 t)
  · rw [if_pos h, h]; simp [Scalar.select, IntOp.cmpi]
  · have hne : (v22 (ix2 j t) == p (ix2 0 t)) = false := beq_false_of_ne h
    rw [if_neg h]; simp [Scalar.select, IntOp.cmpi, hne]

theorem named128 : Named (n := 128) (fun j => BitVec.ofNat 32 j.val) where
  mono i j h := by
    have hi := i.isLt; have hj := j.isLt
    simp only [BitVec.toInt_eq_toNat_cond, BitVec.toNat_ofNat]; have := Fin.le_def.mp h; omega
  inj i j h := by
    have hi := i.isLt; have hj := j.isLt
    have := congrArg BitVec.toNat h; simp only [BitVec.toNat_ofNat] at this; exact Fin.ext (by omega)
  nonneg i := by
    have hi := i.isLt
    simp only [BitVec.toInt_eq_toNat_cond, BitVec.toNat_ofNat]; omega
  small i := by
    have hi := i.isLt
    simp only [BitVec.toInt_eq_toNat_cond, BitVec.toNat_ofNat]; omega

theorem named80 : Named (n := 80) (fun j => BitVec.ofNat 32 (stair j).val) where
  mono i j h := by
    have hi := (stair i).isLt; have hj := (stair j).isLt
    have : (stair i).val ≤ (stair j).val := by
      rcases h.eq_or_lt with h | h
      · rw [h]
      · exact Fin.le_def.mp ((stair_lt i j).mpr h).le
    simp only [BitVec.toInt_eq_toNat_cond, BitVec.toNat_ofNat]; omega
  inj i j h := by
    have hi := (stair i).isLt; have hj := (stair j).isLt
    have := congrArg BitVec.toNat h; simp only [BitVec.toNat_ofNat] at this
    exact stair_inj (Fin.ext (by omega))
  nonneg i := by
    have hi := (stair i).isLt
    simp only [BitVec.toInt_eq_toNat_cond, BitVec.toNat_ofNat]; omega
  small i := by
    have hi := (stair i).isLt
    simp only [BitVec.toInt_eq_toNat_cond, BitVec.toNat_ofNat]; omega

/-- The sixteen largest values of a column, in order. -/
def best (f : Fin 128 → EReal) (r : Fin 16) : EReal := f (rank f (r.castLE (by omega)))

theorem best_antitone (f : Fin 128 → EReal) : Antitone (best f) := fun i j h => le_of_rank f _ _ h

/-- The number of the expert that a pair of ranks names. -/
def expert (f g : Fin 128 → EReal) (p : Fin 256) : BitVec 32 :=
  BitVec.ofNat 32 (rank f ⟨p.val / 16, by omega⟩).val * 128#32 + BitVec.ofNat 32 (rank g ⟨p.val % 16, by omega⟩).val

/-- The pair of ranks that comes `r`-th. -/
def pair (f g : Fin 128 → EReal) (r : Fin 16) : Fin 256 := rank (sums (best f) (best g)) (r.castLE (by omega))

theorem expert_nat (f g : Fin 128 → EReal) (p : Fin 256) :
    expert f g p = BitVec.ofNat 32 ((rank f ⟨p.val / 16, by omega⟩).val * 128 + (rank g ⟨p.val % 16, by omega⟩).val) := by
  unfold expert
  apply BitVec.eq_of_toNat_eq
  have h1 := (rank f ⟨p.val / 16, by omega⟩).isLt
  have h2 := (rank g ⟨p.val % 16, by omega⟩).isLt
  simp only [BitVec.toNat_add, BitVec.toNat_mul, BitVec.toNat_ofNat]
  omega

theorem expert_nonneg (f g : Fin 128 → EReal) (p : Fin 256) : 0 ≤ (expert f g p).toInt := by
  rw [expert_nat]
  have h1 := (rank f ⟨p.val / 16, by omega⟩).isLt
  have h2 := (rank g ⟨p.val % 16, by omega⟩).isLt
  simp only [BitVec.toInt_eq_toNat_cond, BitVec.toNat_ofNat]
  omega

section Column
variable (arg4 : Memref sig .tc .vmem S2x128x128 .bf16) (arg9 : Memref sig .tc .vmem S128x2048 .bf16) (v21 : IVec S128x128 32) (v22 : Vec Ideal S80x128 .i32) (X_arg4 : BufTy.Contents (Elt Ideal) arg4.view.ty) (X_arg9 : BufTy.Contents (Elt Ideal) arg9.view.ty) (k : Fin k0_t1_loop.trips)
  (t : Fin 128) (f g : Fin 128 → EReal)
  (hA : ∀ j, sA arg4 arg9 X_arg4 X_arg9 k (ix2 j t) = f j) (hB : ∀ j, sB arg4 arg9 X_arg4 X_arg9 k (ix2 j t) = g j)
  (h21 : ∀ j : Fin 128, v21 (ix2 j t) = BitVec.ofNat 32 j.val) (h22 : ∀ q : Fin 80, v22 (ix2 q t) = BitVec.ofNat 32 (stair q).val)
  (hf : ∀ j, f j ≠ ⊥) (hg : ∀ j, g j ≠ ⊥)
include hA hB h21 hf hg

theorem cand_at (q : Fin 80) : cand arg4 arg9 v21 X_arg4 X_arg9 k (ix2 q t) = sums (best f) (best g) (stair q) := by
  unfold cand
  rw [cand_read, cat16_read, cat16_read]
  have e1 := mx_cur reduces_S128x128_S128 broadcasts_S1x128_S128x128 v21 (sA arg4 arg9 X_arg4 X_arg9 k) t f _ hA h21 hf named128 ((sa q).castLE (by omega))
  have e2 := mx_cur reduces_S128x128_S128 broadcasts_S1x128_S128x128 v21 (sB arg4 arg9 X_arg4 X_arg9 k) t g _ hB h21 hg named128 ((sb q).castLE (by omega))
  exact congrArg₂ (fun a b : EReal => a + b) e1 e2

theorem cexp_at (q : Fin 80) : cexp arg4 arg9 v21 X_arg4 X_arg9 k (ix2 q t) = expert f g (stair q) := by
  unfold cexp
  rw [grid_read, cat16_read, cat16_read]
  have e1 := pk_cur reduces_S128x128_S128 broadcasts_S1x128_S128x128 v21 (sA arg4 arg9 X_arg4 X_arg9 k) t f _ hA h21 hf named128 ((sa q).castLE (by omega))
  have e2 := pk_cur reduces_S128x128_S128 broadcasts_S1x128_S128x128 v21 (sB arg4 arg9 X_arg4 X_arg9 k) t g _ hB h21 hg named128 ((sb q).castLE (by omega))
  exact congrArg₂ (fun a b : BitVec 32 => a * 128#32 + b) e1 e2

theorem sums_ne (p : Fin 256) : sums (best f) (best g) p ≠ ⊥ := by
  unfold sums best
  intro h
  rcases EReal.add_eq_bot_iff.mp h with h | h
  · exact hf _ h
  · exact hg _ h

include h22

theorem top_at (r : Fin 16) : top16 arg4 arg9 v21 v22 X_arg4 X_arg9 k (ix2 r t) = sums (best f) (best g) (pair f g r) := by
  unfold top16
  rw [cat16_read]
  have e := mx_cur reduces_S80x128_S128 broadcasts_S1x128_S80x128 v22 (cand arg4 arg9 v21 X_arg4 X_arg9 k) t (fun q => sums (best f) (best g) (stair q)) _
    (cand_at arg4 arg9 v21 X_arg4 X_arg9 k t f g hA hB h21 hf hg) h22 (fun q => sums_ne arg4 arg9 v21 X_arg4 X_arg9 k t f g hA hB h21 hf hg _) named80 (r.castLE (by omega))
  refine e.trans ?_
  rw [rank_stair _ _ (best_antitone f) (best_antitone g) r]
  rfl

theorem eid_at (r : Fin 16) : eid arg4 arg9 v21 v22 X_arg4 X_arg9 k r.val (ix2 0 t) = expert f g (pair f g r) := by
  unfold eid
  rw [look_read]
  have e := pk_cur reduces_S80x128_S128 broadcasts_S1x128_S80x128 v22 (cand arg4 arg9 v21 X_arg4 X_arg9 k) t (fun q => sums (best f) (best g) (stair q)) _
    (cand_at arg4 arg9 v21 X_arg4 X_arg9 k t f g hA hB h21 hf hg) h22 (fun q => sums_ne arg4 arg9 v21 X_arg4 X_arg9 k t f g hA hB h21 hf hg _) named80 (r.castLE (by omega))
  set q := rank (fun q => sums (best f) (best g) (stair q)) (r.castLE (by omega)) with hq
  have hr := rank_stair _ _ (best_antitone f) (best_antitone g) r
  have key : ∀ j : Fin 80, (if v22 (ix2 j t) = pk reduces_S80x128_S128 broadcasts_S1x128_S80x128 v22 (cur reduces_S80x128_S128 broadcasts_S1x128_S80x128 v22 (cand arg4 arg9 v21 X_arg4 X_arg9 k) r.val) (ix2 0 t)
      then cexp arg4 arg9 v21 X_arg4 X_arg9 k (ix2 j t) else 4294967295#32) = if j = q then expert f g (stair q) else 4294967295#32 := by
    intro j
    have e' : pk reduces_S80x128_S128 broadcasts_S1x128_S80x128 v22 (cur reduces_S80x128_S128 broadcasts_S1x128_S80x128 v22 (cand arg4 arg9 v21 X_arg4 X_arg9 k) r.val) (ix2 0 t) = BitVec.ofNat 32 (stair q).val := e
    rw [e', h22 j, cexp_at arg4 arg9 v21 X_arg4 X_arg9 k t f g hA hB h21 hf hg]
    by_cases h : j = q
    · rw [if_pos h, h, if_pos rfl]
    · rw [if_neg h, if_neg (fun h' => h (named80.inj _ _ h'))]
  rw [show (fun j => _) = _ from funext key]
  have hn := expert_nonneg f g (stair q)
  rw [fold_max_of _ _ q]
  · rw [if_pos rfl]; unfold pair; rw [← hr]
  · rw [if_pos rfl]; exact le_trans (by decide) hn
  · intro i
    rw [if_pos rfl]
    by_cases h : i = q
    · rw [if_pos h]
    · rw [if_neg h]; exact le_trans (by decide) hn

end Column

end Cert.Kernel6Ideal.Topk
end
-- ==== Proof.TopOut.lean ====
module

public import proofs.«01_k».proof.Proof.Gen.Kernel6Ideal
public import proofs.«01_k».proof.Proof.Gen.Kernel6Ideal.Frame
public import proofs.«01_k».proof.Proof.TopStair
public import proofs.«01_k».proof.Proof.TopHead
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.Kernel6Ideal.Topk

open Idealize.ShloMosaic Idealize.ShloMosaic.TcCoe Idealize.ShloMosaic.Tactic Cert.Kernel6Ideal Cert.Kernel6Ideal.Gen Cert.Top

/-! ## The choice of experts, per token and head -/

/-- The reciprocal root mean square of a row. -/
def inv (a : Fin 1024 → EReal) : EReal :=
  Ideal.rsqrt (Ideal.div (∑ x, a x * a x) (Ideal.ofBits FTy.f32 0x44800000#32) + Ideal.ofBits FTy.f32 0x358637BD#32)

/-- A token's normed row: `x` over its root mean square, times the gain `g`. -/
def normed (x g : Fin 1024 → EReal) (k : Fin 1024) : EReal := x k * inv x * g k

/-- The product of the normed row with column `n` of the query weights. -/
def query (x g : Fin 1024 → EReal) (W : Fin 1024 → Fin 2048 → EReal) (n : Fin 2048) : EReal := ∑ k, normed x g k * W k n

/-- Column `d` of head `h`'s query, its first half (`p = 0`) or its second (`p = 1`). -/
def col (h : Fin 8) (p : Fin 2) (d : Fin 128) : Fin 2048 := ⟨256 * h.val + 128 * p.val + d.val, by omega⟩

/-- The score of sub-key `j` against that half. -/
def score (x g : Fin 1024 → EReal) (W : Fin 1024 → Fin 2048 → EReal) (K : Fin 2 → Fin 128 → Fin 128 → EReal) (h : Fin 8) (p : Fin 2)
    (j : Fin 128) : EReal := ∑ d, query x g W (col h p d) * K p j d

/-- The sum of scores that comes `r`-th. -/
def topv (f g : Fin 128 → EReal) (r : Fin 16) : EReal := sums (best f) (best g) (pair f g r)

/-- Its expert. -/
def tope (f g : Fin 128 → EReal) (r : Fin 16) : BitVec 32 := expert f g (pair f g r)

/-- The weight of that expert: the softmax of the sixteen largest sums. -/
def gate (f g : Fin 128 → EReal) (r : Fin 16) : EReal :=
  Ideal.div (Ideal.exp (topv f g r - topv f g 0)) (∑ s, Ideal.exp (topv f g s - topv f g 0))

/-! ## The block of tokens a point works on -/

theorem h_at (x0 : Vec Ideal S128x1024 .f32) (x1 : Vec Ideal S1x1024 .f32) (t : Fin 128) (d : Fin 1024) :
    k0_pay1 x0 x1 (ix2 t d) = normed (fun k => x0 (ix2 t k)) (fun k => x1 (ix2 0 k)) d := by
  unfold k0_pay1
  pointwise
  rfl

theorem q_at (x0 : Vec Ideal S128x1024 .f32) (x1 : Vec Ideal S1x1024 .f32) (x2 : Vec Ideal S1024x2048 .bf16) (t : Fin 128) (n : Fin 2048) :
    k0_pay2 x0 x1 x2 (ix2 t n) = query (fun k => x0 (ix2 t k)) (fun k => x1 (ix2 0 k)) (fun k n => x2 (ix2 k n)) n := by
  unfold k0_pay2
  pointwise
  unfold query
  exact Finset.sum_congr rfl fun k _ => congrArg (· * _) (h_at x0 x1 t k)

theorem s5_at (a : Vec Ideal S1x128x128 .bf16) (b : Vec Ideal S128x128 .bf16) (j t : Fin 128) :
    k0_pay5 a b (ix2 j t) = (∑ d : Fin 128, b (ix2 t d) * a (ix3 0 j d) : EReal) := by
  unfold k0_pay5
  pointwise
  exact Finset.sum_congr rfl fun d _ => mul_comm _ _

theorem s58_at (a : Vec Ideal S1x128x128 .bf16) (b : Vec Ideal S128x128 .bf16) (j t : Fin 128) :
    k0_pay58 a b (ix2 j t) = (∑ d : Fin 128, b (ix2 t d) * a (ix3 0 j d) : EReal) := by
  unfold k0_pay58
  pointwise
  exact Finset.sum_congr rfl fun d _ => mul_comm _ _

theorem soft_at (v : FVec Ideal S16x128 .f32) (r : Fin 16) (t : Fin 128) :
    k0_pay4 v (ix3 0 r t) = Ideal.div (Ideal.exp (v (ix2 r t) - v (ix2 0 t))) (∑ s : Fin 16, Ideal.exp (v (ix2 s t) - v (ix2 0 t))) := by
  unfold k0_pay4
  pointwise

theorem off1 : ∀ k : Fin k0_t1_loop.trips, k0_off1 k 0#32 = ![0, 256 * k.val] ∧ k0_off1 k 1#32 = ![0, 256 * k.val + 128] := by decide +kernel
theorem off2 : ∀ k : Fin k0_t1_loop.trips, k0_off2 k = ![0, 16 * k.val, 0] := by decide +kernel
theorem lt8 (k : Fin k0_t1_loop.trips) : k.val < 8 := lt_of_lt_of_eq k.isLt (by decide +kernel)

def hd (k : Fin k0_t1_loop.trips) : Fin 8 := ⟨k.val, lt8 k⟩

theorem hz2 : (![0, 0] : Fin 2 → Nat) = fun _ => 0 := funext fun a => by fin_cases a <;> rfl

section Block
variable (arg4 : Memref sig .tc .vmem S2x128x128 .bf16) (arg9 : Memref sig .tc .vmem S128x2048 .bf16) (X4 : BufTy.Contents (Elt Ideal) arg4.view.ty)
  (X9 : BufTy.Contents (Elt Ideal) arg9.view.ty) (k : Fin k0_t1_loop.trips)
  (x0 : Vec Ideal S128x1024 .f32) (x1 : Vec Ideal S1x1024 .f32) (x2 : Vec Ideal S1024x2048 .bf16) (x3 : Vec Ideal S2x128x128 .bf16)
  (h4 : arg4.view.read (Elt Ideal) X4 = x3) (h9 : arg9.view.read (Elt Ideal) X9 = k0_pay2 x0 x1 x2)

/-- The scores of token `t` of a block. -/
def sc (x0 : Vec Ideal S128x1024 .f32) (x1 : Vec Ideal S1x1024 .f32) (x2 : Vec Ideal S1024x2048 .bf16) (x3 : Vec Ideal S2x128x128 .bf16)
    (t : Fin 128) (h : Fin 8) (p : Fin 2) : Fin 128 → EReal :=
  score (fun k => x0 (ix2 t k)) (fun k => x1 (ix2 0 k)) (fun k n => x2 (ix2 k n)) (fun p j d => x3 (ix3 p j d)) h p

include h4 h9

theorem sA_at (t j : Fin 128) : sA arg4 arg9 X4 X9 k (ix2 j t) = sc x0 x1 x2 x3 t (hd k) 0 j := by
  unfold sA
  rw [View.readAt_eq_ld, View.readAt_eq_ld, h4, h9, s5_at]
  unfold sc score
  refine Finset.sum_congr rfl fun d _ => ?_
  have e1 : View.ld (Val := Elt Ideal) (e' := .bf16) (k0_pay2 x0 x1 x2 : Vec Ideal S128x2048 .bf16) (Rect.unit (s := S128x2048) (k0_off1 k 0#32) S128x128.size (k0_off1_inb k 0)) (ix2 t d) = k0_pay2 x0 x1 x2 (ix2 t (col (hd k) 0 d)) := by
    refine congrArg (k0_pay2 x0 x1 x2) (funext fun a => Fin.ext ?_)
    show k0_off1 k 0#32 a + 1 * ((ix2 t d : S128x128.Idx) a).val = _
    rw [(off1 k).1]
    match a with
    | ⟨0, _⟩ => show 0 + 1 * t.val = t.val; omega
    | ⟨1, _⟩ => show 256 * k.val + 1 * d.val = 256 * k.val + 128 * 0 + d.val; omega
  have e2 : View.ld (Val := Elt Ideal) (e' := .bf16) x3 (Rect.unit (s := S2x128x128) ![0, 0, 0] S1x128x128.size inb_S2x128x128_S1x128x128_0_0_0) (ix3 0 j d) = x3 (ix3 0 j d) := by
    refine congrArg x3 (funext fun a => Fin.ext ?_)
    match a with
    | ⟨0, _⟩ => rfl
    | ⟨1, _⟩ => show 0 + 1 * j.val = j.val; omega
    | ⟨2, _⟩ => show 0 + 1 * d.val = d.val; omega
  exact congrArg₂ (fun a b : EReal => a * b) (e1.trans (q_at x0 x1 x2 t _)) e2

theorem sB_at (t j : Fin 128) : sB arg4 arg9 X4 X9 k (ix2 j t) = sc x0 x1 x2 x3 t (hd k) 1 j := by
  unfold sB
  rw [View.readAt_eq_ld, View.readAt_eq_ld, h4, h9, s58_at]
  unfold sc score
  refine Finset.sum_congr rfl fun d _ => ?_
  have e1 : View.ld (Val := Elt Ideal) (e' := .bf16) (k0_pay2 x0 x1 x2 : Vec Ideal S128x2048 .bf16) (Rect.unit (s := S128x2048) (k0_off1 k 1#32) S128x128.size (k0_off1_inb k 1)) (ix2 t d) = k0_pay2 x0 x1 x2 (ix2 t (col (hd k) 1 d)) := by
    refine congrArg (k0_pay2 x0 x1 x2) (funext fun a => Fin.ext ?_)
    show k0_off1 k 1#32 a + 1 * ((ix2 t d : S128x128.Idx) a).val = _
    rw [(off1 k).2]
    match a with
    | ⟨0, _⟩ => show 0 + 1 * t.val = t.val; omega
    | ⟨1, _⟩ => show 256 * k.val + 128 + 1 * d.val = 256 * k.val + 128 * 1 + d.val; omega
  have e2 : View.ld (Val := Elt Ideal) (e' := .bf16) x3 (Rect.unit (s := S2x128x128) ![1, 0, 0] S1x128x128.size inb_S2x128x128_S1x128x128_1_0_0) (ix3 0 j d) = x3 (ix3 1 j d) := by
    refine congrArg x3 (funext fun a => Fin.ext ?_)
    match a with
    | ⟨0, _⟩ => rfl
    | ⟨1, _⟩ => show 0 + 1 * j.val = j.val; omega
    | ⟨2, _⟩ => show 0 + 1 * d.val = d.val; omega
  exact congrArg₂ (fun a b : EReal => a * b) (e1.trans (q_at x0 x1 x2 t _)) e2

end Block

theorem iota_at (j t : Fin 128) : iota Kind.tc S128x128 32 [0] iota_S128x128_d0_w32 (ix2 j t) = BitVec.ofNat 32 j.val := by
  pointwise

theorem outI_at (arg4 : Memref sig .tc .vmem S2x128x128 .bf16) (arg9 : Memref sig .tc .vmem S128x2048 .bf16) (v21 : IVec S128x128 32) (v22 : Vec Ideal S80x128 .i32)
    (X4 : BufTy.Contents (Elt Ideal) arg4.view.ty) (X9 : BufTy.Contents (Elt Ideal) arg9.view.ty) (k : Fin k0_t1_loop.trips) (r : Fin 16) (t : Fin 128) :
    outI arg4 arg9 v21 v22 X4 X9 k (ix3 0 r t) = eid arg4 arg9 v21 v22 X4 X9 k r.val (ix2 0 t) := by
  unfold outI
  refine (shapeCast_apply _ _ _ (ix2 r t) ?_).trans (cat16_read _ r t)
  rw [Shape.rowMajor_val_three, Shape.rowMajor_val_two]
  show r.val * 128 + t.val = (0 * 16 + r.val) * 128 + t.val
  omega

theorem gate_at (arg4 : Memref sig .tc .vmem S2x128x128 .bf16) (arg9 : Memref sig .tc .vmem S128x2048 .bf16) (v21 : IVec S128x128 32) (v22 : Vec Ideal S80x128 .i32)
    (X4 : BufTy.Contents (Elt Ideal) arg4.view.ty) (X9 : BufTy.Contents (Elt Ideal) arg9.view.ty) (k : Fin k0_t1_loop.trips) (t : Fin 128)
    (f g : Fin 128 → EReal) (hA : ∀ j, sA arg4 arg9 X4 X9 k (ix2 j t) = f j) (hB : ∀ j, sB arg4 arg9 X4 X9 k (ix2 j t) = g j)
    (h21 : ∀ j : Fin 128, v21 (ix2 j t) = BitVec.ofNat 32 j.val) (h22 : ∀ q : Fin 80, v22 (ix2 q t) = BitVec.ofNat 32 (stair q).val)
    (hf : ∀ j, f j ≠ ⊥) (hg : ∀ j, g j ≠ ⊥) (r : Fin 16) :
    k0_pay4 (top16 arg4 arg9 v21 v22 X4 X9 k) (ix3 0 r t) = gate f g r := by
  have et : ∀ s, top16 arg4 arg9 v21 v22 X4 X9 k (ix2 s t) = topv f g s := fun s =>
    top_at arg4 arg9 v21 v22 X4 X9 k t f g hA hB h21 h22 hf hg s
  rw [soft_at]
  unfold gate
  simp only [et]

/-- The queries kept for the heads' trips are the block's. -/
theorem stored (arg1 : Memref sig .tc .vmem S128x1024 .f32) (harg1 : arg1.IsWhole) (arg2 : Memref sig .tc .vmem S1x1024 .f32) (harg2 : arg2.IsWhole)
    (arg3 : Memref sig .tc .vmem S1024x2048 .bf16) (harg3 : arg3.IsWhole) (arg9 : Memref sig .tc .vmem S128x2048 .bf16)
    (x0 : Vec Ideal S128x1024 .f32) (x1 : Vec Ideal S1x1024 .f32) (x2 : Vec Ideal S1024x2048 .bf16) :
    arg9.view.read (Elt Ideal) (arg9.view.writes (Elt Ideal) arg9.view.junk
      [⟨Rect.unit (s := S128x2048) ![0, 0] S128x2048.size inb_S128x2048_S128x2048_0_0,
        k0_pay2 (View.readAt (Elt Ideal) arg1.view (Rect.unit (s := S128x1024) ![0, 0] S128x1024.size inb_S128x1024_S128x1024_0_0).toLoadRect (harg1.unread x0))
          (View.readAt (Elt Ideal) arg2.view (Rect.unit (s := S1x1024) ![0, 0] S1x1024.size inb_S1x1024_S1x1024_0_0).toLoadRect (harg2.unread x1))
          (View.readAt (Elt Ideal) arg3.view (Rect.unit (s := S1024x2048) ![0, 0] S1024x2048.size inb_S1024x2048_S1024x2048_0_0).toLoadRect (harg3.unread x2))⟩])
      = k0_pay2 x0 x1 x2 := by
  simp only [View.readAt_eq_ld, harg1.read_unread, harg2.read_unread, harg3.read_unread, View.ld_unit_zero (S := S128x1024) hz2,
    View.ld_unit_zero (S := S1x1024) hz2, View.ld_unit_zero (S := S1024x2048) hz2]
  funext y
  refine View.read_writes_apply_of_pieces (Val := Elt Ideal) (e := .bf16) _ _ (k0_pay2 x0 x1 x2) _ (fun p hp x => ?_) y ⟨_, List.mem_singleton_self _, ?_⟩
  · obtain rfl := List.mem_singleton.mp hp
    exact congrArg (k0_pay2 x0 x1 x2) (funext fun a => Fin.ext (by
      show (x a).val = (![0, 0] : Fin 2 → Nat) a + 1 * (x a).val
      match a with
      | ⟨0, _⟩ => show (x 0).val = 0 + 1 * (x 0).val; omega
      | ⟨1, _⟩ => show (x 1).val = 0 + 1 * (x 1).val; omega))
  · refine (Rect.mem_set_unit (inb := inb_S128x2048_S128x2048_0_0)).mpr fun a => ?_
    match a with
    | ⟨0, _⟩ => exact ⟨Nat.zero_le _, by have := (y 0).isLt; show (y 0).val < 0 + 128; exact (Nat.zero_add 128).symm ▸ this⟩
    | ⟨1, _⟩ => exact ⟨Nat.zero_le _, by have := (y 1).isLt; show (y 1).val < 0 + 2048; exact (Nat.zero_add 2048).symm ▸ this⟩

/-! ## What a point leaves -/

section Point
variable (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S2x128x128 .bf16) (harg4 : arg4.IsWhole) (arg5 : Memref sig .tc .vmem S80x128 .i32) (harg5 : arg5.IsWhole) (arg6 : Memref sig .tc .vmem S128x1024 .f32) (harg6 : arg6.IsWhole) (arg7 : Memref sig .tc .vmem S1x128x128 .i32) (harg7 : arg7.IsWhole) (arg8 : Memref sig .tc .vmem S1x128x128 .f32) (harg8 : arg8.IsWhole) (arg9 : Memref sig .tc .vmem S128x2048 .bf16) (harg9 : arg9.IsWhole)
    (x0 : Vec Ideal S128x1024 .f32) (x1 : Vec Ideal S1x1024 .f32) (x2 : Vec Ideal S1024x2048 .bf16) (x3 : Vec Ideal S2x128x128 .bf16) (x4 : Vec Ideal S80x128 .i32)

theorem out5_eq : out0_A_5 c i arg1 harg1 arg2 harg2 arg3 harg3 arg4 harg4 arg5 harg5 arg6 harg6 arg7 harg7 arg8 harg8 arg9 harg9 x0 x1 x2 x3 x4 = k0_pay1 x0 x1 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero (S := S128x1024) hz2]
  simp only [View.readAt_eq_ld, harg1.read_unread, harg2.read_unread, View.ld_unit_zero (S := S128x1024) hz2, View.ld_unit_zero (S := S1x1024) hz2]

theorem pieces_fst (v21 : IVec S128x128 32) (v22 : Vec Ideal S80x128 .i32) (X4 : BufTy.Contents (Elt Ideal) arg4.view.ty) (X9 : BufTy.Contents (Elt Ideal) arg9.view.ty)
    (n : Nat) (hn : n ≤ k0_t1_loop.trips) : ∀ p ∈ (pb_k0_t1 (F := Ideal) Variants.none c none i arg1 harg1 arg2 harg2 arg3 harg3 arg4 harg4 arg5 harg5 arg6 harg6 arg7 harg7 arg8 harg8 arg9 harg9 v21 v22 X4 X9 n).1,
      ∃ k : Fin k0_t1_loop.trips, p = ⟨Rect.unit (s := S1x128x128) (k0_off2 k) S1x16x128.size (k0_off2_inb k), outI arg4 arg9 v21 v22 X4 X9 k⟩ := by
  induction n with
  | zero => intro p hp; exact absurd hp (by rw [pb_k0_t1.eq_1]; exact List.not_mem_nil)
  | succ n ih =>
    intro p hp
    rw [pb_k0_t1_succ Variants.none c none i arg1 harg1 arg2 harg2 arg3 harg3 arg4 harg4 arg5 harg5 arg6 harg6 arg7 harg7 arg8 harg8 arg9 harg9 v21 v22 X4 X9 ⟨n, hn⟩] at hp
    rcases List.mem_append.mp hp with hp | hp
    · refine ⟨⟨n, hn⟩, ?_⟩
      have e := trip_fst arg4 arg9 v21 v22 X4 X9 ⟨n, hn⟩ Variants.none c none i arg1 harg1 arg2 harg2 arg3 harg3 harg4 arg5 harg5 arg6 harg6 arg7 harg7 arg8 harg8 harg9
      exact List.mem_singleton.mp (e ▸ hp)
    · exact ih (by omega) p hp

theorem pieces_snd (v21 : IVec S128x128 32) (v22 : Vec Ideal S80x128 .i32) (X4 : BufTy.Contents (Elt Ideal) arg4.view.ty) (X9 : BufTy.Contents (Elt Ideal) arg9.view.ty)
    (n : Nat) (hn : n ≤ k0_t1_loop.trips) : ∀ p ∈ (pb_k0_t1 (F := Ideal) Variants.none c none i arg1 harg1 arg2 harg2 arg3 harg3 arg4 harg4 arg5 harg5 arg6 harg6 arg7 harg7 arg8 harg8 arg9 harg9 v21 v22 X4 X9 n).2,
      ∃ k : Fin k0_t1_loop.trips, p = ⟨Rect.unit (s := S1x128x128) (k0_off2 k) S1x16x128.size (k0_off2_inb k), k0_pay4 (top16 arg4 arg9 v21 v22 X4 X9 k)⟩ := by
  induction n with
  | zero => intro p hp; exact absurd hp (by rw [pb_k0_t1.eq_1]; exact List.not_mem_nil)
  | succ n ih =>
    intro p hp
    rw [pb_k0_t1_succ Variants.none c none i arg1 harg1 arg2 harg2 arg3 harg3 arg4 harg4 arg5 harg5 arg6 harg6 arg7 harg7 arg8 harg8 arg9 harg9 v21 v22 X4 X9 ⟨n, hn⟩] at hp
    rcases List.mem_append.mp hp with hp | hp
    · refine ⟨⟨n, hn⟩, ?_⟩
      have e := trip_snd arg4 arg9 v21 v22 X4 X9 ⟨n, hn⟩ Variants.none c none i arg1 harg1 arg2 harg2 arg3 harg3 harg4 arg5 harg5 arg6 harg6 arg7 harg7 arg8 harg8 harg9
      exact List.mem_singleton.mp (e ▸ hp)
    · exact ih (by omega) p hp

/-- The head and rank of a row of the results' blocks. -/
def rowH (y : Fin 128) : Fin 8 := ⟨y.val / 16, by omega⟩
def rowR (y : Fin 128) : Fin 16 := ⟨y.val % 16, by omega⟩

theorem emb_at (k : Fin k0_t1_loop.trips) (r : Fin 16) (t : Fin 128) :
    (Rect.unit (s := S1x128x128) (k0_off2 k) S1x16x128.size (k0_off2_inb k)).emb (ix3 0 r t) = ix3 0 (⟨16 * k.val + r.val, by have := lt8 k; omega⟩ : Fin 128) t := by
  funext a; apply Fin.ext
  show k0_off2 k a + 1 * ((ix3 (0 : Fin 1) r t : S1x16x128.Idx) a).val = _
  rw [off2 k]
  match a with
  | ⟨0, _⟩ => rfl
  | ⟨1, _⟩ => show 16 * k.val + 1 * r.val = 16 * k.val + r.val; omega
  | ⟨2, _⟩ => show 0 + 1 * t.val = t.val; omega

variable (hs : ∀ t h p j, sc x0 x1 x2 x3 t h p j ≠ ⊥) (h22 : ∀ (q : Fin 80) (t : Fin 128), x4 (ix2 q t) = BitVec.ofNat 32 (stair q).val)
include hs h22

theorem out6_at (y t : Fin 128) : out0_A_6 c i arg1 harg1 arg2 harg2 arg3 harg3 arg4 harg4 arg5 harg5 arg6 harg6 arg7 harg7 arg8 harg8 arg9 harg9 x0 x1 x2 x3 x4 (ix3 0 y t)
    = tope (sc x0 x1 x2 x3 t (rowH y) 0) (sc x0 x1 x2 x3 t (rowH y) 1) (rowR y) := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4)]
  refine View.canon_apply_of_pieces (Val := Elt Ideal) (fun z : S1x128x128.Idx => tope (sc x0 x1 x2 x3 (z 2) (rowH (z 1)) 0) (sc x0 x1 x2 x3 (z 2) (rowH (z 1)) 1) (rowR (z 1))) _ ?_ (ix3 0 y t)
    (cover0_A_6 c i arg1 harg1 arg2 harg2 arg3 harg3 arg4 harg4 arg5 harg5 arg6 harg6 arg7 harg7 arg8 harg8 arg9 harg9 x0 x1 x2 x3 x4 (ix3 0 y t))
  unfold kernelRun0_A
  dsimp only
  sl_unfold_words
  intro p hp
  obtain ⟨k, rfl⟩ := pieces_fst c i arg1 harg1 arg2 harg2 arg3 harg3 arg4 harg4 arg5 harg5 arg6 harg6 arg7 harg7 arg8 harg8 arg9 harg9 _ _ _ _ _ (le_of_eq rfl) p hp
  intro x
  have hx : ∃ (r : Fin 16) (t : Fin 128), x = ix3 0 r t := ⟨x 1, x 2, by
    funext a
    match a with
    | ⟨0, _⟩ => exact Subsingleton.elim (α := Fin 1) _ _
    | ⟨1, _⟩ => rfl
    | ⟨2, _⟩ => rfl⟩
  obtain ⟨r, t, rfl⟩ := hx
  refine Eq.trans ?_ (congrArg (fun z : S1x128x128.Idx => tope (sc x0 x1 x2 x3 (z 2) (rowH (z 1)) 0) (sc x0 x1 x2 x3 (z 2) (rowH (z 1)) 1) (rowR (z 1))) (emb_at k r t).symm)
  have eh : rowH (⟨16 * k.val + r.val, by have := lt8 k; omega⟩ : Fin 128) = hd k := Fin.ext (by show (16 * k.val + r.val) / 16 = k.val; omega)
  have er : rowR (⟨16 * k.val + r.val, by have := lt8 k; omega⟩ : Fin 128) = r := Fin.ext (by show (16 * k.val + r.val) % 16 = r.val; omega)
  show _ = tope (sc x0 x1 x2 x3 t (rowH (⟨16 * k.val + r.val, _⟩ : Fin 128)) 0) (sc x0 x1 x2 x3 t (rowH (⟨16 * k.val + r.val, _⟩ : Fin 128)) 1) (rowR (⟨16 * k.val + r.val, _⟩ : Fin 128))
  rw [eh, er]
  have e4 := harg4.read_unread x3
  have e5 := harg5.read_unread x4
  refine (outI_at arg4 arg9 _ _ _ _ k r t).trans ?_
  refine eid_at arg4 arg9 _ _ _ _ k t _ _ (sA_at arg4 arg9 _ _ k x0 x1 x2 x3 e4 ?_ t) (sB_at arg4 arg9 _ _ k x0 x1 x2 x3 e4 ?_ t)
    (fun j => iota_at j t) (fun q => ?_) (hs t _ 0) (hs t _ 1) r
  · exact stored arg1 harg1 arg2 harg2 arg3 harg3 arg9 x0 x1 x2
  · exact stored arg1 harg1 arg2 harg2 arg3 harg3 arg9 x0 x1 x2
  · rw [View.readAt_eq_ld, e5]
    exact (congrFun (View.ld_unit_zero (S := S80x128) hz2 _ x4) _).trans (h22 q t)

theorem out7_at (y t : Fin 128) : out0_A_7 c i arg1 harg1 arg2 harg2 arg3 harg3 arg4 harg4 arg5 harg5 arg6 harg6 arg7 harg7 arg8 harg8 arg9 harg9 x0 x1 x2 x3 x4 (ix3 0 y t)
    = gate (sc x0 x1 x2 x3 t (rowH y) 0) (sc x0 x1 x2 x3 t (rowH y) 1) (rowR y) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4)]
  refine View.canon_apply_of_pieces (Val := Elt Ideal) (fun z : S1x128x128.Idx => gate (sc x0 x1 x2 x3 (z 2) (rowH (z 1)) 0) (sc x0 x1 x2 x3 (z 2) (rowH (z 1)) 1) (rowR (z 1))) _ ?_ (ix3 0 y t)
    (cover0_A_7 c i arg1 harg1 arg2 harg2 arg3 harg3 arg4 harg4 arg5 harg5 arg6 harg6 arg7 harg7 arg8 harg8 arg9 harg9 x0 x1 x2 x3 x4 (ix3 0 y t))
  unfold kernelRun0_A
  dsimp only
  sl_unfold_words
  intro p hp
  obtain ⟨k, rfl⟩ := pieces_snd c i arg1 harg1 arg2 harg2 arg3 harg3 arg4 harg4 arg5 harg5 arg6 harg6 arg7 harg7 arg8 harg8 arg9 harg9 _ _ _ _ _ (le_of_eq rfl) p hp
  intro x
  have hx : ∃ (r : Fin 16) (t : Fin 128), x = ix3 0 r t := ⟨x 1, x 2, by
    funext a
    match a with
    | ⟨0, _⟩ => exact Subsingleton.elim (α := Fin 1) _ _
    | ⟨1, _⟩ => rfl
    | ⟨2, _⟩ => rfl⟩
  obtain ⟨r, t, rfl⟩ := hx
  refine Eq.trans ?_ (congrArg (fun z : S1x128x128.Idx => gate (sc x0 x1 x2 x3 (z 2) (rowH (z 1)) 0) (sc x0 x1 x2 x3 (z 2) (rowH (z 1)) 1) (rowR (z 1))) (emb_at k r t).symm)
  have eh : rowH (⟨16 * k.val + r.val, by have := lt8 k; omega⟩ : Fin 128) = hd k := Fin.ext (by show (16 * k.val + r.val) / 16 = k.val; omega)
  have er : rowR (⟨16 * k.val + r.val, by have := lt8 k; omega⟩ : Fin 128) = r := Fin.ext (by show (16 * k.val + r.val) % 16 = r.val; omega)
  show _ = gate (sc x0 x1 x2 x3 t (rowH (⟨16 * k.val + r.val, _⟩ : Fin 128)) 0) (sc x0 x1 x2 x3 t (rowH (⟨16 * k.val + r.val, _⟩ : Fin 128)) 1) (rowR (⟨16 * k.val + r.val, _⟩ : Fin 128))
  rw [eh, er]
  have e4 := harg4.read_unread x3
  have e5 := harg5.read_unread x4
  refine gate_at arg4 arg9 _ _ _ _ k t _ _ (sA_at arg4 arg9 _ _ k x0 x1 x2 x3 e4 ?_ t) (sB_at arg4 arg9 _ _ k x0 x1 x2 x3 e4 ?_ t)
    (fun j => iota_at j t) (fun q => ?_) (hs t _ 0) (hs t _ 1) r
  · exact stored arg1 harg1 arg2 harg2 arg3 harg3 arg9 x0 x1 x2
  · exact stored arg1 harg1 arg2 harg2 arg3 harg3 arg9 x0 x1 x2
  · rw [View.readAt_eq_ld, e5]
    exact (congrFun (View.ld_unit_zero (S := S80x128) hz2 _ x4) _).trans (h22 q t)

end Point

end Cert.Kernel6Ideal.Topk
end
-- ==== Proof.TopArr.lean ====
module

public import proofs.«01_k».proof.Proof.Gen.Kernel6Ideal
public import proofs.«01_k».proof.Proof.Gen.Kernel6Ideal.Frame
public import proofs.«01_k».proof.Proof.TopStair
public import proofs.«01_k».proof.Proof.TopOut
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

set_option maxRecDepth 16384

noncomputable section

namespace Cert.Kernel6Ideal.Topk

open Idealize.ShloMosaic Idealize.ShloMosaic.TcCoe Idealize.ShloMosaic.Tactic Cert.Kernel6Ideal Cert.Kernel6Ideal.Gen Cert.Top

variable (m : (ℓ : Loc nD τ sig) → Buf (Elt Ideal) ℓ) (c : Dev nD)

/-! ## The results, from the arguments -/

section Spec
variable (X : S32768x1024.Idx → EReal) (gn : S1024.Idx → EReal) (W : S1024x2048.Idx → EReal) (K : S2x128x128.Idx → EReal)

/-- The scores of token `t`. -/
def scoreOf (t : Fin 32768) (h : Fin 8) (p : Fin 2) : Fin 128 → EReal :=
  score (fun k => X (ix2 t k)) (fun k => gn (ix1 k)) (fun k n => W (ix2 k n)) (fun p j d => K (ix3 p j d)) h p

/-- The normed tokens, the chosen experts and their weights. -/
def hArr : S32768x1024.Idx → EReal := fun j => normed (fun k => X (ix2 (j 0) k)) (fun k => gn (ix1 k)) (j 1)
def eArr : S32768x8x16.Idx → BitVec 32 := fun j => tope (scoreOf X gn W K (j 0) (j 1) 0) (scoreOf X gn W K (j 0) (j 1) 1) (j 2)
def gArr : S32768x8x16.Idx → EReal := fun j => gate (scoreOf X gn W K (j 0) (j 1) 0) (scoreOf X gn W K (j 0) (j 1) 1) (j 2)
end Spec

/-! ## What the region finds -/

theorem V1_at (d : Fin 1024) : V m c main_v1 (ix2 0 d) = m ((c : Thread nD τ).loc main_arg1) (ix1 d) := by
  have e : V m c main_v1 = shapeCast S1x1024 (m ((c : Thread nD τ).loc main_arg1) : S1024.Idx → EReal) shapeCasts_S1024_S1x1024 := by
    show StableHlo.after hostOps0 (fun b => m (c, b)) (Proc.devRef .tc main_v1) = _
    after_results
    rfl
  rw [e]
  refine shapeCast_apply _ _ _ _ ?_
  show (S1024.rowMajor (ix1 d)).val = (S1x1024.rowMajor (ix2 0 d)).val
  rw [Shape.rowMajor_val_one, Shape.rowMajor_val_two]
  show d.val = 0 * 1024 + d.val
  omega

theorem V0_eq : V m c main_arg0 = m ((c : Thread nD τ).loc main_arg0) := by
  show StableHlo.after hostOps0 (fun b => m (c, b)) (Proc.devRef .tc main_arg0) = _
  after_results

theorem V2_eq : V m c main_v2 = m ((c : Thread nD τ).loc main_arg2) := by
  show StableHlo.after hostOps0 (fun b => m (c, b)) (Proc.devRef .tc main_v2) = _
  after_results
  rfl

theorem V3_eq : V m c main_v3 = m ((c : Thread nD τ).loc main_arg3) := by
  show StableHlo.after hostOps0 (fun b => m (c, b)) (Proc.devRef .tc main_v3) = _
  after_results
  rfl

theorem lit_at : ∀ q : Fin 80, lit0 q = BitVec.ofNat 32 (stairN q.val) := by decide +kernel

theorem V4_at (q : Fin 80) (t : Fin 128) : V m c main_v0 (ix2 q t) = BitVec.ofNat 32 (stair q).val := by
  have e : V m c main_v0 = broadcastInDim S80x128 ![0] bcast_S80_S80x128_0 (fun i : S80.Idx => lit0 (S80.rowMajor i)) := by
    show StableHlo.after hostOps0 (fun b => m (c, b)) (Proc.devRef .tc main_v0) = _
    after_results
    rfl
  rw [e]
  refine Eq.trans ?_ (lit_at q)
  show lit0 (S80.rowMajor (ix1 q)) = lit0 q
  refine congrArg lit0 (Fin.ext ?_)
  exact Shape.rowMajor_val_one _

/-! ## The blocks of a point -/

theorem index0 : ∀ t : Fin cfg0.N, win0_0.index t (0 : Fin 2) = t.val := by decide +kernel
theorem index5 : ∀ t : Fin cfg0.N, win0_5.index t (0 : Fin 2) = t.val := by decide +kernel
theorem index6 : ∀ t : Fin cfg0.N, win0_6.index t (0 : Fin 3) = t.val := by decide +kernel
theorem index7 : ∀ t : Fin cfg0.N, win0_7.index t (0 : Fin 3) = t.val := by decide +kernel

variable (t : Fin cfg0.N)

theorem lt_N : t.val < 256 := lt_of_lt_of_eq t.isLt N_0

/-- The token in row `r` of point `t`'s block. -/
def tok (r : Fin 128) : Fin 32768 := ⟨128 * t.val + r.val, by have := lt_N t; omega⟩

theorem b0_at (r : Fin 128) (d : Fin 1024) : iblk m c 0 t (ix2 r d) = m ((c : Thread nD τ).loc main_arg0) (ix2 (tok t r) d) := by
  show V m c main_arg0 (((cfg0.win 0).blk t).view.emb (ix2 r d)) = _
  refine (congrFun (V0_eq m c) _).trans (congrArg (m ((c : Thread nD τ).loc main_arg0)) ?_)
  funext a; apply Fin.ext
  match a with
  | ⟨0, _⟩ => show win0_0.index t (0 : Fin 2) * 128 + 1 * r.val = 128 * t.val + r.val; rw [index0]; omega
  | ⟨1, _⟩ => show 0 * 1024 + 1 * d.val = d.val; omega

theorem b1_at (d : Fin 1024) : iblk m c 1 t (ix2 0 d) = m ((c : Thread nD τ).loc main_arg1) (ix1 d) := by
  show V m c main_v1 (((cfg0.win 1).blk t).view.emb (ix2 0 d)) = _
  refine (congrArg (V m c main_v1) ?_).trans (V1_at m c d)
  funext a; apply Fin.ext
  match a with
  | ⟨0, _⟩ => rfl
  | ⟨1, _⟩ => show 0 * 1024 + 1 * d.val = d.val; omega

theorem b2_at (k : Fin 1024) (n : Fin 2048) : iblk m c 2 t (ix2 k n) = m ((c : Thread nD τ).loc main_arg2) (ix2 k n) := by
  show V m c main_v2 (((cfg0.win 2).blk t).view.emb (ix2 k n)) = _
  refine (congrFun (V2_eq m c) _).trans (congrArg (m ((c : Thread nD τ).loc main_arg2)) ?_)
  funext a; apply Fin.ext
  match a with
  | ⟨0, _⟩ => show 0 * 1024 + 1 * k.val = k.val; omega
  | ⟨1, _⟩ => show 0 * 2048 + 1 * n.val = n.val; omega

theorem b3_at (p : Fin 2) (j d : Fin 128) : iblk m c 3 t (ix3 p j d) = m ((c : Thread nD τ).loc main_arg3) (ix3 p j d) := by
  show V m c main_v3 (((cfg0.win 3).blk t).view.emb (ix3 p j d)) = _
  refine (congrFun (V3_eq m c) _).trans (congrArg (m ((c : Thread nD τ).loc main_arg3)) ?_)
  funext a; apply Fin.ext
  match a with
  | ⟨0, _⟩ => show 0 * 2 + 1 * p.val = p.val; omega
  | ⟨1, _⟩ => show 0 * 128 + 1 * j.val = j.val; omega
  | ⟨2, _⟩ => show 0 * 128 + 1 * d.val = d.val; omega

theorem b4_at (q : Fin 80) (s : Fin 128) : iblk m c 4 t (ix2 q s) = BitVec.ofNat 32 (stair q).val := by
  show V m c main_v0 (((cfg0.win 4).blk t).view.emb (ix2 q s)) = _
  refine (congrArg (V m c main_v0) ?_).trans (V4_at m c q s)
  funext a; apply Fin.ext
  match a with
  | ⟨0, _⟩ => show 0 * 80 + 1 * q.val = q.val; omega
  | ⟨1, _⟩ => show 0 * 128 + 1 * s.val = s.val; omega

/-- The scores of the tokens, from the arguments. -/
def scores : Fin 32768 → Fin 8 → Fin 2 → Fin 128 → EReal :=
  scoreOf (m ((c : Thread nD τ).loc main_arg0)) (m ((c : Thread nD τ).loc main_arg1)) (m ((c : Thread nD τ).loc main_arg2)) (m ((c : Thread nD τ).loc main_arg3))

theorem sc_eq (r : Fin 128) (h : Fin 8) (p : Fin 2) :
    sc (iblk m c 0 t) (iblk m c 1 t) (iblk m c 2 t) (iblk m c 3 t) r h p = scores m c (tok t r) h p := by
  unfold sc scores scoreOf
  simp only [b0_at, b1_at, b2_at, b3_at]

/-! ## The arrays the points leave -/

/-- Each block of the second and third result: a row per head and rank, a column per token. -/
def eBlk : S256x128x128.Idx → BitVec 32 := fun j =>
  tope (scores m c ⟨128 * (j 0).val + (j 2).val, by have := (j 0).isLt; have := (j 2).isLt; simp at *; omega⟩ (rowH (j 1)) 0)
    (scores m c ⟨128 * (j 0).val + (j 2).val, by have := (j 0).isLt; have := (j 2).isLt; simp at *; omega⟩ (rowH (j 1)) 1) (rowR (j 1))
def gBlk : S256x128x128.Idx → EReal := fun j =>
  gate (scores m c ⟨128 * (j 0).val + (j 2).val, by have := (j 0).isLt; have := (j 2).isLt; simp at *; omega⟩ (rowH (j 1)) 0)
    (scores m c ⟨128 * (j 0).val + (j 2).val, by have := (j 0).isLt; have := (j 2).isLt; simp at *; omega⟩ (rowH (j 1)) 1) (rowR (j 1))

def hOf : S32768x1024.Idx → EReal := hArr (m ((c : Thread nD τ).loc main_arg0)) (m ((c : Thread nD τ).loc main_arg1))

def eOf : S32768x8x16.Idx → BitVec 32 := eArr (m ((c : Thread nD τ).loc main_arg0)) (m ((c : Thread nD τ).loc main_arg1)) (m ((c : Thread nD τ).loc main_arg2)) (m ((c : Thread nD τ).loc main_arg3))
def gOf : S32768x8x16.Idx → EReal := gArr (m ((c : Thread nD τ).loc main_arg0)) (m ((c : Thread nD τ).loc main_arg1)) (m ((c : Thread nD τ).loc main_arg2)) (m ((c : Thread nD τ).loc main_arg3))

theorem flushed5 : (dats m 0 c).flushed 5 t = ((cfg0.win 5).blk t).view.read (Elt Ideal) (hOf m c) := by
  show (cfg0.win 5).cut (grid0.coords t) ((dats m 0 c).after 5 t) = _
  rw [after0_5]
  unfold outsAt0
  dsimp only
  rw [out5_eq]
  funext j
  idx_vars j
  show k0_pay1 (F := Ideal) _ _ (ix2 j0 j1) = hOf m c (((cfg0.win 5).blk t).view.emb (ix2 j0 j1))
  have e : ((cfg0.win 5).blk t).view.emb (ix2 j0 j1) = ix2 (tok t j0) j1 := by
    funext a; apply Fin.ext
    match a with
    | ⟨0, _⟩ => show win0_5.index t (0 : Fin 2) * 128 + 1 * j0.val = 128 * t.val + j0.val; rw [index5]; omega
    | ⟨1, _⟩ => show 0 * 1024 + 1 * j1.val = j1.val; omega
  rw [e, h_at]
  simp only [b0_at, b1_at]
  rfl

theorem cover5 (i : S32768x1024.Idx) : ∃ t : Fin cfg0.N, (cfg0.win 5).flush t = true ∧ i ∈ ((cfg0.win 5).blk t).view.set := by
  have h0 : (i 0).val < 32768 := (i 0).isLt
  let t : Fin cfg0.N := ⟨(i 0).val / 128, by rw [show cfg0.N = 256 from N_0]; omega⟩
  refine ⟨t, flush0_5 t, ?_⟩
  have h := ((cfg0.win 5).blk t).view.emb_mem_set (ix2 (⟨(i 0).val % 128, Nat.mod_lt _ (by decide)⟩ : Fin 128) (⟨(i 1).val, (i 1).isLt⟩ : Fin 1024))
  have e : ((cfg0.win 5).blk t).view.emb (ix2 (⟨(i 0).val % 128, Nat.mod_lt _ (by decide)⟩ : Fin 128) (⟨(i 1).val, (i 1).isLt⟩ : Fin 1024)) = i := by
    funext a; apply Fin.ext
    match a with
    | ⟨0, _⟩ =>
      show win0_5.index t (0 : Fin 2) * 128 + 1 * ((i 0).val % 128) = (i 0).val
      rw [index5]
      show (i 0).val / 128 * 128 + 1 * ((i 0).val % 128) = (i 0).val
      omega
    | ⟨1, _⟩ => show 0 * 1024 + 1 * (i 1).val = (i 1).val; omega
  rw [e] at h
  exact h

theorem final5 : (dats m 0 c).arrAt 5 cfg0.N = hOf m c :=
  (dats m 0 c).arrAt_eq_of_cover 5 (hOf m c) (fun t _ => flushed5 m c t) cover5

variable (hs : ∀ t h p j, scores m c t h p j ≠ ⊥)
include hs

theorem flushed6 : (dats m 0 c).flushed 6 t = ((cfg0.win 6).blk t).view.read (Elt Ideal) (eBlk m c) := by
  show (cfg0.win 6).cut (grid0.coords t) ((dats m 0 c).after 6 t) = _
  rw [after0_6]
  unfold outsAt0
  dsimp only
  funext j
  have hj : ∃ (r s : Fin 128), j = ix3 0 r s := ⟨j 1, j 2, by
    funext a
    match a with
    | ⟨0, _⟩ => exact Subsingleton.elim (α := Fin 1) _ _
    | ⟨1, _⟩ => rfl
    | ⟨2, _⟩ => rfl⟩
  obtain ⟨r, s, rfl⟩ := hj
  show out0_A_6 (F := Ideal) _ _ _ _ _ _ _ _ _ _ _ _ _ _ _ _ _ _ _ _ _ _ _ _ _ (ix3 0 r s) = eBlk m c (((cfg0.win 6).blk t).view.emb (ix3 0 r s))
  have e : ((cfg0.win 6).blk t).view.emb (ix3 0 r s) = ix3 (⟨t.val, lt_N t⟩ : Fin 256) r s := by
    funext a; apply Fin.ext
    match a with
    | ⟨0, _⟩ => show win0_6.index t (0 : Fin 3) * 1 + 1 * 0 = t.val; rw [index6]; omega
    | ⟨1, _⟩ => show 0 * 128 + 1 * r.val = r.val; omega
    | ⟨2, _⟩ => show 0 * 128 + 1 * s.val = s.val; omega
  rw [e]
  refine (out6_at _ _ _ _ _ _ _ _ _ _ _ _ _ _ _ _ _ _ _ _ _ _ _ _ _ (fun r h p j => ?_) (fun q s => b4_at m c t q s) r s).trans ?_
  · rw [sc_eq]; exact hs _ _ _ _
  · rw [sc_eq, sc_eq]; rfl

omit hs in
theorem cover6 (i : S256x128x128.Idx) : ∃ t : Fin cfg0.N, (cfg0.win 6).flush t = true ∧ i ∈ ((cfg0.win 6).blk t).view.set := by
  have h0 : (i 0).val < 256 := (i 0).isLt
  let t : Fin cfg0.N := ⟨(i 0).val, by rw [show cfg0.N = 256 from N_0]; omega⟩
  refine ⟨t, flush0_6 t, ?_⟩
  have h := ((cfg0.win 6).blk t).view.emb_mem_set (ix3 (0 : Fin 1) (⟨(i 1).val, (i 1).isLt⟩ : Fin 128) (⟨(i 2).val, (i 2).isLt⟩ : Fin 128))
  have e : ((cfg0.win 6).blk t).view.emb (ix3 (0 : Fin 1) (⟨(i 1).val, (i 1).isLt⟩ : Fin 128) (⟨(i 2).val, (i 2).isLt⟩ : Fin 128)) = i := by
    funext a; apply Fin.ext
    match a with
    | ⟨0, _⟩ =>
      show win0_6.index t (0 : Fin 3) * 1 + 1 * 0 = (i 0).val
      rw [index6]
      show (i 0).val * 1 + 1 * 0 = (i 0).val
      omega
    | ⟨1, _⟩ => show 0 * 128 + 1 * (i 1).val = (i 1).val; omega
    | ⟨2, _⟩ => show 0 * 128 + 1 * (i 2).val = (i 2).val; omega
  rw [e] at h
  exact h

theorem final6 : (dats m 0 c).arrAt 6 cfg0.N = eBlk m c :=
  (dats m 0 c).arrAt_eq_of_cover 6 (eBlk m c) (fun t _ => flushed6 m c t hs) cover6

theorem flushed7 : (dats m 0 c).flushed 7 t = ((cfg0.win 7).blk t).view.read (Elt Ideal) (gBlk m c) := by
  show (cfg0.win 7).cut (grid0.coords t) ((dats m 0 c).after 7 t) = _
  rw [after0_7]
  unfold outsAt0
  dsimp only
  funext j
  have hj : ∃ (r s : Fin 128), j = ix3 0 r s := ⟨j 1, j 2, by
    funext a
    match a with
    | ⟨0, _⟩ => exact Subsingleton.elim (α := Fin 1) _ _
    | ⟨1, _⟩ => rfl
    | ⟨2, _⟩ => rfl⟩
  obtain ⟨r, s, rfl⟩ := hj
  show out0_A_7 (F := Ideal) _ _ _ _ _ _ _ _ _ _ _ _ _ _ _ _ _ _ _ _ _ _ _ _ _ (ix3 0 r s) = gBlk m c (((cfg0.win 7).blk t).view.emb (ix3 0 r s))
  have e : ((cfg0.win 7).blk t).view.emb (ix3 0 r s) = ix3 (⟨t.val, lt_N t⟩ : Fin 256) r s := by
    funext a; apply Fin.ext
    match a with
    | ⟨0, _⟩ => show win0_7.index t (0 : Fin 3) * 1 + 1 * 0 = t.val; rw [index7]; omega
    | ⟨1, _⟩ => show 0 * 128 + 1 * r.val = r.val; omega
    | ⟨2, _⟩ => show 0 * 128 + 1 * s.val = s.val; omega
  rw [e]
  refine (out7_at _ _ _ _ _ _ _ _ _ _ _ _ _ _ _ _ _ _ _ _ _ _ _ _ _ (fun r h p j => ?_) (fun q s => b4_at m c t q s) r s).trans ?_
  · rw [sc_eq]; exact hs _ _ _ _
  · rw [sc_eq, sc_eq]; rfl

omit hs in
theorem cover7 (i : S256x128x128.Idx) : ∃ t : Fin cfg0.N, (cfg0.win 7).flush t = true ∧ i ∈ ((cfg0.win 7).blk t).view.set := by
  have h0 : (i 0).val < 256 := (i 0).isLt
  let t : Fin cfg0.N := ⟨(i 0).val, by rw [show cfg0.N = 256 from N_0]; omega⟩
  refine ⟨t, flush0_7 t, ?_⟩
  have h := ((cfg0.win 7).blk t).view.emb_mem_set (ix3 (0 : Fin 1) (⟨(i 1).val, (i 1).isLt⟩ : Fin 128) (⟨(i 2).val, (i 2).isLt⟩ : Fin 128))
  have e : ((cfg0.win 7).blk t).view.emb (ix3 (0 : Fin 1) (⟨(i 1).val, (i 1).isLt⟩ : Fin 128) (⟨(i 2).val, (i 2).isLt⟩ : Fin 128)) = i := by
    funext a; apply Fin.ext
    match a with
    | ⟨0, _⟩ =>
      show win0_7.index t (0 : Fin 3) * 1 + 1 * 0 = (i 0).val
      rw [index7]
      show (i 0).val * 1 + 1 * 0 = (i 0).val
      omega
    | ⟨1, _⟩ => show 0 * 128 + 1 * (i 1).val = (i 1).val; omega
    | ⟨2, _⟩ => show 0 * 128 + 1 * (i 2).val = (i 2).val; omega
  rw [e] at h
  exact h

theorem final7 : (dats m 0 c).arrAt 7 cfg0.N = gBlk m c :=
  (dats m 0 c).arrAt_eq_of_cover 7 (gBlk m c) (fun t _ => flushed7 m c t hs) cover7

theorem tail6 : Pipeline.afterTail₀ cfgs (dats m) 0 (V0 m) [hostOps1] c main_v6 = eOf m c := by
  have e : Pipeline.afterTail₀ cfgs (dats m) 0 (V0 m) [hostOps1] c main_v6
      = shapeCast S32768x8x16 (transpose S256x128x128 [0, 2, 1] ((dats m 0 c).arrAt 6 cfg0.N : S256x128x128.Idx → BitVec 32) transposes_S256x128x128_S256x128x128_0_2_1)
          shapeCasts_S256x128x128_S32768x8x16 := by
    unfold Pipeline.afterTail₀
    show StableHlo.after hostOps1 _ (Proc.devRef .tc main_v6) = _
    after_results
    exact congrArg (fun x : S256x128x128.Idx → BitVec 32 => shapeCast S32768x8x16 (transpose S256x128x128 [0, 2, 1] x transposes_S256x128x128_S256x128x128_0_2_1)
        shapeCasts_S256x128x128_S32768x8x16)
      (Pipeline.withArrays_arr (cfgs 0).spec (by decide) c (V0 m c) (fun w => (dats m 0 c).arrAt w cfg0.N) 6)
  rw [e, final6 m c hs]
  funext j
  idx_vars j
  refine (shapeCast_apply _ _ _ (ix3 (⟨j0.val / 128, by omega⟩ : Fin 256) (⟨j0.val % 128, by omega⟩ : Fin 128) (⟨16 * j1.val + j2.val, by omega⟩ : Fin 128)) ?_).trans ?_
  · rw [Shape.rowMajor_val_three, Shape.rowMajor_val_three]
    show (j0.val / 128 * 128 + j0.val % 128) * 128 + (16 * j1.val + j2.val) = (j0.val * 8 + j1.val) * 16 + j2.val
    omega
  · pointwise
    show eBlk m c (ix3 (⟨j0.val / 128, _⟩ : Fin 256) (⟨16 * j1.val + j2.val, _⟩ : Fin 128) (⟨j0.val % 128, _⟩ : Fin 128)) = _
    have e0 : (⟨128 * (j0.val / 128) + j0.val % 128, by omega⟩ : Fin 32768) = j0 := Fin.ext (by show 128 * (j0.val / 128) + j0.val % 128 = j0.val; omega)
    have e1 : rowH (⟨16 * j1.val + j2.val, by omega⟩ : Fin 128) = j1 := Fin.ext (by show (16 * j1.val + j2.val) / 16 = j1.val; omega)
    have e2 : rowR (⟨16 * j1.val + j2.val, by omega⟩ : Fin 128) = j2 := Fin.ext (by show (16 * j1.val + j2.val) % 16 = j2.val; omega)
    show tope (scores m c (⟨128 * (j0.val / 128) + j0.val % 128, _⟩ : Fin 32768) (rowH (⟨16 * j1.val + j2.val, _⟩ : Fin 128)) 0)
      (scores m c (⟨128 * (j0.val / 128) + j0.val % 128, _⟩ : Fin 32768) (rowH (⟨16 * j1.val + j2.val, _⟩ : Fin 128)) 1) (rowR (⟨16 * j1.val + j2.val, _⟩ : Fin 128)) = _
    rw [e0, e1, e2]
    rfl

theorem tail7 : Pipeline.afterTail₀ cfgs (dats m) 0 (V0 m) [hostOps1] c main_v8 = gOf m c := by
  have e : Pipeline.afterTail₀ cfgs (dats m) 0 (V0 m) [hostOps1] c main_v8
      = shapeCast S32768x8x16 (transpose S256x128x128 [0, 2, 1] ((dats m 0 c).arrAt 7 cfg0.N : S256x128x128.Idx → EReal) transposes_S256x128x128_S256x128x128_0_2_1)
          shapeCasts_S256x128x128_S32768x8x16 := by
    unfold Pipeline.afterTail₀
    show StableHlo.after hostOps1 _ (Proc.devRef .tc main_v8) = _
    after_results
    exact congrArg (fun x : S256x128x128.Idx → EReal => shapeCast S32768x8x16 (transpose S256x128x128 [0, 2, 1] x transposes_S256x128x128_S256x128x128_0_2_1)
        shapeCasts_S256x128x128_S32768x8x16)
      (Pipeline.withArrays_arr (cfgs 0).spec (by decide) c (V0 m c) (fun w => (dats m 0 c).arrAt w cfg0.N) 7)
  rw [e, final7 m c hs]
  funext j
  idx_vars j
  refine (shapeCast_apply _ _ _ (ix3 (⟨j0.val / 128, by omega⟩ : Fin 256) (⟨j0.val % 128, by omega⟩ : Fin 128) (⟨16 * j1.val + j2.val, by omega⟩ : Fin 128)) ?_).trans ?_
  · rw [Shape.rowMajor_val_three, Shape.rowMajor_val_three]
    show (j0.val / 128 * 128 + j0.val % 128) * 128 + (16 * j1.val + j2.val) = (j0.val * 8 + j1.val) * 16 + j2.val
    omega
  · pointwise
    show gBlk m c (ix3 (⟨j0.val / 128, _⟩ : Fin 256) (⟨16 * j1.val + j2.val, _⟩ : Fin 128) (⟨j0.val % 128, _⟩ : Fin 128)) = _
    have e0 : (⟨128 * (j0.val / 128) + j0.val % 128, by omega⟩ : Fin 32768) = j0 := Fin.ext (by show 128 * (j0.val / 128) + j0.val % 128 = j0.val; omega)
    have e1 : rowH (⟨16 * j1.val + j2.val, by omega⟩ : Fin 128) = j1 := Fin.ext (by show (16 * j1.val + j2.val) / 16 = j1.val; omega)
    have e2 : rowR (⟨16 * j1.val + j2.val, by omega⟩ : Fin 128) = j2 := Fin.ext (by show (16 * j1.val + j2.val) % 16 = j2.val; omega)
    show gate (scores m c (⟨128 * (j0.val / 128) + j0.val % 128, _⟩ : Fin 32768) (rowH (⟨16 * j1.val + j2.val, _⟩ : Fin 128)) 0)
      (scores m c (⟨128 * (j0.val / 128) + j0.val % 128, _⟩ : Fin 32768) (rowH (⟨16 * j1.val + j2.val, _⟩ : Fin 128)) 1) (rowR (⟨16 * j1.val + j2.val, _⟩ : Fin 128)) = _
    rw [e0, e1, e2]
    rfl

omit hs in
theorem run (ρ : Dev nD → PrngReg) (hs : ∀ c t h p j, scores m c t h p j ≠ ⊥) : θ_run defs (onTc (τ := τ) (main (F := Ideal))) ⟨m, fun _ => 0, ρ⟩ fun r => ∀ c : Dev nD,
    r.2.mem ((c.tc : Thread nD τ).loc main_v4_0) = hOf m c ∧ r.2.mem ((c.tc : Thread nD τ).loc main_v6) = eOf m c ∧ r.2.mem ((c.tc : Thread nD τ).loc main_v8) = gOf m c := by
  refine (θ_run defs _ _).mono (fun r h c => ⟨?_, ?_, ?_⟩) (run_main m ρ)
  · exact ((h c).1 5).trans (final5 m c)
  · exact ((h c).2 main_v6 (Pipeline.mem_restRefs_of main_v6 (by decide) (by decide))).trans (tail6 m c (hs c))
  · exact ((h c).2 main_v8 (Pipeline.mem_restRefs_of main_v8 (by decide) (by decide))).trans (tail7 m c (hs c))

end Cert.Kernel6Ideal.Topk
end
-- ==== Proof.TopRef.lean ====
module

public import proofs.«01_k».proof.Proof.Gen.Reference6Ideal
public import proofs.«01_k».proof.Proof.Gen.Reference6Ideal.Run
public import proofs.«01_k».proof.Proof.Gen.Reference6Ideal.Read
public import proofs.«01_k».proof.Proof.TopArr
public import Idealize.ShloMosaic.Lib.ValueIdxCore
public import Idealize.ShloMosaic.Lib.ReduceAll

@[expose] public section

set_option maxRecDepth 16384

noncomputable section

namespace Cert.Reference6Ideal.Topk

open Idealize.ShloMosaic Idealize.ShloMosaic.TcCoe Idealize.ShloMosaic.Tactic Cert.Reference6Ideal Cert.Reference6Ideal.Gen Cert.Reference6Ideal.Read Cert.Top
open Cert.Kernel6Ideal.Topk (scoreOf hArr eArr gArr normed query score col inv best expert pair topv tope gate)

theorem eq_ix2 {a b : Nat} (i : Shape.Idx ⟨2, ![a, b]⟩) (x : Fin a) (y : Fin b) (h0 : (i 0).val = x.val) (h1 : (i 1).val = y.val) : i = ix2 x y := by
  funext k; refine Fin.ext ?_
  match k with
  | ⟨0, _⟩ => exact h0
  | ⟨1, _⟩ => exact h1

theorem eq_ix3 {a b c : Nat} (i : Shape.Idx ⟨3, ![a, b, c]⟩) (x : Fin a) (y : Fin b) (z : Fin c) (h0 : (i 0).val = x.val) (h1 : (i 1).val = y.val)
    (h2 : (i 2).val = z.val) : i = ix3 x y z := by
  funext k; refine Fin.ext ?_
  match k with
  | ⟨0, _⟩ => exact h0
  | ⟨1, _⟩ => exact h1
  | ⟨2, _⟩ => exact h2

/-! ## The sort and the reads through its positions -/

theorem gt_eq (a b : EReal) : (FloatOps.cmpfTotal (F := Ideal) (φ := .f32) .gt a b == 1#1) = decide (b < a) := by
  show (Ideal.cmp .ogt a b == 1#1) = _
  unfold Ideal.cmp
  by_cases h : b < a <;> simp [h]

section TopK
variable {n : Nat} (hn : 16 ≤ n) (x : (⟨3, ![32768, 8, n]⟩ : Shape).Idx → EReal) (h : (⟨3, ![32768, 8, n]⟩ : Shape).Slices (fun _ => 0) S32768x8x16)
  (t : Fin 32768) (hd : Fin 8) (r : Fin 16)

theorem along_at (q k : Fin n) : (ix3 t hd q : (⟨3, ![32768, 8, n]⟩ : Shape).Idx).along 2 k = ix3 t hd k := by
  funext a
  match a with
  | ⟨0, _⟩ => rfl
  | ⟨1, _⟩ => rfl
  | ⟨2, _⟩ => rfl

theorem slice_at {α : Type} (y : (⟨3, ![32768, 8, n]⟩ : Shape).Idx → α) :
    extractStridedSlice S32768x8x16 (fun _ => 0) y h (ix3 t hd r) = y (ix3 t hd (r.castLE hn)) :=
  extractStridedSlice_apply _ y h _ _ fun a => match a with
    | ⟨0, _⟩ => by show t.val = 0 + t.val; omega
    | ⟨1, _⟩ => by show hd.val = 0 + hd.val; omega
    | ⟨2, _⟩ => by show r.val = 0 + r.val; omega

theorem order_at (y : (⟨3, ![32768, 8, n]⟩ : Shape).Idx → BitVec 32) (q : Fin n) :
    (sortedFrom (fun k k' => (fun l r : EReal × BitVec 32 => FloatOps.cmpfTotal (F := Ideal) (φ := .f32) .gt l.1 r.1)
        (x ((ix3 t hd q : (⟨3, ![32768, 8, n]⟩ : Shape).Idx).along 2 k), y ((ix3 t hd q : (⟨3, ![32768, 8, n]⟩ : Shape).Idx).along 2 k))
        (x ((ix3 t hd q : (⟨3, ![32768, 8, n]⟩ : Shape).Idx).along 2 k'), y ((ix3 t hd q : (⟨3, ![32768, 8, n]⟩ : Shape).Idx).along 2 k')) == 1#1) q)
      = rank (fun j => x (ix3 t hd j)) q := by
  rw [← rank_of_key]
  congr 1
  funext k k'
  exact (congrArg₂ (fun a b => (FloatOps.cmpfTotal (F := Ideal) (φ := .f32) .gt (x a) (x b) == 1#1)) (along_at t hd q k) (along_at t hd q k')).trans (gt_eq _ _)

/-- The positions along the last axis, as words. -/
def posn (n : Nat) : (⟨3, ![32768, 8, n]⟩ : Shape).Idx → BitVec 32 := fun i => BitVec.ofNat 32 (i 2).val

/-- The position the sort puts at `j`. -/
def src (j : (⟨3, ![32768, 8, n]⟩ : Shape).Idx) : Fin n :=
  sortedFrom (fun k k' : Fin n => (fun l r : EReal × BitVec 32 => FloatOps.cmpfTotal (F := Ideal) (φ := .f32) .gt l.1 r.1)
        (x (j.along 2 k), posn n (j.along 2 k)) (x (j.along 2 k'), posn n (j.along 2 k')) == 1#1) (j 2)

theorem topK_fst : (Host.topK S32768x8x16 2 (FloatOps.cmpfTotal (F := Ideal) (φ := .f32) .gt) x h).1 (ix3 t hd r)
    = x (ix3 t hd (rank (fun j => x (ix3 t hd j)) (r.castLE hn))) := by
  have e : (Host.topK S32768x8x16 2 (FloatOps.cmpfTotal (F := Ideal) (φ := .f32) .gt) x h).1
      = extractStridedSlice S32768x8x16 (fun _ => 0) (fun j => x (j.along 2 (src x j))) h := rfl
  rw [e]
  refine (slice_at hn h t hd r _).trans ?_
  exact congrArg x ((along_at t hd _ _).trans (congrArg (ix3 t hd) (order_at x t hd (posn n) (r.castLE hn))))

theorem topK_snd : (Host.topK S32768x8x16 2 (FloatOps.cmpfTotal (F := Ideal) (φ := .f32) .gt) x h).2 (ix3 t hd r)
    = BitVec.ofNat 32 (rank (fun j => x (ix3 t hd j)) (r.castLE hn)).val := by
  have e : (Host.topK S32768x8x16 2 (FloatOps.cmpfTotal (F := Ideal) (φ := .f32) .gt) x h).2
      = extractStridedSlice S32768x8x16 (fun _ => 0) (fun j => posn n (j.along 2 (src x j))) h := rfl
  rw [e]
  refine (slice_at hn h t hd r _).trans ?_
  exact congrArg (posn n) ((along_at t hd _ _).trans (congrArg (ix3 t hd) (order_at x t hd (posn n) (r.castLE hn))))

end TopK

/-- An element named by its position on the last axis. -/
theorem pick_at (x : S32768x8x256.Idx → BitVec 32) (I : S32768x8x16x1.Idx → BitVec 32) (t : Fin 32768) (h : Fin 8) (k : Fin 16) (p : Fin 256)
    (hI : I (ix4 t h k 0) = BitVec.ofNat 32 p.val) :
    Host.gather gather_S32768x8x256_S32768x8x16x1_S32768x8x16_n_2_01_01_2_3_111 x I (ix3 t h k) = x (ix3 t h p) := by
  unfold Host.gather
  refine congrArg x (funext fun a => Fin.ext ?_)
  match a with
  | ⟨0, _⟩ =>
    show gather_S32768x8x256_S32768x8x16x1_S32768x8x16_n_2_01_01_2_3_111.start (ix3 t h k) I 0
      + gather_S32768x8x256_S32768x8x16x1_S32768x8x16_n_2_01_01_2_3_111.batchCoord (ix3 t h k) 0
      + gather_S32768x8x256_S32768x8x16x1_S32768x8x16_n_2_01_01_2_3_111.offCoord (ix3 t h k) 0 = t.val
    rw [GatherDims.offCoord_eq_zero _ _ _ (fun h => ((GatherDims.mem_sKept _ _).mp h).2 (by decide))]
    unfold GatherDims.start
    rw [dif_neg (show (0 : Fin 3) ∉ gather_S32768x8x256_S32768x8x16x1_S32768x8x16_n_2_01_01_2_3_111.startIndexMap by decide)]
    show 0 + t.val + 0 = t.val
    omega
  | ⟨1, _⟩ =>
    show gather_S32768x8x256_S32768x8x16x1_S32768x8x16_n_2_01_01_2_3_111.start (ix3 t h k) I 1
      + gather_S32768x8x256_S32768x8x16x1_S32768x8x16_n_2_01_01_2_3_111.batchCoord (ix3 t h k) 1
      + gather_S32768x8x256_S32768x8x16x1_S32768x8x16_n_2_01_01_2_3_111.offCoord (ix3 t h k) 1 = h.val
    rw [GatherDims.offCoord_eq_zero _ _ _ (fun h => ((GatherDims.mem_sKept _ _).mp h).2 (by decide))]
    unfold GatherDims.start
    rw [dif_neg (show (1 : Fin 3) ∉ gather_S32768x8x256_S32768x8x16x1_S32768x8x16_n_2_01_01_2_3_111.startIndexMap by decide)]
    show 0 + h.val + 0 = h.val
    omega
  | ⟨2, _⟩ =>
    show gather_S32768x8x256_S32768x8x16x1_S32768x8x16_n_2_01_01_2_3_111.start (ix3 t h k) I 2
      + gather_S32768x8x256_S32768x8x16x1_S32768x8x16_n_2_01_01_2_3_111.batchCoord (ix3 t h k) 2
      + gather_S32768x8x256_S32768x8x16x1_S32768x8x16_n_2_01_01_2_3_111.offCoord (ix3 t h k) 2 = p.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S32768x8x256_S32768x8x16x1_S32768x8x16_n_2_01_01_2_3_111.startIndexMap from List.mem_singleton.mpr rfl)]
    have hsi : gather_S32768x8x256_S32768x8x16x1_S32768x8x16_n_2_01_01_2_3_111.siIdx (ix3 t h k)
        ⟨List.idxOf (2 : Fin 3) gather_S32768x8x256_S32768x8x16x1_S32768x8x16_n_2_01_01_2_3_111.startIndexMap,
          List.idxOf_lt_length_iff.2 (List.mem_singleton.mpr rfl)⟩ = ix4 t h k 0 := by
      funext b; refine Fin.ext ?_
      match b with
      | ⟨0, _⟩ => rfl
      | ⟨1, _⟩ => rfl
      | ⟨2, _⟩ => rfl
      | ⟨3, _⟩ => rfl
    rw [hsi, hI]
    show min (BitVec.ofNat 32 p.val).toInt.toNat (256 - 1) = p.val
    have hp : (BitVec.ofNat 32 p.val).toNat = p.val := by rw [BitVec.toNat_ofNat]; omega
    rw [BitVec.toInt_eq_toNat_of_lt (by omega), hp]
    omega

/-! ## The reference's values -/

section Values
variable (x0 : (⟨S32768x1024, .f32⟩ : BufTy).Contents (Elt Ideal)) (x1 : (⟨S1024, .f32⟩ : BufTy).Contents (Elt Ideal))
  (x2 : (⟨S1024x2048, .f32⟩ : BufTy).Contents (Elt Ideal)) (x3 : (⟨S2x128x128, .f32⟩ : BufTy).Contents (Elt Ideal))
  (t : Fin 32768) (h : Fin 8) (r : Fin 16) (j : Fin 128) (p : Fin 256)

theorem v1_at : val_main_v1 (F := Ideal) x0 (ix1 t) = ∑ k, x0 (ix2 t k) * x0 (ix2 t k) := by
  rw [val_main_v1_apply, val_main_cst_apply]
  refine (congrArg₂ (· + ·) Ideal.ofBits_zero_f32 (Finset.sum_congr rfl fun k _ => ?_)).trans (zero_add _)
  rw [val_main_v0_apply, eq_ix2 (idx_main_v1 (ix1 t) k) t k rfl rfl]
  rfl

theorem v7_at : val_main_v7 (F := Ideal) x0 (ix2 t 0) = inv (fun k => x0 (ix2 t k)) := by
  rw [val_main_v7_apply, val_main_v6_apply, val_main_v4_apply, val_main_v5_apply, val_main_v3_apply, val_main_v2_apply, val_main_cst_1_apply,
    val_main_cst_0_apply, show idx_main_v2 (ix2 t 0) = ix1 t from funext fun a => by match a with | ⟨0, _⟩ => rfl, v1_at]
  rfl

theorem v12_at (k : Fin 1024) : val_main_v12 (F := Ideal) x0 x1 (ix2 t k) = normed (fun k => x0 (ix2 t k)) (fun k => x1 (ix1 k)) k := by
  rw [val_main_v12_apply, val_main_v9_apply, val_main_v11_apply, val_main_v8_apply, val_main_v10_apply,
    eq_ix2 (idx_main_v8 (ix2 t k)) t 0 rfl rfl, v7_at,
    show idx_main_v10 (idx_main_v11 (ix2 t k)) = ix1 k from funext fun a => by match a with | ⟨0, _⟩ => rfl]
  rfl

theorem v13_at (n : Fin 2048) : val_main_v13 (F := Ideal) x0 x1 x2 (ix2 t n)
    = query (fun k => x0 (ix2 t k)) (fun k => x1 (ix1 k)) (fun k n => x2 (ix2 k n)) n := by
  rw [val_main_v13_apply]
  refine Finset.sum_congr rfl fun k _ => ?_
  rw [eq_ix2 (lidx_main_v13 (ix2 t n) k) t k rfl rfl, eq_ix2 (ridx_main_v13 (ix2 t n) k) k n rfl rfl, v12_at]

theorem v16_at (d : Fin 128) : val_main_v16 (F := Ideal) x0 x1 x2 (ix3 t h d)
    = query (fun k => x0 (ix2 t k)) (fun k => x1 (ix1 k)) (fun k n => x2 (ix2 k n)) (col h 0 d) := by
  rw [val_main_v16_apply, val_main_v15_apply, val_main_v14_apply, ← v13_at]
  refine congrArg _ (eq_ix2 _ _ _ ?_ ?_)
  · show ((((((t.val * 8 + h.val) * 128 + d.val) / 1024) * 8 + ((t.val * 8 + h.val) * 128 + d.val) / 128 % 8) * 2 + 0) * 128 + ((t.val * 8 + h.val) * 128 + d.val) % 128) / 2048 = t.val
    omega
  · show ((((((t.val * 8 + h.val) * 128 + d.val) / 1024) * 8 + ((t.val * 8 + h.val) * 128 + d.val) / 128 % 8) * 2 + 0) * 128 + ((t.val * 8 + h.val) * 128 + d.val) % 128) % 2048 = 256 * h.val + 128 * 0 + d.val
    omega

theorem v21_at (d : Fin 128) : val_main_v21 (F := Ideal) x0 x1 x2 (ix3 t h d)
    = query (fun k => x0 (ix2 t k)) (fun k => x1 (ix1 k)) (fun k n => x2 (ix2 k n)) (col h 1 d) := by
  rw [val_main_v21_apply, val_main_v20_apply, val_main_v14_apply, ← v13_at]
  refine congrArg _ (eq_ix2 _ _ _ ?_ ?_)
  · show ((((((t.val * 8 + h.val) * 128 + d.val) / 1024) * 8 + ((t.val * 8 + h.val) * 128 + d.val) / 128 % 8) * 2 + 1) * 128 + ((t.val * 8 + h.val) * 128 + d.val) % 128) / 2048 = t.val
    omega
  · show ((((((t.val * 8 + h.val) * 128 + d.val) / 1024) * 8 + ((t.val * 8 + h.val) * 128 + d.val) / 128 % 8) * 2 + 1) * 128 + ((t.val * 8 + h.val) * 128 + d.val) % 128) % 2048 = 256 * h.val + 128 * 1 + d.val
    omega

theorem v18_at (d : Fin 128) : val_main_v18 (F := Ideal) x3 (ix2 j d) = x3 (ix3 0 j d) := by
  rw [val_main_v18_apply, val_main_v17_apply]
  refine congrArg _ (eq_ix3 _ _ _ _ rfl ?_ ?_)
  · show (j.val * 128 + d.val) / 128 % 128 = j.val
    omega
  · show (j.val * 128 + d.val) % 128 = d.val
    omega

theorem v23_at (d : Fin 128) : val_main_v23 (F := Ideal) x3 (ix2 j d) = x3 (ix3 1 j d) := by
  rw [val_main_v23_apply, val_main_v22_apply]
  refine congrArg _ (eq_ix3 _ _ _ _ rfl ?_ ?_)
  · show (j.val * 128 + d.val) / 128 % 128 = j.val
    omega
  · show (j.val * 128 + d.val) % 128 = d.val
    omega

theorem v19_at : val_main_v19 (F := Ideal) x0 x1 x2 x3 (ix3 t h j) = scoreOf x0 x1 x2 x3 t h 0 j := by
  rw [val_main_v19_apply]
  unfold scoreOf score
  refine Finset.sum_congr rfl fun k _ => ?_
  rw [eq_ix3 (lidx_main_v19 (ix3 t h j) k) t h k rfl rfl rfl, eq_ix2 (ridx_main_v19 (ix3 t h j) k) j k rfl rfl, v16_at, v18_at]

theorem v24_at : val_main_v24 (F := Ideal) x0 x1 x2 x3 (ix3 t h j) = scoreOf x0 x1 x2 x3 t h 1 j := by
  rw [val_main_v24_apply]
  unfold scoreOf score
  refine Finset.sum_congr rfl fun k _ => ?_
  rw [eq_ix3 (lidx_main_v24 (ix3 t h j) k) t h k rfl rfl rfl, eq_ix2 (ridx_main_v24 (ix3 t h j) k) j k rfl rfl, v21_at, v23_at]

theorem values_at : val_main_values (F := Ideal) x0 x1 x2 x3 (ix3 t h r) = best (scoreOf x0 x1 x2 x3 t h 0) r := by
  unfold val_main_values
  rw [topK_fst (n := 128) (by omega), v19_at, show (fun j => val_main_v19 (F := Ideal) x0 x1 x2 x3 (ix3 t h j)) = (scoreOf x0 x1 x2 x3 t h 0) from funext fun j => v19_at x0 x1 x2 x3 t h j]
  rfl

theorem values2_at : val_main_values_2 (F := Ideal) x0 x1 x2 x3 (ix3 t h r) = best (scoreOf x0 x1 x2 x3 t h 1) r := by
  unfold val_main_values_2
  rw [topK_fst (n := 128) (by omega), v24_at, show (fun j => val_main_v24 (F := Ideal) x0 x1 x2 x3 (ix3 t h j)) = (scoreOf x0 x1 x2 x3 t h 1) from funext fun j => v24_at x0 x1 x2 x3 t h j]
  rfl

theorem indices_at : val_main_indices (F := Ideal) x0 x1 x2 x3 (ix3 t h r) = BitVec.ofNat 32 (rank (scoreOf x0 x1 x2 x3 t h 0) (r.castLE (by omega))).val := by
  unfold val_main_indices
  rw [topK_snd (n := 128) (by omega), show (fun j => val_main_v19 (F := Ideal) x0 x1 x2 x3 (ix3 t h j)) = (scoreOf x0 x1 x2 x3 t h 0) from funext fun j => v19_at x0 x1 x2 x3 t h j]

theorem indices3_at : val_main_indices_3 (F := Ideal) x0 x1 x2 x3 (ix3 t h r) = BitVec.ofNat 32 (rank (scoreOf x0 x1 x2 x3 t h 1) (r.castLE (by omega))).val := by
  unfold val_main_indices_3
  rw [topK_snd (n := 128) (by omega), show (fun j => val_main_v24 (F := Ideal) x0 x1 x2 x3 (ix3 t h j)) = (scoreOf x0 x1 x2 x3 t h 1) from funext fun j => v24_at x0 x1 x2 x3 t h j]

theorem v30_at : val_main_v30 (F := Ideal) x0 x1 x2 x3 (ix3 t h p) = sums (best (scoreOf x0 x1 x2 x3 t h 0)) (best (scoreOf x0 x1 x2 x3 t h 1)) p := by
  rw [val_main_v30_apply, val_main_v29_apply, val_main_v27_apply, val_main_v28_apply, val_main_v25_apply, val_main_v26_apply]
  have e1 : idx_main_v25 (idx_main_v27 (idx_main_v30 (ix3 t h p))) = ix3 t h ⟨p.val / 16, by omega⟩ := by
    refine eq_ix3 _ _ _ _ ?_ ?_ ?_
    · show ((t.val * 8 + h.val) * 256 + p.val) / 2048 = t.val
      omega
    · show ((t.val * 8 + h.val) * 256 + p.val) / 256 % 8 = h.val
      omega
    · show ((t.val * 8 + h.val) * 256 + p.val) / 16 % 16 = p.val / 16
      omega
  have e2 : idx_main_v26 (idx_main_v28 (idx_main_v30 (ix3 t h p))) = ix3 t h ⟨p.val % 16, by omega⟩ := by
    refine eq_ix3 _ _ _ _ ?_ ?_ ?_
    · show ((t.val * 8 + h.val) * 256 + p.val) / 2048 = t.val
      omega
    · show ((t.val * 8 + h.val) * 256 + p.val) / 256 % 8 = h.val
      omega
    · show ((t.val * 8 + h.val) * 256 + p.val) % 16 = p.val % 16
      omega
  rw [e1, e2, values_at, values2_at]
  rfl

theorem v38_at : val_main_v38 (F := Ideal) x0 x1 x2 x3 (ix3 t h p) = expert (scoreOf x0 x1 x2 x3 t h 0) (scoreOf x0 x1 x2 x3 t h 1) p := by
  rw [val_main_v38_apply, val_main_v37_apply, val_main_v35_apply, val_main_v36_apply, val_main_v33_apply, val_main_v34_apply, val_main_v31_apply,
    val_main_v32_apply, val_main_c_apply]
  have e1 : idx_main_v31 (idx_main_v35 (idx_main_v38 (ix3 t h p))) = ix3 t h ⟨p.val / 16, by omega⟩ := by
    refine eq_ix3 _ _ _ _ ?_ ?_ ?_
    · show ((t.val * 8 + h.val) * 256 + p.val) / 2048 = t.val
      omega
    · show ((t.val * 8 + h.val) * 256 + p.val) / 256 % 8 = h.val
      omega
    · show ((t.val * 8 + h.val) * 256 + p.val) / 16 % 16 = p.val / 16
      omega
  have e2 : idx_main_v34 (idx_main_v36 (idx_main_v38 (ix3 t h p))) = ix3 t h ⟨p.val % 16, by omega⟩ := by
    refine eq_ix3 _ _ _ _ ?_ ?_ ?_
    · show ((t.val * 8 + h.val) * 256 + p.val) / 2048 = t.val
      omega
    · show ((t.val * 8 + h.val) * 256 + p.val) / 256 % 8 = h.val
      omega
    · show ((t.val * 8 + h.val) * 256 + p.val) % 16 = p.val % 16
      omega
  rw [e1, e2, indices_at, indices3_at]
  rfl

theorem rows_eq : (fun p => val_main_v30 (F := Ideal) x0 x1 x2 x3 (ix3 t h p)) = sums (best (scoreOf x0 x1 x2 x3 t h 0)) (best (scoreOf x0 x1 x2 x3 t h 1)) := funext fun p => v30_at x0 x1 x2 x3 t h p

theorem values4_at : val_main_values_4 (F := Ideal) x0 x1 x2 x3 (ix3 t h r) = topv (scoreOf x0 x1 x2 x3 t h 0) (scoreOf x0 x1 x2 x3 t h 1) r := by
  unfold val_main_values_4
  rw [topK_fst (n := 256) (by omega), v30_at, rows_eq]
  rfl

theorem indices5_at : val_main_indices_5 (F := Ideal) x0 x1 x2 x3 (ix3 t h r) = BitVec.ofNat 32 (pair (scoreOf x0 x1 x2 x3 t h 0) (scoreOf x0 x1 x2 x3 t h 1) r).val := by
  unfold val_main_indices_5
  rw [topK_snd (n := 256) (by omega), rows_eq]
  rfl

theorem word_range (q : Fin 256) : IntOp.cmpi .slt (BitVec.ofNat 32 q.val) 0#32 = 0#1 ∧ IntOp.cmpi .sge (BitVec.ofNat 32 q.val) 0#32 = 1#1
    ∧ IntOp.cmpi .sle (BitVec.ofNat 32 q.val) 255#32 = 1#1 := by
  revert q; decide +kernel

theorem call5_at : val_main_call0_v5 (F := Ideal) x0 x1 x2 x3 (ix4 t h r 0) = BitVec.ofNat 32 (pair (scoreOf x0 x1 x2 x3 t h 0) (scoreOf x0 x1 x2 x3 t h 1) r).val := by
  rw [val_main_call0_v5_apply, val_main_call0_v4_apply, val_main_call0_v1_apply, val_main_call0_v0_apply, val_main_call0_c_apply]
  have e : idx_main_call0_v5 (ix4 t h r 0) = ix3 t h r := by
    refine eq_ix3 _ _ _ _ ?_ ?_ ?_
    · show (((t.val * 8 + h.val) * 16 + r.val) * 1 + 0) / 128 = t.val
      omega
    · show (((t.val * 8 + h.val) * 16 + r.val) * 1 + 0) / 16 % 8 = h.val
      omega
    · show (((t.val * 8 + h.val) * 16 + r.val) * 1 + 0) % 16 = r.val
      omega
  rw [e, indices5_at, (word_range _).1]
  rfl

theorem eq_ix4 (i : S32768x8x16x1.Idx) : ∃ t h r, i = ix4 t h r 0 :=
  ⟨i 0, i 1, i 2, funext fun a => match a with
    | ⟨0, _⟩ => rfl
    | ⟨1, _⟩ => rfl
    | ⟨2, _⟩ => rfl
    | ⟨3, _⟩ => Subsingleton.elim (α := Fin 1) _ _⟩

theorem call12_at : val_main_call0_v12 (F := Ideal) x0 x1 x2 x3 (ix3 t h r) = 1#1 := by
  unfold val_main_call0_v12
  refine Host.reduce_andi_one _ _ _ _ _ rfl fun i => ?_
  obtain ⟨t, h, r, rfl⟩ := eq_ix4 i
  rw [val_main_call0_v11_apply, val_main_call0_v7_apply, val_main_call0_v10_apply, call5_at, val_main_call0_v6_apply, val_main_call0_c_2_apply,
    val_main_call0_v9_apply, val_main_call0_v8_apply, val_main_call0_c_1_apply, (word_range _).2.1, (word_range _).2.2]
  rfl

theorem v39_at : val_main_v39 (F := Ideal) x0 x1 x2 x3 (ix3 t h r) = tope (scoreOf x0 x1 x2 x3 t h 0) (scoreOf x0 x1 x2 x3 t h 1) r := by
  rw [val_main_v39_apply, call12_at]
  unfold val_main_call0_v13
  rw [pick_at _ _ _ _ _ _ (call5_at x0 x1 x2 x3 t h r), v38_at]
  rfl

/-- The greatest of a row whose first entry is its greatest. -/
theorem fold_first (b : EReal) (y : Fin 16 → EReal) (hb : b = ⊥) (hy : ∀ k, y k ≤ y 0) : (Finset.univ : Finset (Fin 16)).fold max b y = y 0 := by
  refine le_antisymm ((Finset.fold_max_le _).2 ⟨?_, fun k _ => hy k⟩) ((Finset.le_fold_max _).2 (Or.inr ⟨0, Finset.mem_univ _, le_rfl⟩))
  rw [hb]
  exact bot_le

/-- The greatest of the sixteen sums is the first. -/
theorem v42_at : val_main_v42 (F := Ideal) x0 x1 x2 x3 (ix2 t h) = topv (scoreOf x0 x1 x2 x3 t h 0) (scoreOf x0 x1 x2 x3 t h 1) 0 := by
  have hr : S32768x8x16.Reduces [2] S32768x8 := by decide
  have hl : ∀ k : Fin 16, hr.lift (ix2 t h) k = ix3 t h k := fun k => eq_ix3 _ _ _ _ rfl rfl rfl
  have e : val_main_v40 (F := Ideal) x0 x1 x2 x3 (ix2 t h) = topv (scoreOf x0 x1 x2 x3 t h 0) (scoreOf x0 x1 x2 x3 t h 1) 0 := by
    unfold val_main_v40
    refine (Host.reduce_eq_fold_single (FloatOps.maximumf (F := Ideal) (φ := .f32)) _ _ _ hr _ _).trans ?_
    have e2 : val_main_values_4 (F := Ideal) x0 x1 x2 x3 ∘ hr.lift (ix2 t h) = topv (scoreOf x0 x1 x2 x3 t h 0) (scoreOf x0 x1 x2 x3 t h 1) :=
      funext fun k => (congrArg _ (hl k)).trans (values4_at x0 x1 x2 x3 t h k)
    rw [e2]
    exact fold_first _ _ Cert.Kernel6Ideal.Topk.neg_inf fun k => le_of_rank _ _ _ (Fin.zero_le _)
  rw [val_main_v42_apply, e, val_main_v41_apply, val_main_cst_7_apply]
  exact max_eq_right ((le_of_eq Cert.Kernel6Ideal.Topk.neg_inf).trans bot_le)

theorem v46_at : val_main_v46 (F := Ideal) x0 x1 x2 x3 (ix3 t h r) = Ideal.exp (topv (scoreOf x0 x1 x2 x3 t h 0) (scoreOf x0 x1 x2 x3 t h 1) r - topv (scoreOf x0 x1 x2 x3 t h 0) (scoreOf x0 x1 x2 x3 t h 1) 0) := by
  rw [val_main_v46_apply, val_main_v45_apply, values4_at, val_main_v44_apply, val_main_v43_apply,
    eq_ix2 (idx_main_v43 (idx_main_v44 (ix3 t h r))) t h rfl rfl, v42_at]
  rfl

theorem v50_at : val_main_v50 (F := Ideal) x0 x1 x2 x3 (ix3 t h r) = gate (scoreOf x0 x1 x2 x3 t h 0) (scoreOf x0 x1 x2 x3 t h 1) r := by
  rw [val_main_v50_apply, v46_at, val_main_v49_apply, val_main_v48_apply, val_main_v47_apply]
  refine congrArg (Ideal.div _) ?_
  rw [val_main_cst_8_apply]
  refine (congrArg₂ (· + ·) Ideal.ofBits_zero_f32 (Finset.sum_congr rfl fun k _ => ?_)).trans (zero_add _)
  rw [eq_ix3 (idx_main_v47 (idx_main_v48 (idx_main_v49 (ix3 t h r))) k) t h k rfl rfl rfl, v46_at]

theorem v12_eq : val_main_v12 (F := Ideal) x0 x1 = hArr x0 x1 := by
  funext i
  obtain ⟨t, k, rfl⟩ : ∃ (t : Fin 32768) (k : Fin 1024), i = ix2 t k := ⟨i 0, i 1, eq_ix2 _ _ _ rfl rfl⟩
  rw [v12_at]
  rfl

theorem v39_eq : val_main_v39 (F := Ideal) x0 x1 x2 x3 = eArr x0 x1 x2 x3 := by
  funext i
  obtain ⟨t, h, r, rfl⟩ : ∃ (t : Fin 32768) (h : Fin 8) (r : Fin 16), i = ix3 t h r := ⟨i 0, i 1, i 2, eq_ix3 _ _ _ _ rfl rfl rfl⟩
  rw [v39_at]
  rfl

theorem v50_eq : val_main_v50 (F := Ideal) x0 x1 x2 x3 = gArr x0 x1 x2 x3 := by
  funext i
  obtain ⟨t, h, r, rfl⟩ : ∃ (t : Fin 32768) (h : Fin 8) (r : Fin 16), i = ix3 t h r := ⟨i 0, i 1, i 2, eq_ix3 _ _ _ _ rfl rfl rfl⟩
  rw [v50_at]
  rfl

end Values

/-- What the reference leaves: the normed tokens, the chosen experts and their weights, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = hArr (m ((c.tc : Thread nD τ).loc main_arg0)) (m ((c.tc : Thread nD τ).loc main_arg1))
      ∧ r.2.mem ((c.tc : Thread nD τ).loc main_v39) = eArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = gArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v12_eq _ _).trans (v12_eq _ _)),
      (h c).2.1.trans ((val_main_v39_eq m c).trans (v39_eq _ _ _ _)),
      (h c).2.2.1.trans ((val_main_v50_eq m c).trans (v50_eq _ _ _ _)), (h c).2.2.2⟩) (Value.run m ρ)

end Cert.Reference6Ideal.Topk

end

end
-- ==== Proof.TopPre.lean ====
module

public import proofs.«01_k».proof.Defs
public import proofs.«01_k».proof.Proof.Gen.Pre_finite
public import proofs.«01_k».proof.Proof.TopArr
public import Idealize.ShloMosaic.Lib.ReduceAll

@[expose] public section

set_option maxRecDepth 16384

noncomputable section

namespace Cert.Kernel6Ideal.Topk

open Idealize.ShloMosaic Idealize.ShloMosaic.TcCoe

/-! ## The precondition, read -/

/-- A real number: neither infinity. -/
def IsReal (a : EReal) : Prop := a ≠ ⊥ ∧ a ≠ ⊤

theorem pos_inf : (Ideal.ofBits FTy.f32 0x7F800000#32 : EReal) = ⊤ := by
  simp [Ideal.ofBits, Ideal.ieee]

theorem andi_one (p q : BitVec 1) (h : IntOp.andi p q = 1#1) : p = 1#1 ∧ q = 1#1 := by
  revert p q; decide

/-- The two comparisons with the infinities. -/
theorem fin_of (a : EReal) (h : IntOp.andi (FloatOps.cmpf (F := Ideal) (φ := .f32) .ogt a (FloatOps.ofBits .f32 0xFF800000#32))
    (FloatOps.cmpf (F := Ideal) (φ := .f32) .olt a (FloatOps.ofBits .f32 0x7F800000#32)) = 1#1) : IsReal a := by
  obtain ⟨h1, h2⟩ := andi_one _ _ h
  have e1 : Ideal.cmp .ogt a (Ideal.ofBits FTy.f32 0xFF800000#32) = 1#1 := h1
  have e2 : Ideal.cmp .olt a (Ideal.ofBits FTy.f32 0x7F800000#32) = 1#1 := h2
  rw [neg_inf] at e1
  rw [pos_inf] at e2
  constructor
  · rintro rfl
    simp [Ideal.cmp] at e1
  · rintro rfl
    simp [Ideal.cmp] at e2

theorem finite_of_pre (a0 a1 a2 a3) (h : Cert.Pre_finite.fn (F := Ideal) a0 a1 a2 a3 = fun _ => 1#1) :
    (∀ i, IsReal (a0 i)) ∧ (∀ i, IsReal (a1 i)) ∧ (∀ i, IsReal (a2 i)) ∧ (∀ i, IsReal (a3 i)) := by
  have hs : Subsingleton Cert.Pre_finite.S_.Idx := ⟨fun a b => funext fun i => i.elim0⟩
  have e := congrFun h (fun i => i.elim0)
  unfold Cert.Pre_finite.fn at e
  obtain ⟨e, e3⟩ := andi_one _ _ e
  obtain ⟨e, e2⟩ := andi_one _ _ e
  obtain ⟨e0, e1⟩ := andi_one _ _ e
  exact ⟨fun i => fin_of _ (Host.reduce_andi_all _ _ _ _ _ e0 i), fun i => fin_of _ (Host.reduce_andi_all _ _ _ _ _ e1 i),
    fun i => fin_of _ (Host.reduce_andi_all _ _ _ _ _ e2 i), fun i => fin_of _ (Host.reduce_andi_all _ _ _ _ _ e3 i)⟩

/-! ## Finite arguments have finite scores -/

theorem fin_coe (r : ℝ) : IsReal (r : EReal) := ⟨EReal.coe_ne_bot r, EReal.coe_ne_top r⟩

theorem fin_iff (a : EReal) (h : IsReal a) : ∃ r : ℝ, a = r := ⟨a.toReal, (EReal.coe_toReal h.2 h.1).symm⟩

theorem fin_mul (a b : EReal) (ha : IsReal a) (hb : IsReal b) : IsReal (a * b) := by
  obtain ⟨r, rfl⟩ := fin_iff a ha
  obtain ⟨s, rfl⟩ := fin_iff b hb
  rw [← EReal.coe_mul]
  exact fin_coe _

theorem fin_add (a b : EReal) (ha : IsReal a) (hb : IsReal b) : IsReal (a + b) := by
  obtain ⟨r, rfl⟩ := fin_iff a ha
  obtain ⟨s, rfl⟩ := fin_iff b hb
  rw [← EReal.coe_add]
  exact fin_coe _

theorem fin_sum {n : Nat} (f : Fin n → EReal) (h : ∀ k, IsReal (f k)) : IsReal (∑ k, f k) :=
  Finset.sum_induction f IsReal fin_add (fin_coe 0) fun k _ => h k

theorem pos_eps : ∃ r : ℝ, 0 < r ∧ (Ideal.ofBits FTy.f32 0x358637BD#32 : EReal) = r := by
  refine ⟨_, ?_, by simp [Ideal.ofBits, Ideal.ieee]; rfl⟩
  positivity

theorem pos_len : ∃ r : ℝ, 0 < r ∧ (Ideal.ofBits FTy.f32 0x44800000#32 : EReal) = r := by
  refine ⟨_, ?_, by simp [Ideal.ofBits, Ideal.ieee]; rfl⟩
  positivity

theorem coe_sum {n : Nat} (b : Fin n → ℝ) : ∑ k, (b k : EReal) = ((∑ k, b k : ℝ) : EReal) :=
  (map_sum ({ toFun := fun r => (r : EReal), map_zero' := EReal.coe_zero, map_add' := EReal.coe_add } : ℝ →+ EReal) b Finset.univ).symm

theorem inv_real (a : Fin 1024 → EReal) (h : ∀ k, IsReal (a k)) : IsReal (inv a) := by
  obtain ⟨e, he, he'⟩ := pos_eps
  obtain ⟨n, hn, hn'⟩ := pos_len
  choose b hb using fun k => fin_iff (a k) (h k)
  have hs : ∑ x, a x * a x = ((∑ x, b x * b x : ℝ) : EReal) := by
    rw [← coe_sum]
    exact Finset.sum_congr rfl fun k _ => by rw [hb k, EReal.coe_mul]
  have h0 : 0 ≤ ∑ x, b x * b x := Finset.sum_nonneg fun k _ => mul_self_nonneg _
  have hp : 0 < (∑ x, b x * b x) * (1 / n) + e := by positivity
  unfold inv
  rw [hs, hn', he', Ideal.div_coe hn.ne', ← EReal.coe_mul, ← EReal.coe_add, Ideal.rsqrt_coe, if_neg (not_lt.mpr hp.le), if_neg hp.ne']
  exact fin_coe _

theorem score_real (X : S32768x1024.Idx → EReal) (gn : S1024.Idx → EReal) (W : S1024x2048.Idx → EReal) (K : S2x128x128.Idx → EReal)
    (hX : ∀ i, IsReal (X i)) (hg : ∀ i, IsReal (gn i)) (hW : ∀ i, IsReal (W i)) (hK : ∀ i, IsReal (K i))
    (t : Fin 32768) (h : Fin 8) (p : Fin 2) (j : Fin 128) : IsReal (scoreOf X gn W K t h p j) := by
  unfold scoreOf score query normed
  exact fin_sum _ fun d => fin_mul _ _ (fin_sum _ fun k => fin_mul _ _ (fin_mul _ _ (fin_mul _ _ (hX _) (inv_real _ fun _ => hX _)) (hg _)) (hW _)) (hK _)

/-- Under the precondition no score is minus infinity. -/
theorem scores_ne (m : (ℓ : Loc nD τ sig) → Buf (Elt Ideal) ℓ)
    (hm : ∀ c : Dev nD, Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (c : Dev nD) (t : Fin 32768) (h : Fin 8) (p : Fin 2) (j : Fin 128) : scores m c t h p j ≠ ⊥ := by
  obtain ⟨h0, h1, h2, h3⟩ := finite_of_pre _ _ _ _ (hm c)
  exact (score_real _ _ _ _ h0 h1 h2 h3 t h p j).1

end Cert.Kernel6Ideal.Topk

end

end
-- ==== Proof.ProjSmall.lean ====
module
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.Kernel2Ideal.ProjSmall

open Idealize.ShloMosaic Idealize.ShloMosaic.TcCoe Idealize.ShloMosaic.Tactic Cert.Kernel2Ideal Cert.Kernel2Ideal.Gen

/-! ## The projection, per token and column -/

/-- The reciprocal root mean square of a row. -/
def inv (a : Fin 1024 → EReal) : EReal :=
  Ideal.rsqrt (Ideal.div (∑ x, a x * a x) (Ideal.ofBits FTy.f32 0x44800000#32) + Ideal.ofBits FTy.f32 0x358637BD#32)

/-- A token's normed row: `x` over its root mean square, times the gain `g`. -/
def normed (x g : Fin 1024 → EReal) (k : Fin 1024) : EReal := x k * inv x * g k

/-- The product of the normed row with a column `w` of the weights. -/
def proj (x g w : Fin 1024 → EReal) : EReal := ∑ k, normed x g k * w k

variable (X : S8x4096x1024.Idx → EReal) (gn : S1024.Idx → EReal) (W : S1024x4576.Idx → EReal)

/-- The projection of token `s` of sequence `b` on column `n` of the weights. -/
def projAt (b : Fin 8) (s : Fin 4096) (n : Fin 4576) : EReal :=
  proj (fun k => X (ix3 b s k)) (fun k => gn (ix1 k)) (fun k => W (ix2 k n))

/-- The queries of the first mixer: 512 columns from column 0 on. -/
def nqCol (d : Fin 512) : Fin 4576 := ⟨d.val, by omega⟩
def nqArr : S8x4096x512.Idx → EReal := fun j => projAt X gn W (j 0) (j 1) (nqCol (j 2))

/-- The keys and values of the first mixer: 768 columns from column 512 on. -/
def nkvCol (d : Fin 768) : Fin 4576 := ⟨512 + d.val, by omega⟩
def nkvArr : S8x4096x768.Idx → EReal := fun j => projAt X gn W (j 0) (j 1) (nkvCol (j 2))

/-- The branch gates of the first mixer: 24 columns from column 1280 on. -/
def ngateCol (d : Fin 24) : Fin 4576 := ⟨1280 + d.val, by omega⟩
def ngateArr : S8x4096x24.Idx → EReal := fun j => projAt X gn W (j 0) (j 1) (ngateCol (j 2))

/-- The queries of the second mixer: 512 columns from column 1304 on. -/
def dqCol (d : Fin 512) : Fin 4576 := ⟨1304 + d.val, by omega⟩
def dqArr : S8x4096x512.Idx → EReal := fun j => projAt X gn W (j 0) (j 1) (dqCol (j 2))

/-- The key and value of the second mixer: 128 columns from column 1816 on. -/
def dkvCol (d : Fin 128) : Fin 4576 := ⟨1816 + d.val, by omega⟩
def dkvArr : S8x4096x128.Idx → EReal := fun j => projAt X gn W (j 0) (j 1) (dkvCol (j 2))

/-- The queries of the indexer: 512 columns from column 1944 on. -/
def iqCol (d : Fin 512) : Fin 4576 := ⟨1944 + d.val, by omega⟩
def iqArr : S8x4096x512.Idx → EReal := fun j => projAt X gn W (j 0) (j 1) (iqCol (j 2))

/-- The key of the indexer: 64 columns from column 2456 on. -/
def ikCol (d : Fin 64) : Fin 4576 := ⟨2456 + d.val, by omega⟩
def ikArr : S8x4096x64.Idx → EReal := fun j => projAt X gn W (j 0) (j 1) (ikCol (j 2))

/-- The head weights of the indexer: 8 columns from column 2520 on. -/
def iwCol (d : Fin 8) : Fin 4576 := ⟨2520 + d.val, by omega⟩
def iwArr : S8x4096x8.Idx → EReal := fun j => projAt X gn W (j 0) (j 1) (iwCol (j 2))

/-! ## The reference -/

variable (m : (ℓ : Loc Cert.Reference2Ideal.nD Cert.Reference2Ideal.τ Cert.Reference2Ideal.sig) → Buf (Elt Ideal) ℓ)

theorem ref_run (ρ : Dev Cert.Reference2Ideal.nD → PrngReg) :
    θ_run Cert.Reference2Ideal.defs (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v14) = nqArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v15) = nkvArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v16) = ngateArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v17) = dqArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v18) = dkvArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v19) = iqArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v20) = ikArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v21) = iwArr (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) := by
  refine (θ_run Cert.Reference2Ideal.defs _ _).mono (fun r h c => ?_) (Cert.Reference2Ideal.Value.run (F := Ideal) m ρ)
  obtain ⟨h0, h1, h2, h3, h4, h5, h6, h7, _⟩ := h c
  refine ⟨h0.trans ?_, h1.trans ?_, h2.trans ?_, h3.trans ?_, h4.trans ?_, h5.trans ?_, h6.trans ?_, h7.trans ?_⟩
  all_goals clear h0 h1 h2 h3 h4 h5 h6 h7 h; funext j; idx_vars j
  · show _ = projAt _ _ _ j0 j1 (nqCol j2)
    pointwise
    rfl
  · show _ = projAt _ _ _ j0 j1 (nkvCol j2)
    pointwise
    rfl
  · show _ = projAt _ _ _ j0 j1 (ngateCol j2)
    pointwise
    rfl
  · show _ = projAt _ _ _ j0 j1 (dqCol j2)
    pointwise
    rfl
  · show _ = projAt _ _ _ j0 j1 (dkvCol j2)
    pointwise
    rfl
  · show _ = projAt _ _ _ j0 j1 (iqCol j2)
    pointwise
    rfl
  · show _ = projAt _ _ _ j0 j1 (ikCol j2)
    pointwise
    rfl
  · show _ = projAt _ _ _ j0 j1 (iwCol j2)
    pointwise
    rfl

/-! ## What a point leaves -/

theorem hz : (![0, 0] : Fin 2 → Nat) = fun _ => 0 := funext fun a => by fin_cases a <;> rfl

theorem out_A (c : Dev nD) (i : grid0.Coords) (a2 : Memref sig .tc .vmem S512x1024 .f32) (h2 : a2.IsWhole) (a3 : Memref sig .tc .vmem S1x1024 .f32)
    (h3 : a3.IsWhole) (a4 : Memref sig .tc .vmem S1024x512 .bf16) (h4 : a4.IsWhole) (a5 : Memref sig .tc .vmem S512x512 .f32) (h5 : a5.IsWhole)
    (a6 : Memref sig .tc .vmem S512x1024 .bf16) (h6 : a6.IsWhole) (hc : cond0_0 i)
    (x : Vec Ideal S512x1024 .f32) (g : Vec Ideal S1x1024 .f32) (w : Vec Ideal S1024x512 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero (S := S512x512) hz]
  simp only [View.readAt_eq_ld, h2.read_unread, h3.read_unread, h4.read_unread, View.ld_unit_zero (S := S512x1024) hz,
    View.ld_unit_zero (S := S1x1024) hz, View.ld_unit_zero (S := S1024x512) hz, View.readCov_unit_zero (S := S512x1024) _ hz]

/-- The first point of a row block leaves the normed block in the scratch. -/
theorem sout_A (c : Dev nD) (i : grid0.Coords) (a2 : Memref sig .tc .vmem S512x1024 .f32) (h2 : a2.IsWhole) (a3 : Memref sig .tc .vmem S1x1024 .f32)
    (h3 : a3.IsWhole) (a4 : Memref sig .tc .vmem S1024x512 .bf16) (h4 : a4.IsWhole) (a5 : Memref sig .tc .vmem S512x512 .f32) (h5 : a5.IsWhole)
    (a6 : Memref sig .tc .vmem S512x1024 .bf16) (h6 : a6.IsWhole) (hc : cond0_0 i)
    (x : Vec Ideal S512x1024 .f32) (g : Vec Ideal S1x1024 .f32) (w : Vec Ideal S1024x512 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero (S := S512x1024) hz]
  simp only [View.readAt_eq_ld, h2.read_unread, h3.read_unread, View.ld_unit_zero (S := S512x1024) hz, View.ld_unit_zero (S := S1x1024) hz]

/-- A later point multiplies what the scratch holds. -/
theorem out_B (c : Dev nD) (i : grid0.Coords) (a2 : Memref sig .tc .vmem S512x1024 .f32) (h2 : a2.IsWhole) (a3 : Memref sig .tc .vmem S1x1024 .f32)
    (h3 : a3.IsWhole) (a4 : Memref sig .tc .vmem S1024x512 .bf16) (h4 : a4.IsWhole) (a5 : Memref sig .tc .vmem S512x512 .f32) (h5 : a5.IsWhole)
    (a6 : Memref sig .tc .vmem S512x1024 .bf16) (h6 : a6.IsWhole) (hc : ¬cond0_0 i)
    (x : Vec Ideal S512x1024 .f32) (g : Vec Ideal S1x1024 .f32) (w : Vec Ideal S1024x512 .bf16)
    (s : Vec Ideal S512x1024 .bf16) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero (S := S512x512) hz]
  simp only [View.readAt_eq_ld, h4.read_unread, h6.read_unread, View.ld_unit_zero (S := S512x1024) hz, View.ld_unit_zero (S := S1024x512) hz]

theorem pay1_at (x : Vec Ideal S512x1024 .f32) (g : Vec Ideal S1x1024 .f32) (r : Fin 512) (k : Fin 1024) :
    k0_pay1 x g (ix2 r k) = normed (fun k => x (ix2 r k)) (fun k => g (ix2 0 k)) k := by
  unfold k0_pay1
  pointwise
  rfl

theorem pay2_at (h : Vec Ideal S512x1024 .bf16) (w : Vec Ideal S1024x512 .bf16) (r : Fin 512) (d : Fin 512) :
    k0_pay2 h w (ix2 r d) = ∑ k : Fin 1024, h (ix2 r k) * w (ix2 k d) := by
  unfold k0_pay2
  pointwise

/-! ## The gathered columns -/

/-- The gather of columns at an index: the column its start index names. -/
theorem cols_at (x : S1024x4576.Idx → EReal) (I : S2528x1.Idx → BitVec 32) (k : Fin 1024) (n : Fin 2528) (hI : (I (ix2 n 0)).toNat < 4576) :
    Host.gather gather_S1024x4576_S2528x1_S1024x2528_0_1_n_n_1_1_10241 x I (ix2 k n) = x (ix2 k ⟨(I (ix2 n 0)).toNat, hI⟩) := by
  unfold Host.gather
  refine congrArg x (funext fun a => Fin.ext ?_)
  match a with
  | ⟨0, _⟩ =>
    show gather_S1024x4576_S2528x1_S1024x2528_0_1_n_n_1_1_10241.start (ix2 k n) I 0 + gather_S1024x4576_S2528x1_S1024x2528_0_1_n_n_1_1_10241.batchCoord (ix2 k n) 0
      + gather_S1024x4576_S2528x1_S1024x2528_0_1_n_n_1_1_10241.offCoord (ix2 k n) 0 = k.val
    rw [GatherDims.batchCoord_eq_zero _ _ _ List.not_mem_nil]
    unfold GatherDims.start
    rw [dif_neg (show (0 : Fin 2) ∉ gather_S1024x4576_S2528x1_S1024x2528_0_1_n_n_1_1_10241.startIndexMap by decide)]
    show 0 + 0 + k.val = k.val
    omega
  | ⟨1, _⟩ =>
    show gather_S1024x4576_S2528x1_S1024x2528_0_1_n_n_1_1_10241.start (ix2 k n) I 1 + gather_S1024x4576_S2528x1_S1024x2528_0_1_n_n_1_1_10241.batchCoord (ix2 k n) 1
      + gather_S1024x4576_S2528x1_S1024x2528_0_1_n_n_1_1_10241.offCoord (ix2 k n) 1 = (I (ix2 n 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x4576_S2528x1_S1024x2528_0_1_n_n_1_1_10241.startIndexMap from List.mem_singleton.mpr rfl)]
    have hsi : gather_S1024x4576_S2528x1_S1024x2528_0_1_n_n_1_1_10241.siIdx (ix2 k n)
        ⟨List.idxOf (1 : Fin 2) gather_S1024x4576_S2528x1_S1024x2528_0_1_n_n_1_1_10241.startIndexMap, List.idxOf_lt_length_iff.2 (List.mem_singleton.mpr rfl)⟩ = ix2 n 0 := by
      funext b; refine Fin.ext ?_
      match b with
      | ⟨0, _⟩ => rfl
      | ⟨1, _⟩ => rfl
    rw [hsi]
    show min (I (ix2 n 0)).toInt.toNat (4576 - 1) = (I (ix2 n 0)).toNat
    rw [BitVec.toInt_eq_toNat_of_lt (by omega)]
    omega

/-- The start indices, as the program prepares them: an index that is not negative is taken as it is. -/
def starts : S2528x1.Idx → BitVec 32 :=
  broadcastInDim S2528x1 ![0] bcast_S2528_S2528x1_0
    (select (constantI S2528 1 0#1) (addi (fun i => lit0 (S2528.rowMajor i)) (broadcastInDim S2528 ![] bcast_S_S2528 (constantI S_ 32 4576#32)))
      (fun i => lit0 (S2528.rowMajor i)))

theorem starts_at (n : Fin 2528) : starts (ix2 n 0) = lit0 n := by
  have e : starts (ix2 n 0) = lit0 (S2528.rowMajor (ix1 n)) := by
    unfold starts
    pointwise
  rw [e]
  refine congrArg lit0 (Fin.ext ?_)
  rw [Shape.rowMajor_val_one]
  rfl

theorem lit0_nq : ∀ i : Fin 512, (lit0 ⟨i.val, by omega⟩).toNat = i.val := by decide +kernel

theorem lit0_nkv : ∀ i : Fin 768, (lit0 ⟨1536 + i.val, by omega⟩).toNat = 512 + i.val := by decide +kernel

theorem lit0_ngate : ∀ i : Fin 24, (lit0 ⟨2504 + i.val, by omega⟩).toNat = 1280 + i.val := by decide +kernel

theorem lit0_dq : ∀ i : Fin 512, (lit0 ⟨512 + i.val, by omega⟩).toNat = 1304 + i.val := by decide +kernel

theorem lit0_dkv : ∀ i : Fin 128, (lit0 ⟨2304 + i.val, by omega⟩).toNat = 1816 + i.val := by decide +kernel

theorem lit0_iq : ∀ i : Fin 512, (lit0 ⟨1024 + i.val, by omega⟩).toNat = 1944 + i.val := by decide +kernel

theorem lit0_ik : ∀ i : Fin 64, (lit0 ⟨2432 + i.val, by omega⟩).toNat = 2456 + i.val := by decide +kernel

theorem lit0_iw : ∀ i : Fin 8, (lit0 ⟨2496 + i.val, by omega⟩).toNat = 2520 + i.val := by decide +kernel

/-! ## What the region finds -/

variable (m : (ℓ : Loc nD τ sig) → Buf (Elt Ideal) ℓ) (c : Dev nD)

/-- Token `t` of the flattened batch: its sequence and its place in it. -/
def bt (t : Fin 32768) : Fin 8 := ⟨t.val / 4096, by omega⟩
def sq (t : Fin 32768) : Fin 4096 := ⟨t.val % 4096, by omega⟩

theorem Vx_at (t : Fin 32768) (d : Fin 1024) : V m c main_v0 (ix2 t d) = m ((c : Thread nD τ).loc main_arg0) (ix3 (bt t) (sq t) d) := by
  have e : V m c main_v0 = shapeCast S32768x1024 (m ((c : Thread nD τ).loc main_arg0) : S8x4096x1024.Idx → EReal) shapeCasts_S8x4096x1024_S32768x1024 := by
    show StableHlo.after (List.flatten [hostOps0, hostOps0_1, hostOps0_2]) (fun b => m (c, b)) (Proc.devRef .tc main_v0) = _
    simp only [hostOps0, hostOps0_1, hostOps0_2, List.flatten_cons, List.flatten_nil, List.append_nil, List.cons_append, List.nil_append]
    after_results
    rfl
  rw [e]
  refine shapeCast_apply _ _ _ _ ?_
  show (S8x4096x1024.rowMajor (ix3 (bt t) (sq t) d)).val = (S32768x1024.rowMajor (ix2 t d)).val
  rw [Shape.rowMajor_val_three, Shape.rowMajor_val_two]
  show (t.val / 4096 * 4096 + t.val % 4096) * 1024 + d.val = t.val * 1024 + d.val
  omega

theorem Vg_at (d : Fin 1024) : V m c main_v8 (ix2 0 d) = m ((c : Thread nD τ).loc main_arg1) (ix1 d) := by
  have e : V m c main_v8 = shapeCast S1x1024 (m ((c : Thread nD τ).loc main_arg1) : S1024.Idx → EReal) shapeCasts_S1024_S1x1024 := by
    show StableHlo.after (List.flatten [hostOps0, hostOps0_1, hostOps0_2]) (fun b => m (c, b)) (Proc.devRef .tc main_v8) = _
    simp only [hostOps0, hostOps0_1, hostOps0_2, List.flatten_cons, List.flatten_nil, List.append_nil, List.cons_append, List.nil_append]
    after_results
    rfl
  rw [e]
  refine shapeCast_apply _ _ _ _ ?_
  show (S1024.rowMajor (ix1 d)).val = (S1x1024.rowMajor (ix2 0 d)).val
  rw [Shape.rowMajor_val_two, Shape.rowMajor_val_one]
  show d.val = 0 * 1024 + d.val
  omega

theorem Vw_at (k : Fin 1024) (n : Fin 2560) (hn : n.val < 2528) (w : Fin 4576) (hw : (lit0 ⟨n.val, hn⟩).toNat = w.val) :
    V m c main_v7 (ix2 k n) = m ((c : Thread nD τ).loc main_arg2) (ix2 k w) := by
  have e : V m c main_v7 = pad S1024x2560 ![0, 0] ![0, 32] ![0, 0] (Host.gather gather_S1024x4576_S2528x1_S1024x2528_0_1_n_n_1_1_10241 (m ((c : Thread nD τ).loc main_arg2) : S1024x4576.Idx → EReal) starts)
      (sitofp (F := Ideal) .f32 (constantI S_ 32 0#32)) pads_S1024x2528_S1024x2560_000_0320 h_S_ := by
    show StableHlo.after (List.flatten [hostOps0, hostOps0_1, hostOps0_2]) (fun b => m (c, b)) (Proc.devRef .tc main_v7) = _
    simp only [hostOps0, hostOps0_1, hostOps0_2, List.flatten_cons, List.flatten_nil, List.append_nil, List.cons_append, List.nil_append]
    after_results
    rfl
  have h : (starts (ix2 ⟨n.val, hn⟩ 0)).toNat = w.val := by rw [starts_at, hw]
  rw [e]
  have p : pad S1024x2560 ![0, 0] ![0, 32] ![0, 0] (Host.gather gather_S1024x4576_S2528x1_S1024x2528_0_1_n_n_1_1_10241 (m ((c : Thread nD τ).loc main_arg2) : S1024x4576.Idx → EReal) starts)
      (sitofp (F := Ideal) .f32 (constantI S_ 32 0#32)) pads_S1024x2528_S1024x2560_000_0320 h_S_ (ix2 k n)
      = Host.gather gather_S1024x4576_S2528x1_S1024x2528_0_1_n_n_1_1_10241 (m ((c : Thread nD τ).loc main_arg2) : S1024x4576.Idx → EReal) starts (ix2 k ⟨n.val, hn⟩) := by
    pointwise
    exact dif_pos hn
  rw [p, cols_at _ _ k ⟨n.val, hn⟩ (by omega)]
  refine congrArg (m ((c : Thread nD τ).loc main_arg2)) ?_
  funext a; apply Fin.ext
  match a with
  | ⟨0, _⟩ => rfl
  | ⟨1, _⟩ => exact h

/-! ## The blocks of a point -/

theorem index0 : ∀ t : Fin cfg0.N, win0_0.index t (0 : Fin 2) = t.val / 5 := by decide +kernel
theorem index2 : ∀ t : Fin cfg0.N, win0_2.index t (1 : Fin 2) = t.val % 5 := by decide +kernel
theorem index3 : ∀ t : Fin cfg0.N, win0_3.index t (0 : Fin 2) = t.val / 5 ∧ win0_3.index t (1 : Fin 2) = t.val % 5 := by decide +kernel

theorem lt_N (t : Fin cfg0.N) : t.val < 320 := lt_of_lt_of_eq t.isLt N_0

/-- The token in row `r` of the block of rows of the point at position `n`. -/
def tok (n : ℕ) (h : n < cfg0.N) (r : Fin 512) : Fin 32768 := ⟨512 * (n / 5) + r.val, by have := lt_N ⟨n, h⟩; have := r.isLt; dsimp only at *; omega⟩

/-- The column at place `d` of the block of columns of point `t`. -/
def col (t : Fin cfg0.N) (d : Fin 512) : Fin 2560 := ⟨512 * (t.val % 5) + d.val, by omega⟩

theorem b0_at (t : Fin cfg0.N) (r : Fin 512) (d : Fin 1024) :
    iblk m c 0 t (ix2 r d) = m ((c : Thread nD τ).loc main_arg0) (ix3 (bt (tok t.val t.isLt r)) (sq (tok t.val t.isLt r)) d) := by
  show V m c main_v0 (((cfg0.win 0).blk t).view.emb (ix2 r d)) = _
  refine (congrArg (V m c main_v0) ?_).trans (Vx_at m c (tok t.val t.isLt r) d)
  funext a; apply Fin.ext
  match a with
  | ⟨0, _⟩ => show win0_0.index t (0 : Fin 2) * 512 + 1 * r.val = 512 * (t.val / 5) + r.val; rw [index0]; omega
  | ⟨1, _⟩ => show 0 * 1024 + 1 * d.val = d.val; omega

theorem b1_at (t : Fin cfg0.N) (d : Fin 1024) : iblk m c 1 t (ix2 0 d) = m ((c : Thread nD τ).loc main_arg1) (ix1 d) := by
  show V m c main_v8 (((cfg0.win 1).blk t).view.emb (ix2 0 d)) = _
  refine (congrArg (V m c main_v8) ?_).trans (Vg_at m c d)
  funext a; apply Fin.ext
  match a with
  | ⟨0, _⟩ => show 0 * 1 + 1 * 0 = 0; omega
  | ⟨1, _⟩ => show 0 * 1024 + 1 * d.val = d.val; omega

theorem b2_at (t : Fin cfg0.N) (k : Fin 1024) (d : Fin 512) : iblk m c 2 t (ix2 k d) = V m c main_v7 (ix2 k (col t d)) := by
  show V m c main_v7 (((cfg0.win 2).blk t).view.emb (ix2 k d)) = _
  refine congrArg (V m c main_v7) ?_
  funext a; apply Fin.ext
  match a with
  | ⟨0, _⟩ => show 0 * 1024 + 1 * k.val = k.val; omega
  | ⟨1, _⟩ => show win0_2.index t (1 : Fin 2) * 512 + 1 * d.val = 512 * (t.val % 5) + d.val; rw [index2]; omega

/-! ## The scratch across points -/

/-- The normed row of token `t`. -/
def normedOf (t : Fin 32768) : Fin 1024 → EReal :=
  normed (fun k => m ((c : Thread nD τ).loc main_arg0) (ix3 (bt t) (sq t) k)) (fun k => m ((c : Thread nD τ).loc main_arg1) (ix1 k))

theorem norm_at (t : Fin cfg0.N) (r : Fin 512) (k : Fin 1024) :
    k0_pay1 (iblk m c 0 t) (iblk m c 1 t) (ix2 r k) = normedOf m c (tok t.val t.isLt r) k := by
  rw [pay1_at]
  simp only [b0_at, b1_at]
  rfl

/-- After each point the scratch holds the normed rows of the point's block of rows: the first point of the block writes
    them, and the later ones keep them. -/
theorem scratch_at : ∀ (n : ℕ) (h : n < cfg0.N) (r : Fin 512) (k : Fin 1024), (outsAt0 m c n h).2 (ix2 r k) = normedOf m c (tok n h r) k := by
  intro n
  induction n with
  | zero =>
    intro h r k
    have e := congrArg Prod.snd (outsAt0_A m c ⟨0, h⟩ (Nat.zero_mod _))
    dsimp only at e
    rw [e, sout_A, norm_at]
  | succ n ih =>
    intro h r k
    by_cases h0 : (n + 1) % 5 = 0
    · have e := congrArg Prod.snd (outsAt0_A m c ⟨n + 1, h⟩ h0)
      dsimp only at e
      rw [e, sout_A, norm_at]
    · have e := congrArg Prod.snd (outsAt0_B m c ⟨n + 1, h⟩ h0)
      dsimp only at e
      rw [e]
      refine (ih _ r k).trans (congrArg (fun t => normedOf m c t k) (Fin.ext ?_))
      show 512 * (n / 5) + r.val = 512 * ((n + 1) / 5) + r.val
      omega

/-- What a point leaves in the output's block. -/
theorem out_at (t : Fin cfg0.N) (r d : Fin 512) :
    (outsAt0 m c t.val t.isLt).1 (ix2 r d) = ∑ k : Fin 1024, normedOf m c (tok t.val t.isLt r) k * V m c main_v7 (ix2 k (col t d)) := by
  by_cases h0 : t.val % 5 = 0
  · rw [outsAt0_A m c t h0]
    dsimp only
    rw [out_A, pay2_at]
    simp only [norm_at, b2_at]
  · have hp : t.val - 1 < cfg0.N := Nat.lt_of_le_of_lt (Nat.sub_le _ _) t.isLt
    have et : tok (t.val - 1) hp r = tok t.val t.isLt r := by
      apply Fin.ext
      show 512 * ((t.val - 1) / 5) + r.val = 512 * (t.val / 5) + r.val
      omega
    rw [outsAt0_B m c t h0]
    dsimp only
    rw [out_B, pay2_at]
    simp only [scratch_at, b2_at, et]

/-! ## The output of the region -/

def flat : S32768x2560.Idx → EReal := fun j => ∑ k : Fin 1024, normedOf m c (j 0) k * V m c main_v7 (ix2 k (j 1))

theorem flushed_eq (t : Fin cfg0.N) :
    (dats m 0 c).flushed 3 t = ((cfg0.win 3).blk t).view.read (Elt Ideal) (flat m c) := by
  show (cfg0.win 3).cut (grid0.coords t) ((dats m 0 c).after 3 t) = _
  rw [after0_3]
  funext j
  idx_vars j
  show (outsAt0 m c t.val t.isLt).1 (ix2 j0 j1) = flat m c (((cfg0.win 3).blk t).view.emb (ix2 j0 j1))
  have e : ((cfg0.win 3).blk t).view.emb (ix2 j0 j1) = ix2 (tok t.val t.isLt j0) (col t j1) := by
    funext a; apply Fin.ext
    match a with
    | ⟨0, _⟩ => show win0_3.index t (0 : Fin 2) * 512 + 1 * j0.val = 512 * (t.val / 5) + j0.val; rw [(index3 t).1]; omega
    | ⟨1, _⟩ => show win0_3.index t (1 : Fin 2) * 512 + 1 * j1.val = 512 * (t.val % 5) + j1.val; rw [(index3 t).2]; omega
  rw [e, out_at]
  rfl

theorem cover (i : S32768x2560.Idx) : ∃ t : Fin cfg0.N, (cfg0.win 3).flush t = true ∧ i ∈ ((cfg0.win 3).blk t).view.set := by
  have h0 : (i 0).val < 32768 := (i 0).isLt
  have h1 : (i 1).val < 2560 := (i 1).isLt
  let t : Fin cfg0.N := ⟨(i 0).val / 512 * 5 + (i 1).val / 512, by rw [show cfg0.N = 320 from N_0]; omega⟩
  refine ⟨t, flush0_3 t, ?_⟩
  have h := ((cfg0.win 3).blk t).view.emb_mem_set (ix2 (⟨(i 0).val % 512, Nat.mod_lt _ (by decide)⟩ : Fin 512) (⟨(i 1).val % 512, Nat.mod_lt _ (by decide)⟩ : Fin 512))
  have e : ((cfg0.win 3).blk t).view.emb (ix2 (⟨(i 0).val % 512, Nat.mod_lt _ (by decide)⟩ : Fin 512) (⟨(i 1).val % 512, Nat.mod_lt _ (by decide)⟩ : Fin 512)) = i := by
    funext a; apply Fin.ext
    match a with
    | ⟨0, _⟩ =>
      show win0_3.index t (0 : Fin 2) * 512 + 1 * ((i 0).val % 512) = (i 0).val
      rw [(index3 t).1]
      show ((i 0).val / 512 * 5 + (i 1).val / 512) / 5 * 512 + 1 * ((i 0).val % 512) = (i 0).val
      omega
    | ⟨1, _⟩ =>
      show win0_3.index t (1 : Fin 2) * 512 + 1 * ((i 1).val % 512) = (i 1).val
      rw [(index3 t).2]
      show ((i 0).val / 512 * 5 + (i 1).val / 512) % 5 * 512 + 1 * ((i 1).val % 512) = (i 1).val
      omega
  rw [e] at h
  exact h

theorem final_eq : (dats m 0 c).arrAt 3 cfg0.N = flat m c :=
  (dats m 0 c).arrAt_eq_of_cover 3 (flat m c) (fun t _ => flushed_eq m c t) cover

/-- The region's output at a token and column. -/
theorem flat_at (b : Fin 8) (s : Fin 4096) (n : Fin 2560) (w : Fin 4576)
    (hw : ∀ k : Fin 1024, V m c main_v7 (ix2 k n) = m ((c : Thread nD τ).loc main_arg2) (ix2 k w)) :
    flat m c (ix2 (⟨4096 * b.val + s.val, by omega⟩ : Fin 32768) n)
      = projAt (m ((c : Thread nD τ).loc main_arg0)) (m ((c : Thread nD τ).loc main_arg1)) (m ((c : Thread nD τ).loc main_arg2)) b s w := by
  have eb : bt ⟨4096 * b.val + s.val, by omega⟩ = b := Fin.ext (by show (4096 * b.val + s.val) / 4096 = b.val; omega)
  have es : sq ⟨4096 * b.val + s.val, by omega⟩ = s := Fin.ext (by show (4096 * b.val + s.val) % 4096 = s.val; omega)
  show ∑ k : Fin 1024, normedOf m c (⟨4096 * b.val + s.val, by omega⟩ : Fin 32768) k * V m c main_v7 (ix2 k n) = _
  unfold projAt proj normedOf
  refine Finset.sum_congr rfl fun k _ => ?_
  rw [hw, eb, es]

/-! ## The results -/

def nqOf : S8x4096x512.Idx → EReal :=
  nqArr (m ((c : Thread nD τ).loc main_arg0)) (m ((c : Thread nD τ).loc main_arg1)) (m ((c : Thread nD τ).loc main_arg2))

theorem nq_eq : Pipeline.afterTail₀ cfgs (dats m) 0 (V0 m) [hostOps1] c main_v11 = nqOf m c := by
  have e : Pipeline.afterTail₀ cfgs (dats m) 0 (V0 m) [hostOps1] c main_v11
      = shapeCast S8x4096x512 (extractStridedSlice S32768x512 ![0, 0] ((dats m 0 c).arrAt 3 cfg0.N : S32768x2560.Idx → EReal) slices_S32768x2560_S32768x512_0_0)
        shapeCasts_S32768x512_S8x4096x512 := by
    unfold Pipeline.afterTail₀
    show StableHlo.after hostOps1 _ (Proc.devRef .tc main_v11) = _
    after_results
    exact congrArg (fun x : S32768x2560.Idx → EReal => shapeCast S8x4096x512 (extractStridedSlice S32768x512 ![0, 0] x slices_S32768x2560_S32768x512_0_0) shapeCasts_S32768x512_S8x4096x512)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 512 + j2.val = (j0.val * 4096 + j1.val) * 512 + j2.val
    omega
  · refine Eq.trans ?_ (flat_at m c j0 j1 ⟨j2.val, by omega⟩ (nqCol j2) (fun k => Vw_at m c k _ (by show j2.val < 2528; omega) _ (lit0_nq j2)))
    refine congrArg (flat m c) (funext fun a => Fin.ext ?_)
    match a with
    | ⟨0, _⟩ => show 0 + (4096 * j0.val + j1.val) = 4096 * j0.val + j1.val; omega
    | ⟨1, _⟩ => show 0 + j2.val = j2.val; omega

def nkvOf : S8x4096x768.Idx → EReal :=
  nkvArr (m ((c : Thread nD τ).loc main_arg0)) (m ((c : Thread nD τ).loc main_arg1)) (m ((c : Thread nD τ).loc main_arg2))

theorem nkv_eq : Pipeline.afterTail₀ cfgs (dats m) 0 (V0 m) [hostOps1] c main_v13 = nkvOf m c := by
  have e : Pipeline.afterTail₀ cfgs (dats m) 0 (V0 m) [hostOps1] c main_v13
      = shapeCast S8x4096x768 (extractStridedSlice S32768x768 ![0, 1536] ((dats m 0 c).arrAt 3 cfg0.N : S32768x2560.Idx → EReal) slices_S32768x2560_S32768x768_0_1536)
        shapeCasts_S32768x768_S8x4096x768 := by
    unfold Pipeline.afterTail₀
    show StableHlo.after hostOps1 _ (Proc.devRef .tc main_v13) = _
    after_results
    exact congrArg (fun x : S32768x2560.Idx → EReal => shapeCast S8x4096x768 (extractStridedSlice S32768x768 ![0, 1536] x slices_S32768x2560_S32768x768_0_1536) shapeCasts_S32768x768_S8x4096x768)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 768 + j2.val = (j0.val * 4096 + j1.val) * 768 + j2.val
    omega
  · refine Eq.trans ?_ (flat_at m c j0 j1 ⟨1536 + j2.val, by omega⟩ (nkvCol j2) (fun k => Vw_at m c k _ (by show 1536 + j2.val < 2528; omega) _ (lit0_nkv j2)))
    refine congrArg (flat m c) (funext fun a => Fin.ext ?_)
    match a with
    | ⟨0, _⟩ => show 0 + (4096 * j0.val + j1.val) = 4096 * j0.val + j1.val; omega
    | ⟨1, _⟩ => show 1536 + j2.val = 1536 + j2.val; omega

def ngateOf : S8x4096x24.Idx → EReal :=
  ngateArr (m ((c : Thread nD τ).loc main_arg0)) (m ((c : Thread nD τ).loc main_arg1)) (m ((c : Thread nD τ).loc main_arg2))

theorem ngate_eq : Pipeline.afterTail₀ cfgs (dats m) 0 (V0 m) [hostOps1] c main_v15 = ngateOf m c := by
  have e : Pipeline.afterTail₀ cfgs (dats m) 0 (V0 m) [hostOps1] c main_v15
      = shapeCast S8x4096x24 (extractStridedSlice S32768x24 ![0, 2504] ((dats m 0 c).arrAt 3 cfg0.N : S32768x2560.Idx → EReal) slices_S32768x2560_S32768x24_0_2504)
        shapeCasts_S32768x24_S8x4096x24 := by
    unfold Pipeline.afterTail₀
    show StableHlo.after hostOps1 _ (Proc.devRef .tc main_v15) = _
    after_results
    exact congrArg (fun x : S32768x2560.Idx → EReal => shapeCast S8x4096x24 (extractStridedSlice S32768x24 ![0, 2504] x slices_S32768x2560_S32768x24_0_2504) shapeCasts_S32768x24_S8x4096x24)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 24 + j2.val = (j0.val * 4096 + j1.val) * 24 + j2.val
    omega
  · refine Eq.trans ?_ (flat_at m c j0 j1 ⟨2504 + j2.val, by omega⟩ (ngateCol j2) (fun k => Vw_at m c k _ (by show 2504 + j2.val < 2528; omega) _ (lit0_ngate j2)))
    refine congrArg (flat m c) (funext fun a => Fin.ext ?_)
    match a with
    | ⟨0, _⟩ => show 0 + (4096 * j0.val + j1.val) = 4096 * j0.val + j1.val; omega
    | ⟨1, _⟩ => show 2504 + j2.val = 2504 + j2.val; omega

def dqOf : S8x4096x512.Idx → EReal :=
  dqArr (m ((c : Thread nD τ).loc main_arg0)) (m ((c : Thread nD τ).loc main_arg1)) (m ((c : Thread nD τ).loc main_arg2))

theorem dq_eq : Pipeline.afterTail₀ cfgs (dats m) 0 (V0 m) [hostOps1] c main_v17 = dqOf m c := by
  have e : Pipeline.afterTail₀ cfgs (dats m) 0 (V0 m) [hostOps1] c main_v17
      = shapeCast S8x4096x512 (extractStridedSlice S32768x512 ![0, 512] ((dats m 0 c).arrAt 3 cfg0.N : S32768x2560.Idx → EReal) slices_S32768x2560_S32768x512_0_512)
        shapeCasts_S32768x512_S8x4096x512 := by
    unfold Pipeline.afterTail₀
    show StableHlo.after hostOps1 _ (Proc.devRef .tc main_v17) = _
    after_results
    exact congrArg (fun x : S32768x2560.Idx → EReal => shapeCast S8x4096x512 (extractStridedSlice S32768x512 ![0, 512] x slices_S32768x2560_S32768x512_0_512) shapeCasts_S32768x512_S8x4096x512)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 512 + j2.val = (j0.val * 4096 + j1.val) * 512 + j2.val
    omega
  · refine Eq.trans ?_ (flat_at m c j0 j1 ⟨512 + j2.val, by omega⟩ (dqCol j2) (fun k => Vw_at m c k _ (by show 512 + j2.val < 2528; omega) _ (lit0_dq j2)))
    refine congrArg (flat m c) (funext fun a => Fin.ext ?_)
    match a with
    | ⟨0, _⟩ => show 0 + (4096 * j0.val + j1.val) = 4096 * j0.val + j1.val; omega
    | ⟨1, _⟩ => show 512 + j2.val = 512 + j2.val; omega

def dkvOf : S8x4096x128.Idx → EReal :=
  dkvArr (m ((c : Thread nD τ).loc main_arg0)) (m ((c : Thread nD τ).loc main_arg1)) (m ((c : Thread nD τ).loc main_arg2))

theorem dkv_eq : Pipeline.afterTail₀ cfgs (dats m) 0 (V0 m) [hostOps1] c main_v19 = dkvOf m c := by
  have e : Pipeline.afterTail₀ cfgs (dats m) 0 (V0 m) [hostOps1] c main_v19
      = shapeCast S8x4096x128 (extractStridedSlice S32768x128 ![0, 2304] ((dats m 0 c).arrAt 3 cfg0.N : S32768x2560.Idx → EReal) slices_S32768x2560_S32768x128_0_2304)
        shapeCasts_S32768x128_S8x4096x128 := by
    unfold Pipeline.afterTail₀
    show StableHlo.after hostOps1 _ (Proc.devRef .tc main_v19) = _
    after_results
    exact congrArg (fun x : S32768x2560.Idx → EReal => shapeCast S8x4096x128 (extractStridedSlice S32768x128 ![0, 2304] x slices_S32768x2560_S32768x128_0_2304) shapeCasts_S32768x128_S8x4096x128)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 128 + j2.val = (j0.val * 4096 + j1.val) * 128 + j2.val
    omega
  · refine Eq.trans ?_ (flat_at m c j0 j1 ⟨2304 + j2.val, by omega⟩ (dkvCol j2) (fun k => Vw_at m c k _ (by show 2304 + j2.val < 2528; omega) _ (lit0_dkv j2)))
    refine congrArg (flat m c) (funext fun a => Fin.ext ?_)
    match a with
    | ⟨0, _⟩ => show 0 + (4096 * j0.val + j1.val) = 4096 * j0.val + j1.val; omega
    | ⟨1, _⟩ => show 2304 + j2.val = 2304 + j2.val; omega

def iqOf : S8x4096x512.Idx → EReal :=
  iqArr (m ((c : Thread nD τ).loc main_arg0)) (m ((c : Thread nD τ).loc main_arg1)) (m ((c : Thread nD τ).loc main_arg2))

theorem iq_eq : Pipeline.afterTail₀ cfgs (dats m) 0 (V0 m) [hostOps1] c main_v21 = iqOf m c := by
  have e : Pipeline.afterTail₀ cfgs (dats m) 0 (V0 m) [hostOps1] c main_v21
      = shapeCast S8x4096x512 (extractStridedSlice S32768x512 ![0, 1024] ((dats m 0 c).arrAt 3 cfg0.N : S32768x2560.Idx → EReal) slices_S32768x2560_S32768x512_0_1024)
        shapeCasts_S32768x512_S8x4096x512 := by
    unfold Pipeline.afterTail₀
    show StableHlo.after hostOps1 _ (Proc.devRef .tc main_v21) = _
    after_results
    exact congrArg (fun x : S32768x2560.Idx → EReal => shapeCast S8x4096x512 (extractStridedSlice S32768x512 ![0, 1024] x slices_S32768x2560_S32768x512_0_1024) shapeCasts_S32768x512_S8x4096x512)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 512 + j2.val = (j0.val * 4096 + j1.val) * 512 + j2.val
    omega
  · refine Eq.trans ?_ (flat_at m c j0 j1 ⟨1024 + j2.val, by omega⟩ (iqCol j2) (fun k => Vw_at m c k _ (by show 1024 + j2.val < 2528; omega) _ (lit0_iq j2)))
    refine congrArg (flat m c) (funext fun a => Fin.ext ?_)
    match a with
    | ⟨0, _⟩ => show 0 + (4096 * j0.val + j1.val) = 4096 * j0.val + j1.val; omega
    | ⟨1, _⟩ => show 1024 + j2.val = 1024 + j2.val; omega

def ikOf : S8x4096x64.Idx → EReal :=
  ikArr (m ((c : Thread nD τ).loc main_arg0)) (m ((c : Thread nD τ).loc main_arg1)) (m ((c : Thread nD τ).loc main_arg2))

theorem ik_eq : Pipeline.afterTail₀ cfgs (dats m) 0 (V0 m) [hostOps1] c main_v23 = ikOf m c := by
  have e : Pipeline.afterTail₀ cfgs (dats m) 0 (V0 m) [hostOps1] c main_v23
      = shapeCast S8x4096x64 (extractStridedSlice S32768x64 ![0, 2432] ((dats m 0 c).arrAt 3 cfg0.N : S32768x2560.Idx → EReal) slices_S32768x2560_S32768x64_0_2432)
        shapeCasts_S32768x64_S8x4096x64 := by
    unfold Pipeline.afterTail₀
    show StableHlo.after hostOps1 _ (Proc.devRef .tc main_v23) = _
    after_results
    exact congrArg (fun x : S32768x2560.Idx → EReal => shapeCast S8x4096x64 (extractStridedSlice S32768x64 ![0, 2432] x slices_S32768x2560_S32768x64_0_2432) shapeCasts_S32768x64_S8x4096x64)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 64 + j2.val = (j0.val * 4096 + j1.val) * 64 + j2.val
    omega
  · refine Eq.trans ?_ (flat_at m c j0 j1 ⟨2432 + j2.val, by omega⟩ (ikCol j2) (fun k => Vw_at m c k _ (by show 2432 + j2.val < 2528; omega) _ (lit0_ik j2)))
    refine congrArg (flat m c) (funext fun a => Fin.ext ?_)
    match a with
    | ⟨0, _⟩ => show 0 + (4096 * j0.val + j1.val) = 4096 * j0.val + j1.val; omega
    | ⟨1, _⟩ => show 2432 + j2.val = 2432 + j2.val; omega

def iwOf : S8x4096x8.Idx → EReal :=
  iwArr (m ((c : Thread nD τ).loc main_arg0)) (m ((c : Thread nD τ).loc main_arg1)) (m ((c : Thread nD τ).loc main_arg2))

theorem iw_eq : Pipeline.afterTail₀ cfgs (dats m) 0 (V0 m) [hostOps1] c main_v25 = iwOf m c := by
  have e : Pipeline.afterTail₀ cfgs (dats m) 0 (V0 m) [hostOps1] c main_v25
      = shapeCast S8x4096x8 (extractStridedSlice S32768x8 ![0, 2496] ((dats m 0 c).arrAt 3 cfg0.N : S32768x2560.Idx → EReal) slices_S32768x2560_S32768x8_0_2496)
        shapeCasts_S32768x8_S8x4096x8 := by
    unfold Pipeline.afterTail₀
    show StableHlo.after hostOps1 _ (Proc.devRef .tc main_v25) = _
    after_results
    exact congrArg (fun x : S32768x2560.Idx → EReal => shapeCast S8x4096x8 (extractStridedSlice S32768x8 ![0, 2496] x slices_S32768x2560_S32768x8_0_2496) shapeCasts_S32768x8_S8x4096x8)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 8 + j2.val = (j0.val * 4096 + j1.val) * 8 + j2.val
    omega
  · refine Eq.trans ?_ (flat_at m c j0 j1 ⟨2496 + j2.val, by omega⟩ (iwCol j2) (fun k => Vw_at m c k _ (by show 2496 + j2.val < 2528; omega) _ (lit0_iw j2)))
    refine congrArg (flat m c) (funext fun a => Fin.ext ?_)
    match a with
    | ⟨0, _⟩ => show 0 + (4096 * j0.val + j1.val) = 4096 * j0.val + j1.val; omega
    | ⟨1, _⟩ => show 2496 + j2.val = 2496 + j2.val; omega

theorem run (ρ : Dev nD → PrngReg) : θ_run defs (onTc (τ := τ) (main (F := Ideal))) ⟨m, fun _ => 0, ρ⟩ fun r => ∀ c : Dev nD,
    r.2.mem ((c.tc : Thread nD τ).loc main_v11) = nqOf m c
    ∧ r.2.mem ((c.tc : Thread nD τ).loc main_v13) = nkvOf m c
    ∧ r.2.mem ((c.tc : Thread nD τ).loc main_v15) = ngateOf m c
    ∧ r.2.mem ((c.tc : Thread nD τ).loc main_v17) = dqOf m c
    ∧ r.2.mem ((c.tc : Thread nD τ).loc main_v19) = dkvOf m c
    ∧ r.2.mem ((c.tc : Thread nD τ).loc main_v21) = iqOf m c
    ∧ r.2.mem ((c.tc : Thread nD τ).loc main_v23) = ikOf m c
    ∧ r.2.mem ((c.tc : Thread nD τ).loc main_v25) = iwOf m c := by
  refine (θ_run defs _ _).mono (fun r h c => ?_) (run_main m ρ)
  exact ⟨((h c).2 main_v11 (Pipeline.mem_restRefs_of main_v11 (by decide) (by decide))).trans (nq_eq m c),
    ((h c).2 main_v13 (Pipeline.mem_restRefs_of main_v13 (by decide) (by decide))).trans (nkv_eq m c),
    ((h c).2 main_v15 (Pipeline.mem_restRefs_of main_v15 (by decide) (by decide))).trans (ngate_eq m c),
    ((h c).2 main_v17 (Pipeline.mem_restRefs_of main_v17 (by decide) (by decide))).trans (dq_eq m c),
    ((h c).2 main_v19 (Pipeline.mem_restRefs_of main_v19 (by decide) (by decide))).trans (dkv_eq m c),
    ((h c).2 main_v21 (Pipeline.mem_restRefs_of main_v21 (by decide) (by decide))).trans (iq_eq m c),
    ((h c).2 main_v23 (Pipeline.mem_restRefs_of main_v23 (by decide) (by decide))).trans (ik_eq m c),
    ((h c).2 main_v25 (Pipeline.mem_restRefs_of main_v25 (by decide) (by decide))).trans (iw_eq m c)⟩

end Cert.Kernel2Ideal.ProjSmall

end

end
-- ==== Proof.Merge.lean ====
module
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.Kernel3Ideal.Merge

open Idealize.ShloMosaic Idealize.ShloMosaic.TcCoe Idealize.ShloMosaic.Tactic Cert.Kernel3Ideal Cert.Kernel3Ideal.Gen

/-! ## The merge of the two mixers, per token and column -/

def lo (k : Fin 1024) : Fin 2048 := ⟨k.val, by omega⟩
def hi (k : Fin 1024) : Fin 2048 := ⟨1024 + k.val, by omega⟩

/-- Column `d` of a token's result: the stream `x`, plus the product with the output weights `w` of the two branches,
    each times the sigmoid of its half of the gates. -/
def mergeVal (x : EReal) (g : Fin 2048 → EReal) (a b : Fin 1024 → EReal) (w : Fin 1024 → EReal) : EReal :=
  x + ∑ k, (Ideal.logistic (g (lo k)) * a k + Ideal.logistic (g (hi k)) * b k) * w k

variable (X : S8x4096x1024.Idx → EReal) (ya yb : S8x4096x512.Idx → EReal) (mg : S8x4096x2048.Idx → EReal) (wa wb : S512x1024.Idx → EReal)
  (wo : S1024x1024.Idx → EReal)

def mergeAt (b : Fin 8) (s : Fin 4096) (d : Fin 1024) : EReal :=
  mergeVal (X (ix3 b s d)) (fun k => mg (ix3 b s k)) (fun k => ∑ i : Fin 512, ya (ix3 b s i) * wa (ix2 i k))
    (fun k => ∑ i : Fin 512, yb (ix3 b s i) * wb (ix2 i k)) (fun k => wo (ix2 k d))

def mergeArr : S8x4096x1024.Idx → EReal := fun j => mergeAt X ya yb mg wa wb wo (j 0) (j 1) (j 2)

/-! ## The reference -/

theorem ref_run (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v14)
        = mergeArr (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
          (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) := by
  refine (θ_run Cert.Reference3Ideal.defs _ _).mono (fun r h c => (h c).1.trans ?_) (Cert.Reference3Ideal.Value.run (F := Ideal) m ρ)
  clear h
  funext j
  idx_vars j
  show _ = mergeAt _ _ _ _ _ _ _ j0 j1 j2
  pointwise
  rfl

/-! ## The kernel's block -/

theorem pay_at (a : Vec Ideal S512x512 .bf16) (wa : Vec Ideal S512x1024 .bf16) (b : Vec Ideal S512x512 .bf16) (wb : Vec Ideal S512x1024 .bf16)
    (g : Vec Ideal S512x2048 .f32) (x : Vec Ideal S512x1024 .f32) (w : Vec Ideal S1024x1024 .bf16) (r : Fin 512) (d : Fin 1024) :
    k0_pay1 a wa b wb g x w (ix2 r d) = mergeVal (x (ix2 r d)) (fun k => g (ix2 r k)) (fun k => ∑ i : Fin 512, a (ix2 r i) * wa (ix2 i k))
      (fun k => ∑ i : Fin 512, b (ix2 r i) * wb (ix2 i k)) (fun k => w (ix2 k d)) := by
  unfold k0_pay1
  pointwise
  rfl

theorem hz : (![0, 0] : Fin 2 → Nat) = fun _ => 0 := funext fun a => by fin_cases a <;> rfl

theorem out_at (x : Vec Ideal S512x1024 .f32) (a b : Vec Ideal S512x512 .bf16) (g : Vec Ideal S512x2048 .f32) (wa wb : Vec Ideal S512x1024 .bf16)
    (w : Vec Ideal S1024x1024 .bf16) : out0_7 x a b g wa wb w = k0_pay1 a wa b wb g x w := by
  unfold out0_7
  rw [View.canon_unit_zero hz, View.ld_unit_zero hz, View.ld_unit_zero hz, View.ld_unit_zero hz, View.ld_unit_zero hz, View.ld_unit_zero hz,
    View.ld_unit_zero hz, View.ld_unit_zero hz]

/-! ## What the region finds -/

variable (m : (ℓ : Loc nD τ sig) → Buf (Elt Ideal) ℓ) (c : Dev nD)

/-- Token `t` of the flattened batch: its sequence and its place in it. -/
def bt (t : Fin 32768) : Fin 8 := ⟨t.val / 4096, by omega⟩
def sq (t : Fin 32768) : Fin 4096 := ⟨t.val % 4096, by omega⟩

theorem V0_at (t : Fin 32768) (d : Fin 1024) : V m c main_v0 (ix2 t d) = m ((c : Thread nD τ).loc main_arg0) (ix3 (bt t) (sq t) d) := by
  have e : V m c main_v0 = shapeCast S32768x1024 (m ((c : Thread nD τ).loc main_arg0) : S8x4096x1024.Idx → EReal) shapeCasts_S8x4096x1024_S32768x1024 := by
    show StableHlo.after hostOps0 (fun b => m (c, b)) (Proc.devRef .tc main_v0) = _
    after_results
    rfl
  rw [e]
  refine shapeCast_apply _ _ _ _ ?_
  show (S8x4096x1024.rowMajor (ix3 (bt t) (sq t) d)).val = (S32768x1024.rowMajor (ix2 t d)).val
  rw [Shape.rowMajor_val_three, Shape.rowMajor_val_two]
  show (t.val / 4096 * 4096 + t.val % 4096) * 1024 + d.val = t.val * 1024 + d.val
  omega

theorem V1_at (t : Fin 32768) (d : Fin 512) : V m c main_v2 (ix2 t d) = m ((c : Thread nD τ).loc main_arg1) (ix3 (bt t) (sq t) d) := by
  have e : V m c main_v2 = shapeCast S32768x512 (m ((c : Thread nD τ).loc main_arg1) : S8x4096x512.Idx → EReal) shapeCasts_S8x4096x512_S32768x512 := by
    show StableHlo.after hostOps0 (fun b => m (c, b)) (Proc.devRef .tc main_v2) = _
    after_results
    rfl
  rw [e]
  refine shapeCast_apply _ _ _ _ ?_
  show (S8x4096x512.rowMajor (ix3 (bt t) (sq t) d)).val = (S32768x512.rowMajor (ix2 t d)).val
  rw [Shape.rowMajor_val_three, Shape.rowMajor_val_two]
  show (t.val / 4096 * 4096 + t.val % 4096) * 512 + d.val = t.val * 512 + d.val
  omega

theorem V2_at (t : Fin 32768) (d : Fin 512) : V m c main_v4 (ix2 t d) = m ((c : Thread nD τ).loc main_arg2) (ix3 (bt t) (sq t) d) := by
  have e : V m c main_v4 = shapeCast S32768x512 (m ((c : Thread nD τ).loc main_arg2) : S8x4096x512.Idx → EReal) shapeCasts_S8x4096x512_S32768x512 := by
    show StableHlo.after hostOps0 (fun b => m (c, b)) (Proc.devRef .tc main_v4) = _
    after_results
    rfl
  rw [e]
  refine shapeCast_apply _ _ _ _ ?_
  show (S8x4096x512.rowMajor (ix3 (bt t) (sq t) d)).val = (S32768x512.rowMajor (ix2 t d)).val
  rw [Shape.rowMajor_val_three, Shape.rowMajor_val_two]
  show (t.val / 4096 * 4096 + t.val % 4096) * 512 + d.val = t.val * 512 + d.val
  omega

theorem V3_at (t : Fin 32768) (d : Fin 2048) : V m c main_v5 (ix2 t d) = m ((c : Thread nD τ).loc main_arg3) (ix3 (bt t) (sq t) d) := by
  have e : V m c main_v5 = shapeCast S32768x2048 (m ((c : Thread nD τ).loc main_arg3) : S8x4096x2048.Idx → EReal) shapeCasts_S8x4096x2048_S32768x2048 := by
    show StableHlo.after hostOps0 (fun b => m (c, b)) (Proc.devRef .tc main_v5) = _
    after_results
    rfl
  rw [e]
  refine shapeCast_apply _ _ _ _ ?_
  show (S8x4096x2048.rowMajor (ix3 (bt t) (sq t) d)).val = (S32768x2048.rowMajor (ix2 t d)).val
  rw [Shape.rowMajor_val_three, Shape.rowMajor_val_two]
  show (t.val / 4096 * 4096 + t.val % 4096) * 2048 + d.val = t.val * 2048 + d.val
  omega

theorem V4_eq : V m c main_v6 = m ((c : Thread nD τ).loc main_arg4) := by
  show StableHlo.after hostOps0 (fun b => m (c, b)) (Proc.devRef .tc main_v6) = _
  after_results
  rfl

theorem V5_eq : V m c main_v7 = m ((c : Thread nD τ).loc main_arg5) := by
  show StableHlo.after hostOps0 (fun b => m (c, b)) (Proc.devRef .tc main_v7) = _
  after_results
  rfl

theorem V6_eq : V m c main_v8 = m ((c : Thread nD τ).loc main_arg6) := by
  show StableHlo.after hostOps0 (fun b => m (c, b)) (Proc.devRef .tc main_v8) = _
  after_results
  rfl

/-! ## The blocks of a point -/

theorem index0 : ∀ t : Fin cfg0.N, win0_0.index t (0 : Fin 2) = t.val := by decide +kernel
theorem index1 : ∀ t : Fin cfg0.N, win0_1.index t (0 : Fin 2) = t.val := by decide +kernel
theorem index2 : ∀ t : Fin cfg0.N, win0_2.index t (0 : Fin 2) = t.val := by decide +kernel
theorem index3 : ∀ t : Fin cfg0.N, win0_3.index t (0 : Fin 2) = t.val := by decide +kernel
theorem index7 : ∀ t : Fin cfg0.N, win0_7.index t (0 : Fin 2) = t.val := by decide +kernel

variable (t : Fin cfg0.N)

theorem lt_N : t.val < 64 := lt_of_lt_of_eq t.isLt N_0

/-- The token in row `r` of point `t`'s block. -/
def tok (r : Fin 512) : Fin 32768 := ⟨512 * t.val + r.val, by have := lt_N t; omega⟩

theorem b0_at (r : Fin 512) (d : Fin 1024) : iblk m c 0 t (ix2 r d) = m ((c : Thread nD τ).loc main_arg0) (ix3 (bt (tok t r)) (sq (tok t r)) d) := by
  show V m c main_v0 (((cfg0.win 0).blk t).view.emb (ix2 r d)) = _
  refine (congrArg (V m c main_v0) ?_).trans (V0_at m c (tok t r) d)
  funext a; apply Fin.ext
  match a with
  | ⟨0, _⟩ => show win0_0.index t (0 : Fin 2) * 512 + 1 * r.val = 512 * t.val + r.val; rw [index0]; omega
  | ⟨1, _⟩ => show 0 * 1024 + 1 * d.val = d.val; omega

theorem b1_at (r : Fin 512) (d : Fin 512) : iblk m c 1 t (ix2 r d) = m ((c : Thread nD τ).loc main_arg1) (ix3 (bt (tok t r)) (sq (tok t r)) d) := by
  show V m c main_v2 (((cfg0.win 1).blk t).view.emb (ix2 r d)) = _
  refine (congrArg (V m c main_v2) ?_).trans (V1_at m c (tok t r) d)
  funext a; apply Fin.ext
  match a with
  | ⟨0, _⟩ => show win0_1.index t (0 : Fin 2) * 512 + 1 * r.val = 512 * t.val + r.val; rw [index1]; omega
  | ⟨1, _⟩ => show 0 * 512 + 1 * d.val = d.val; omega

theorem b2_at (r : Fin 512) (d : Fin 512) : iblk m c 2 t (ix2 r d) = m ((c : Thread nD τ).loc main_arg2) (ix3 (bt (tok t r)) (sq (tok t r)) d) := by
  show V m c main_v4 (((cfg0.win 2).blk t).view.emb (ix2 r d)) = _
  refine (congrArg (V m c main_v4) ?_).trans (V2_at m c (tok t r) d)
  funext a; apply Fin.ext
  match a with
  | ⟨0, _⟩ => show win0_2.index t (0 : Fin 2) * 512 + 1 * r.val = 512 * t.val + r.val; rw [index2]; omega
  | ⟨1, _⟩ => show 0 * 512 + 1 * d.val = d.val; omega

theorem b3_at (r : Fin 512) (d : Fin 2048) : iblk m c 3 t (ix2 r d) = m ((c : Thread nD τ).loc main_arg3) (ix3 (bt (tok t r)) (sq (tok t r)) d) := by
  show V m c main_v5 (((cfg0.win 3).blk t).view.emb (ix2 r d)) = _
  refine (congrArg (V m c main_v5) ?_).trans (V3_at m c (tok t r) d)
  funext a; apply Fin.ext
  match a with
  | ⟨0, _⟩ => show win0_3.index t (0 : Fin 2) * 512 + 1 * r.val = 512 * t.val + r.val; rw [index3]; omega
  | ⟨1, _⟩ => show 0 * 2048 + 1 * d.val = d.val; omega

theorem b4_at (k : Fin 512) (d : Fin 1024) : iblk m c 4 t (ix2 k d) = m ((c : Thread nD τ).loc main_arg4) (ix2 k d) := by
  show V m c main_v6 (((cfg0.win 4).blk t).view.emb (ix2 k d)) = _
  refine (congrFun (V4_eq m c) _).trans (congrArg (m ((c : Thread nD τ).loc main_arg4)) ?_)
  funext a; apply Fin.ext
  match a with
  | ⟨0, _⟩ => show 0 * 512 + 1 * k.val = k.val; omega
  | ⟨1, _⟩ => show 0 * 1024 + 1 * d.val = d.val; omega

theorem b5_at (k : Fin 512) (d : Fin 1024) : iblk m c 5 t (ix2 k d) = m ((c : Thread nD τ).loc main_arg5) (ix2 k d) := by
  show V m c main_v7 (((cfg0.win 5).blk t).view.emb (ix2 k d)) = _
  refine (congrFun (V5_eq m c) _).trans (congrArg (m ((c : Thread nD τ).loc main_arg5)) ?_)
  funext a; apply Fin.ext
  match a with
  | ⟨0, _⟩ => show 0 * 512 + 1 * k.val = k.val; omega
  | ⟨1, _⟩ => show 0 * 1024 + 1 * d.val = d.val; omega

theorem b6_at (k : Fin 1024) (d : Fin 1024) : iblk m c 6 t (ix2 k d) = m ((c : Thread nD τ).loc main_arg6) (ix2 k d) := by
  show V m c main_v8 (((cfg0.win 6).blk t).view.emb (ix2 k d)) = _
  refine (congrFun (V6_eq m c) _).trans (congrArg (m ((c : Thread nD τ).loc main_arg6)) ?_)
  funext a; apply Fin.ext
  match a with
  | ⟨0, _⟩ => show 0 * 1024 + 1 * k.val = k.val; omega
  | ⟨1, _⟩ => show 0 * 1024 + 1 * d.val = d.val; omega

/-! ## The result -/

/-- The merge of the arguments. -/
def mergeOf : S8x4096x1024.Idx → EReal :=
  mergeArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The same, over the flattened batch. -/
def flat : S32768x1024.Idx → EReal := fun j => mergeOf m c (ix3 (bt (j 0)) (sq (j 0)) (j 1))

theorem flushed_eq :
    (dats m 0 c).flushed 7 t = ((cfg0.win 7).blk t).view.read (Elt Ideal) (flat m c) := by
  show (cfg0.win 7).cut (grid0.coords t) ((dats m 0 c).after 7 t) = _
  rw [after0_7, out_at]
  funext j
  idx_vars j
  show k0_pay1 (F := Ideal) _ _ _ _ _ _ _ (ix2 j0 j1) = flat m c (((cfg0.win 7).blk t).view.emb (ix2 j0 j1))
  have e : ((cfg0.win 7).blk t).view.emb (ix2 j0 j1) = ix2 (tok t j0) j1 := by
    funext a; apply Fin.ext
    match a with
    | ⟨0, _⟩ => show win0_7.index t (0 : Fin 2) * 512 + 1 * j0.val = 512 * t.val + j0.val; rw [index7]; omega
    | ⟨1, _⟩ => show 0 * 1024 + 1 * j1.val = j1.val; omega
  rw [e, pay_at]
  simp only [b0_at, b1_at, b2_at, b3_at, b4_at, b5_at, b6_at]
  rfl

theorem cover (i : S32768x1024.Idx) : ∃ t : Fin cfg0.N, (cfg0.win 7).flush t = true ∧ i ∈ ((cfg0.win 7).blk t).view.set := by
  have h0 : (i 0).val < 32768 := (i 0).isLt
  let t : Fin cfg0.N := ⟨(i 0).val / 512, by rw [show cfg0.N = 64 from N_0]; omega⟩
  refine ⟨t, flush0_7 t, ?_⟩
  have h := ((cfg0.win 7).blk t).view.emb_mem_set (ix2 (⟨(i 0).val % 512, Nat.mod_lt _ (by decide)⟩ : Fin 512) (⟨(i 1).val, (i 1).isLt⟩ : Fin 1024))
  have e : ((cfg0.win 7).blk t).view.emb (ix2 (⟨(i 0).val % 512, Nat.mod_lt _ (by decide)⟩ : Fin 512) (⟨(i 1).val, (i 1).isLt⟩ : Fin 1024)) = i := by
    funext a; apply Fin.ext
    match a with
    | ⟨0, _⟩ =>
      show win0_7.index t (0 : Fin 2) * 512 + 1 * ((i 0).val % 512) = (i 0).val
      rw [index7]
      show (i 0).val / 512 * 512 + 1 * ((i 0).val % 512) = (i 0).val
      omega
    | ⟨1, _⟩ => show 0 * 1024 + 1 * (i 1).val = (i 1).val; omega
  rw [e] at h
  exact h

theorem final_eq : (dats m 0 c).arrAt 7 cfg0.N = flat m c :=
  (dats m 0 c).arrAt_eq_of_cover 7 (flat m c) (fun t _ => flushed_eq m c t) cover

theorem tail_eq : Pipeline.afterTail₀ cfgs (dats m) 0 (V0 m) [hostOps1] c main_v10 = mergeOf m c := by
  have e : Pipeline.afterTail₀ cfgs (dats m) 0 (V0 m) [hostOps1] c main_v10
      = shapeCast S8x4096x1024 ((dats m 0 c).arrAt 7 cfg0.N : S32768x1024.Idx → EReal) shapeCasts_S32768x1024_S8x4096x1024 := by
    unfold Pipeline.afterTail₀
    show StableHlo.after hostOps1 _ (Proc.devRef .tc main_v10) = _
    after_results
    exact congrArg (fun x : S32768x1024.Idx → EReal => shapeCast S8x4096x1024 x shapeCasts_S32768x1024_S8x4096x1024)
      (Pipeline.withArrays_arr (cfgs 0).spec (by decide) c (V0 m c) (fun w => (dats m 0 c).arrAt w cfg0.N) 7)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 1024 + j2.val = (j0.val * 4096 + j1.val) * 1024 + j2.val
    omega
  · refine congrArg (mergeOf m c) ?_
    funext a; apply Fin.ext
    match a with
    | ⟨0, _⟩ => show (4096 * j0.val + j1.val) / 4096 = j0.val; omega
    | ⟨1, _⟩ => show (4096 * j0.val + j1.val) % 4096 = j1.val; omega
    | ⟨2, _⟩ => rfl

theorem run (ρ : Dev nD → PrngReg) : θ_run defs (onTc (τ := τ) (main (F := Ideal))) ⟨m, fun _ => 0, ρ⟩ fun r => ∀ c : Dev nD,
    r.2.mem ((c.tc : Thread nD τ).loc main_v10) = mergeOf m c := by
  refine (θ_run defs _ _).mono (fun r h c => ?_) (run_main m ρ)
  exact ((h c).2 main_v10 (Pipeline.mem_restRefs_of main_v10 (by decide) (by decide))).trans (tail_eq m c)

end Cert.Kernel3Ideal.Merge

end

end
-- ==== Proof.Ple.lean ====
module
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.Kernel4Ideal.Ple

open Idealize.ShloMosaic Idealize.ShloMosaic.TcCoe Idealize.ShloMosaic.Tactic Cert.Kernel4Ideal Cert.Kernel4Ideal.Gen

/-! ## The per-layer embedding, per token and column -/

/-- The reciprocal root mean square of a row. -/
def inv (a : Fin 1024 → EReal) : EReal :=
  Ideal.rsqrt (Ideal.div (∑ x, a x * a x) (Ideal.ofBits FTy.f32 0x44800000#32) + Ideal.ofBits FTy.f32 0x358637BD#32)

/-- Column `d` of a token's result: the stream `x`, plus the sigmoid of the normed stream's product with the gate
    weights, times the normed and scaled embedding `e`. -/
def pleVal (x : Fin 1024 → EReal) (w : Fin 1024 → EReal) (e : Fin 1024 → EReal) (g : EReal) (d : Fin 1024) : EReal :=
  x d + Ideal.logistic (∑ k, x k * inv x * w k) * (e d * inv e * g)

variable (X : S8x4096x1024.Idx → EReal) (p : S8x4096x256.Idx → EReal) (wp : S256x1024.Idx → EReal) (wg : S1024x1024.Idx → EReal)
  (gn : S1024.Idx → EReal)

def pleAt (b : Fin 8) (s : Fin 4096) (d : Fin 1024) : EReal :=
  pleVal (fun k => X (ix3 b s k)) (fun k => wg (ix2 k d)) (fun k => ∑ i : Fin 256, p (ix3 b s i) * wp (ix2 i k)) (gn (ix1 d)) d

def pleArr : S8x4096x1024.Idx → EReal := fun j => pleAt X p wp wg gn (j 0) (j 1) (j 2)

/-! ## The reference -/

theorem ref_run (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v32)
        = pleArr (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
          (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))
          (m ((c.tc : Thread Cert.Reference4Ideal.nD Cert.Reference4Ideal.τ).loc Cert.Reference4Ideal.main_arg4)) := by
  refine (θ_run Cert.Reference4Ideal.defs _ _).mono (fun r h c => (h c).1.trans ?_) (Cert.Reference4Ideal.Value.run (F := Ideal) m ρ)
  clear h
  funext j
  idx_vars j
  show _ = pleAt _ _ _ _ _ j0 j1 j2
  pointwise
  rfl

/-! ## The kernel's block -/

theorem pay_at (x : Vec Ideal S512x1024 .f32) (w : Vec Ideal S1024x1024 .bf16) (q : Vec Ideal S512x256 .f32) (v : Vec Ideal S256x1024 .bf16)
    (g : Vec Ideal S1x1024 .f32) (r : Fin 512) (d : Fin 1024) :
    k0_pay1 x w q v g (ix2 r d) = pleVal (fun k => x (ix2 r k)) (fun k => w (ix2 k d)) (fun k => ∑ i : Fin 256, q (ix2 r i) * v (ix2 i k)) (g (ix2 0 d)) d := by
  unfold k0_pay1
  pointwise
  rfl

theorem hz : (![0, 0] : Fin 2 → Nat) = fun _ => 0 := funext fun a => by fin_cases a <;> rfl

theorem out_at (x : Vec Ideal S512x1024 .f32) (q : Vec Ideal S512x256 .f32) (w : Vec Ideal S1024x1024 .bf16) (v : Vec Ideal S256x1024 .bf16)
    (g : Vec Ideal S1x1024 .f32) : out0_5 x q w v g = k0_pay1 x w q v g := by
  unfold out0_5
  rw [View.canon_unit_zero hz, View.ld_unit_zero hz, View.ld_unit_zero hz, View.ld_unit_zero hz, View.ld_unit_zero hz, View.ld_unit_zero hz]

/-! ## What the region finds -/

variable (m : (ℓ : Loc nD τ sig) → Buf (Elt Ideal) ℓ) (c : Dev nD)

/-- Token `t` of the flattened batch: its sequence and its place in it. -/
def bt (t : Fin 32768) : Fin 8 := ⟨t.val / 4096, by omega⟩
def sq (t : Fin 32768) : Fin 4096 := ⟨t.val % 4096, by omega⟩

theorem V0_at (t : Fin 32768) (d : Fin 1024) : V m c main_v0 (ix2 t d) = m ((c : Thread nD τ).loc main_arg0) (ix3 (bt t) (sq t) d) := by
  have e : V m c main_v0 = shapeCast S32768x1024 (m ((c : Thread nD τ).loc main_arg0) : S8x4096x1024.Idx → EReal) shapeCasts_S8x4096x1024_S32768x1024 := by
    show StableHlo.after hostOps0 (fun b => m (c, b)) (Proc.devRef .tc main_v0) = _
    after_results
    rfl
  rw [e]
  refine shapeCast_apply _ _ _ _ ?_
  show (S8x4096x1024.rowMajor (ix3 (bt t) (sq t) d)).val = (S32768x1024.rowMajor (ix2 t d)).val
  rw [Shape.rowMajor_val_three, Shape.rowMajor_val_two]
  show (t.val / 4096 * 4096 + t.val % 4096) * 1024 + d.val = t.val * 1024 + d.val
  omega

theorem V1_at (t : Fin 32768) (d : Fin 256) : V m c main_v1 (ix2 t d) = m ((c : Thread nD τ).loc main_arg1) (ix3 (bt t) (sq t) d) := by
  have e : V m c main_v1 = shapeCast S32768x256 (m ((c : Thread nD τ).loc main_arg1) : S8x4096x256.Idx → EReal) shapeCasts_S8x4096x256_S32768x256 := by
    show StableHlo.after hostOps0 (fun b => m (c, b)) (Proc.devRef .tc main_v1) = _
    after_results
    rfl
  rw [e]
  refine shapeCast_apply _ _ _ _ ?_
  show (S8x4096x256.rowMajor (ix3 (bt t) (sq t) d)).val = (S32768x256.rowMajor (ix2 t d)).val
  rw [Shape.rowMajor_val_three, Shape.rowMajor_val_two]
  show (t.val / 4096 * 4096 + t.val % 4096) * 256 + d.val = t.val * 256 + d.val
  omega

theorem V2_eq : V m c main_v2 = m ((c : Thread nD τ).loc main_arg3) := by
  show StableHlo.after hostOps0 (fun b => m (c, b)) (Proc.devRef .tc main_v2) = _
  after_results
  rfl

theorem V3_eq : V m c main_v3 = m ((c : Thread nD τ).loc main_arg2) := by
  show StableHlo.after hostOps0 (fun b => m (c, b)) (Proc.devRef .tc main_v3) = _
  after_results
  rfl

theorem V4_at (d : Fin 1024) : V m c main_v4 (ix2 0 d) = m ((c : Thread nD τ).loc main_arg4) (ix1 d) := by
  have e : V m c main_v4 = shapeCast S1x1024 (m ((c : Thread nD τ).loc main_arg4) : S1024.Idx → EReal) shapeCasts_S1024_S1x1024 := by
    show StableHlo.after hostOps0 (fun b => m (c, b)) (Proc.devRef .tc main_v4) = _
    after_results
    rfl
  rw [e]
  refine shapeCast_apply _ _ _ _ ?_
  show (S1024.rowMajor (ix1 d)).val = (S1x1024.rowMajor (ix2 0 d)).val
  rw [Shape.rowMajor_val_two, Shape.rowMajor_val_one]
  show d.val = 0 * 1024 + d.val
  omega

/-! ## The blocks of a point -/

theorem index0 : ∀ t : Fin cfg0.N, win0_0.index t (0 : Fin 2) = t.val := by decide +kernel
theorem index1 : ∀ t : Fin cfg0.N, win0_1.index t (0 : Fin 2) = t.val := by decide +kernel
theorem index5 : ∀ t : Fin cfg0.N, win0_5.index t (0 : Fin 2) = t.val := by decide +kernel

variable (t : Fin cfg0.N)

theorem lt_N : t.val < 64 := lt_of_lt_of_eq t.isLt N_0

/-- The token in row `r` of point `t`'s block. -/
def tok (r : Fin 512) : Fin 32768 := ⟨512 * t.val + r.val, by have := lt_N t; omega⟩

theorem b0_at (r : Fin 512) (d : Fin 1024) : iblk m c 0 t (ix2 r d) = m ((c : Thread nD τ).loc main_arg0) (ix3 (bt (tok t r)) (sq (tok t r)) d) := by
  show V m c main_v0 (((cfg0.win 0).blk t).view.emb (ix2 r d)) = _
  refine (congrArg (V m c main_v0) ?_).trans (V0_at m c (tok t r) d)
  funext a; apply Fin.ext
  match a with
  | ⟨0, _⟩ => show win0_0.index t (0 : Fin 2) * 512 + 1 * r.val = 512 * t.val + r.val; rw [index0]; omega
  | ⟨1, _⟩ => show 0 * 1024 + 1 * d.val = d.val; omega

theorem b1_at (r : Fin 512) (d : Fin 256) : iblk m c 1 t (ix2 r d) = m ((c : Thread nD τ).loc main_arg1) (ix3 (bt (tok t r)) (sq (tok t r)) d) := by
  show V m c main_v1 (((cfg0.win 1).blk t).view.emb (ix2 r d)) = _
  refine (congrArg (V m c main_v1) ?_).trans (V1_at m c (tok t r) d)
  funext a; apply Fin.ext
  match a with
  | ⟨0, _⟩ => show win0_1.index t (0 : Fin 2) * 512 + 1 * r.val = 512 * t.val + r.val; rw [index1]; omega
  | ⟨1, _⟩ => show 0 * 256 + 1 * d.val = d.val; omega

theorem b2_at (k : Fin 1024) (d : Fin 1024) : iblk m c 2 t (ix2 k d) = m ((c : Thread nD τ).loc main_arg3) (ix2 k d) := by
  show V m c main_v2 (((cfg0.win 2).blk t).view.emb (ix2 k d)) = _
  refine (congrFun (V2_eq m c) _).trans (congrArg (m ((c : Thread nD τ).loc main_arg3)) ?_)
  funext a; apply Fin.ext
  match a with
  | ⟨0, _⟩ => show 0 * 1024 + 1 * k.val = k.val; omega
  | ⟨1, _⟩ => show 0 * 1024 + 1 * d.val = d.val; omega

theorem b3_at (k : Fin 256) (d : Fin 1024) : iblk m c 3 t (ix2 k d) = m ((c : Thread nD τ).loc main_arg2) (ix2 k d) := by
  show V m c main_v3 (((cfg0.win 3).blk t).view.emb (ix2 k d)) = _
  refine (congrFun (V3_eq m c) _).trans (congrArg (m ((c : Thread nD τ).loc main_arg2)) ?_)
  funext a; apply Fin.ext
  match a with
  | ⟨0, _⟩ => show 0 * 256 + 1 * k.val = k.val; omega
  | ⟨1, _⟩ => show 0 * 1024 + 1 * d.val = d.val; omega

theorem b4_at (d : Fin 1024) : iblk m c 4 t (ix2 0 d) = m ((c : Thread nD τ).loc main_arg4) (ix1 d) := by
  show V m c main_v4 (((cfg0.win 4).blk t).view.emb (ix2 0 d)) = _
  refine (congrArg (V m c main_v4) ?_).trans (V4_at m c d)
  funext a; apply Fin.ext
  match a with
  | ⟨0, _⟩ => show 0 * 1 + 1 * 0 = 0; omega
  | ⟨1, _⟩ => show 0 * 1024 + 1 * d.val = d.val; omega

/-! ## The result -/

/-- The embedding of the arguments. -/
def pleOf : S8x4096x1024.Idx → EReal :=
  pleArr (m ((c : Thread nD τ).loc main_arg0)) (m ((c : Thread nD τ).loc main_arg1)) (m ((c : Thread nD τ).loc main_arg2))
    (m ((c : Thread nD τ).loc main_arg3)) (m ((c : Thread nD τ).loc main_arg4))

/-- The same, over the flattened batch. -/
def flat : S32768x1024.Idx → EReal := fun j => pleOf m c (ix3 (bt (j 0)) (sq (j 0)) (j 1))

theorem flushed_eq :
    (dats m 0 c).flushed 5 t = ((cfg0.win 5).blk t).view.read (Elt Ideal) (flat m c) := by
  show (cfg0.win 5).cut (grid0.coords t) ((dats m 0 c).after 5 t) = _
  rw [after0_5, out_at]
  funext j
  idx_vars j
  show k0_pay1 (F := Ideal) _ _ _ _ _ (ix2 j0 j1) = flat m c (((cfg0.win 5).blk t).view.emb (ix2 j0 j1))
  have e : ((cfg0.win 5).blk t).view.emb (ix2 j0 j1) = ix2 (tok t j0) j1 := by
    funext a; apply Fin.ext
    match a with
    | ⟨0, _⟩ => show win0_5.index t (0 : Fin 2) * 512 + 1 * j0.val = 512 * t.val + j0.val; rw [index5]; omega
    | ⟨1, _⟩ => show 0 * 1024 + 1 * j1.val = j1.val; omega
  rw [e, pay_at]
  simp only [b0_at, b1_at, b2_at, b3_at, b4_at]
  rfl

theorem cover (i : S32768x1024.Idx) : ∃ t : Fin cfg0.N, (cfg0.win 5).flush t = true ∧ i ∈ ((cfg0.win 5).blk t).view.set := by
  have h0 : (i 0).val < 32768 := (i 0).isLt
  let t : Fin cfg0.N := ⟨(i 0).val / 512, by rw [show cfg0.N = 64 from N_0]; omega⟩
  refine ⟨t, flush0_5 t, ?_⟩
  have h := ((cfg0.win 5).blk t).view.emb_mem_set (ix2 (⟨(i 0).val % 512, Nat.mod_lt _ (by decide)⟩ : Fin 512) (⟨(i 1).val, (i 1).isLt⟩ : Fin 1024))
  have e : ((cfg0.win 5).blk t).view.emb (ix2 (⟨(i 0).val % 512, Nat.mod_lt _ (by decide)⟩ : Fin 512) (⟨(i 1).val, (i 1).isLt⟩ : Fin 1024)) = i := by
    funext a; apply Fin.ext
    match a with
    | ⟨0, _⟩ =>
      show win0_5.index t (0 : Fin 2) * 512 + 1 * ((i 0).val % 512) = (i 0).val
      rw [index5]
      show (i 0).val / 512 * 512 + 1 * ((i 0).val % 512) = (i 0).val
      omega
    | ⟨1, _⟩ => show 0 * 1024 + 1 * (i 1).val = (i 1).val; omega
  rw [e] at h
  exact h

theorem final_eq : (dats m 0 c).arrAt 5 cfg0.N = flat m c :=
  (dats m 0 c).arrAt_eq_of_cover 5 (flat m c) (fun t _ => flushed_eq m c t) cover

theorem tail_eq : Pipeline.afterTail₀ cfgs (dats m) 0 (V0 m) [hostOps1] c main_v6 = pleOf m c := by
  have e : Pipeline.afterTail₀ cfgs (dats m) 0 (V0 m) [hostOps1] c main_v6
      = shapeCast S8x4096x1024 ((dats m 0 c).arrAt 5 cfg0.N : S32768x1024.Idx → EReal) shapeCasts_S32768x1024_S8x4096x1024 := by
    unfold Pipeline.afterTail₀
    show StableHlo.after hostOps1 _ (Proc.devRef .tc main_v6) = _
    after_results
    exact congrArg (fun x : S32768x1024.Idx → EReal => shapeCast S8x4096x1024 x shapeCasts_S32768x1024_S8x4096x1024)
      (Pipeline.withArrays_arr (cfgs 0).spec (by decide) c (V0 m c) (fun w => (dats m 0 c).arrAt w cfg0.N) 5)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 1024 + j2.val = (j0.val * 4096 + j1.val) * 1024 + j2.val
    omega
  · refine congrArg (pleOf m c) ?_
    funext a; apply Fin.ext
    match a with
    | ⟨0, _⟩ => show (4096 * j0.val + j1.val) / 4096 = j0.val; omega
    | ⟨1, _⟩ => show (4096 * j0.val + j1.val) % 4096 = j1.val; omega
    | ⟨2, _⟩ => rfl

theorem run (ρ : Dev nD → PrngReg) : θ_run defs (onTc (τ := τ) (main (F := Ideal))) ⟨m, fun _ => 0, ρ⟩ fun r => ∀ c : Dev nD,
    r.2.mem ((c.tc : Thread nD τ).loc main_v6) = pleOf m c := by
  refine (θ_run defs _ _).mono (fun r h c => ?_) (run_main m ρ)
  exact ((h c).2 main_v6 (Pipeline.mem_restRefs_of main_v6 (by decide) (by decide))).trans (tail_eq m c)

end Cert.Kernel4Ideal.Ple

end

end
-- ==== Proof.ProjGates.lean ====
module
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.Kernel5Ideal.ProjGates

open Idealize.ShloMosaic Idealize.ShloMosaic.TcCoe Idealize.ShloMosaic.Tactic Cert.Kernel5Ideal Cert.Kernel5Ideal.Gen

/-! ## The projection, per token and column -/

/-- The reciprocal root mean square of a row. -/
def inv (a : Fin 1024 → EReal) : EReal :=
  Ideal.rsqrt (Ideal.div (∑ x, a x * a x) (Ideal.ofBits FTy.f32 0x44800000#32) + Ideal.ofBits FTy.f32 0x358637BD#32)

/-- A token's normed row: `x` over its root mean square, times the gain `g`. -/
def normed (x g : Fin 1024 → EReal) (k : Fin 1024) : EReal := x k * inv x * g k

/-- The product of the normed row with a column `w` of the weights. -/
def proj (x g w : Fin 1024 → EReal) : EReal := ∑ k, normed x g k * w k

variable (X : S8x4096x1024.Idx → EReal) (gn : S1024.Idx → EReal) (W : S1024x4576.Idx → EReal)

/-- The projection of token `s` of sequence `b` on column `n` of the weights. -/
def projAt (b : Fin 8) (s : Fin 4096) (n : Fin 4576) : EReal :=
  proj (fun k => X (ix3 b s k)) (fun k => gn (ix1 k)) (fun k => W (ix2 k n))

/-- Column `d` of the gates. -/
def gatesCol (d : Fin 2048) : Fin 4576 := ⟨2528 + d.val, by omega⟩

def gatesArr : S8x4096x2048.Idx → EReal := fun j => projAt X gn W (j 0) (j 1) (gatesCol (j 2))

/-! ## The reference -/

theorem ref_run (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩ fun r => ∀ c : Dev Cert.Reference5Ideal.nD,
      r.2.mem ((c.tc : Thread Cert.Reference5Ideal.nD Cert.Reference5Ideal.τ).loc Cert.Reference5Ideal.main_v22)
        = gatesArr (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) := by
  refine (θ_run Cert.Reference5Ideal.defs _ _).mono (fun r h c => (h c).1.trans ?_) (Cert.Reference5Ideal.Value.run (F := Ideal) m ρ)
  clear h
  funext j
  idx_vars j
  show _ = projAt _ _ _ j0 j1 (gatesCol j2)
  pointwise
  rfl

/-! ## What a point leaves -/

theorem hz : (![0, 0] : Fin 2 → Nat) = fun _ => 0 := funext fun a => by fin_cases a <;> rfl

theorem out_A (c : Dev nD) (i : grid0.Coords) (a2 : Memref sig .tc .vmem S512x1024 .f32) (h2 : a2.IsWhole) (a3 : Memref sig .tc .vmem S1x1024 .f32)
    (h3 : a3.IsWhole) (a4 : Memref sig .tc .vmem S1024x512 .bf16) (h4 : a4.IsWhole) (a5 : Memref sig .tc .vmem S512x512 .f32) (h5 : a5.IsWhole)
    (a6 : Memref sig .tc .vmem S512x1024 .bf16) (h6 : a6.IsWhole) (hc : cond0_0 i)
    (x : Vec Ideal S512x1024 .f32) (g : Vec Ideal S1x1024 .f32) (w : Vec Ideal S1024x512 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero (S := S512x512) hz]
  simp only [View.readAt_eq_ld, h2.read_unread, h3.read_unread, h4.read_unread, View.ld_unit_zero (S := S512x1024) hz,
    View.ld_unit_zero (S := S1x1024) hz, View.ld_unit_zero (S := S1024x512) hz, View.readCov_unit_zero (S := S512x1024) _ hz]

/-- The first point of a row block leaves the normed block in the scratch. -/
theorem sout_A (c : Dev nD) (i : grid0.Coords) (a2 : Memref sig .tc .vmem S512x1024 .f32) (h2 : a2.IsWhole) (a3 : Memref sig .tc .vmem S1x1024 .f32)
    (h3 : a3.IsWhole) (a4 : Memref sig .tc .vmem S1024x512 .bf16) (h4 : a4.IsWhole) (a5 : Memref sig .tc .vmem S512x512 .f32) (h5 : a5.IsWhole)
    (a6 : Memref sig .tc .vmem S512x1024 .bf16) (h6 : a6.IsWhole) (hc : cond0_0 i)
    (x : Vec Ideal S512x1024 .f32) (g : Vec Ideal S1x1024 .f32) (w : Vec Ideal S1024x512 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero (S := S512x1024) hz]
  simp only [View.readAt_eq_ld, h2.read_unread, h3.read_unread, View.ld_unit_zero (S := S512x1024) hz, View.ld_unit_zero (S := S1x1024) hz]

/-- A later point multiplies what the scratch holds. -/
theorem out_B (c : Dev nD) (i : grid0.Coords) (a2 : Memref sig .tc .vmem S512x1024 .f32) (h2 : a2.IsWhole) (a3 : Memref sig .tc .vmem S1x1024 .f32)
    (h3 : a3.IsWhole) (a4 : Memref sig .tc .vmem S1024x512 .bf16) (h4 : a4.IsWhole) (a5 : Memref sig .tc .vmem S512x512 .f32) (h5 : a5.IsWhole)
    (a6 : Memref sig .tc .vmem S512x1024 .bf16) (h6 : a6.IsWhole) (hc : ¬cond0_0 i)
    (x : Vec Ideal S512x1024 .f32) (g : Vec Ideal S1x1024 .f32) (w : Vec Ideal S1024x512 .bf16)
    (s : Vec Ideal S512x1024 .bf16) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero (S := S512x512) hz]
  simp only [View.readAt_eq_ld, h4.read_unread, h6.read_unread, View.ld_unit_zero (S := S512x1024) hz, View.ld_unit_zero (S := S1024x512) hz]

theorem pay1_at (x : Vec Ideal S512x1024 .f32) (g : Vec Ideal S1x1024 .f32) (r : Fin 512) (k : Fin 1024) :
    k0_pay1 x g (ix2 r k) = normed (fun k => x (ix2 r k)) (fun k => g (ix2 0 k)) k := by
  unfold k0_pay1
  pointwise
  rfl

theorem pay2_at (h : Vec Ideal S512x1024 .bf16) (w : Vec Ideal S1024x512 .bf16) (r : Fin 512) (d : Fin 512) :
    k0_pay2 h w (ix2 r d) = ∑ k : Fin 1024, h (ix2 r k) * w (ix2 k d) := by
  unfold k0_pay2
  pointwise

/-! ## The gathered columns -/

/-- The gather of columns at an index: the column its start index names. -/
theorem cols_at (x : S1024x4576.Idx → EReal) (I : S2048x1.Idx → BitVec 32) (k : Fin 1024) (n : Fin 2048) (hI : (I (ix2 n 0)).toNat < 4576) :
    Host.gather gather_S1024x4576_S2048x1_S1024x2048_0_1_n_n_1_1_10241 x I (ix2 k n) = x (ix2 k ⟨(I (ix2 n 0)).toNat, hI⟩) := by
  unfold Host.gather
  refine congrArg x (funext fun a => Fin.ext ?_)
  match a with
  | ⟨0, _⟩ =>
    show gather_S1024x4576_S2048x1_S1024x2048_0_1_n_n_1_1_10241.start (ix2 k n) I 0 + gather_S1024x4576_S2048x1_S1024x2048_0_1_n_n_1_1_10241.batchCoord (ix2 k n) 0
      + gather_S1024x4576_S2048x1_S1024x2048_0_1_n_n_1_1_10241.offCoord (ix2 k n) 0 = k.val
    rw [GatherDims.batchCoord_eq_zero _ _ _ List.not_mem_nil]
    unfold GatherDims.start
    rw [dif_neg (show (0 : Fin 2) ∉ gather_S1024x4576_S2048x1_S1024x2048_0_1_n_n_1_1_10241.startIndexMap by decide)]
    show 0 + 0 + k.val = k.val
    omega
  | ⟨1, _⟩ =>
    show gather_S1024x4576_S2048x1_S1024x2048_0_1_n_n_1_1_10241.start (ix2 k n) I 1 + gather_S1024x4576_S2048x1_S1024x2048_0_1_n_n_1_1_10241.batchCoord (ix2 k n) 1
      + gather_S1024x4576_S2048x1_S1024x2048_0_1_n_n_1_1_10241.offCoord (ix2 k n) 1 = (I (ix2 n 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x4576_S2048x1_S1024x2048_0_1_n_n_1_1_10241.startIndexMap from List.mem_singleton.mpr rfl)]
    have hsi : gather_S1024x4576_S2048x1_S1024x2048_0_1_n_n_1_1_10241.siIdx (ix2 k n)
        ⟨List.idxOf (1 : Fin 2) gather_S1024x4576_S2048x1_S1024x2048_0_1_n_n_1_1_10241.startIndexMap, List.idxOf_lt_length_iff.2 (List.mem_singleton.mpr rfl)⟩ = ix2 n 0 := by
      funext b; refine Fin.ext ?_
      match b with
      | ⟨0, _⟩ => rfl
      | ⟨1, _⟩ => rfl
    rw [hsi]
    show min (I (ix2 n 0)).toInt.toNat (4576 - 1) = (I (ix2 n 0)).toNat
    rw [BitVec.toInt_eq_toNat_of_lt (by omega)]
    omega

/-- The start indices, as the program prepares them: an index that is not negative is taken as it is. -/
def starts : S2048x1.Idx → BitVec 32 :=
  broadcastInDim S2048x1 ![0] bcast_S2048_S2048x1_0
    (select (constantI S2048 1 0#1) (addi (fun i => lit0 (S2048.rowMajor i)) (broadcastInDim S2048 ![] bcast_S_S2048 (constantI S_ 32 4576#32)))
      (fun i => lit0 (S2048.rowMajor i)))

theorem starts_at (n : Fin 2048) : starts (ix2 n 0) = lit0 n := by
  have e : starts (ix2 n 0) = lit0 (S2048.rowMajor (ix1 n)) := by
    unfold starts
    pointwise
  rw [e]
  refine congrArg lit0 (Fin.ext ?_)
  rw [Shape.rowMajor_val_one]
  rfl

theorem lit0_at : ∀ i : Fin 2048, (lit0 i).toNat = 2528 + i.val := by decide +kernel

/-! ## What the region finds -/

variable (m : (ℓ : Loc nD τ sig) → Buf (Elt Ideal) ℓ) (c : Dev nD)

/-- Token `t` of the flattened batch: its sequence and its place in it. -/
def bt (t : Fin 32768) : Fin 8 := ⟨t.val / 4096, by omega⟩
def sq (t : Fin 32768) : Fin 4096 := ⟨t.val % 4096, by omega⟩

theorem Vx_at (t : Fin 32768) (d : Fin 1024) : V m c main_v0 (ix2 t d) = m ((c : Thread nD τ).loc main_arg0) (ix3 (bt t) (sq t) d) := by
  have e : V m c main_v0 = shapeCast S32768x1024 (m ((c : Thread nD τ).loc main_arg0) : S8x4096x1024.Idx → EReal) shapeCasts_S8x4096x1024_S32768x1024 := by
    show StableHlo.after hostOps0 (fun b => m (c, b)) (Proc.devRef .tc main_v0) = _
    after_results
    rfl
  rw [e]
  refine shapeCast_apply _ _ _ _ ?_
  show (S8x4096x1024.rowMajor (ix3 (bt t) (sq t) d)).val = (S32768x1024.rowMajor (ix2 t d)).val
  rw [Shape.rowMajor_val_three, Shape.rowMajor_val_two]
  show (t.val / 4096 * 4096 + t.val % 4096) * 1024 + d.val = t.val * 1024 + d.val
  omega

theorem Vg_at (d : Fin 1024) : V m c main_v7 (ix2 0 d) = m ((c : Thread nD τ).loc main_arg1) (ix1 d) := by
  have e : V m c main_v7 = shapeCast S1x1024 (m ((c : Thread nD τ).loc main_arg1) : S1024.Idx → EReal) shapeCasts_S1024_S1x1024 := by
    show StableHlo.after hostOps0 (fun b => m (c, b)) (Proc.devRef .tc main_v7) = _
    after_results
    rfl
  rw [e]
  refine shapeCast_apply _ _ _ _ ?_
  show (S1024.rowMajor (ix1 d)).val = (S1x1024.rowMajor (ix2 0 d)).val
  rw [Shape.rowMajor_val_two, Shape.rowMajor_val_one]
  show d.val = 0 * 1024 + d.val
  omega

theorem Vw_at (k : Fin 1024) (d : Fin 2048) : V m c main_v6 (ix2 k d) = m ((c : Thread nD τ).loc main_arg2) (ix2 k (gatesCol d)) := by
  have e : V m c main_v6 = Host.gather gather_S1024x4576_S2048x1_S1024x2048_0_1_n_n_1_1_10241 (m ((c : Thread nD τ).loc main_arg2) : S1024x4576.Idx → EReal) starts := by
    show StableHlo.after hostOps0 (fun b => m (c, b)) (Proc.devRef .tc main_v6) = _
    after_results
    rfl
  have h : (starts (ix2 d 0)).toNat = 2528 + d.val := by rw [starts_at, lit0_at]
  rw [e, cols_at _ _ k d (by omega)]
  refine congrArg (m ((c : Thread nD τ).loc main_arg2)) ?_
  funext a; apply Fin.ext
  match a with
  | ⟨0, _⟩ => rfl
  | ⟨1, _⟩ => exact h

/-! ## The blocks of a point -/

theorem index0 : ∀ t : Fin cfg0.N, win0_0.index t (0 : Fin 2) = t.val / 4 := by decide +kernel
theorem index2 : ∀ t : Fin cfg0.N, win0_2.index t (1 : Fin 2) = t.val % 4 := by decide +kernel
theorem index3 : ∀ t : Fin cfg0.N, win0_3.index t (0 : Fin 2) = t.val / 4 ∧ win0_3.index t (1 : Fin 2) = t.val % 4 := by decide +kernel

theorem lt_N (t : Fin cfg0.N) : t.val < 256 := lt_of_lt_of_eq t.isLt N_0

/-- The token in row `r` of the block of rows of the point at position `n`. -/
def tok (n : ℕ) (h : n < cfg0.N) (r : Fin 512) : Fin 32768 := ⟨512 * (n / 4) + r.val, by have := lt_N ⟨n, h⟩; have := r.isLt; dsimp only at *; omega⟩

/-- The column at place `d` of the block of columns of point `t`. -/
def col (t : Fin cfg0.N) (d : Fin 512) : Fin 2048 := ⟨512 * (t.val % 4) + d.val, by omega⟩

theorem b0_at (t : Fin cfg0.N) (r : Fin 512) (d : Fin 1024) :
    iblk m c 0 t (ix2 r d) = m ((c : Thread nD τ).loc main_arg0) (ix3 (bt (tok t.val t.isLt r)) (sq (tok t.val t.isLt r)) d) := by
  show V m c main_v0 (((cfg0.win 0).blk t).view.emb (ix2 r d)) = _
  refine (congrArg (V m c main_v0) ?_).trans (Vx_at m c (tok t.val t.isLt r) d)
  funext a; apply Fin.ext
  match a with
  | ⟨0, _⟩ => show win0_0.index t (0 : Fin 2) * 512 + 1 * r.val = 512 * (t.val / 4) + r.val; rw [index0]; omega
  | ⟨1, _⟩ => show 0 * 1024 + 1 * d.val = d.val; omega

theorem b1_at (t : Fin cfg0.N) (d : Fin 1024) : iblk m c 1 t (ix2 0 d) = m ((c : Thread nD τ).loc main_arg1) (ix1 d) := by
  show V m c main_v7 (((cfg0.win 1).blk t).view.emb (ix2 0 d)) = _
  refine (congrArg (V m c main_v7) ?_).trans (Vg_at m c d)
  funext a; apply Fin.ext
  match a with
  | ⟨0, _⟩ => show 0 * 1 + 1 * 0 = 0; omega
  | ⟨1, _⟩ => show 0 * 1024 + 1 * d.val = d.val; omega

theorem b2_at (t : Fin cfg0.N) (k : Fin 1024) (d : Fin 512) : iblk m c 2 t (ix2 k d) = V m c main_v6 (ix2 k (col t d)) := by
  show V m c main_v6 (((cfg0.win 2).blk t).view.emb (ix2 k d)) = _
  refine congrArg (V m c main_v6) ?_
  funext a; apply Fin.ext
  match a with
  | ⟨0, _⟩ => show 0 * 1024 + 1 * k.val = k.val; omega
  | ⟨1, _⟩ => show win0_2.index t (1 : Fin 2) * 512 + 1 * d.val = 512 * (t.val % 4) + d.val; rw [index2]; omega

/-! ## The scratch across points -/

/-- The normed row of token `t`. -/
def normedOf (t : Fin 32768) : Fin 1024 → EReal :=
  normed (fun k => m ((c : Thread nD τ).loc main_arg0) (ix3 (bt t) (sq t) k)) (fun k => m ((c : Thread nD τ).loc main_arg1) (ix1 k))

theorem norm_at (t : Fin cfg0.N) (r : Fin 512) (k : Fin 1024) :
    k0_pay1 (iblk m c 0 t) (iblk m c 1 t) (ix2 r k) = normedOf m c (tok t.val t.isLt r) k := by
  rw [pay1_at]
  simp only [b0_at, b1_at]
  rfl

/-- After each point the scratch holds the normed rows of the point's block of rows: the first point of the block writes
    them, and the later ones keep them. -/
theorem scratch_at : ∀ (n : ℕ) (h : n < cfg0.N) (r : Fin 512) (k : Fin 1024), (outsAt0 m c n h).2 (ix2 r k) = normedOf m c (tok n h r) k := by
  intro n
  induction n with
  | zero =>
    intro h r k
    have e := congrArg Prod.snd (outsAt0_A m c ⟨0, h⟩ (Nat.zero_mod _))
    dsimp only at e
    rw [e, sout_A, norm_at]
  | succ n ih =>
    intro h r k
    by_cases h0 : (n + 1) % 4 = 0
    · have e := congrArg Prod.snd (outsAt0_A m c ⟨n + 1, h⟩ h0)
      dsimp only at e
      rw [e, sout_A, norm_at]
    · have e := congrArg Prod.snd (outsAt0_B m c ⟨n + 1, h⟩ h0)
      dsimp only at e
      rw [e]
      refine (ih _ r k).trans (congrArg (fun t => normedOf m c t k) (Fin.ext ?_))
      show 512 * (n / 4) + r.val = 512 * ((n + 1) / 4) + r.val
      omega

/-- What a point leaves in the output's block. -/
theorem out_at (t : Fin cfg0.N) (r d : Fin 512) :
    (outsAt0 m c t.val t.isLt).1 (ix2 r d) = ∑ k : Fin 1024, normedOf m c (tok t.val t.isLt r) k * V m c main_v6 (ix2 k (col t d)) := by
  by_cases h0 : t.val % 4 = 0
  · rw [outsAt0_A m c t h0]
    dsimp only
    rw [out_A, pay2_at]
    simp only [norm_at, b2_at]
  · have hp : t.val - 1 < cfg0.N := Nat.lt_of_le_of_lt (Nat.sub_le _ _) t.isLt
    have et : tok (t.val - 1) hp r = tok t.val t.isLt r := by
      apply Fin.ext
      show 512 * ((t.val - 1) / 4) + r.val = 512 * (t.val / 4) + r.val
      omega
    rw [outsAt0_B m c t h0]
    dsimp only
    rw [out_B, pay2_at]
    simp only [scratch_at, b2_at, et]

/-! ## The output of the region -/

def flat : S32768x2048.Idx → EReal := fun j => ∑ k : Fin 1024, normedOf m c (j 0) k * V m c main_v6 (ix2 k (j 1))

theorem flushed_eq (t : Fin cfg0.N) :
    (dats m 0 c).flushed 3 t = ((cfg0.win 3).blk t).view.read (Elt Ideal) (flat m c) := by
  show (cfg0.win 3).cut (grid0.coords t) ((dats m 0 c).after 3 t) = _
  rw [after0_3]
  funext j
  idx_vars j
  show (outsAt0 m c t.val t.isLt).1 (ix2 j0 j1) = flat m c (((cfg0.win 3).blk t).view.emb (ix2 j0 j1))
  have e : ((cfg0.win 3).blk t).view.emb (ix2 j0 j1) = ix2 (tok t.val t.isLt j0) (col t j1) := by
    funext a; apply Fin.ext
    match a with
    | ⟨0, _⟩ => show win0_3.index t (0 : Fin 2) * 512 + 1 * j0.val = 512 * (t.val / 4) + j0.val; rw [(index3 t).1]; omega
    | ⟨1, _⟩ => show win0_3.index t (1 : Fin 2) * 512 + 1 * j1.val = 512 * (t.val % 4) + j1.val; rw [(index3 t).2]; omega
  rw [e, out_at]
  rfl

theorem cover (i : S32768x2048.Idx) : ∃ t : Fin cfg0.N, (cfg0.win 3).flush t = true ∧ i ∈ ((cfg0.win 3).blk t).view.set := by
  have h0 : (i 0).val < 32768 := (i 0).isLt
  have h1 : (i 1).val < 2048 := (i 1).isLt
  let t : Fin cfg0.N := ⟨(i 0).val / 512 * 4 + (i 1).val / 512, by rw [show cfg0.N = 256 from N_0]; omega⟩
  refine ⟨t, flush0_3 t, ?_⟩
  have h := ((cfg0.win 3).blk t).view.emb_mem_set (ix2 (⟨(i 0).val % 512, Nat.mod_lt _ (by decide)⟩ : Fin 512) (⟨(i 1).val % 512, Nat.mod_lt _ (by decide)⟩ : Fin 512))
  have e : ((cfg0.win 3).blk t).view.emb (ix2 (⟨(i 0).val % 512, Nat.mod_lt _ (by decide)⟩ : Fin 512) (⟨(i 1).val % 512, Nat.mod_lt _ (by decide)⟩ : Fin 512)) = i := by
    funext a; apply Fin.ext
    match a with
    | ⟨0, _⟩ =>
      show win0_3.index t (0 : Fin 2) * 512 + 1 * ((i 0).val % 512) = (i 0).val
      rw [(index3 t).1]
      show ((i 0).val / 512 * 4 + (i 1).val / 512) / 4 * 512 + 1 * ((i 0).val % 512) = (i 0).val
      omega
    | ⟨1, _⟩ =>
      show win0_3.index t (1 : Fin 2) * 512 + 1 * ((i 1).val % 512) = (i 1).val
      rw [(index3 t).2]
      show ((i 0).val / 512 * 4 + (i 1).val / 512) % 4 * 512 + 1 * ((i 1).val % 512) = (i 1).val
      omega
  rw [e] at h
  exact h

theorem final_eq : (dats m 0 c).arrAt 3 cfg0.N = flat m c :=
  (dats m 0 c).arrAt_eq_of_cover 3 (flat m c) (fun t _ => flushed_eq m c t) cover

/-- The region's output at a token and column. -/
theorem flat_at (b : Fin 8) (s : Fin 4096) (n : Fin 2048) (w : Fin 4576)
    (hw : ∀ k : Fin 1024, V m c main_v6 (ix2 k n) = m ((c : Thread nD τ).loc main_arg2) (ix2 k w)) :
    flat m c (ix2 (⟨4096 * b.val + s.val, by omega⟩ : Fin 32768) n)
      = projAt (m ((c : Thread nD τ).loc main_arg0)) (m ((c : Thread nD τ).loc main_arg1)) (m ((c : Thread nD τ).loc main_arg2)) b s w := by
  have eb : bt ⟨4096 * b.val + s.val, by omega⟩ = b := Fin.ext (by show (4096 * b.val + s.val) / 4096 = b.val; omega)
  have es : sq ⟨4096 * b.val + s.val, by omega⟩ = s := Fin.ext (by show (4096 * b.val + s.val) % 4096 = s.val; omega)
  show ∑ k : Fin 1024, normedOf m c (⟨4096 * b.val + s.val, by omega⟩ : Fin 32768) k * V m c main_v6 (ix2 k n) = _
  unfold projAt proj normedOf
  refine Finset.sum_congr rfl fun k _ => ?_
  rw [hw, eb, es]

/-! ## The result -/

/-- The gates of the arguments. -/
def gatesOf : S8x4096x2048.Idx → EReal :=
  gatesArr (m ((c : Thread nD τ).loc main_arg0)) (m ((c : Thread nD τ).loc main_arg1)) (m ((c : Thread nD τ).loc main_arg2))

theorem tail_eq : Pipeline.afterTail₀ cfgs (dats m) 0 (V0 m) [hostOps1] c main_v9 = gatesOf m c := by
  have e : Pipeline.afterTail₀ cfgs (dats m) 0 (V0 m) [hostOps1] c main_v9
      = shapeCast S8x4096x2048 ((dats m 0 c).arrAt 3 cfg0.N : S32768x2048.Idx → EReal) shapeCasts_S32768x2048_S8x4096x2048 := by
    unfold Pipeline.afterTail₀
    show StableHlo.after hostOps1 _ (Proc.devRef .tc main_v9) = _
    after_results
    exact congrArg (fun x : S32768x2048.Idx → EReal => shapeCast S8x4096x2048 x shapeCasts_S32768x2048_S8x4096x2048)
      (Pipeline.withArrays_arr (cfgs 0).spec (by decide) c (V0 m c) (fun w => (dats m 0 c).arrAt w cfg0.N) 3)
  rw [e, final_eq]
  funext j
  idx_vars j
  refine (shapeCast_apply _ _ _ (ix2 (⟨4096 * j0.val + j1.val, by omega⟩ : Fin 32768) j2) ?_).trans ?_
  · rw [Shape.rowMajor_val_three, Shape.rowMajor_val_two]
    show (4096 * j0.val + j1.val) * 2048 + j2.val = (j0.val * 4096 + j1.val) * 2048 + j2.val
    omega
  · exact flat_at m c j0 j1 j2 (gatesCol j2) (fun k => Vw_at m c k j2)

theorem run (ρ : Dev nD → PrngReg) : θ_run defs (onTc (τ := τ) (main (F := Ideal))) ⟨m, fun _ => 0, ρ⟩ fun r => ∀ c : Dev nD,
    r.2.mem ((c.tc : Thread nD τ).loc main_v9) = gatesOf m c := by
  refine (θ_run defs _ _).mono (fun r h c => ?_) (run_main m ρ)
  exact ((h c).2 main_v9 (Pipeline.mem_restRefs_of main_v9 (by decide) (by decide))).trans (tail_eq m c)

end Cert.Kernel5Ideal.ProjGates

end

end
-- ==== Proof.Cmp.lean ====
module
public import proofs.«01_k».proof.Proof.Gen.Kernel7Ideal
public import proofs.«01_k».proof.Proof.Gen.Kernel7Ideal.Frame
public import Idealize.ShloMosaic.Lib.Pipeline.Value
public import Idealize.ShloMosaic.Lib.ValueIdxRank6
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select
public import Idealize.ShloMosaic.Lib.Pointwise.Sums

@[expose] public section

set_option maxRecDepth 16384

noncomputable section

namespace Cert.Kernel7Ideal.Cmp

open Idealize.ShloMosaic Idealize.ShloMosaic.TcCoe Idealize.ShloMosaic.Tactic Cert.Kernel7Ideal Cert.Kernel7Ideal.Gen

/-! ## A compressed block -/

/-- The activation between the two products, in its hyperbolic tangent form. -/
def act (x : EReal) : EReal :=
  x * (Ideal.ofBits FTy.f32 0x3F000000#32 * (1
    + Ideal.tanh (Ideal.ofBits FTy.f32 0x3F4C422A#32 * (x + Ideal.ofBits FTy.f32 0x3D372713#32 * (x * (x * x))))))

/-- One column of a flattened block through the two products. -/
def mlp (x : Fin 2048 → EReal) (w1 : Fin 2048 → Fin 256 → EReal) (w2 : Fin 256 → EReal) : EReal :=
  ∑ h, act (∑ k, x k * w1 k h) * w2 h

variable (kv : S8x4096x256.Idx → EReal) (pe : S2x32x64.Idx → EReal) (w1 : S2x2048x256.Idx → EReal) (w2 : S2x256x64.Idx → EReal)

/-- Element `k` of a flattened block of the values: token `16 n + k / 64`, column `k % 64` of its group, the place in the
    block added. -/
def elt (b : Fin 8) (n : Fin 255) (g : Fin 2) (k : Fin 2048) : EReal :=
  kv (ix3 b (⟨16 * n.val + k.val / 64, by omega⟩ : Fin 4096) (⟨128 + 64 * g.val + k.val % 64, by omega⟩ : Fin 256))
    + pe (ix3 (1 : Fin 2) (⟨k.val / 64, by omega⟩ : Fin 32) (⟨k.val % 64, by omega⟩ : Fin 64))

def cmpAt (b : Fin 8) (n : Fin 255) (g : Fin 2) (d : Fin 64) : EReal :=
  mlp (elt kv pe b n g) (fun k h => w1 (ix3 (1 : Fin 2) k h)) (fun h => w2 (ix3 (1 : Fin 2) h d))

def cmpArr : S8x255x2x64.Idx → EReal := fun j => cmpAt kv pe w1 w2 (j 0) (j 1) (j 2) (j 3)

/-! ## The kernel's block -/

theorem pay11_at (x : Vec Ideal S1x1x1x256x2048 .f32) (p : Vec Ideal S1x1x2048 .f32) (u : Vec Ideal S1x2048x256 .bf16) (v : Vec Ideal S1x256x64 .bf16)
    (r : Fin 256) (d : Fin 64) :
    k0_pay11 x p u v (ix2 r d) = mlp (fun k => x (ix5 0 0 0 r k) + p (ix3 0 0 k)) (fun k h => u (ix3 0 k h)) (fun h => v (ix3 0 h d)) := by
  unfold k0_pay11
  pointwise
  rfl

theorem pay1_lo (a : Vec Ideal S256x64 .f32) (y : Vec Ideal S256x2048 .f32) (p : Vec Ideal S1x1x2048 .f32) (u : Vec Ideal S1x2048x256 .bf16) (v : Vec Ideal S1x256x64 .bf16)
    (r : Fin 256) (l : Fin 128) (d : Fin 64) (h : l.val = d.val) : k0_pay1 a y p u v (ix2 r l) = a (ix2 r d) := by
  unfold k0_pay1
  exact concatenate_pair_apply_left (s₁ := S256x64) (s₂ := S256x64) (t := S256x128) 1 _ _ _ _ rfl (ix2 r d) (fun b => by fin_cases b; exacts [rfl, h.symm])

/-- The second half of the concatenation is the first's computation on the other group. -/
theorem pay1_hi (a : Vec Ideal S256x64 .f32) (x : Vec Ideal S1x1x1x256x2048 .f32) (p : Vec Ideal S1x1x2048 .f32) (u : Vec Ideal S1x2048x256 .bf16) (v : Vec Ideal S1x256x64 .bf16)
    (r : Fin 256) (l : Fin 128) (d : Fin 64) (h : d.val + 64 = l.val) : k0_pay1 a (k0_pay12 x) p u v (ix2 r l) = k0_pay11 x p u v (ix2 r d) := by
  unfold k0_pay1 k0_pay12 k0_pay11
  exact concatenate_pair_apply_right (s₁ := S256x64) (s₂ := S256x64) (t := S256x128) 1 _ _ _ _ rfl rfl (ix2 r d)
      (fun b hb => by fin_cases b; exacts [rfl, absurd rfl hb]) h

theorem pay3_at (a : Vec Ideal S256x64 .f32) (y : Vec Ideal S256x2048 .f32) (p : Vec Ideal S1x1x2048 .f32) (u : Vec Ideal S1x2048x256 .bf16) (v : Vec Ideal S1x256x64 .bf16)
    (r : Fin 256) (l : Fin 128) : k0_pay3 a y p u v (ix4 0 0 r l) = k0_pay1 a y p u v (ix2 r l) := by
  unfold k0_pay3
  refine shapeCast_apply _ _ _ _ ?_
  show (S256x128.rowMajor (ix2 r l)).val = (S1x1x256x128.rowMajor (ix4 0 0 r l)).val
  rw [Shape.rowMajor_val_two, Shape.rowMajor_val_four]
  show r.val * 128 + l.val = ((0 * 1 + 0) * 256 + r.val) * 128 + l.val
  omega

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A group's rows of the input block. -/
def grp (x : Vec Ideal S1x1x2x256x2048 .f32) (g : Fin 2) : Vec Ideal S1x1x1x256x2048 .f32 := fun j => x (ix5 0 0 g (j 3) (j 4))

theorem out_B (c : Dev nD) (i : grid0.Coords) (a2 : Memref sig .tc .vmem S1x1x2x256x2048 .f32) (h2 : a2.IsWhole) (a3 : Memref sig .tc .vmem S1x1x2048 .f32) (h3 : a3.IsWhole)
    (a4 : Memref sig .tc .vmem S1x2048x256 .bf16) (h4 : a4.IsWhole) (a5 : Memref sig .tc .vmem S1x256x64 .bf16) (h5 : a5.IsWhole)
    (a6 : Memref sig .tc .vmem S1x256x1 .i32) (h6 : a6.IsWhole) (a7 : Memref sig .tc .vmem S2x128 .f32) (h7 : a7.IsWhole)
    (a8 : Memref sig .tc .vmem S1x128 .f32) (h8 : a8.IsWhole) (a9 : Memref sig .tc .vmem S128x128 .bf16) (h9 : a9.IsWhole)
    (a10 : Memref sig .tc .vmem S1x1x256x128 .f32) (h10 : a10.IsWhole) (hc : ¬cond0_0 i) (hc' : cond0_1 i)
    (x0 : Vec Ideal S1x1x2x256x2048 .f32) (x1 : Vec Ideal S1x1x2048 .f32) (x2 : Vec Ideal S1x2048x256 .bf16) (x3 : Vec Ideal S1x256x64 .bf16)
    (x4 : Vec Ideal S1x256x1 .i32) (x5 : Vec Ideal S2x128 .f32) (x6 : Vec Ideal S1x128 .f32) (x7 : Vec Ideal S128x128 .bf16) :
    out0_B_8 c i a2 h2 a3 h3 a4 h4 a5 h5 a6 h6 a7 h7 a8 h8 a9 h9 a10 h10 hc hc' x0 x1 x2 x3 x4 x5 x6 x7
      = k0_pay3 (k0_pay11 (grp x0 0) x1 x2 x3) (k0_pay12 (grp x0 1)) x1 x2 x3 := by
  unfold out0_B_8
  rw [View.read_writes_eq_canon _ _ _ (cover0_B_8 c i a2 h2 a3 h3 a4 h4 a5 h5 a6 h6 a7 h7 a8 h8 a9 h9 a10 h10 hc hc' x0 x1 x2 x3 x4 x5 x6 x7)]
  unfold kernelRun0_B
  dsimp only
  sl_unfold_words
  rw [View.canon_unit_zero (S := S1x1x256x128) hz4]
  simp only [View.readAt_eq_ld, h2.read_unread, h3.read_unread, h4.read_unread, h5.read_unread, View.ld_unit_zero (S := S1x1x2048) hz3,
    View.ld_unit_zero (S := S1x2048x256) hz3, View.ld_unit_zero (S := S1x256x64) hz3]
  have e0 : View.ld (Val := Elt Ideal) (e' := .f32) x0 (Rect.unit (s := S1x1x2x256x2048) ![0, 0, 0, 0, 0] S1x1x1x256x2048.size inb_S1x1x2x256x2048_S1x1x1x256x2048_0_0_0_0_0) = grp x0 0 := by
    funext j
    refine congrArg x0 (funext fun a => Fin.ext ?_)
    have h0 : (j 0).val < 1 := (j 0).isLt
    have h1 : (j 1).val < 1 := (j 1).isLt
    have h2 : (j 2).val < 1 := (j 2).isLt
    match a with
    | ⟨0, _⟩ => show 0 + 1 * (j 0).val = 0; omega
    | ⟨1, _⟩ => show 0 + 1 * (j 1).val = 0; omega
    | ⟨2, _⟩ => show 0 + 1 * (j 2).val = 0; omega
    | ⟨3, _⟩ => show 0 + 1 * (j 3).val = (j 3).val; omega
    | ⟨4, _⟩ => show 0 + 1 * (j 4).val = (j 4).val; omega
  have e1 : View.ld (Val := Elt Ideal) (e' := .f32) x0 (Rect.unit (s := S1x1x2x256x2048) ![0, 0, 1, 0, 0] S1x1x1x256x2048.size inb_S1x1x2x256x2048_S1x1x1x256x2048_0_0_1_0_0) = grp x0 1 := by
    funext j
    refine congrArg x0 (funext fun a => Fin.ext ?_)
    have h0 : (j 0).val < 1 := (j 0).isLt
    have h1 : (j 1).val < 1 := (j 1).isLt
    have h2 : (j 2).val < 1 := (j 2).isLt
    match a with
    | ⟨0, _⟩ => show 0 + 1 * (j 0).val = 0; omega
    | ⟨1, _⟩ => show 0 + 1 * (j 1).val = 0; omega
    | ⟨2, _⟩ => show 1 + 1 * (j 2).val = 1; omega
    | ⟨3, _⟩ => show 0 + 1 * (j 3).val = (j 3).val; omega
    | ⟨4, _⟩ => show 0 + 1 * (j 4).val = (j 4).val; omega
  rw [e0, e1]

/-- A group's column of the block. -/
theorem pay_at (x0 : Vec Ideal S1x1x2x256x2048 .f32) (x1 : Vec Ideal S1x1x2048 .f32) (x2 : Vec Ideal S1x2048x256 .bf16) (x3 : Vec Ideal S1x256x64 .bf16)
    (r : Fin 256) (g : Fin 2) (d : Fin 64) :
    k0_pay3 (k0_pay11 (grp x0 0) x1 x2 x3) (k0_pay12 (grp x0 1)) x1 x2 x3 (ix4 0 0 r (⟨64 * g.val + d.val, by omega⟩ : Fin 128))
      = mlp (fun k => x0 (ix5 0 0 g r k) + x1 (ix3 0 0 k)) (fun k h => x2 (ix3 0 k h)) (fun h => x3 (ix3 0 h d)) := by
  rw [pay3_at]
  match g with
  | ⟨0, _⟩ => rw [pay1_lo _ _ _ _ _ r _ d (by show 64 * 0 + d.val = d.val; omega), pay11_at]; rfl
  | ⟨1, _⟩ => rw [pay1_hi _ _ _ _ _ r _ d (by show d.val + 64 = 64 * 1 + d.val; omega), pay11_at]; rfl

/-! ## What the region finds -/

variable (m : (ℓ : Loc nD τ sig) → Buf (Elt Ideal) ℓ) (c : Dev nD)

/-- The tokens in chunks of sixteen, the keys' and the values' columns and their groups apart. -/
def chunks : S2x8x2x256x1024.Idx → EReal :=
  shapeCast S2x8x2x256x1024 (transpose S2x8x2x256x16x64 [3, 0, 4, 1, 2, 5] (shapeCast S8x256x16x2x2x64 (m ((c : Thread nD τ).loc main_arg0) : S8x4096x256.Idx → EReal)
    shapeCasts_S8x4096x256_S8x256x16x2x2x64) transposes_S8x256x16x2x2x64_S2x8x2x256x16x64_3_0_4_1_2_5) shapeCasts_S2x8x2x256x16x64_S2x8x2x256x1024

theorem chunks_at (w : Fin 2) (b : Fin 8) (g : Fin 2) (q : Fin 256) (k : Fin 1024) :
    chunks m c (ix5 w b g q k) = m ((c : Thread nD τ).loc main_arg0)
      (ix3 b (⟨16 * q.val + k.val / 64, by omega⟩ : Fin 4096) (⟨128 * w.val + 64 * g.val + k.val % 64, by omega⟩ : Fin 256)) := by
  unfold chunks
  let s : Fin 16 := ⟨k.val / 64, by omega⟩
  let d : Fin 64 := ⟨k.val % 64, by omega⟩
  refine (shapeCast_apply _ _ _ (ix6 w b g q s d) ?_).trans ?_
  · rw [Shape.rowMajor_val_six, Shape.rowMajor_val_five]
    show ((((w.val * 8 + b.val) * 2 + g.val) * 256 + q.val) * 16 + k.val / 64) * 64 + k.val % 64 = (((w.val * 8 + b.val) * 2 + g.val) * 256 + q.val) * 1024 + k.val
    omega
  refine (transpose_apply [3, 0, 4, 1, 2, 5] _ transposes_S8x256x16x2x2x64_S2x8x2x256x16x64_3_0_4_1_2_5 _ (ix6 b q s w g d) (fun a => match a with
    | ⟨0, _⟩ => rfl
    | ⟨1, _⟩ => rfl
    | ⟨2, _⟩ => rfl
    | ⟨3, _⟩ => rfl
    | ⟨4, _⟩ => rfl
    | ⟨5, _⟩ => rfl)).trans ?_
  refine shapeCast_apply _ _ _ _ ?_
  show (S8x4096x256.rowMajor (ix3 b (⟨16 * q.val + k.val / 64, by omega⟩ : Fin 4096) (⟨128 * w.val + 64 * g.val + k.val % 64, by omega⟩ : Fin 256))).val
    = (S8x256x16x2x2x64.rowMajor (ix6 b q s w g d)).val
  rw [Shape.rowMajor_val_six, Shape.rowMajor_val_three]
  show (b.val * 4096 + (16 * q.val + k.val / 64)) * 256 + (128 * w.val + 64 * g.val + k.val % 64)
    = ((((b.val * 256 + q.val) * 16 + k.val / 64) * 2 + w.val) * 2 + g.val) * 64 + k.val % 64
  omega

/-- Each chunk with the next one. -/
def pairs : S2x8x2x255x2048.Idx → EReal :=
  concatenate S2x8x2x255x2048 4 [⟨S2x8x2x255x1024, extractStridedSlice S2x8x2x255x1024 ![0, 0, 0, 0, 0] (chunks m c) slices_S2x8x2x256x1024_S2x8x2x255x1024_0_0_0_0_0⟩,
    ⟨S2x8x2x255x1024, extractStridedSlice S2x8x2x255x1024 ![0, 0, 0, 1, 0] (chunks m c) slices_S2x8x2x256x1024_S2x8x2x255x1024_0_0_0_1_0⟩]
    concatenates_S2x8x2x255x1024_S2x8x2x255x1024_S2x8x2x255x2048_d4

theorem pairs_at (w : Fin 2) (b : Fin 8) (g : Fin 2) (n : Fin 255) (k : Fin 2048) :
    pairs m c (ix5 w b g n k) = m ((c : Thread nD τ).loc main_arg0)
      (ix3 b (⟨16 * n.val + k.val / 64, by omega⟩ : Fin 4096) (⟨128 * w.val + 64 * g.val + k.val % 64, by omega⟩ : Fin 256)) := by
  unfold pairs
  by_cases hk : k.val < 1024
  · refine (concatenate_pair_apply_left (s₁ := S2x8x2x255x1024) (s₂ := S2x8x2x255x1024) (t := S2x8x2x255x2048) 4 _ _ _ _ rfl (ix5 w b g n (⟨k.val, hk⟩ : Fin 1024))
      (fun a => by fin_cases a <;> rfl)).trans ?_
    refine (extractStridedSlice_apply _ _ _ _ (ix5 w b g (⟨n.val, by omega⟩ : Fin 256) (⟨k.val, hk⟩ : Fin 1024)) (fun a => match a with
      | ⟨0, _⟩ => by show w.val = 0 + w.val; omega
      | ⟨1, _⟩ => by show b.val = 0 + b.val; omega
      | ⟨2, _⟩ => by show g.val = 0 + g.val; omega
      | ⟨3, _⟩ => by show n.val = 0 + n.val; omega
      | ⟨4, _⟩ => by show k.val = 0 + k.val; omega)).trans ?_
    exact chunks_at m c w b g _ _
  · refine (concatenate_pair_apply_right (s₁ := S2x8x2x255x1024) (s₂ := S2x8x2x255x1024) (t := S2x8x2x255x2048) 4 _ _ _ _ rfl rfl (ix5 w b g n (⟨k.val - 1024, by omega⟩ : Fin 1024))
      (fun a ha => by fin_cases a; exacts [rfl, rfl, rfl, rfl, absurd rfl ha]) (by show k.val - 1024 + 1024 = k.val; omega)).trans ?_
    refine (extractStridedSlice_apply _ _ _ _ (ix5 w b g (⟨1 + n.val, by omega⟩ : Fin 256) (⟨k.val - 1024, by omega⟩ : Fin 1024)) (fun a => match a with
      | ⟨0, _⟩ => by show w.val = 0 + w.val; omega
      | ⟨1, _⟩ => by show b.val = 0 + b.val; omega
      | ⟨2, _⟩ => by show g.val = 0 + g.val; omega
      | ⟨3, _⟩ => by show 1 + n.val = 1 + n.val; omega
      | ⟨4, _⟩ => by show k.val - 1024 = 0 + (k.val - 1024); omega)).trans ?_
    refine (chunks_at m c w b g _ _).trans (congrArg (m ((c : Thread nD τ).loc main_arg0)) (funext fun a => Fin.ext ?_))
    match a with
    | ⟨0, _⟩ => rfl
    | ⟨1, _⟩ => show 16 * (1 + n.val) + (k.val - 1024) / 64 = 16 * n.val + k.val / 64; omega
    | ⟨2, _⟩ => show 128 * w.val + 64 * g.val + (k.val - 1024) % 64 = 128 * w.val + 64 * g.val + k.val % 64; omega

theorem V6_at (w : Fin 2) (b : Fin 8) (g : Fin 2) (n : Fin 256) (hn : n.val < 255) (k : Fin 2048) :
    V m c main_v6 (ix5 w b g n k) = m ((c : Thread nD τ).loc main_arg0)
      (ix3 b (⟨16 * n.val + k.val / 64, by omega⟩ : Fin 4096) (⟨128 * w.val + 64 * g.val + k.val % 64, by omega⟩ : Fin 256)) := by
  have e : V m c main_v6 = pad S2x8x2x256x2048 ![0, 0, 0, 0, 0] ![0, 0, 0, 1, 0] ![0, 0, 0, 0, 0] (pairs m c)
      (sitofp (F := Ideal) .f32 (constantI S_ 32 0#32)) pads_S2x8x2x255x2048_S2x8x2x256x2048_000_000_000_010_000 h_S_ := by
    show StableHlo.after (List.flatten [hostOps0, hostOps0_1, hostOps0_2, hostOps0_3, hostOps0_4]) (fun b => m (c, b)) (Proc.devRef .tc main_v6) = _
    simp only [hostOps0, hostOps0_1, hostOps0_2, hostOps0_3, hostOps0_4, List.flatten_cons, List.flatten_nil, List.append_nil, List.cons_append, List.nil_append]
    after_results
    rfl
  rw [e]
  refine Eq.trans ?_ (pairs_at m c w b g ⟨n.val, hn⟩ k)
  generalize pairs m c = y
  pointwise
  exact dif_pos hn

theorem V7_at (w : Fin 2) (k : Fin 2048) : V m c main_v7 (ix3 w 0 k) = m ((c : Thread nD τ).loc main_arg2)
    (ix3 w (⟨k.val / 64, by omega⟩ : Fin 32) (⟨k.val % 64, by omega⟩ : Fin 64)) := by
  have e : V m c main_v7 = shapeCast S2x1x2048 (m ((c : Thread nD τ).loc main_arg2) : S2x32x64.Idx → EReal) shapeCasts_S2x32x64_S2x1x2048 := by
    show StableHlo.after (List.flatten [hostOps0, hostOps0_1, hostOps0_2, hostOps0_3, hostOps0_4]) (fun b => m (c, b)) (Proc.devRef .tc main_v7) = _
    simp only [hostOps0, hostOps0_1, hostOps0_2, hostOps0_3, hostOps0_4, List.flatten_cons, List.flatten_nil, List.append_nil, List.cons_append, List.nil_append]
    after_results
    rfl
  rw [e]
  refine shapeCast_apply _ _ _ _ ?_
  show (S2x32x64.rowMajor (ix3 w (⟨k.val / 64, by omega⟩ : Fin 32) (⟨k.val % 64, by omega⟩ : Fin 64))).val = (S2x1x2048.rowMajor (ix3 w 0 k)).val
  rw [Shape.rowMajor_val_three, Shape.rowMajor_val_three]
  show (w.val * 32 + k.val / 64) * 64 + k.val % 64 = (w.val * 1 + 0) * 2048 + k.val
  omega

theorem V15_eq : V m c main_v15 = m ((c : Thread nD τ).loc main_arg3) := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  after_results
  rfl

theorem V16_eq : V m c main_v16 = m ((c : Thread nD τ).loc main_arg4) := by
  show StableHlo.after (List.flatten [hostOps0, hostOps0_1, hostOps0_2, hostOps0_3, hostOps0_4]) (fun b => m (c, b)) (Proc.devRef .tc main_v16) = _
  simp only [hostOps0, hostOps0_1, hostOps0_2, hostOps0_3, hostOps0_4, List.flatten_cons, List.flatten_nil, List.append_nil, List.cons_append, List.nil_append]
  after_results
  rfl

/-! ## The blocks of a point -/

theorem index0 : ∀ t : Fin cfg0.N, win0_0.index t (0 : Fin 5) = t.val / 8 ∧ win0_0.index t (1 : Fin 5) = t.val % 8 := by decide +kernel
theorem index1 : ∀ t : Fin cfg0.N, win0_1.index t (0 : Fin 3) = t.val / 8 := by decide +kernel
theorem index2 : ∀ t : Fin cfg0.N, win0_2.index t (0 : Fin 3) = t.val / 8 := by decide +kernel
theorem index3 : ∀ t : Fin cfg0.N, win0_3.index t (0 : Fin 3) = t.val / 8 := by decide +kernel
theorem index8 : ∀ t : Fin cfg0.N, win0_8.index t (0 : Fin 4) = t.val / 8 ∧ win0_8.index t (1 : Fin 4) = t.val % 8 := by decide +kernel

variable (t : Fin cfg0.N)

theorem lt_N : t.val < 16 := lt_of_lt_of_eq t.isLt N_0

/-- The half and the sequence of a point. -/
def half : Fin 2 := ⟨t.val / 8, by have := lt_N t; omega⟩
def row : Fin 8 := ⟨t.val % 8, by omega⟩

theorem b0_at (g : Fin 2) (n : Fin 256) (k : Fin 2048) : iblk m c 0 t (ix5 0 0 g n k) = V m c main_v6 (ix5 (half t) (row t) g n k) := by
  show V m c main_v6 (((cfg0.win 0).blk t).view.emb (ix5 0 0 g n k)) = _
  refine congrArg (V m c main_v6) (funext fun a => Fin.ext ?_)
  match a with
  | ⟨0, _⟩ => show win0_0.index t (0 : Fin 5) * 1 + 1 * 0 = t.val / 8; rw [(index0 t).1]; omega
  | ⟨1, _⟩ => show win0_0.index t (1 : Fin 5) * 1 + 1 * 0 = t.val % 8; rw [(index0 t).2]; omega
  | ⟨2, _⟩ => show 0 * 2 + 1 * g.val = g.val; omega
  | ⟨3, _⟩ => show 0 * 256 + 1 * n.val = n.val; omega
  | ⟨4, _⟩ => show 0 * 2048 + 1 * k.val = k.val; omega

theorem b1_at (k : Fin 2048) : iblk m c 1 t (ix3 0 0 k) = m ((c : Thread nD τ).loc main_arg2)
    (ix3 (half t) (⟨k.val / 64, by omega⟩ : Fin 32) (⟨k.val % 64, by omega⟩ : Fin 64)) := by
  show V m c main_v7 (((cfg0.win 1).blk t).view.emb (ix3 0 0 k)) = _
  refine (congrArg (V m c main_v7) (funext fun a => Fin.ext ?_)).trans (V7_at m c (half t) k)
  match a with
  | ⟨0, _⟩ => show win0_1.index t (0 : Fin 3) * 1 + 1 * 0 = t.val / 8; rw [index1]; omega
  | ⟨1, _⟩ => show 0 * 1 + 1 * 0 = 0; omega
  | ⟨2, _⟩ => show 0 * 2048 + 1 * k.val = k.val; omega

theorem b2_at (k : Fin 2048) (h : Fin 256) : iblk m c 2 t (ix3 0 k h) = m ((c : Thread nD τ).loc main_arg3) (ix3 (half t) k h) := by
  show V m c main_v15 (((cfg0.win 2).blk t).view.emb (ix3 0 k h)) = _
  refine (congrFun (V15_eq m c) _).trans (congrArg (m ((c : Thread nD τ).loc main_arg3)) (funext fun a => Fin.ext ?_))
  match a with
  | ⟨0, _⟩ => show win0_2.index t (0 : Fin 3) * 1 + 1 * 0 = t.val / 8; rw [index2]; omega
  | ⟨1, _⟩ => show 0 * 2048 + 1 * k.val = k.val; omega
  | ⟨2, _⟩ => show 0 * 256 + 1 * h.val = h.val; omega

theorem b3_at (h : Fin 256) (d : Fin 64) : iblk m c 3 t (ix3 0 h d) = m ((c : Thread nD τ).loc main_arg4) (ix3 (half t) h d) := by
  show V m c main_v16 (((cfg0.win 3).blk t).view.emb (ix3 0 h d)) = _
  refine (congrFun (V16_eq m c) _).trans (congrArg (m ((c : Thread nD τ).loc main_arg4)) (funext fun a => Fin.ext ?_))
  match a with
  | ⟨0, _⟩ => show win0_3.index t (0 : Fin 3) * 1 + 1 * 0 = t.val / 8; rw [index3]; omega
  | ⟨1, _⟩ => show 0 * 256 + 1 * h.val = h.val; omega
  | ⟨2, _⟩ => show 0 * 64 + 1 * d.val = d.val; omega

/-- What a point of the values' half leaves in a block's row. -/
theorem outs_at (ht : 8 ≤ t.val) (n : Fin 256) (hn : n.val < 255) (g : Fin 2) (d : Fin 64) :
    outsAt0 m c t.val t.isLt (ix4 0 0 n (⟨64 * g.val + d.val, by omega⟩ : Fin 128))
      = cmpAt (m ((c : Thread nD τ).loc main_arg0)) (m ((c : Thread nD τ).loc main_arg2)) (m ((c : Thread nD τ).loc main_arg3)) (m ((c : Thread nD τ).loc main_arg4))
          (row t) ⟨n.val, hn⟩ g d := by
  have eh : half t = 1 := Fin.ext (by show t.val / 8 = 1; have := lt_N t; omega)
  rw [outsAt0_B m c t (by omega) ht, out_B, pay_at]
  simp only [b0_at, b1_at, b2_at, b3_at, eh, V6_at m c _ _ _ n hn]
  rfl

/-! ## The result -/

/-- The region's output: each point's block. -/
def flat : S2x8x256x128.Idx → EReal := fun j =>
  outsAt0 m c (8 * (j 0).val + (j 1).val) (by rw [show cfg0.N = 16 from N_0]; have h0 : (j 0).val < 2 := (j 0).isLt; have h1 : (j 1).val < 8 := (j 1).isLt; omega)
    (ix4 0 0 (j 2) (j 3))

theorem outs_congr {n n' : ℕ} (h : n < cfg0.N) (h' : n' < cfg0.N) (e : n = n') (x : S1x1x256x128.Idx) : outsAt0 m c n h x = outsAt0 m c n' h' x := by
  subst e; rfl

theorem flushed_eq :
    (dats m 0 c).flushed 8 t = ((cfg0.win 8).blk t).view.read (Elt Ideal) (flat m c) := by
  show (cfg0.win 8).cut (grid0.coords t) ((dats m 0 c).after 8 t) = _
  rw [after0_8]
  funext j
  have h0 : (j 0).val < 1 := (j 0).isLt
  have h1 : (j 1).val < 1 := (j 1).isLt
  have e : ((cfg0.win 8).blk t).view.emb j = ix4 (half t) (row t) (j 2) (j 3) := by
    funext a; apply Fin.ext
    match a with
    | ⟨0, _⟩ => show win0_8.index t (0 : Fin 4) * 1 + 1 * (j 0).val = t.val / 8; rw [(index8 t).1]; omega
    | ⟨1, _⟩ => show win0_8.index t (1 : Fin 4) * 1 + 1 * (j 1).val = t.val % 8; rw [(index8 t).2]; omega
    | ⟨2, _⟩ => show 0 * 256 + 1 * (j 2).val = (j 2).val; omega
    | ⟨3, _⟩ => show 0 * 128 + 1 * (j 3).val = (j 3).val; omega
  have ej : (j : S1x1x256x128.Idx) = ix4 0 0 (j 2) (j 3) := by
    funext a; apply Fin.ext
    match a with
    | ⟨0, _⟩ => show (j 0).val = 0; omega
    | ⟨1, _⟩ => show (j 1).val = 0; omega
    | ⟨2, _⟩ => rfl
    | ⟨3, _⟩ => rfl
  show outsAt0 m c t.val t.isLt j = flat m c (((cfg0.win 8).blk t).view.emb j)
  rw [e]
  refine (congrArg (outsAt0 m c t.val t.isLt) ej).trans ?_
  refine outs_congr m c _ _ ?_ _
  show t.val = 8 * (t.val / 8) + t.val % 8
  omega

theorem cover (i : S2x8x256x128.Idx) : ∃ t : Fin cfg0.N, (cfg0.win 8).flush t = true ∧ i ∈ ((cfg0.win 8).blk t).view.set := by
  have h0 : (i 0).val < 2 := (i 0).isLt
  have h1 : (i 1).val < 8 := (i 1).isLt
  let t : Fin cfg0.N := ⟨8 * (i 0).val + (i 1).val, by rw [show cfg0.N = 16 from N_0]; omega⟩
  refine ⟨t, flush0_8 t, ?_⟩
  have h := ((cfg0.win 8).blk t).view.emb_mem_set (ix4 (0 : Fin 1) (0 : Fin 1) (⟨(i 2).val, (i 2).isLt⟩ : Fin 256) (⟨(i 3).val, (i 3).isLt⟩ : Fin 128))
  have e : ((cfg0.win 8).blk t).view.emb (ix4 (0 : Fin 1) (0 : Fin 1) (⟨(i 2).val, (i 2).isLt⟩ : Fin 256) (⟨(i 3).val, (i 3).isLt⟩ : Fin 128)) = i := by
    funext a; apply Fin.ext
    match a with
    | ⟨0, _⟩ =>
      show win0_8.index t (0 : Fin 4) * 1 + 1 * 0 = (i 0).val
      rw [(index8 t).1]
      show (8 * (i 0).val + (i 1).val) / 8 * 1 + 1 * 0 = (i 0).val
      omega
    | ⟨1, _⟩ =>
      show win0_8.index t (1 : Fin 4) * 1 + 1 * 0 = (i 1).val
      rw [(index8 t).2]
      show (8 * (i 0).val + (i 1).val) % 8 * 1 + 1 * 0 = (i 1).val
      omega
    | ⟨2, _⟩ => show 0 * 256 + 1 * (i 2).val = (i 2).val; omega
    | ⟨3, _⟩ => show 0 * 128 + 1 * (i 3).val = (i 3).val; omega
  rw [e] at h
  exact h

theorem final_eq : (dats m 0 c).arrAt 8 cfg0.N = flat m c :=
  (dats m 0 c).arrAt_eq_of_cover 8 (flat m c) (fun t _ => flushed_eq m c t) cover

/-- The compressed values of the arguments. -/
def cmpOf : S8x255x2x64.Idx → EReal :=
  cmpArr (m ((c : Thread nD τ).loc main_arg0)) (m ((c : Thread nD τ).loc main_arg2)) (m ((c : Thread nD τ).loc main_arg3)) (m ((c : Thread nD τ).loc main_arg4))

theorem tail_eq : Pipeline.afterTail₀ cfgs (dats m) 0 (V0 m) [hostOps1] c main_v21 = cmpOf m c := by
  have e : Pipeline.afterTail₀ cfgs (dats m) 0 (V0 m) [hostOps1] c main_v21
      = shapeCast S8x255x2x64 (extractStridedSlice S8x255x128 ![0, 0, 0] (shapeCast S8x256x128 (extractStridedSlice S1x8x256x128 ![1, 0, 0, 0]
          ((dats m 0 c).arrAt 8 cfg0.N : S2x8x256x128.Idx → EReal) slices_S2x8x256x128_S1x8x256x128_1_0_0_0) shapeCasts_S1x8x256x128_S8x256x128)
          slices_S8x256x128_S8x255x128_0_0_0) shapeCasts_S8x255x128_S8x255x2x64 := by
    unfold Pipeline.afterTail₀
    show StableHlo.after hostOps1 _ (Proc.devRef .tc main_v21) = _
    after_results
    exact congrArg (fun x : S2x8x256x128.Idx → EReal => shapeCast S8x255x2x64 (extractStridedSlice S8x255x128 ![0, 0, 0] (shapeCast S8x256x128 (extractStridedSlice S1x8x256x128 ![1, 0, 0, 0]
          x slices_S2x8x256x128_S1x8x256x128_1_0_0_0) shapeCasts_S1x8x256x128_S8x256x128)
          slices_S8x256x128_S8x255x128_0_0_0) shapeCasts_S8x255x128_S8x255x2x64)
      (Pipeline.withArrays_arr (cfgs 0).spec (by decide) c (V0 m c) (fun w => (dats m 0 c).arrAt w cfg0.N) 8)
  rw [e, final_eq]
  funext j
  idx_vars j
  refine (shapeCast_apply _ _ _ (ix3 j0 j1 (⟨64 * j2.val + j3.val, by omega⟩ : Fin 128)) ?_).trans ?_
  · rw [Shape.rowMajor_val_four, Shape.rowMajor_val_three]
    show (j0.val * 255 + j1.val) * 128 + (64 * j2.val + j3.val) = ((j0.val * 255 + j1.val) * 2 + j2.val) * 64 + j3.val
    omega
  refine (extractStridedSlice_apply _ _ _ _ (ix3 j0 (⟨j1.val, by omega⟩ : Fin 256) (⟨64 * j2.val + j3.val, by omega⟩ : Fin 128)) (fun a => match a with
    | ⟨0, _⟩ => by show j0.val = 0 + j0.val; omega
    | ⟨1, _⟩ => by show j1.val = 0 + j1.val; omega
    | ⟨2, _⟩ => by show 64 * j2.val + j3.val = 0 + (64 * j2.val + j3.val); omega)).trans ?_
  refine (shapeCast_apply _ _ _ (ix4 (0 : Fin 1) j0 (⟨j1.val, by omega⟩ : Fin 256) (⟨64 * j2.val + j3.val, by omega⟩ : Fin 128)) ?_).trans ?_
  · rw [Shape.rowMajor_val_four, Shape.rowMajor_val_three]
    show ((0 * 8 + j0.val) * 256 + j1.val) * 128 + (64 * j2.val + j3.val) = (j0.val * 256 + j1.val) * 128 + (64 * j2.val + j3.val)
    omega
  refine (extractStridedSlice_apply _ _ _ _ (ix4 (1 : Fin 2) j0 (⟨j1.val, by omega⟩ : Fin 256) (⟨64 * j2.val + j3.val, by omega⟩ : Fin 128)) (fun a => match a with
    | ⟨0, _⟩ => by show 1 = 1 + 0; omega
    | ⟨1, _⟩ => by show j0.val = 0 + j0.val; omega
    | ⟨2, _⟩ => by show j1.val = 0 + j1.val; omega
    | ⟨3, _⟩ => by show 64 * j2.val + j3.val = 0 + (64 * j2.val + j3.val); omega)).trans ?_
  let t : Fin cfg0.N := ⟨8 * 1 + j0.val, by rw [show cfg0.N = 16 from N_0]; omega⟩
  refine (outs_at m c t (by show 8 ≤ 8 * 1 + j0.val; omega) ⟨j1.val, by omega⟩ (by show j1.val < 255; omega) j2 j3).trans ?_
  show cmpAt _ _ _ _ (row t) j1 j2 j3 = cmpAt _ _ _ _ j0 j1 j2 j3
  rw [show row t = j0 from Fin.ext (by show (8 * 1 + j0.val) % 8 = j0.val; omega)]

theorem run (ρ : Dev nD → PrngReg) : θ_run defs (onTc (τ := τ) (main (F := Ideal))) ⟨m, fun _ => 0, ρ⟩ fun r => ∀ c : Dev nD,
    r.2.mem ((c.tc : Thread nD τ).loc main_v21) = cmpOf m c := by
  refine (θ_run defs _ _).mono (fun r h c => ?_) (run_main m ρ)
  exact ((h c).2 main_v21 (Pipeline.mem_restRefs_of main_v21 (by decide) (by decide))).trans (tail_eq m c)

end Cert.Kernel7Ideal.Cmp

end

end
-- ==== Proof.CmpRef.lean ====
module
public import proofs.«01_k».proof.Proof.Gen.Reference7Ideal
public import proofs.«01_k».proof.Proof.Gen.Reference7Ideal.Run
public import proofs.«01_k».proof.Proof.Gen.Reference7Ideal.Read
public import proofs.«01_k».proof.Proof.Cmp
public import Idealize.ShloMosaic.Lib.ValueIdxCore

@[expose] public section

set_option maxRecDepth 16384

noncomputable section

namespace Cert.Reference7Ideal.Cmp

open Idealize.ShloMosaic Idealize.ShloMosaic.TcCoe Idealize.ShloMosaic.Tactic Cert.Reference7Ideal Cert.Reference7Ideal.Gen Cert.Reference7Ideal.Read
open Cert.Kernel7Ideal.Cmp (act mlp elt cmpAt cmpArr)

section Values
variable (x0 : S8x4096x256.Idx → EReal) (x2 : S2x32x64.Idx → EReal) (x3 : S2x2048x256.Idx → EReal) (x4 : S2x256x64.Idx → EReal)

/-- The values' columns in chunks of sixteen tokens. -/
theorem v3_at (b : Fin 8) (q : Fin 256) (s : Fin 16) (g : Fin 2) (d : Fin 64) :
    val_main_v3 (F := Ideal) x0 (ix5 b q s g d) = x0 (ix3 b (⟨16 * q.val + s.val, by omega⟩ : Fin 4096) (⟨128 + 64 * g.val + d.val, by omega⟩ : Fin 256)) := by
  rw [val_main_v3_apply, val_main_v2_apply, val_main_v1_apply, val_main_v0_apply]
  refine congrArg x0 (funext fun a => Fin.ext ?_)
  match a with
  | ⟨0, _⟩ => dsimp [idx_main_v0, idx_main_v1, idx_main_v2, idx_main_v3, ix5, ix3]; omega
  | ⟨1, _⟩ => dsimp [idx_main_v0, idx_main_v1, idx_main_v2, idx_main_v3, ix5, ix3]; omega
  | ⟨2, _⟩ => dsimp [idx_main_v0, idx_main_v1, idx_main_v2, idx_main_v3, ix5, ix3]; omega

/-- A place of a block: the first sixteen are the chunk's, the others the next chunk's. -/
theorem v6_at (b : Fin 8) (n : Fin 255) (s : Fin 32) (g : Fin 2) (d : Fin 64) :
    val_main_v6 (F := Ideal) x0 (ix5 b n s g d) = x0 (ix3 b (⟨16 * n.val + s.val, by omega⟩ : Fin 4096) (⟨128 + 64 * g.val + d.val, by omega⟩ : Fin 256)) := by
  unfold val_main_v6
  by_cases hs : s.val < 16
  · refine (concatenate_pair_apply_left (s₁ := S8x255x16x2x64) (s₂ := S8x255x16x2x64) (t := S8x255x32x2x64) 2 _ _ _ _ rfl (ix5 b n (⟨s.val, hs⟩ : Fin 16) g d)
      (fun a => by fin_cases a <;> rfl)).trans ?_
    rw [val_main_v4_apply]
    refine Eq.trans (congrArg (val_main_v3 (F := Ideal) x0) ?_) (v3_at x0 b (⟨n.val, by omega⟩ : Fin 256) (⟨s.val, hs⟩ : Fin 16) g d)
    funext a; apply Fin.ext
    match a with
    | ⟨0, _⟩ => rfl
    | ⟨1, _⟩ => rfl
    | ⟨2, _⟩ => rfl
    | ⟨3, _⟩ => rfl
    | ⟨4, _⟩ => rfl
  · refine (concatenate_pair_apply_right (s₁ := S8x255x16x2x64) (s₂ := S8x255x16x2x64) (t := S8x255x32x2x64) 2 _ _ _ _ rfl rfl (ix5 b n (⟨s.val - 16, by omega⟩ : Fin 16) g d)
      (fun a ha => by fin_cases a; exacts [rfl, rfl, absurd rfl ha, rfl, rfl]) (by show s.val - 16 + 16 = s.val; omega)).trans ?_
    rw [val_main_v5_apply]
    refine Eq.trans (congrArg (val_main_v3 (F := Ideal) x0) ?_) ((v3_at x0 b (⟨1 + n.val, by omega⟩ : Fin 256) (⟨s.val - 16, by omega⟩ : Fin 16) g d).trans (congrArg x0 ?_))
    · funext a; apply Fin.ext
      match a with
      | ⟨0, _⟩ => rfl
      | ⟨1, _⟩ => rfl
      | ⟨2, _⟩ => rfl
      | ⟨3, _⟩ => rfl
      | ⟨4, _⟩ => rfl
    · funext a; apply Fin.ext
      match a with
      | ⟨0, _⟩ => rfl
      | ⟨1, _⟩ => show 16 * (1 + n.val) + (s.val - 16) = 16 * n.val + s.val; omega
      | ⟨2, _⟩ => rfl

theorem v10_at (b : Fin 8) (n : Fin 255) (s : Fin 32) (g : Fin 2) (d : Fin 64) :
    val_main_v10 (F := Ideal) x2 (ix5 b n s g d) = x2 (ix3 (1 : Fin 2) s d) := by
  rw [val_main_v10_apply, val_main_v9_apply, val_main_v8_apply, val_main_v7_apply]
  refine congrArg x2 (funext fun a => Fin.ext ?_)
  match a with
  | ⟨0, _⟩ => dsimp [idx_main_v7, idx_main_v8, idx_main_v9, idx_main_v10, ix5, ix3]; try omega
  | ⟨1, _⟩ => dsimp [idx_main_v7, idx_main_v8, idx_main_v9, idx_main_v10, ix5, ix3]; try omega
  | ⟨2, _⟩ => dsimp [idx_main_v7, idx_main_v8, idx_main_v9, idx_main_v10, ix5, ix3]; try omega

/-- An element of a flattened block. -/
theorem v13_at (b : Fin 8) (n : Fin 255) (g : Fin 2) (k : Fin 2048) :
    val_main_v13 (F := Ideal) x0 x2 (ix4 b n g k) = elt x0 x2 b n g k := by
  have e : idx_main_v12 (idx_main_v13 (ix4 b n g k)) = ix5 b n (⟨k.val / 64, by omega⟩ : Fin 32) g (⟨k.val % 64, by omega⟩ : Fin 64) := by
    funext a; apply Fin.ext
    match a with
    | ⟨0, _⟩ => dsimp [idx_main_v12, idx_main_v13, ix5, ix4]; omega
    | ⟨1, _⟩ => dsimp [idx_main_v12, idx_main_v13, ix5, ix4]; omega
    | ⟨2, _⟩ => dsimp [idx_main_v12, idx_main_v13, ix5, ix4]; omega
    | ⟨3, _⟩ => dsimp [idx_main_v12, idx_main_v13, ix5, ix4]; omega
    | ⟨4, _⟩ => dsimp [idx_main_v12, idx_main_v13, ix5, ix4]; omega
  rw [val_main_v13_apply, val_main_v12_apply, e, val_main_v11_apply, v6_at, v10_at]
  rfl

theorem v15_at (k : Fin 2048) (h : Fin 256) : val_main_v15 (F := Ideal) x3 (ix2 k h) = x3 (ix3 (1 : Fin 2) k h) := by
  rw [val_main_v15_apply, val_main_v14_apply]
  refine congrArg x3 (funext fun a => Fin.ext ?_)
  match a with
  | ⟨0, _⟩ => dsimp [idx_main_v14, idx_main_v15, ix2, ix3]; try omega
  | ⟨1, _⟩ => dsimp [idx_main_v14, idx_main_v15, ix2, ix3]; try omega
  | ⟨2, _⟩ => dsimp [idx_main_v14, idx_main_v15, ix2, ix3]; try omega

theorem v31_at (h : Fin 256) (d : Fin 64) : val_main_v31 (F := Ideal) x4 (ix2 h d) = x4 (ix3 (1 : Fin 2) h d) := by
  rw [val_main_v31_apply, val_main_v30_apply]
  refine congrArg x4 (funext fun a => Fin.ext ?_)
  match a with
  | ⟨0, _⟩ => dsimp [idx_main_v30, idx_main_v31, ix2, ix3]; try omega
  | ⟨1, _⟩ => dsimp [idx_main_v30, idx_main_v31, ix2, ix3]; try omega
  | ⟨2, _⟩ => dsimp [idx_main_v30, idx_main_v31, ix2, ix3]; try omega

theorem v16_at (b : Fin 8) (n : Fin 255) (g : Fin 2) (h : Fin 256) :
    val_main_v16 (F := Ideal) x0 x2 x3 (ix4 b n g h) = ∑ k : Fin 2048, elt x0 x2 b n g k * x3 (ix3 (1 : Fin 2) k h) := by
  rw [val_main_v16_apply]
  refine Finset.sum_congr rfl fun k _ => ?_
  have el : lidx_main_v16 (ix4 b n g h) k = ix4 b n g k := by
    funext a; apply Fin.ext
    match a with
    | ⟨0, _⟩ => rfl
    | ⟨1, _⟩ => rfl
    | ⟨2, _⟩ => rfl
    | ⟨3, _⟩ => rfl
  have er : ridx_main_v16 (ix4 b n g h) k = ix2 k h := by
    funext a; apply Fin.ext
    match a with
    | ⟨0, _⟩ => rfl
    | ⟨1, _⟩ => rfl
  rw [el, er, v13_at, v15_at]

/-- The activation. -/
theorem v29_at (b : Fin 8) (n : Fin 255) (g : Fin 2) (h : Fin 256) :
    val_main_v29 (F := Ideal) x0 x2 x3 (ix4 b n g h) = act (∑ k : Fin 2048, elt x0 x2 b n g k * x3 (ix3 (1 : Fin 2) k h)) := by
  rw [val_main_v29_apply, val_main_v28_apply, val_main_v27_apply, val_main_cst_2_apply, val_main_v26_apply, val_main_v25_apply, val_main_cst_1_apply,
    val_main_v24_apply, val_main_v23_apply, val_main_v22_apply, val_main_cst_0_apply, val_main_v21_apply, val_main_v20_apply, val_main_v19_apply,
    val_main_cst_apply, val_main_v18_apply, val_main_v17_apply, v16_at]
  generalize ∑ k : Fin 2048, elt x0 x2 b n g k * x3 (ix3 (1 : Fin 2) k h) = z
  show z * (Ideal.ofBits FTy.f32 0x3F000000#32 * (Ideal.ofBits FTy.f32 0x3F800000#32 + Ideal.tanh (Ideal.ofBits FTy.f32 0x3F4C422A#32 * (z + Ideal.ofBits FTy.f32 0x3D372713#32 * ((z * z) * z))))) = act z
  rw [mul_comm (z * z) z, Ideal.ofBits_one_f32]
  rfl

theorem v32_at (b : Fin 8) (n : Fin 255) (g : Fin 2) (d : Fin 64) :
    val_main_v32 (F := Ideal) x0 x2 x3 x4 (ix4 b n g d) = cmpAt x0 x2 x3 x4 b n g d := by
  unfold cmpAt mlp
  rw [val_main_v32_apply]
  refine Finset.sum_congr rfl fun h _ => ?_
  have el : lidx_main_v32 (ix4 b n g d) h = ix4 b n g h := by
    funext a; apply Fin.ext
    match a with
    | ⟨0, _⟩ => rfl
    | ⟨1, _⟩ => rfl
    | ⟨2, _⟩ => rfl
    | ⟨3, _⟩ => rfl
  have er : ridx_main_v32 (ix4 b n g d) h = ix2 h d := by
    funext a; apply Fin.ext
    match a with
    | ⟨0, _⟩ => rfl
    | ⟨1, _⟩ => rfl
  rw [el, er, v29_at, v31_at]

theorem v32_eq : val_main_v32 (F := Ideal) x0 x2 x3 x4 = cmpArr x0 x2 x3 x4 := by
  funext i
  obtain ⟨b, n, g, d, rfl⟩ : ∃ (b : Fin 8) (n : Fin 255) (g : Fin 2) (d : Fin 64), i = ix4 b n g d := ⟨i 0, i 1, i 2, i 3, by
    funext a
    match a with
    | ⟨0, _⟩ => rfl
    | ⟨1, _⟩ => rfl
    | ⟨2, _⟩ => rfl
    | ⟨3, _⟩ => rfl⟩
  exact v32_at x0 x2 x3 x4 b n g d

end Values

/-- What the reference leaves: the compressed values, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = cmpArr (m ((c.tc : Thread nD τ).loc main_arg0)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v32_eq m c).trans (v32_eq _ _ _ _)), (h c).2⟩) (Value.run m ρ)

end Cert.Reference7Ideal.Cmp

end

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Words
public import proofs.«01_k».proof.Proof.KernelWords
public import proofs.«01_k».proof.Proof.Pre
public import proofs.«01_k».proof.Proof.Result
public import proofs.«01_k».proof.Proof.RefValue
public import proofs.«01_k».proof.Proof.TopRef
public import proofs.«01_k».proof.Proof.TopPre
public import proofs.«01_k».proof.Proof.ProjSmall
public import proofs.«01_k».proof.Proof.Merge
public import proofs.«01_k».proof.Proof.Ple
public import proofs.«01_k».proof.Proof.ProjGates
public import proofs.«01_k».proof.Proof.Cmp
public import proofs.«01_k».proof.Proof.CmpRef

@[expose] public section

noncomputable section

namespace Cert.Proof

open Idealize.ShloMosaic Idealize.SL.Sem Cert.Kernel

theorem frame_kernelIdeal : Cert.quiescent_KernelIdeal := fun m ρ hp =>
  (θ_run Cert.KernelIdeal.defs _ _).mono (fun _ h => ⟨fun c => (h.1 c).2, h.2⟩)
    (Cert.KernelIdeal.Peer.run (F := Ideal) m ρ
      (Cert.KernelIdeal.Peer.inRange m fun c k => Cert.Peer.index_of_pre _ _ _ _ _ _ (hp c) k))

theorem frame_kernel : Cert.quiescent_Kernel := fun m ρ hp =>
  (θ_run Cert.Kernel.defs _ _).mono (fun _ h => ⟨fun c => (h.1 c).2, h.2⟩)
    (Cert.Kernel.Peer.run (F := Bits) m ρ
      (Cert.Kernel.Peer.inRange m fun c k => Cert.Peer.index_of_pre _ _ _ _ _ _ (hp c) k))

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem frame_reference_pre : Cert.quiescent_ReferenceIdeal_pre_in_range := fun m ρ _ => frame_reference m ρ trivial

/-- The two results are the layer of the arguments. -/
theorem algebraic : Cert.algebraic_KernelIdeal_ReferenceIdeal := fun m ρ m' ρ' hp hm => by
  have hI : ∀ (c : Dev Cert.KernelIdeal.nD) (k : Cert.KernelIdeal.S32768x8x16.Idx),
      (m ((c.tc : Thread Cert.KernelIdeal.nD Cert.KernelIdeal.τ).loc Cert.KernelIdeal.main_arg2) k : BitVec 32).toNat < 16384 :=
    fun c k => Cert.Peer.index_of_pre _ _ _ _ _ _ (hp c) k
  refine ⟨Cert.KernelIdeal.Peer.peerOf m, ?_, ?_⟩
  · exact (θ_run Cert.KernelIdeal.defs _ _).mono
      (fun _ h c => ⟨(h.1 c).1.trans (Cert.KernelIdeal.Peer.final_eq m c), (h.1 c).2⟩)
      (Cert.KernelIdeal.Peer.run (F := Ideal) m ρ (Cert.KernelIdeal.Peer.inRange m hI))
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hm c
    refine (Cert.ReferenceIdeal.Peer.res_eq m' c (fun k => ?_)).trans ?_
    · exact (congrArg BitVec.toNat (congrFun e2 k)).trans_lt (hI c k)
    · show Cert.KernelIdeal.Peer.peerArr _ _ _ _ _ _ = Cert.KernelIdeal.Peer.peerArr _ _ _ _ _ _
      rw [e0, e1, e2, e3, e4, e5]

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2.2.2.2.2.2.2.2, sem_eq_zero_of_no_sems rfl r.2⟩)
    (Cert.Reference2Ideal.Value.run (F := Ideal) m ρ)

theorem algebraic2 : Cert.algebraic_Kernel2Ideal_Reference2Ideal := fun m ρ m' ρ' _ hm => by
  refine ⟨Cert.Kernel2Ideal.ProjSmall.nqOf m, Cert.Kernel2Ideal.ProjSmall.nkvOf m, Cert.Kernel2Ideal.ProjSmall.ngateOf m, Cert.Kernel2Ideal.ProjSmall.dqOf m, Cert.Kernel2Ideal.ProjSmall.dkvOf m, Cert.Kernel2Ideal.ProjSmall.iqOf m, Cert.Kernel2Ideal.ProjSmall.ikOf m, Cert.Kernel2Ideal.ProjSmall.iwOf m, ?_, ?_⟩
  · refine (θ_run Cert.Kernel2Ideal.defs _ _).mono (fun _ h c => ?_)
      (θ_run_and (Cert.Kernel2Ideal.ProjSmall.run m ρ) (Cert.Kernel2Ideal.Gen.unchanged (F := Ideal) m ρ))
    obtain ⟨a0, a1, a2, a3, a4, a5, a6, a7⟩ := h.1 c
    exact ⟨a0, a1, a2, a3, a4, a5, a6, a7, h.2 c⟩
  · refine (θ_run Cert.Reference2Ideal.defs _ _).mono (fun _ h c => ?_)
      (θ_run_and (Cert.Kernel2Ideal.ProjSmall.ref_run m' ρ') (Cert.Reference2Ideal.Value.run (F := Ideal) m' ρ'))
    obtain ⟨a0, a1, a2, a3, a4, a5, a6, a7⟩ := h.1 c
    obtain ⟨_, _, _, _, _, _, _, _, u⟩ := h.2 c
    obtain ⟨e0, e1, e2⟩ := hm c
    refine ⟨a0.trans ?_, a1.trans ?_, a2.trans ?_, a3.trans ?_, a4.trans ?_, a5.trans ?_, a6.trans ?_, a7.trans ?_, u⟩
    · show Cert.Kernel2Ideal.ProjSmall.nqArr _ _ _ = Cert.Kernel2Ideal.ProjSmall.nqArr _ _ _
      rw [e0, e1, e2]
    · show Cert.Kernel2Ideal.ProjSmall.nkvArr _ _ _ = Cert.Kernel2Ideal.ProjSmall.nkvArr _ _ _
      rw [e0, e1, e2]
    · show Cert.Kernel2Ideal.ProjSmall.ngateArr _ _ _ = Cert.Kernel2Ideal.ProjSmall.ngateArr _ _ _
      rw [e0, e1, e2]
    · show Cert.Kernel2Ideal.ProjSmall.dqArr _ _ _ = Cert.Kernel2Ideal.ProjSmall.dqArr _ _ _
      rw [e0, e1, e2]
    · show Cert.Kernel2Ideal.ProjSmall.dkvArr _ _ _ = Cert.Kernel2Ideal.ProjSmall.dkvArr _ _ _
      rw [e0, e1, e2]
    · show Cert.Kernel2Ideal.ProjSmall.iqArr _ _ _ = Cert.Kernel2Ideal.ProjSmall.iqArr _ _ _
      rw [e0, e1, e2]
    · show Cert.Kernel2Ideal.ProjSmall.ikArr _ _ _ = Cert.Kernel2Ideal.ProjSmall.ikArr _ _ _
      rw [e0, e1, e2]
    · show Cert.Kernel2Ideal.ProjSmall.iwArr _ _ _ = Cert.Kernel2Ideal.ProjSmall.iwArr _ _ _
      rw [e0, e1, e2]

theorem frame_kernel3 : Cert.quiescent_Kernel3 := fun m ρ _ => Cert.Kernel3.Gen.frame (F := Bits) m ρ

theorem frame_kernel3Ideal : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run (F := Ideal) m ρ)

theorem algebraic3 : Cert.algebraic_Kernel3Ideal_Reference3Ideal := fun m ρ m' ρ' _ hm => by
  refine ⟨Cert.Kernel3Ideal.Merge.mergeOf m, ?_, ?_⟩
  · exact (θ_run Cert.Kernel3Ideal.defs _ _).mono (fun _ h c => ⟨h.1 c, h.2 c⟩)
      (θ_run_and (Cert.Kernel3Ideal.Merge.run m ρ) (Cert.Kernel3Ideal.Gen.unchanged (F := Ideal) m ρ))
  · refine (θ_run Cert.Reference3Ideal.defs _ _).mono (fun _ h c => ⟨(h.1 c).trans ?_, (h.2 c).2⟩)
      (θ_run_and (Cert.Kernel3Ideal.Merge.ref_run m' ρ') (Cert.Reference3Ideal.Value.run (F := Ideal) m' ρ'))
    obtain ⟨e0, e1, e2, e3, e4, e5, e6⟩ := hm c
    show Cert.Kernel3Ideal.Merge.mergeArr _ _ _ _ _ _ _ = Cert.Kernel3Ideal.Merge.mergeArr _ _ _ _ _ _ _
    rw [e0, e1, e2, e3, e4, e5, e6]

theorem frame_kernel4 : Cert.quiescent_Kernel4 := fun m ρ _ => Cert.Kernel4.Gen.frame (F := Bits) m ρ

theorem frame_kernel4Ideal : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2, sem_eq_zero_of_no_sems rfl r.2⟩)
    (Cert.Reference4Ideal.Value.run (F := Ideal) m ρ)

theorem algebraic4 : Cert.algebraic_Kernel4Ideal_Reference4Ideal := fun m ρ m' ρ' _ hm => by
  refine ⟨Cert.Kernel4Ideal.Ple.pleOf m, ?_, ?_⟩
  · exact (θ_run Cert.Kernel4Ideal.defs _ _).mono (fun _ h c => ⟨h.1 c, h.2 c⟩)
      (θ_run_and (Cert.Kernel4Ideal.Ple.run m ρ) (Cert.Kernel4Ideal.Gen.unchanged (F := Ideal) m ρ))
  · refine (θ_run Cert.Reference4Ideal.defs _ _).mono (fun _ h c => ⟨(h.1 c).trans ?_, (h.2 c).2⟩)
      (θ_run_and (Cert.Kernel4Ideal.Ple.ref_run m' ρ') (Cert.Reference4Ideal.Value.run (F := Ideal) m' ρ'))
    obtain ⟨e0, e1, e2, e3, e4⟩ := hm c
    show Cert.Kernel4Ideal.Ple.pleArr _ _ _ _ _ = Cert.Kernel4Ideal.Ple.pleArr _ _ _ _ _
    rw [e0, e1, e2, e3, e4]

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2, sem_eq_zero_of_no_sems rfl r.2⟩)
    (Cert.Reference5Ideal.Value.run (F := Ideal) m ρ)

theorem algebraic5 : Cert.algebraic_Kernel5Ideal_Reference5Ideal := fun m ρ m' ρ' _ hm => by
  refine ⟨Cert.Kernel5Ideal.ProjGates.gatesOf m, ?_, ?_⟩
  · exact (θ_run Cert.Kernel5Ideal.defs _ _).mono (fun _ h c => ⟨h.1 c, h.2 c⟩)
      (θ_run_and (Cert.Kernel5Ideal.ProjGates.run m ρ) (Cert.Kernel5Ideal.Gen.unchanged (F := Ideal) m ρ))
  · refine (θ_run Cert.Reference5Ideal.defs _ _).mono (fun _ h c => ⟨(h.1 c).trans ?_, (h.2 c).2⟩)
      (θ_run_and (Cert.Kernel5Ideal.ProjGates.ref_run m' ρ') (Cert.Reference5Ideal.Value.run (F := Ideal) m' ρ'))
    obtain ⟨e0, e1, e2⟩ := hm c
    show Cert.Kernel5Ideal.ProjGates.gatesArr _ _ _ = Cert.Kernel5Ideal.ProjGates.gatesArr _ _ _
    rw [e0, e1, e2]

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_kernel6Ideal_pre : Cert.quiescent_Kernel6Ideal_pre_finite := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2.2.2, sem_eq_zero_of_no_sems rfl r.2⟩)
    (Cert.Reference6Ideal.Value.run (F := Ideal) m ρ)

theorem frame_reference6_pre : Cert.quiescent_Reference6Ideal_pre_finite := fun m ρ _ => frame_reference6 m ρ True.intro

theorem algebraic6 : Cert.algebraic_Kernel6Ideal_Reference6Ideal_pre_finite := fun m ρ m' ρ' hpre hm => by
  refine ⟨Cert.Kernel6Ideal.Topk.hOf m, Cert.Kernel6Ideal.Topk.eOf m, Cert.Kernel6Ideal.Topk.gOf m, ?_, ?_⟩
  · exact (θ_run Cert.Kernel6Ideal.defs _ _).mono (fun _ h c => ⟨(h.1 c).1, (h.1 c).2.1, (h.1 c).2.2, h.2 c⟩)
      (θ_run_and (Cert.Kernel6Ideal.Topk.run m ρ (Cert.Kernel6Ideal.Topk.scores_ne m hpre)) (Cert.Kernel6Ideal.Gen.unchanged (F := Ideal) m ρ))
  · refine (θ_run Cert.Reference6Ideal.defs _ _).mono (fun _ h c => ⟨(h c).1.trans ?_, (h c).2.1.trans ?_, (h c).2.2.1.trans ?_, (h c).2.2.2⟩)
      (Cert.Reference6Ideal.Topk.run m' ρ')
    · obtain ⟨e0, e1, e2, e3⟩ := hm c
      show Cert.Kernel6Ideal.Topk.hArr _ _ = Cert.Kernel6Ideal.Topk.hArr _ _
      rw [e0, e1]
    · obtain ⟨e0, e1, e2, e3⟩ := hm c
      show Cert.Kernel6Ideal.Topk.eArr _ _ _ _ = Cert.Kernel6Ideal.Topk.eArr _ _ _ _
      rw [e0, e1, e2, e3]
    · obtain ⟨e0, e1, e2, e3⟩ := hm c
      show Cert.Kernel6Ideal.Topk.gArr _ _ _ _ = Cert.Kernel6Ideal.Topk.gArr _ _ _ _
      rw [e0, e1, e2, e3]

theorem frame_kernel7 : Cert.quiescent_Kernel7 := fun m ρ _ => Cert.Kernel7.Gen.frame (F := Bits) m ρ

theorem frame_kernel7Ideal : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono (fun r h => ⟨fun c => (h c).2, sem_eq_zero_of_no_sems rfl r.2⟩)
    (Cert.Reference7Ideal.Value.run (F := Ideal) m ρ)

theorem algebraic7 : Cert.algebraic_Kernel7Ideal_Reference7Ideal := fun m ρ m' ρ' _ hm => by
  refine ⟨Cert.Kernel7Ideal.Cmp.cmpOf m, ?_, ?_⟩
  · exact (θ_run Cert.Kernel7Ideal.defs _ _).mono (fun _ h c => ⟨h.1 c, h.2 c⟩)
      (θ_run_and (Cert.Kernel7Ideal.Cmp.run m ρ) (Cert.Kernel7Ideal.Gen.unchanged (F := Ideal) m ρ))
  · refine (θ_run Cert.Reference7Ideal.defs _ _).mono (fun _ h c => ⟨(h c).1.trans ?_, (h c).2⟩)
      (Cert.Reference7Ideal.Cmp.run m' ρ')
    obtain ⟨e0, e1, e2, e3, e4, e5⟩ := hm c
    show Cert.Kernel7Ideal.Cmp.cmpArr _ _ _ _ = Cert.Kernel7Ideal.Cmp.cmpArr _ _ _ _
    rw [e0, e2, e3, e4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_in_range.Gen.facts, Cert.Pre_finite.Gen.facts,
  frame_kernel, frame_kernelIdeal, frame_reference, frame_reference_pre,
  frame_kernel2, frame_kernel2Ideal, frame_reference2,
  frame_kernel3, frame_kernel3Ideal, frame_reference3,
  frame_kernel4, frame_kernel4Ideal, frame_reference4,
  frame_kernel5, frame_kernel5Ideal, frame_reference5,
  frame_kernel6, frame_kernel6Ideal, frame_kernel6Ideal_pre, frame_reference6, frame_reference6_pre,
  frame_kernel7, frame_kernel7Ideal, frame_reference7,
  trivial, algebraic, trivial, algebraic2, trivial, algebraic3, trivial, algebraic4, trivial, algebraic5, trivial, algebraic6,
  trivial, algebraic7⟩

end Cert.Proof

end
